-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_FfnInDa (m : (ℓ : Loc Cert.FfnInDa.nD Cert.FfnInDa.τ Cert.FfnInDa.sig) → Buf (Elt Bits) ℓ) : Prop :=
  True

def Pre_FfnInDaIdeal (m : (ℓ : Loc Cert.FfnInDaIdeal.nD Cert.FfnInDaIdeal.τ Cert.FfnInDaIdeal.sig) → Buf (Elt Ideal) ℓ) : Prop :=
  True

def Pre_FfnInDaRefIdeal (m : (ℓ : Loc Cert.FfnInDaRefIdeal.nD Cert.FfnInDaRefIdeal.τ Cert.FfnInDaRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnInFwd (m : (ℓ : Loc Cert.FfnInFwd.nD Cert.FfnInFwd.τ Cert.FfnInFwd.sig) → Buf (Elt Bits) ℓ) : Prop :=
  True

def Pre_FfnInFwdIdeal (m : (ℓ : Loc Cert.FfnInFwdIdeal.nD Cert.FfnInFwdIdeal.τ Cert.FfnInFwdIdeal.sig) → Buf (Elt Ideal) ℓ) : Prop :=
  True

def Pre_FfnInFwdRefIdeal (m : (ℓ : Loc Cert.FfnInFwdRefIdeal.nD Cert.FfnInFwdRefIdeal.τ Cert.FfnInFwdRefIdeal.sig) → Buf (Elt Ideal) ℓ) : Prop :=
  True

def Pre_FfnOutDa (m : (ℓ : Loc Cert.FfnOutDa.nD Cert.FfnOutDa.τ Cert.FfnOutDa.sig) → Buf (Elt Bits) ℓ) : Prop :=
  True

def Pre_FfnOutDaIdeal (m : (ℓ : Loc Cert.FfnOutDaIdeal.nD Cert.FfnOutDaIdeal.τ Cert.FfnOutDaIdeal.sig) → Buf (Elt Ideal) ℓ) : Prop :=
  True

def Pre_FfnOutDaRefIdeal (m : (ℓ : Loc Cert.FfnOutDaRefIdeal.nD Cert.FfnOutDaRefIdeal.τ Cert.FfnOutDaRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnOutFwd (m : (ℓ : Loc Cert.FfnOutFwd.nD Cert.FfnOutFwd.τ Cert.FfnOutFwd.sig) → Buf (Elt Bits) ℓ) : Prop :=
  True

def Pre_FfnOutFwdIdeal (m : (ℓ : Loc Cert.FfnOutFwdIdeal.nD Cert.FfnOutFwdIdeal.τ Cert.FfnOutFwdIdeal.sig) → Buf (Elt Ideal) ℓ) : Prop :=
  True

def Pre_FfnOutFwdRefIdeal (m : (ℓ : Loc Cert.FfnOutFwdRefIdeal.nD Cert.FfnOutFwdRefIdeal.τ Cert.FfnOutFwdRefIdeal.sig) → Buf (Elt Ideal) ℓ) : Prop :=
  True

def Pre_SquareDa (m : (ℓ : Loc Cert.SquareDa.nD Cert.SquareDa.τ Cert.SquareDa.sig) → Buf (Elt Bits) ℓ) : Prop :=
  True

def Pre_SquareDaIdeal (m : (ℓ : Loc Cert.SquareDaIdeal.nD Cert.SquareDaIdeal.τ Cert.SquareDaIdeal.sig) → Buf (Elt Ideal) ℓ) : Prop :=
  True

def Pre_SquareDaRefIdeal (m : (ℓ : Loc Cert.SquareDaRefIdeal.nD Cert.SquareDaRefIdeal.τ Cert.SquareDaRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_SquareFwd (m : (ℓ : Loc Cert.SquareFwd.nD Cert.SquareFwd.τ Cert.SquareFwd.sig) → Buf (Elt Bits) ℓ) : Prop :=
  True

def Pre_SquareFwdIdeal (m : (ℓ : Loc Cert.SquareFwdIdeal.nD Cert.SquareFwdIdeal.τ Cert.SquareFwdIdeal.sig) → Buf (Elt Ideal) ℓ) : Prop :=
  True

def Pre_SquareFwdRefIdeal (m : (ℓ : Loc Cert.SquareFwdRefIdeal.nD Cert.SquareFwdRefIdeal.τ Cert.SquareFwdRefIdeal.sig) → Buf (Elt Ideal) ℓ) : Prop :=
  True

def Pre_SsmInDa (m : (ℓ : Loc Cert.SsmInDa.nD Cert.SsmInDa.τ Cert.SsmInDa.sig) → Buf (Elt Bits) ℓ) : Prop :=
  True

def Pre_SsmInDaIdeal (m : (ℓ : Loc Cert.SsmInDaIdeal.nD Cert.SsmInDaIdeal.τ Cert.SsmInDaIdeal.sig) → Buf (Elt Ideal) ℓ) : Prop :=
  True

def Pre_SsmInDaRefIdeal (m : (ℓ : Loc Cert.SsmInDaRefIdeal.nD Cert.SsmInDaRefIdeal.τ Cert.SsmInDaRefIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwRefIdeal (m : (ℓ : Loc Cert.SsmInDwRefIdeal.nD Cert.SsmInDwRefIdeal.τ Cert.SsmInDwRefIdeal.sig) → Buf (Elt Ideal) ℓ) : Prop :=
  True

def Pre_SsmInFwd (m : (ℓ : Loc Cert.SsmInFwd.nD Cert.SsmInFwd.τ Cert.SsmInFwd.sig) → Buf (Elt Bits) ℓ) : Prop :=
  True

def Pre_SsmInFwdIdeal (m : (ℓ : Loc Cert.SsmInFwdIdeal.nD Cert.SsmInFwdIdeal.τ Cert.SsmInFwdIdeal.sig) → Buf (Elt Ideal) ℓ) : Prop :=
  True

def Pre_SsmInFwdRefIdeal (m : (ℓ : Loc Cert.SsmInFwdRefIdeal.nD Cert.SsmInFwdRefIdeal.τ Cert.SsmInFwdRefIdeal.sig) → Buf (Elt Ideal) ℓ) : Prop :=
  True

def Pre_SsmGateDa (m : (ℓ : Loc Cert.SsmGateDa.nD Cert.SsmGateDa.τ Cert.SsmGateDa.sig) → Buf (Elt Bits) ℓ) : Prop :=
  True

def Pre_SsmGateDaIdeal (m : (ℓ : Loc Cert.SsmGateDaIdeal.nD Cert.SsmGateDaIdeal.τ Cert.SsmGateDaIdeal.sig) → Buf (Elt Ideal) ℓ) : Prop :=
  True

def Pre_SsmGateDaRefIdeal (m : (ℓ : Loc Cert.SsmGateDaRefIdeal.nD Cert.SsmGateDaRefIdeal.τ Cert.SsmGateDaRefIdeal.sig) → Buf (Elt Ideal) ℓ) : Prop :=
  True

def Pre_SsmGateDw (m : (ℓ : Loc Cert.SsmGateDw.nD Cert.SsmGateDw.τ Cert.SsmGateDw.sig) → Buf (Elt Bits) ℓ) : Prop :=
  True

def Pre_SsmGateDwIdeal (m : (ℓ : Loc Cert.SsmGateDwIdeal.nD Cert.SsmGateDwIdeal.τ Cert.SsmGateDwIdeal.sig) → Buf (Elt Ideal) ℓ) : Prop :=
  True

def Pre_SsmGateDwRefIdeal (m : (ℓ : Loc Cert.SsmGateDwRefIdeal.nD Cert.SsmGateDwRefIdeal.τ Cert.SsmGateDwRefIdeal.sig) → Buf (Elt Ideal) ℓ) : Prop :=
  True

def Pre_SsmGateFwd (m : (ℓ : Loc Cert.SsmGateFwd.nD Cert.SsmGateFwd.τ Cert.SsmGateFwd.sig) → Buf (Elt Bits) ℓ) : Prop :=
  True

def Pre_SsmGateFwdIdeal (m : (ℓ : Loc Cert.SsmGateFwdIdeal.nD Cert.SsmGateFwdIdeal.τ Cert.SsmGateFwdIdeal.sig) → Buf (Elt Ideal) ℓ) : Prop :=
  True

def Pre_SsmGateFwdRefIdeal (m : (ℓ : Loc Cert.SsmGateFwdRefIdeal.nD Cert.SsmGateFwdRefIdeal.τ Cert.SsmGateFwdRefIdeal.sig) → Buf (Elt Ideal) ℓ) : Prop :=
  True

def Pre_SsmOutDa (m : (ℓ : Loc Cert.SsmOutDa.nD Cert.SsmOutDa.τ Cert.SsmOutDa.sig) → Buf (Elt Bits) ℓ) : Prop :=
  True

def Pre_SsmOutDaIdeal (m : (ℓ : Loc Cert.SsmOutDaIdeal.nD Cert.SsmOutDaIdeal.τ Cert.SsmOutDaIdeal.sig) → Buf (Elt Ideal) ℓ) : Prop :=
  True

def Pre_SsmOutDaRefIdeal (m : (ℓ : Loc Cert.SsmOutDaRefIdeal.nD Cert.SsmOutDaRefIdeal.τ Cert.SsmOutDaRefIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwRefIdeal (m : (ℓ : Loc Cert.SsmOutDwRefIdeal.nD Cert.SsmOutDwRefIdeal.τ Cert.SsmOutDwRefIdeal.sig) → Buf (Elt Ideal) ℓ) : Prop :=
  True

def Pre_SsmOutFwd (m : (ℓ : Loc Cert.SsmOutFwd.nD Cert.SsmOutFwd.τ Cert.SsmOutFwd.sig) → Buf (Elt Bits) ℓ) : Prop :=
  True

def Pre_SsmOutFwdIdeal (m : (ℓ : Loc Cert.SsmOutFwdIdeal.nD Cert.SsmOutFwdIdeal.τ Cert.SsmOutFwdIdeal.sig) → Buf (Elt Ideal) ℓ) : Prop :=
  True

def Pre_SsmOutFwdRefIdeal (m : (ℓ : Loc Cert.SsmOutFwdRefIdeal.nD Cert.SsmOutFwdRefIdeal.τ Cert.SsmOutFwdRefIdeal.sig) → Buf (Elt Ideal) ℓ) : Prop :=
  True

def Pre_LatentUpDa (m : (ℓ : Loc Cert.LatentUpDa.nD Cert.LatentUpDa.τ Cert.LatentUpDa.sig) → Buf (Elt Bits) ℓ) : Prop :=
  True

def Pre_LatentUpDaIdeal (m : (ℓ : Loc Cert.LatentUpDaIdeal.nD Cert.LatentUpDaIdeal.τ Cert.LatentUpDaIdeal.sig) → Buf (Elt Ideal) ℓ) : Prop :=
  True

def Pre_LatentUpDaRefIdeal (m : (ℓ : Loc Cert.LatentUpDaRefIdeal.nD Cert.LatentUpDaRefIdeal.τ Cert.LatentUpDaRefIdeal.sig) → Buf (Elt Ideal) ℓ) : Prop :=
  True

def Pre_LatentUpDw (m : (ℓ : Loc Cert.LatentUpDw.nD Cert.LatentUpDw.τ Cert.LatentUpDw.sig) → Buf (Elt Bits) ℓ) : Prop :=
  True

def Pre_LatentUpDwIdeal (m : (ℓ : Loc Cert.LatentUpDwIdeal.nD Cert.LatentUpDwIdeal.τ Cert.LatentUpDwIdeal.sig) → Buf (Elt Ideal) ℓ) : Prop :=
  True

def Pre_LatentUpDwRefIdeal (m : (ℓ : Loc Cert.LatentUpDwRefIdeal.nD Cert.LatentUpDwRefIdeal.τ Cert.LatentUpDwRefIdeal.sig) → Buf (Elt Ideal) ℓ) : Prop :=
  True

def Pre_LatentUpFwd (m : (ℓ : Loc Cert.LatentUpFwd.nD Cert.LatentUpFwd.τ Cert.LatentUpFwd.sig) → Buf (Elt Bits) ℓ) : Prop :=
  True

def Pre_LatentUpFwdIdeal (m : (ℓ : Loc Cert.LatentUpFwdIdeal.nD Cert.LatentUpFwdIdeal.τ Cert.LatentUpFwdIdeal.sig) → Buf (Elt Ideal) ℓ) : Prop :=
  True

def Pre_LatentUpFwdRefIdeal (m : (ℓ : Loc Cert.LatentUpFwdRefIdeal.nD Cert.LatentUpFwdRefIdeal.τ Cert.LatentUpFwdRefIdeal.sig) → Buf (Elt Ideal) ℓ) : Prop :=
  True

def Pre_LatentDownDa (m : (ℓ : Loc Cert.LatentDownDa.nD Cert.LatentDownDa.τ Cert.LatentDownDa.sig) → Buf (Elt Bits) ℓ) : Prop :=
  True

def Pre_LatentDownDaIdeal (m : (ℓ : Loc Cert.LatentDownDaIdeal.nD Cert.LatentDownDaIdeal.τ Cert.LatentDownDaIdeal.sig) → Buf (Elt Ideal) ℓ) : Prop :=
  True

def Pre_LatentDownDaRefIdeal (m : (ℓ : Loc Cert.LatentDownDaRefIdeal.nD Cert.LatentDownDaRefIdeal.τ Cert.LatentDownDaRefIdeal.sig) → Buf (Elt Ideal) ℓ) : Prop :=
  True

def Pre_LatentDownDw (m : (ℓ : Loc Cert.LatentDownDw.nD Cert.LatentDownDw.τ Cert.LatentDownDw.sig) → Buf (Elt Bits) ℓ) : Prop :=
  True

def Pre_LatentDownDwIdeal (m : (ℓ : Loc Cert.LatentDownDwIdeal.nD Cert.LatentDownDwIdeal.τ Cert.LatentDownDwIdeal.sig) → Buf (Elt Ideal) ℓ) : Prop :=
  True

def Pre_LatentDownDwRefIdeal (m : (ℓ : Loc Cert.LatentDownDwRefIdeal.nD Cert.LatentDownDwRefIdeal.τ Cert.LatentDownDwRefIdeal.sig) → Buf (Elt Ideal) ℓ) : Prop :=
  True

def Pre_LatentDownFwd (m : (ℓ : Loc Cert.LatentDownFwd.nD Cert.LatentDownFwd.τ Cert.LatentDownFwd.sig) → Buf (Elt Bits) ℓ) : Prop :=
  True

def Pre_LatentDownFwdIdeal (m : (ℓ : Loc Cert.LatentDownFwdIdeal.nD Cert.LatentDownFwdIdeal.τ Cert.LatentDownFwdIdeal.sig) → Buf (Elt Ideal) ℓ) : Prop :=
  True

def Pre_LatentDownFwdRefIdeal (m : (ℓ : Loc Cert.LatentDownFwdRefIdeal.nD Cert.LatentDownFwdRefIdeal.τ Cert.LatentDownFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_SsmNorm (m : (ℓ : Loc Cert.SsmNorm.nD Cert.SsmNorm.τ Cert.SsmNorm.sig) → Buf (Elt Bits) ℓ) : Prop :=
  True

def Pre_SsmNormIdeal (m : (ℓ : Loc Cert.SsmNormIdeal.nD Cert.SsmNormIdeal.τ Cert.SsmNormIdeal.sig) → Buf (Elt Ideal) ℓ) : Prop :=
  True

def Pre_SsmNormRefIdeal (m : (ℓ : Loc Cert.SsmNormRefIdeal.nD Cert.SsmNormRefIdeal.τ Cert.SsmNormRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_HgrnOutFwd (m : (ℓ : Loc Cert.HgrnOutFwd.nD Cert.HgrnOutFwd.τ Cert.HgrnOutFwd.sig) → Buf (Elt Bits) ℓ) : Prop :=
  True

def Pre_HgrnOutFwdIdeal (m : (ℓ : Loc Cert.HgrnOutFwdIdeal.nD Cert.HgrnOutFwdIdeal.τ Cert.HgrnOutFwdIdeal.sig) → Buf (Elt Ideal) ℓ) : Prop :=
  True

def Pre_HgrnOutFwdRefIdeal (m : (ℓ : Loc Cert.HgrnOutFwdRefIdeal.nD Cert.HgrnOutFwdRefIdeal.τ Cert.HgrnOutFwdRefIdeal.sig) → Buf (Elt Ideal) ℓ) : Prop :=
  True

def Pre_SsmNormFwd (m : (ℓ : Loc Cert.SsmNormFwd.nD Cert.SsmNormFwd.τ Cert.SsmNormFwd.sig) → Buf (Elt Bits) ℓ) : Prop :=
  True

def Pre_SsmNormFwdIdeal (m : (ℓ : Loc Cert.SsmNormFwdIdeal.nD Cert.SsmNormFwdIdeal.τ Cert.SsmNormFwdIdeal.sig) → Buf (Elt Ideal) ℓ) : Prop :=
  True

def Pre_SsmNormFwdRefIdeal (m : (ℓ : Loc Cert.SsmNormFwdRefIdeal.nD Cert.SsmNormFwdRefIdeal.τ Cert.SsmNormFwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_SiluFwd (m : (ℓ : Loc Cert.SiluFwd.nD Cert.SiluFwd.τ Cert.SiluFwd.sig) → Buf (Elt Bits) ℓ) : Prop :=
  True

def Pre_SiluFwdIdeal (m : (ℓ : Loc Cert.SiluFwdIdeal.nD Cert.SiluFwdIdeal.τ Cert.SiluFwdIdeal.sig) → Buf (Elt Ideal) ℓ) : Prop :=
  True

def Pre_SiluFwdRefIdeal (m : (ℓ : Loc Cert.SiluFwdRefIdeal.nD Cert.SiluFwdRefIdeal.τ Cert.SiluFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnInDa [hFfnInDa : Cert.FfnInDa.Facts] : Prop :=
  ∀ (m : (ℓ : Loc Cert.FfnInDa.nD Cert.FfnInDa.τ Cert.FfnInDa.sig) → Buf (Elt Bits) ℓ) (g : Dev Cert.FfnInDa.nD → PrngReg), Pre_FfnInDa m →
    θ_run (Cert.FfnInDa.defs (F := Bits)) (onTc (τ := Cert.FfnInDa.τ) (Cert.FfnInDa.main (F := Bits))) ⟨m, fun _ => 0, g⟩ (fun r => (∀ c : Dev Cert.FfnInDa.nD,
      r.2.mem ((c.tc : Thread Cert.FfnInDa.nD Cert.FfnInDa.τ).loc Cert.FfnInDa.main_arg0) = m ((c.tc : Thread Cert.FfnInDa.nD Cert.FfnInDa.τ).loc Cert.FfnInDa.main_arg0)
      ∧ r.2.mem ((c.tc : Thread Cert.FfnInDa.nD Cert.FfnInDa.τ).loc Cert.FfnInDa.main_arg1) = m ((c.tc : Thread Cert.FfnInDa.nD Cert.FfnInDa.τ).loc Cert.FfnInDa.main_arg1))
      ∧ r.2.sem = fun _ => 0)

def quiescent_FfnInDaIdeal [hFfnInDaIdeal : Cert.FfnInDaIdeal.Facts] : Prop :=
  ∀ (m : (ℓ : Loc Cert.FfnInDaIdeal.nD Cert.FfnInDaIdeal.τ Cert.FfnInDaIdeal.sig) → Buf (Elt Ideal) ℓ) (g : Dev Cert.FfnInDaIdeal.nD → PrngReg), Pre_FfnInDaIdeal m →
    θ_run (Cert.FfnInDaIdeal.defs (F := Ideal)) (onTc (τ := Cert.FfnInDaIdeal.τ) (Cert.FfnInDaIdeal.main (F := Ideal))) ⟨m, fun _ => 0, g⟩ (fun r => (∀ c : Dev Cert.FfnInDaIdeal.nD,
      r.2.mem ((c.tc : Thread Cert.FfnInDaIdeal.nD Cert.FfnInDaIdeal.τ).loc Cert.FfnInDaIdeal.main_arg0) = m ((c.tc : Thread Cert.FfnInDaIdeal.nD Cert.FfnInDaIdeal.τ).loc Cert.FfnInDaIdeal.main_arg0)
      ∧ r.2.mem ((c.tc : Thread Cert.FfnInDaIdeal.nD Cert.FfnInDaIdeal.τ).loc Cert.FfnInDaIdeal.main_arg1) = m ((c.tc : Thread Cert.FfnInDaIdeal.nD Cert.FfnInDaIdeal.τ).loc Cert.FfnInDaIdeal.main_arg1))
      ∧ r.2.sem = fun _ => 0)

def quiescent_FfnInDaRefIdeal [hFfnInDaRefIdeal : Cert.FfnInDaRefIdeal.Facts] : Prop :=
  ∀ (m : (ℓ : Loc Cert.FfnInDaRefIdeal.nD Cert.FfnInDaRefIdeal.τ Cert.FfnInDaRefIdeal.sig) → Buf (Elt Ideal) ℓ) (g : Dev Cert.FfnInDaRefIdeal.nD → PrngReg), Pre_FfnInDaRefIdeal m →
    θ_run (Cert.FfnInDaRefIdeal.defs (F := Ideal)) (onTc (τ := Cert.FfnInDaRefIdeal.τ) (Cert.FfnInDaRefIdeal.main (F := Ideal))) ⟨m, fun _ => 0, g⟩ (fun r => (∀ c : Dev Cert.FfnInDaRefIdeal.nD,
      r.2.mem ((c.tc : Thread Cert.FfnInDaRefIdeal.nD Cert.FfnInDaRefIdeal.τ).loc Cert.FfnInDaRefIdeal.main_arg0) = m ((c.tc : Thread Cert.FfnInDaRefIdeal.nD Cert.FfnInDaRefIdeal.τ).loc Cert.FfnInDaRefIdeal.main_arg0)
      ∧ r.2.mem ((c.tc : Thread Cert.FfnInDaRefIdeal.nD Cert.FfnInDaRefIdeal.τ).loc Cert.FfnInDaRefIdeal.main_arg1) = m ((c.tc : Thread Cert.FfnInDaRefIdeal.nD Cert.FfnInDaRefIdeal.τ).loc Cert.FfnInDaRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnInFwd [hFfnInFwd : Cert.FfnInFwd.Facts] : Prop :=
  ∀ (m : (ℓ : Loc Cert.FfnInFwd.nD Cert.FfnInFwd.τ Cert.FfnInFwd.sig) → Buf (Elt Bits) ℓ) (g : Dev Cert.FfnInFwd.nD → PrngReg), Pre_FfnInFwd m →
    θ_run (Cert.FfnInFwd.defs (F := Bits)) (onTc (τ := Cert.FfnInFwd.τ) (Cert.FfnInFwd.main (F := Bits))) ⟨m, fun _ => 0, g⟩ (fun r => (∀ c : Dev Cert.FfnInFwd.nD,
      r.2.mem ((c.tc : Thread Cert.FfnInFwd.nD Cert.FfnInFwd.τ).loc Cert.FfnInFwd.main_arg0) = m ((c.tc : Thread Cert.FfnInFwd.nD Cert.FfnInFwd.τ).loc Cert.FfnInFwd.main_arg0)
      ∧ r.2.mem ((c.tc : Thread Cert.FfnInFwd.nD Cert.FfnInFwd.τ).loc Cert.FfnInFwd.main_arg1) = m ((c.tc : Thread Cert.FfnInFwd.nD Cert.FfnInFwd.τ).loc Cert.FfnInFwd.main_arg1))
      ∧ r.2.sem = fun _ => 0)

def quiescent_FfnInFwdIdeal [hFfnInFwdIdeal : Cert.FfnInFwdIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg), Pre_FfnInFwdIdeal m →
    θ_run (Cert.FfnInFwdIdeal.defs (F := Ideal)) (onTc (τ := Cert.FfnInFwdIdeal.τ) (Cert.FfnInFwdIdeal.main (F := Ideal))) ⟨m, fun _ => 0, g⟩ (fun r => (∀ c : Dev Cert.FfnInFwdIdeal.nD,
      r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
      ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ r.2.sem = fun _ => 0)

def quiescent_FfnInFwdRefIdeal [hFfnInFwdRefIdeal : Cert.FfnInFwdRefIdeal.Facts] : Prop :=
  ∀ (m : (ℓ : Loc Cert.FfnInFwdRefIdeal.nD Cert.FfnInFwdRefIdeal.τ Cert.FfnInFwdRefIdeal.sig) → Buf (Elt Ideal) ℓ) (g : Dev Cert.FfnInFwdRefIdeal.nD → PrngReg), Pre_FfnInFwdRefIdeal m →
    θ_run (Cert.FfnInFwdRefIdeal.defs (F := Ideal)) (onTc (τ := Cert.FfnInFwdRefIdeal.τ) (Cert.FfnInFwdRefIdeal.main (F := Ideal))) ⟨m, fun _ => 0, g⟩ (fun r => (∀ c : Dev Cert.FfnInFwdRefIdeal.nD,
      r.2.mem ((c.tc : Thread Cert.FfnInFwdRefIdeal.nD Cert.FfnInFwdRefIdeal.τ).loc Cert.FfnInFwdRefIdeal.main_arg0) = m ((c.tc : Thread Cert.FfnInFwdRefIdeal.nD Cert.FfnInFwdRefIdeal.τ).loc Cert.FfnInFwdRefIdeal.main_arg0)
      ∧ r.2.mem ((c.tc : Thread Cert.FfnInFwdRefIdeal.nD Cert.FfnInFwdRefIdeal.τ).loc Cert.FfnInFwdRefIdeal.main_arg1) = m ((c.tc : Thread Cert.FfnInFwdRefIdeal.nD Cert.FfnInFwdRefIdeal.τ).loc Cert.FfnInFwdRefIdeal.main_arg1))
      ∧ r.2.sem = fun _ => 0)

def quiescent_FfnOutDa [hFfnOutDa : Cert.FfnOutDa.Facts] : Prop :=
  ∀ (m : (ℓ : Loc Cert.FfnOutDa.nD Cert.FfnOutDa.τ Cert.FfnOutDa.sig) → Buf (Elt Bits) ℓ) (g : Dev Cert.FfnOutDa.nD → PrngReg), Pre_FfnOutDa m →
    θ_run (Cert.FfnOutDa.defs (F := Bits)) (onTc (τ := Cert.FfnOutDa.τ) (Cert.FfnOutDa.main (F := Bits))) ⟨m, fun _ => 0, g⟩ (fun r => (∀ c : Dev Cert.FfnOutDa.nD,
      r.2.mem ((c.tc : Thread Cert.FfnOutDa.nD Cert.FfnOutDa.τ).loc Cert.FfnOutDa.main_arg0) = m ((c.tc : Thread Cert.FfnOutDa.nD Cert.FfnOutDa.τ).loc Cert.FfnOutDa.main_arg0)
      ∧ r.2.mem ((c.tc : Thread Cert.FfnOutDa.nD Cert.FfnOutDa.τ).loc Cert.FfnOutDa.main_arg1) = m ((c.tc : Thread Cert.FfnOutDa.nD Cert.FfnOutDa.τ).loc Cert.FfnOutDa.main_arg1))
      ∧ r.2.sem = fun _ => 0)

def quiescent_FfnOutDaIdeal [hFfnOutDaIdeal : Cert.FfnOutDaIdeal.Facts] : Prop :=
  ∀ (m : (ℓ : Loc Cert.FfnOutDaIdeal.nD Cert.FfnOutDaIdeal.τ Cert.FfnOutDaIdeal.sig) → Buf (Elt Ideal) ℓ) (g : Dev Cert.FfnOutDaIdeal.nD → PrngReg), Pre_FfnOutDaIdeal m →
    θ_run (Cert.FfnOutDaIdeal.defs (F := Ideal)) (onTc (τ := Cert.FfnOutDaIdeal.τ) (Cert.FfnOutDaIdeal.main (F := Ideal))) ⟨m, fun _ => 0, g⟩ (fun r => (∀ c : Dev Cert.FfnOutDaIdeal.nD,
      r.2.mem ((c.tc : Thread Cert.FfnOutDaIdeal.nD Cert.FfnOutDaIdeal.τ).loc Cert.FfnOutDaIdeal.main_arg0) = m ((c.tc : Thread Cert.FfnOutDaIdeal.nD Cert.FfnOutDaIdeal.τ).loc Cert.FfnOutDaIdeal.main_arg0)
      ∧ r.2.mem ((c.tc : Thread Cert.FfnOutDaIdeal.nD Cert.FfnOutDaIdeal.τ).loc Cert.FfnOutDaIdeal.main_arg1) = m ((c.tc : Thread Cert.FfnOutDaIdeal.nD Cert.FfnOutDaIdeal.τ).loc Cert.FfnOutDaIdeal.main_arg1))
      ∧ r.2.sem = fun _ => 0)

def quiescent_FfnOutDaRefIdeal [hFfnOutDaRefIdeal : Cert.FfnOutDaRefIdeal.Facts] : Prop :=
  ∀ (m : (ℓ : Loc Cert.FfnOutDaRefIdeal.nD Cert.FfnOutDaRefIdeal.τ Cert.FfnOutDaRefIdeal.sig) → Buf (Elt Ideal) ℓ) (g : Dev Cert.FfnOutDaRefIdeal.nD → PrngReg), Pre_FfnOutDaRefIdeal m →
    θ_run (Cert.FfnOutDaRefIdeal.defs (F := Ideal)) (onTc (τ := Cert.FfnOutDaRefIdeal.τ) (Cert.FfnOutDaRefIdeal.main (F := Ideal))) ⟨m, fun _ => 0, g⟩ (fun r => (∀ c : Dev Cert.FfnOutDaRefIdeal.nD,
      r.2.mem ((c.tc : Thread Cert.FfnOutDaRefIdeal.nD Cert.FfnOutDaRefIdeal.τ).loc Cert.FfnOutDaRefIdeal.main_arg0) = m ((c.tc : Thread Cert.FfnOutDaRefIdeal.nD Cert.FfnOutDaRefIdeal.τ).loc Cert.FfnOutDaRefIdeal.main_arg0)
      ∧ r.2.mem ((c.tc : Thread Cert.FfnOutDaRefIdeal.nD Cert.FfnOutDaRefIdeal.τ).loc Cert.FfnOutDaRefIdeal.main_arg1) = m ((c.tc : Thread Cert.FfnOutDaRefIdeal.nD Cert.FfnOutDaRefIdeal.τ).loc Cert.FfnOutDaRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnOutFwd [hFfnOutFwd : Cert.FfnOutFwd.Facts] : Prop :=
  ∀ (m : (ℓ : Loc Cert.FfnOutFwd.nD Cert.FfnOutFwd.τ Cert.FfnOutFwd.sig) → Buf (Elt Bits) ℓ) (g : Dev Cert.FfnOutFwd.nD → PrngReg), Pre_FfnOutFwd m →
    θ_run (Cert.FfnOutFwd.defs (F := Bits)) (onTc (τ := Cert.FfnOutFwd.τ) (Cert.FfnOutFwd.main (F := Bits))) ⟨m, fun _ => 0, g⟩ (fun r => (∀ c : Dev Cert.FfnOutFwd.nD,
      r.2.mem ((c.tc : Thread Cert.FfnOutFwd.nD Cert.FfnOutFwd.τ).loc Cert.FfnOutFwd.main_arg0) = m ((c.tc : Thread Cert.FfnOutFwd.nD Cert.FfnOutFwd.τ).loc Cert.FfnOutFwd.main_arg0)
      ∧ r.2.mem ((c.tc : Thread Cert.FfnOutFwd.nD Cert.FfnOutFwd.τ).loc Cert.FfnOutFwd.main_arg1) = m ((c.tc : Thread Cert.FfnOutFwd.nD Cert.FfnOutFwd.τ).loc Cert.FfnOutFwd.main_arg1))
      ∧ r.2.sem = fun _ => 0)

def quiescent_FfnOutFwdIdeal [hFfnOutFwdIdeal : Cert.FfnOutFwdIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg), Pre_FfnOutFwdIdeal m →
    θ_run (Cert.FfnOutFwdIdeal.defs (F := Ideal)) (onTc (τ := Cert.FfnOutFwdIdeal.τ) (Cert.FfnOutFwdIdeal.main (F := Ideal))) ⟨m, fun _ => 0, g⟩ (fun r => (∀ c : Dev Cert.FfnOutFwdIdeal.nD,
      r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
      ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1))
      ∧ r.2.sem = fun _ => 0)

def quiescent_FfnOutFwdRefIdeal [hFfnOutFwdRefIdeal : Cert.FfnOutFwdRefIdeal.Facts] : Prop :=
  ∀ (m : (ℓ : Loc Cert.FfnOutFwdRefIdeal.nD Cert.FfnOutFwdRefIdeal.τ Cert.FfnOutFwdRefIdeal.sig) → Buf (Elt Ideal) ℓ) (g : Dev Cert.FfnOutFwdRefIdeal.nD → PrngReg), Pre_FfnOutFwdRefIdeal m →
    θ_run (Cert.FfnOutFwdRefIdeal.defs (F := Ideal)) (onTc (τ := Cert.FfnOutFwdRefIdeal.τ) (Cert.FfnOutFwdRefIdeal.main (F := Ideal))) ⟨m, fun _ => 0, g⟩ (fun r => (∀ c : Dev Cert.FfnOutFwdRefIdeal.nD,
      r.2.mem ((c.tc : Thread Cert.FfnOutFwdRefIdeal.nD Cert.FfnOutFwdRefIdeal.τ).loc Cert.FfnOutFwdRefIdeal.main_arg0) = m ((c.tc : Thread Cert.FfnOutFwdRefIdeal.nD Cert.FfnOutFwdRefIdeal.τ).loc Cert.FfnOutFwdRefIdeal.main_arg0)
      ∧ r.2.mem ((c.tc : Thread Cert.FfnOutFwdRefIdeal.nD Cert.FfnOutFwdRefIdeal.τ).loc Cert.FfnOutFwdRefIdeal.main_arg1) = m ((c.tc : Thread Cert.FfnOutFwdRefIdeal.nD Cert.FfnOutFwdRefIdeal.τ).loc Cert.FfnOutFwdRefIdeal.main_arg1))
      ∧ r.2.sem = fun _ => 0)

def quiescent_SquareDa [hSquareDa : Cert.SquareDa.Facts] : Prop :=
  ∀ (m : (ℓ : Loc Cert.SquareDa.nD Cert.SquareDa.τ Cert.SquareDa.sig) → Buf (Elt Bits) ℓ) (g : Dev Cert.SquareDa.nD → PrngReg), Pre_SquareDa m →
    θ_run (Cert.SquareDa.defs (F := Bits)) (onTc (τ := Cert.SquareDa.τ) (Cert.SquareDa.main (F := Bits))) ⟨m, fun _ => 0, g⟩ (fun r => (∀ c : Dev Cert.SquareDa.nD,
      r.2.mem ((c.tc : Thread Cert.SquareDa.nD Cert.SquareDa.τ).loc Cert.SquareDa.main_arg0) = m ((c.tc : Thread Cert.SquareDa.nD Cert.SquareDa.τ).loc Cert.SquareDa.main_arg0)
      ∧ r.2.mem ((c.tc : Thread Cert.SquareDa.nD Cert.SquareDa.τ).loc Cert.SquareDa.main_arg1) = m ((c.tc : Thread Cert.SquareDa.nD Cert.SquareDa.τ).loc Cert.SquareDa.main_arg1))
      ∧ r.2.sem = fun _ => 0)

def quiescent_SquareDaIdeal [hSquareDaIdeal : Cert.SquareDaIdeal.Facts] : Prop :=
  ∀ (m : (ℓ : Loc Cert.SquareDaIdeal.nD Cert.SquareDaIdeal.τ Cert.SquareDaIdeal.sig) → Buf (Elt Ideal) ℓ) (g : Dev Cert.SquareDaIdeal.nD → PrngReg), Pre_SquareDaIdeal m →
    θ_run (Cert.SquareDaIdeal.defs (F := Ideal)) (onTc (τ := Cert.SquareDaIdeal.τ) (Cert.SquareDaIdeal.main (F := Ideal))) ⟨m, fun _ => 0, g⟩ (fun r => (∀ c : Dev Cert.SquareDaIdeal.nD,
      r.2.mem ((c.tc : Thread Cert.SquareDaIdeal.nD Cert.SquareDaIdeal.τ).loc Cert.SquareDaIdeal.main_arg0) = m ((c.tc : Thread Cert.SquareDaIdeal.nD Cert.SquareDaIdeal.τ).loc Cert.SquareDaIdeal.main_arg0)
      ∧ r.2.mem ((c.tc : Thread Cert.SquareDaIdeal.nD Cert.SquareDaIdeal.τ).loc Cert.SquareDaIdeal.main_arg1) = m ((c.tc : Thread Cert.SquareDaIdeal.nD Cert.SquareDaIdeal.τ).loc Cert.SquareDaIdeal.main_arg1))
      ∧ r.2.sem = fun _ => 0)

def quiescent_SquareDaRefIdeal [hSquareDaRefIdeal : Cert.SquareDaRefIdeal.Facts] : Prop :=
  ∀ (m : (ℓ : Loc Cert.SquareDaRefIdeal.nD Cert.SquareDaRefIdeal.τ Cert.SquareDaRefIdeal.sig) → Buf (Elt Ideal) ℓ) (g : Dev Cert.SquareDaRefIdeal.nD → PrngReg), Pre_SquareDaRefIdeal m →
    θ_run (Cert.SquareDaRefIdeal.defs (F := Ideal)) (onTc (τ := Cert.SquareDaRefIdeal.τ) (Cert.SquareDaRefIdeal.main (F := Ideal))) ⟨m, fun _ => 0, g⟩ (fun r => (∀ c : Dev Cert.SquareDaRefIdeal.nD,
      r.2.mem ((c.tc : Thread Cert.SquareDaRefIdeal.nD Cert.SquareDaRefIdeal.τ).loc Cert.SquareDaRefIdeal.main_arg0) = m ((c.tc : Thread Cert.SquareDaRefIdeal.nD Cert.SquareDaRefIdeal.τ).loc Cert.SquareDaRefIdeal.main_arg0)
      ∧ r.2.mem ((c.tc : Thread Cert.SquareDaRefIdeal.nD Cert.SquareDaRefIdeal.τ).loc Cert.SquareDaRefIdeal.main_arg1) = m ((c.tc : Thread Cert.SquareDaRefIdeal.nD Cert.SquareDaRefIdeal.τ).loc Cert.SquareDaRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_SquareFwd [hSquareFwd : Cert.SquareFwd.Facts] : Prop :=
  ∀ (m : (ℓ : Loc Cert.SquareFwd.nD Cert.SquareFwd.τ Cert.SquareFwd.sig) → Buf (Elt Bits) ℓ) (g : Dev Cert.SquareFwd.nD → PrngReg), Pre_SquareFwd m →
    θ_run (Cert.SquareFwd.defs (F := Bits)) (onTc (τ := Cert.SquareFwd.τ) (Cert.SquareFwd.main (F := Bits))) ⟨m, fun _ => 0, g⟩ (fun r => (∀ c : Dev Cert.SquareFwd.nD,
      r.2.mem ((c.tc : Thread Cert.SquareFwd.nD Cert.SquareFwd.τ).loc Cert.SquareFwd.main_arg0) = m ((c.tc : Thread Cert.SquareFwd.nD Cert.SquareFwd.τ).loc Cert.SquareFwd.main_arg0)
      ∧ r.2.mem ((c.tc : Thread Cert.SquareFwd.nD Cert.SquareFwd.τ).loc Cert.SquareFwd.main_arg1) = m ((c.tc : Thread Cert.SquareFwd.nD Cert.SquareFwd.τ).loc Cert.SquareFwd.main_arg1))
      ∧ r.2.sem = fun _ => 0)

def quiescent_SquareFwdIdeal [hSquareFwdIdeal : Cert.SquareFwdIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg), Pre_SquareFwdIdeal m →
    θ_run (Cert.SquareFwdIdeal.defs (F := Ideal)) (onTc (τ := Cert.SquareFwdIdeal.τ) (Cert.SquareFwdIdeal.main (F := Ideal))) ⟨m, fun _ => 0, g⟩ (fun r => (∀ c : Dev Cert.SquareFwdIdeal.nD,
      r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
      ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1))
      ∧ r.2.sem = fun _ => 0)

def quiescent_SquareFwdRefIdeal [hSquareFwdRefIdeal : Cert.SquareFwdRefIdeal.Facts] : Prop :=
  ∀ (m : (ℓ : Loc Cert.SquareFwdRefIdeal.nD Cert.SquareFwdRefIdeal.τ Cert.SquareFwdRefIdeal.sig) → Buf (Elt Ideal) ℓ) (g : Dev Cert.SquareFwdRefIdeal.nD → PrngReg), Pre_SquareFwdRefIdeal m →
    θ_run (Cert.SquareFwdRefIdeal.defs (F := Ideal)) (onTc (τ := Cert.SquareFwdRefIdeal.τ) (Cert.SquareFwdRefIdeal.main (F := Ideal))) ⟨m, fun _ => 0, g⟩ (fun r => (∀ c : Dev Cert.SquareFwdRefIdeal.nD,
      r.2.mem ((c.tc : Thread Cert.SquareFwdRefIdeal.nD Cert.SquareFwdRefIdeal.τ).loc Cert.SquareFwdRefIdeal.main_arg0) = m ((c.tc : Thread Cert.SquareFwdRefIdeal.nD Cert.SquareFwdRefIdeal.τ).loc Cert.SquareFwdRefIdeal.main_arg0)
      ∧ r.2.mem ((c.tc : Thread Cert.SquareFwdRefIdeal.nD Cert.SquareFwdRefIdeal.τ).loc Cert.SquareFwdRefIdeal.main_arg1) = m ((c.tc : Thread Cert.SquareFwdRefIdeal.nD Cert.SquareFwdRefIdeal.τ).loc Cert.SquareFwdRefIdeal.main_arg1))
      ∧ r.2.sem = fun _ => 0)

def quiescent_SsmInDa [hSsmInDa : Cert.SsmInDa.Facts] : Prop :=
  ∀ (m : (ℓ : Loc Cert.SsmInDa.nD Cert.SsmInDa.τ Cert.SsmInDa.sig) → Buf (Elt Bits) ℓ) (g : Dev Cert.SsmInDa.nD → PrngReg), Pre_SsmInDa m →
    θ_run (Cert.SsmInDa.defs (F := Bits)) (onTc (τ := Cert.SsmInDa.τ) (Cert.SsmInDa.main (F := Bits))) ⟨m, fun _ => 0, g⟩ (fun r => (∀ c : Dev Cert.SsmInDa.nD,
      r.2.mem ((c.tc : Thread Cert.SsmInDa.nD Cert.SsmInDa.τ).loc Cert.SsmInDa.main_arg0) = m ((c.tc : Thread Cert.SsmInDa.nD Cert.SsmInDa.τ).loc Cert.SsmInDa.main_arg0)
      ∧ r.2.mem ((c.tc : Thread Cert.SsmInDa.nD Cert.SsmInDa.τ).loc Cert.SsmInDa.main_arg1) = m ((c.tc : Thread Cert.SsmInDa.nD Cert.SsmInDa.τ).loc Cert.SsmInDa.main_arg1))
      ∧ r.2.sem = fun _ => 0)

def quiescent_SsmInDaIdeal [hSsmInDaIdeal : Cert.SsmInDaIdeal.Facts] : Prop :=
  ∀ (m : (ℓ : Loc Cert.SsmInDaIdeal.nD Cert.SsmInDaIdeal.τ Cert.SsmInDaIdeal.sig) → Buf (Elt Ideal) ℓ) (g : Dev Cert.SsmInDaIdeal.nD → PrngReg), Pre_SsmInDaIdeal m →
    θ_run (Cert.SsmInDaIdeal.defs (F := Ideal)) (onTc (τ := Cert.SsmInDaIdeal.τ) (Cert.SsmInDaIdeal.main (F := Ideal))) ⟨m, fun _ => 0, g⟩ (fun r => (∀ c : Dev Cert.SsmInDaIdeal.nD,
      r.2.mem ((c.tc : Thread Cert.SsmInDaIdeal.nD Cert.SsmInDaIdeal.τ).loc Cert.SsmInDaIdeal.main_arg0) = m ((c.tc : Thread Cert.SsmInDaIdeal.nD Cert.SsmInDaIdeal.τ).loc Cert.SsmInDaIdeal.main_arg0)
      ∧ r.2.mem ((c.tc : Thread Cert.SsmInDaIdeal.nD Cert.SsmInDaIdeal.τ).loc Cert.SsmInDaIdeal.main_arg1) = m ((c.tc : Thread Cert.SsmInDaIdeal.nD Cert.SsmInDaIdeal.τ).loc Cert.SsmInDaIdeal.main_arg1))
      ∧ r.2.sem = fun _ => 0)

def quiescent_SsmInDaRefIdeal [hSsmInDaRefIdeal : Cert.SsmInDaRefIdeal.Facts] : Prop :=
  ∀ (m : (ℓ : Loc Cert.SsmInDaRefIdeal.nD Cert.SsmInDaRefIdeal.τ Cert.SsmInDaRefIdeal.sig) → Buf (Elt Ideal) ℓ) (g : Dev Cert.SsmInDaRefIdeal.nD → PrngReg), Pre_SsmInDaRefIdeal m →
    θ_run (Cert.SsmInDaRefIdeal.defs (F := Ideal)) (onTc (τ := Cert.SsmInDaRefIdeal.τ) (Cert.SsmInDaRefIdeal.main (F := Ideal))) ⟨m, fun _ => 0, g⟩ (fun r => (∀ c : Dev Cert.SsmInDaRefIdeal.nD,
      r.2.mem ((c.tc : Thread Cert.SsmInDaRefIdeal.nD Cert.SsmInDaRefIdeal.τ).loc Cert.SsmInDaRefIdeal.main_arg0) = m ((c.tc : Thread Cert.SsmInDaRefIdeal.nD Cert.SsmInDaRefIdeal.τ).loc Cert.SsmInDaRefIdeal.main_arg0)
      ∧ r.2.mem ((c.tc : Thread Cert.SsmInDaRefIdeal.nD Cert.SsmInDaRefIdeal.τ).loc Cert.SsmInDaRefIdeal.main_arg1) = m ((c.tc : Thread Cert.SsmInDaRefIdeal.nD Cert.SsmInDaRefIdeal.τ).loc Cert.SsmInDaRefIdeal.main_arg1))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwRefIdeal [hSsmInDwRefIdeal : Cert.SsmInDwRefIdeal.Facts] : Prop :=
  ∀ (m : (ℓ : Loc Cert.SsmInDwRefIdeal.nD Cert.SsmInDwRefIdeal.τ Cert.SsmInDwRefIdeal.sig) → Buf (Elt Ideal) ℓ) (g : Dev Cert.SsmInDwRefIdeal.nD → PrngReg), Pre_SsmInDwRefIdeal m →
    θ_run (Cert.SsmInDwRefIdeal.defs (F := Ideal)) (onTc (τ := Cert.SsmInDwRefIdeal.τ) (Cert.SsmInDwRefIdeal.main (F := Ideal))) ⟨m, fun _ => 0, g⟩ (fun r => (∀ c : Dev Cert.SsmInDwRefIdeal.nD,
      r.2.mem ((c.tc : Thread Cert.SsmInDwRefIdeal.nD Cert.SsmInDwRefIdeal.τ).loc Cert.SsmInDwRefIdeal.main_arg0) = m ((c.tc : Thread Cert.SsmInDwRefIdeal.nD Cert.SsmInDwRefIdeal.τ).loc Cert.SsmInDwRefIdeal.main_arg0)
      ∧ r.2.mem ((c.tc : Thread Cert.SsmInDwRefIdeal.nD Cert.SsmInDwRefIdeal.τ).loc Cert.SsmInDwRefIdeal.main_arg1) = m ((c.tc : Thread Cert.SsmInDwRefIdeal.nD Cert.SsmInDwRefIdeal.τ).loc Cert.SsmInDwRefIdeal.main_arg1))
      ∧ r.2.sem = fun _ => 0)

def quiescent_SsmInFwd [hSsmInFwd : Cert.SsmInFwd.Facts] : Prop :=
  ∀ (m : (ℓ : Loc Cert.SsmInFwd.nD Cert.SsmInFwd.τ Cert.SsmInFwd.sig) → Buf (Elt Bits) ℓ) (g : Dev Cert.SsmInFwd.nD → PrngReg), Pre_SsmInFwd m →
    θ_run (Cert.SsmInFwd.defs (F := Bits)) (onTc (τ := Cert.SsmInFwd.τ) (Cert.SsmInFwd.main (F := Bits))) ⟨m, fun _ => 0, g⟩ (fun r => (∀ c : Dev Cert.SsmInFwd.nD,
      r.2.mem ((c.tc : Thread Cert.SsmInFwd.nD Cert.SsmInFwd.τ).loc Cert.SsmInFwd.main_arg0) = m ((c.tc : Thread Cert.SsmInFwd.nD Cert.SsmInFwd.τ).loc Cert.SsmInFwd.main_arg0)
      ∧ r.2.mem ((c.tc : Thread Cert.SsmInFwd.nD Cert.SsmInFwd.τ).loc Cert.SsmInFwd.main_arg1) = m ((c.tc : Thread Cert.SsmInFwd.nD Cert.SsmInFwd.τ).loc Cert.SsmInFwd.main_arg1))
      ∧ r.2.sem = fun _ => 0)

def quiescent_SsmInFwdIdeal [hSsmInFwdIdeal : Cert.SsmInFwdIdeal.Facts] : Prop :=
  ∀ (m : (ℓ : Loc Cert.SsmInFwdIdeal.nD Cert.SsmInFwdIdeal.τ Cert.SsmInFwdIdeal.sig) → Buf (Elt Ideal) ℓ) (g : Dev Cert.SsmInFwdIdeal.nD → PrngReg), Pre_SsmInFwdIdeal m →
    θ_run (Cert.SsmInFwdIdeal.defs (F := Ideal)) (onTc (τ := Cert.SsmInFwdIdeal.τ) (Cert.SsmInFwdIdeal.main (F := Ideal))) ⟨m, fun _ => 0, g⟩ (fun r => (∀ c : Dev Cert.SsmInFwdIdeal.nD,
      r.2.mem ((c.tc : Thread Cert.SsmInFwdIdeal.nD Cert.SsmInFwdIdeal.τ).loc Cert.SsmInFwdIdeal.main_arg0) = m ((c.tc : Thread Cert.SsmInFwdIdeal.nD Cert.SsmInFwdIdeal.τ).loc Cert.SsmInFwdIdeal.main_arg0)
      ∧ r.2.mem ((c.tc : Thread Cert.SsmInFwdIdeal.nD Cert.SsmInFwdIdeal.τ).loc Cert.SsmInFwdIdeal.main_arg1) = m ((c.tc : Thread Cert.SsmInFwdIdeal.nD Cert.SsmInFwdIdeal.τ).loc Cert.SsmInFwdIdeal.main_arg1))
      ∧ r.2.sem = fun _ => 0)

def quiescent_SsmInFwdRefIdeal [hSsmInFwdRefIdeal : Cert.SsmInFwdRefIdeal.Facts] : Prop :=
  ∀ (m : (ℓ : Loc Cert.SsmInFwdRefIdeal.nD Cert.SsmInFwdRefIdeal.τ Cert.SsmInFwdRefIdeal.sig) → Buf (Elt Ideal) ℓ) (g : Dev Cert.SsmInFwdRefIdeal.nD → PrngReg), Pre_SsmInFwdRefIdeal m →
    θ_run (Cert.SsmInFwdRefIdeal.defs (F := Ideal)) (onTc (τ := Cert.SsmInFwdRefIdeal.τ) (Cert.SsmInFwdRefIdeal.main (F := Ideal))) ⟨m, fun _ => 0, g⟩ (fun r => (∀ c : Dev Cert.SsmInFwdRefIdeal.nD,
      r.2.mem ((c.tc : Thread Cert.SsmInFwdRefIdeal.nD Cert.SsmInFwdRefIdeal.τ).loc Cert.SsmInFwdRefIdeal.main_arg0) = m ((c.tc : Thread Cert.SsmInFwdRefIdeal.nD Cert.SsmInFwdRefIdeal.τ).loc Cert.SsmInFwdRefIdeal.main_arg0)
      ∧ r.2.mem ((c.tc : Thread Cert.SsmInFwdRefIdeal.nD Cert.SsmInFwdRefIdeal.τ).loc Cert.SsmInFwdRefIdeal.main_arg1) = m ((c.tc : Thread Cert.SsmInFwdRefIdeal.nD Cert.SsmInFwdRefIdeal.τ).loc Cert.SsmInFwdRefIdeal.main_arg1))
      ∧ r.2.sem = fun _ => 0)

def quiescent_SsmGateDa [hSsmGateDa : Cert.SsmGateDa.Facts] : Prop :=
  ∀ (m : (ℓ : Loc Cert.SsmGateDa.nD Cert.SsmGateDa.τ Cert.SsmGateDa.sig) → Buf (Elt Bits) ℓ) (g : Dev Cert.SsmGateDa.nD → PrngReg), Pre_SsmGateDa m →
    θ_run (Cert.SsmGateDa.defs (F := Bits)) (onTc (τ := Cert.SsmGateDa.τ) (Cert.SsmGateDa.main (F := Bits))) ⟨m, fun _ => 0, g⟩ (fun r => (∀ c : Dev Cert.SsmGateDa.nD,
      r.2.mem ((c.tc : Thread Cert.SsmGateDa.nD Cert.SsmGateDa.τ).loc Cert.SsmGateDa.main_arg0) = m ((c.tc : Thread Cert.SsmGateDa.nD Cert.SsmGateDa.τ).loc Cert.SsmGateDa.main_arg0)
      ∧ r.2.mem ((c.tc : Thread Cert.SsmGateDa.nD Cert.SsmGateDa.τ).loc Cert.SsmGateDa.main_arg1) = m ((c.tc : Thread Cert.SsmGateDa.nD Cert.SsmGateDa.τ).loc Cert.SsmGateDa.main_arg1))
      ∧ r.2.sem = fun _ => 0)

def quiescent_SsmGateDaIdeal [hSsmGateDaIdeal : Cert.SsmGateDaIdeal.Facts] : Prop :=
  ∀ (m : (ℓ : Loc Cert.SsmGateDaIdeal.nD Cert.SsmGateDaIdeal.τ Cert.SsmGateDaIdeal.sig) → Buf (Elt Ideal) ℓ) (g : Dev Cert.SsmGateDaIdeal.nD → PrngReg), Pre_SsmGateDaIdeal m →
    θ_run (Cert.SsmGateDaIdeal.defs (F := Ideal)) (onTc (τ := Cert.SsmGateDaIdeal.τ) (Cert.SsmGateDaIdeal.main (F := Ideal))) ⟨m, fun _ => 0, g⟩ (fun r => (∀ c : Dev Cert.SsmGateDaIdeal.nD,
      r.2.mem ((c.tc : Thread Cert.SsmGateDaIdeal.nD Cert.SsmGateDaIdeal.τ).loc Cert.SsmGateDaIdeal.main_arg0) = m ((c.tc : Thread Cert.SsmGateDaIdeal.nD Cert.SsmGateDaIdeal.τ).loc Cert.SsmGateDaIdeal.main_arg0)
      ∧ r.2.mem ((c.tc : Thread Cert.SsmGateDaIdeal.nD Cert.SsmGateDaIdeal.τ).loc Cert.SsmGateDaIdeal.main_arg1) = m ((c.tc : Thread Cert.SsmGateDaIdeal.nD Cert.SsmGateDaIdeal.τ).loc Cert.SsmGateDaIdeal.main_arg1))
      ∧ r.2.sem = fun _ => 0)

def quiescent_SsmGateDaRefIdeal [hSsmGateDaRefIdeal : Cert.SsmGateDaRefIdeal.Facts] : Prop :=
  ∀ (m : (ℓ : Loc Cert.SsmGateDaRefIdeal.nD Cert.SsmGateDaRefIdeal.τ Cert.SsmGateDaRefIdeal.sig) → Buf (Elt Ideal) ℓ) (g : Dev Cert.SsmGateDaRefIdeal.nD → PrngReg), Pre_SsmGateDaRefIdeal m →
    θ_run (Cert.SsmGateDaRefIdeal.defs (F := Ideal)) (onTc (τ := Cert.SsmGateDaRefIdeal.τ) (Cert.SsmGateDaRefIdeal.main (F := Ideal))) ⟨m, fun _ => 0, g⟩ (fun r => (∀ c : Dev Cert.SsmGateDaRefIdeal.nD,
      r.2.mem ((c.tc : Thread Cert.SsmGateDaRefIdeal.nD Cert.SsmGateDaRefIdeal.τ).loc Cert.SsmGateDaRefIdeal.main_arg0) = m ((c.tc : Thread Cert.SsmGateDaRefIdeal.nD Cert.SsmGateDaRefIdeal.τ).loc Cert.SsmGateDaRefIdeal.main_arg0)
      ∧ r.2.mem ((c.tc : Thread Cert.SsmGateDaRefIdeal.nD Cert.SsmGateDaRefIdeal.τ).loc Cert.SsmGateDaRefIdeal.main_arg1) = m ((c.tc : Thread Cert.SsmGateDaRefIdeal.nD Cert.SsmGateDaRefIdeal.τ).loc Cert.SsmGateDaRefIdeal.main_arg1))
      ∧ r.2.sem = fun _ => 0)

def quiescent_SsmGateDw [hSsmGateDw : Cert.SsmGateDw.Facts] : Prop :=
  ∀ (m : (ℓ : Loc Cert.SsmGateDw.nD Cert.SsmGateDw.τ Cert.SsmGateDw.sig) → Buf (Elt Bits) ℓ) (g : Dev Cert.SsmGateDw.nD → PrngReg), Pre_SsmGateDw m →
    θ_run (Cert.SsmGateDw.defs (F := Bits)) (onTc (τ := Cert.SsmGateDw.τ) (Cert.SsmGateDw.main (F := Bits))) ⟨m, fun _ => 0, g⟩ (fun r => (∀ c : Dev Cert.SsmGateDw.nD,
      r.2.mem ((c.tc : Thread Cert.SsmGateDw.nD Cert.SsmGateDw.τ).loc Cert.SsmGateDw.main_arg0) = m ((c.tc : Thread Cert.SsmGateDw.nD Cert.SsmGateDw.τ).loc Cert.SsmGateDw.main_arg0)
      ∧ r.2.mem ((c.tc : Thread Cert.SsmGateDw.nD Cert.SsmGateDw.τ).loc Cert.SsmGateDw.main_arg1) = m ((c.tc : Thread Cert.SsmGateDw.nD Cert.SsmGateDw.τ).loc Cert.SsmGateDw.main_arg1))
      ∧ r.2.sem = fun _ => 0)

def quiescent_SsmGateDwIdeal [hSsmGateDwIdeal : Cert.SsmGateDwIdeal.Facts] : Prop :=
  ∀ (m : (ℓ : Loc Cert.SsmGateDwIdeal.nD Cert.SsmGateDwIdeal.τ Cert.SsmGateDwIdeal.sig) → Buf (Elt Ideal) ℓ) (g : Dev Cert.SsmGateDwIdeal.nD → PrngReg), Pre_SsmGateDwIdeal m →
    θ_run (Cert.SsmGateDwIdeal.defs (F := Ideal)) (onTc (τ := Cert.SsmGateDwIdeal.τ) (Cert.SsmGateDwIdeal.main (F := Ideal))) ⟨m, fun _ => 0, g⟩ (fun r => (∀ c : Dev Cert.SsmGateDwIdeal.nD,
      r.2.mem ((c.tc : Thread Cert.SsmGateDwIdeal.nD Cert.SsmGateDwIdeal.τ).loc Cert.SsmGateDwIdeal.main_arg0) = m ((c.tc : Thread Cert.SsmGateDwIdeal.nD Cert.SsmGateDwIdeal.τ).loc Cert.SsmGateDwIdeal.main_arg0)
      ∧ r.2.mem ((c.tc : Thread Cert.SsmGateDwIdeal.nD Cert.SsmGateDwIdeal.τ).loc Cert.SsmGateDwIdeal.main_arg1) = m ((c.tc : Thread Cert.SsmGateDwIdeal.nD Cert.SsmGateDwIdeal.τ).loc Cert.SsmGateDwIdeal.main_arg1))
      ∧ r.2.sem = fun _ => 0)

def quiescent_SsmGateDwRefIdeal [hSsmGateDwRefIdeal : Cert.SsmGateDwRefIdeal.Facts] : Prop :=
  ∀ (m : (ℓ : Loc Cert.SsmGateDwRefIdeal.nD Cert.SsmGateDwRefIdeal.τ Cert.SsmGateDwRefIdeal.sig) → Buf (Elt Ideal) ℓ) (g : Dev Cert.SsmGateDwRefIdeal.nD → PrngReg), Pre_SsmGateDwRefIdeal m →
    θ_run (Cert.SsmGateDwRefIdeal.defs (F := Ideal)) (onTc (τ := Cert.SsmGateDwRefIdeal.τ) (Cert.SsmGateDwRefIdeal.main (F := Ideal))) ⟨m, fun _ => 0, g⟩ (fun r => (∀ c : Dev Cert.SsmGateDwRefIdeal.nD,
      r.2.mem ((c.tc : Thread Cert.SsmGateDwRefIdeal.nD Cert.SsmGateDwRefIdeal.τ).loc Cert.SsmGateDwRefIdeal.main_arg0) = m ((c.tc : Thread Cert.SsmGateDwRefIdeal.nD Cert.SsmGateDwRefIdeal.τ).loc Cert.SsmGateDwRefIdeal.main_arg0)
      ∧ r.2.mem ((c.tc : Thread Cert.SsmGateDwRefIdeal.nD Cert.SsmGateDwRefIdeal.τ).loc Cert.SsmGateDwRefIdeal.main_arg1) = m ((c.tc : Thread Cert.SsmGateDwRefIdeal.nD Cert.SsmGateDwRefIdeal.τ).loc Cert.SsmGateDwRefIdeal.main_arg1))
      ∧ r.2.sem = fun _ => 0)

def quiescent_SsmGateFwd [hSsmGateFwd : Cert.SsmGateFwd.Facts] : Prop :=
  ∀ (m : (ℓ : Loc Cert.SsmGateFwd.nD Cert.SsmGateFwd.τ Cert.SsmGateFwd.sig) → Buf (Elt Bits) ℓ) (g : Dev Cert.SsmGateFwd.nD → PrngReg), Pre_SsmGateFwd m →
    θ_run (Cert.SsmGateFwd.defs (F := Bits)) (onTc (τ := Cert.SsmGateFwd.τ) (Cert.SsmGateFwd.main (F := Bits))) ⟨m, fun _ => 0, g⟩ (fun r => (∀ c : Dev Cert.SsmGateFwd.nD,
      r.2.mem ((c.tc : Thread Cert.SsmGateFwd.nD Cert.SsmGateFwd.τ).loc Cert.SsmGateFwd.main_arg0) = m ((c.tc : Thread Cert.SsmGateFwd.nD Cert.SsmGateFwd.τ).loc Cert.SsmGateFwd.main_arg0)
      ∧ r.2.mem ((c.tc : Thread Cert.SsmGateFwd.nD Cert.SsmGateFwd.τ).loc Cert.SsmGateFwd.main_arg1) = m ((c.tc : Thread Cert.SsmGateFwd.nD Cert.SsmGateFwd.τ).loc Cert.SsmGateFwd.main_arg1))
      ∧ r.2.sem = fun _ => 0)

def quiescent_SsmGateFwdIdeal [hSsmGateFwdIdeal : Cert.SsmGateFwdIdeal.Facts] : Prop :=
  ∀ (m : (ℓ : Loc Cert.SsmGateFwdIdeal.nD Cert.SsmGateFwdIdeal.τ Cert.SsmGateFwdIdeal.sig) → Buf (Elt Ideal) ℓ) (g : Dev Cert.SsmGateFwdIdeal.nD → PrngReg), Pre_SsmGateFwdIdeal m →
    θ_run (Cert.SsmGateFwdIdeal.defs (F := Ideal)) (onTc (τ := Cert.SsmGateFwdIdeal.τ) (Cert.SsmGateFwdIdeal.main (F := Ideal))) ⟨m, fun _ => 0, g⟩ (fun r => (∀ c : Dev Cert.SsmGateFwdIdeal.nD,
      r.2.mem ((c.tc : Thread Cert.SsmGateFwdIdeal.nD Cert.SsmGateFwdIdeal.τ).loc Cert.SsmGateFwdIdeal.main_arg0) = m ((c.tc : Thread Cert.SsmGateFwdIdeal.nD Cert.SsmGateFwdIdeal.τ).loc Cert.SsmGateFwdIdeal.main_arg0)
      ∧ r.2.mem ((c.tc : Thread Cert.SsmGateFwdIdeal.nD Cert.SsmGateFwdIdeal.τ).loc Cert.SsmGateFwdIdeal.main_arg1) = m ((c.tc : Thread Cert.SsmGateFwdIdeal.nD Cert.SsmGateFwdIdeal.τ).loc Cert.SsmGateFwdIdeal.main_arg1))
      ∧ r.2.sem = fun _ => 0)

def quiescent_SsmGateFwdRefIdeal [hSsmGateFwdRefIdeal : Cert.SsmGateFwdRefIdeal.Facts] : Prop :=
  ∀ (m : (ℓ : Loc Cert.SsmGateFwdRefIdeal.nD Cert.SsmGateFwdRefIdeal.τ Cert.SsmGateFwdRefIdeal.sig) → Buf (Elt Ideal) ℓ) (g : Dev Cert.SsmGateFwdRefIdeal.nD → PrngReg), Pre_SsmGateFwdRefIdeal m →
    θ_run (Cert.SsmGateFwdRefIdeal.defs (F := Ideal)) (onTc (τ := Cert.SsmGateFwdRefIdeal.τ) (Cert.SsmGateFwdRefIdeal.main (F := Ideal))) ⟨m, fun _ => 0, g⟩ (fun r => (∀ c : Dev Cert.SsmGateFwdRefIdeal.nD,
      r.2.mem ((c.tc : Thread Cert.SsmGateFwdRefIdeal.nD Cert.SsmGateFwdRefIdeal.τ).loc Cert.SsmGateFwdRefIdeal.main_arg0) = m ((c.tc : Thread Cert.SsmGateFwdRefIdeal.nD Cert.SsmGateFwdRefIdeal.τ).loc Cert.SsmGateFwdRefIdeal.main_arg0)
      ∧ r.2.mem ((c.tc : Thread Cert.SsmGateFwdRefIdeal.nD Cert.SsmGateFwdRefIdeal.τ).loc Cert.SsmGateFwdRefIdeal.main_arg1) = m ((c.tc : Thread Cert.SsmGateFwdRefIdeal.nD Cert.SsmGateFwdRefIdeal.τ).loc Cert.SsmGateFwdRefIdeal.main_arg1))
      ∧ r.2.sem = fun _ => 0)

def quiescent_SsmOutDa [hSsmOutDa : Cert.SsmOutDa.Facts] : Prop :=
  ∀ (m : (ℓ : Loc Cert.SsmOutDa.nD Cert.SsmOutDa.τ Cert.SsmOutDa.sig) → Buf (Elt Bits) ℓ) (g : Dev Cert.SsmOutDa.nD → PrngReg), Pre_SsmOutDa m →
    θ_run (Cert.SsmOutDa.defs (F := Bits)) (onTc (τ := Cert.SsmOutDa.τ) (Cert.SsmOutDa.main (F := Bits))) ⟨m, fun _ => 0, g⟩ (fun r => (∀ c : Dev Cert.SsmOutDa.nD,
      r.2.mem ((c.tc : Thread Cert.SsmOutDa.nD Cert.SsmOutDa.τ).loc Cert.SsmOutDa.main_arg0) = m ((c.tc : Thread Cert.SsmOutDa.nD Cert.SsmOutDa.τ).loc Cert.SsmOutDa.main_arg0)
      ∧ r.2.mem ((c.tc : Thread Cert.SsmOutDa.nD Cert.SsmOutDa.τ).loc Cert.SsmOutDa.main_arg1) = m ((c.tc : Thread Cert.SsmOutDa.nD Cert.SsmOutDa.τ).loc Cert.SsmOutDa.main_arg1))
      ∧ r.2.sem = fun _ => 0)

def quiescent_SsmOutDaIdeal [hSsmOutDaIdeal : Cert.SsmOutDaIdeal.Facts] : Prop :=
  ∀ (m : (ℓ : Loc Cert.SsmOutDaIdeal.nD Cert.SsmOutDaIdeal.τ Cert.SsmOutDaIdeal.sig) → Buf (Elt Ideal) ℓ) (g : Dev Cert.SsmOutDaIdeal.nD → PrngReg), Pre_SsmOutDaIdeal m →
    θ_run (Cert.SsmOutDaIdeal.defs (F := Ideal)) (onTc (τ := Cert.SsmOutDaIdeal.τ) (Cert.SsmOutDaIdeal.main (F := Ideal))) ⟨m, fun _ => 0, g⟩ (fun r => (∀ c : Dev Cert.SsmOutDaIdeal.nD,
      r.2.mem ((c.tc : Thread Cert.SsmOutDaIdeal.nD Cert.SsmOutDaIdeal.τ).loc Cert.SsmOutDaIdeal.main_arg0) = m ((c.tc : Thread Cert.SsmOutDaIdeal.nD Cert.SsmOutDaIdeal.τ).loc Cert.SsmOutDaIdeal.main_arg0)
      ∧ r.2.mem ((c.tc : Thread Cert.SsmOutDaIdeal.nD Cert.SsmOutDaIdeal.τ).loc Cert.SsmOutDaIdeal.main_arg1) = m ((c.tc : Thread Cert.SsmOutDaIdeal.nD Cert.SsmOutDaIdeal.τ).loc Cert.SsmOutDaIdeal.main_arg1))
      ∧ r.2.sem = fun _ => 0)

def quiescent_SsmOutDaRefIdeal [hSsmOutDaRefIdeal : Cert.SsmOutDaRefIdeal.Facts] : Prop :=
  ∀ (m : (ℓ : Loc Cert.SsmOutDaRefIdeal.nD Cert.SsmOutDaRefIdeal.τ Cert.SsmOutDaRefIdeal.sig) → Buf (Elt Ideal) ℓ) (g : Dev Cert.SsmOutDaRefIdeal.nD → PrngReg), Pre_SsmOutDaRefIdeal m →
    θ_run (Cert.SsmOutDaRefIdeal.defs (F := Ideal)) (onTc (τ := Cert.SsmOutDaRefIdeal.τ) (Cert.SsmOutDaRefIdeal.main (F := Ideal))) ⟨m, fun _ => 0, g⟩ (fun r => (∀ c : Dev Cert.SsmOutDaRefIdeal.nD,
      r.2.mem ((c.tc : Thread Cert.SsmOutDaRefIdeal.nD Cert.SsmOutDaRefIdeal.τ).loc Cert.SsmOutDaRefIdeal.main_arg0) = m ((c.tc : Thread Cert.SsmOutDaRefIdeal.nD Cert.SsmOutDaRefIdeal.τ).loc Cert.SsmOutDaRefIdeal.main_arg0)
      ∧ r.2.mem ((c.tc : Thread Cert.SsmOutDaRefIdeal.nD Cert.SsmOutDaRefIdeal.τ).loc Cert.SsmOutDaRefIdeal.main_arg1) = m ((c.tc : Thread Cert.SsmOutDaRefIdeal.nD Cert.SsmOutDaRefIdeal.τ).loc Cert.SsmOutDaRefIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwRefIdeal [hSsmOutDwRefIdeal : Cert.SsmOutDwRefIdeal.Facts] : Prop :=
  ∀ (m : (ℓ : Loc Cert.SsmOutDwRefIdeal.nD Cert.SsmOutDwRefIdeal.τ Cert.SsmOutDwRefIdeal.sig) → Buf (Elt Ideal) ℓ) (g : Dev Cert.SsmOutDwRefIdeal.nD → PrngReg), Pre_SsmOutDwRefIdeal m →
    θ_run (Cert.SsmOutDwRefIdeal.defs (F := Ideal)) (onTc (τ := Cert.SsmOutDwRefIdeal.τ) (Cert.SsmOutDwRefIdeal.main (F := Ideal))) ⟨m, fun _ => 0, g⟩ (fun r => (∀ c : Dev Cert.SsmOutDwRefIdeal.nD,
      r.2.mem ((c.tc : Thread Cert.SsmOutDwRefIdeal.nD Cert.SsmOutDwRefIdeal.τ).loc Cert.SsmOutDwRefIdeal.main_arg0) = m ((c.tc : Thread Cert.SsmOutDwRefIdeal.nD Cert.SsmOutDwRefIdeal.τ).loc Cert.SsmOutDwRefIdeal.main_arg0)
      ∧ r.2.mem ((c.tc : Thread Cert.SsmOutDwRefIdeal.nD Cert.SsmOutDwRefIdeal.τ).loc Cert.SsmOutDwRefIdeal.main_arg1) = m ((c.tc : Thread Cert.SsmOutDwRefIdeal.nD Cert.SsmOutDwRefIdeal.τ).loc Cert.SsmOutDwRefIdeal.main_arg1))
      ∧ r.2.sem = fun _ => 0)

def quiescent_SsmOutFwd [hSsmOutFwd : Cert.SsmOutFwd.Facts] : Prop :=
  ∀ (m : (ℓ : Loc Cert.SsmOutFwd.nD Cert.SsmOutFwd.τ Cert.SsmOutFwd.sig) → Buf (Elt Bits) ℓ) (g : Dev Cert.SsmOutFwd.nD → PrngReg), Pre_SsmOutFwd m →
    θ_run (Cert.SsmOutFwd.defs (F := Bits)) (onTc (τ := Cert.SsmOutFwd.τ) (Cert.SsmOutFwd.main (F := Bits))) ⟨m, fun _ => 0, g⟩ (fun r => (∀ c : Dev Cert.SsmOutFwd.nD,
      r.2.mem ((c.tc : Thread Cert.SsmOutFwd.nD Cert.SsmOutFwd.τ).loc Cert.SsmOutFwd.main_arg0) = m ((c.tc : Thread Cert.SsmOutFwd.nD Cert.SsmOutFwd.τ).loc Cert.SsmOutFwd.main_arg0)
      ∧ r.2.mem ((c.tc : Thread Cert.SsmOutFwd.nD Cert.SsmOutFwd.τ).loc Cert.SsmOutFwd.main_arg1) = m ((c.tc : Thread Cert.SsmOutFwd.nD Cert.SsmOutFwd.τ).loc Cert.SsmOutFwd.main_arg1))
      ∧ r.2.sem = fun _ => 0)

def quiescent_SsmOutFwdIdeal [hSsmOutFwdIdeal : Cert.SsmOutFwdIdeal.Facts] : Prop :=
  ∀ (m : (ℓ : Loc Cert.SsmOutFwdIdeal.nD Cert.SsmOutFwdIdeal.τ Cert.SsmOutFwdIdeal.sig) → Buf (Elt Ideal) ℓ) (g : Dev Cert.SsmOutFwdIdeal.nD → PrngReg), Pre_SsmOutFwdIdeal m →
    θ_run (Cert.SsmOutFwdIdeal.defs (F := Ideal)) (onTc (τ := Cert.SsmOutFwdIdeal.τ) (Cert.SsmOutFwdIdeal.main (F := Ideal))) ⟨m, fun _ => 0, g⟩ (fun r => (∀ c : Dev Cert.SsmOutFwdIdeal.nD,
      r.2.mem ((c.tc : Thread Cert.SsmOutFwdIdeal.nD Cert.SsmOutFwdIdeal.τ).loc Cert.SsmOutFwdIdeal.main_arg0) = m ((c.tc : Thread Cert.SsmOutFwdIdeal.nD Cert.SsmOutFwdIdeal.τ).loc Cert.SsmOutFwdIdeal.main_arg0)
      ∧ r.2.mem ((c.tc : Thread Cert.SsmOutFwdIdeal.nD Cert.SsmOutFwdIdeal.τ).loc Cert.SsmOutFwdIdeal.main_arg1) = m ((c.tc : Thread Cert.SsmOutFwdIdeal.nD Cert.SsmOutFwdIdeal.τ).loc Cert.SsmOutFwdIdeal.main_arg1))
      ∧ r.2.sem = fun _ => 0)

def quiescent_SsmOutFwdRefIdeal [hSsmOutFwdRefIdeal : Cert.SsmOutFwdRefIdeal.Facts] : Prop :=
  ∀ (m : (ℓ : Loc Cert.SsmOutFwdRefIdeal.nD Cert.SsmOutFwdRefIdeal.τ Cert.SsmOutFwdRefIdeal.sig) → Buf (Elt Ideal) ℓ) (g : Dev Cert.SsmOutFwdRefIdeal.nD → PrngReg), Pre_SsmOutFwdRefIdeal m →
    θ_run (Cert.SsmOutFwdRefIdeal.defs (F := Ideal)) (onTc (τ := Cert.SsmOutFwdRefIdeal.τ) (Cert.SsmOutFwdRefIdeal.main (F := Ideal))) ⟨m, fun _ => 0, g⟩ (fun r => (∀ c : Dev Cert.SsmOutFwdRefIdeal.nD,
      r.2.mem ((c.tc : Thread Cert.SsmOutFwdRefIdeal.nD Cert.SsmOutFwdRefIdeal.τ).loc Cert.SsmOutFwdRefIdeal.main_arg0) = m ((c.tc : Thread Cert.SsmOutFwdRefIdeal.nD Cert.SsmOutFwdRefIdeal.τ).loc Cert.SsmOutFwdRefIdeal.main_arg0)
      ∧ r.2.mem ((c.tc : Thread Cert.SsmOutFwdRefIdeal.nD Cert.SsmOutFwdRefIdeal.τ).loc Cert.SsmOutFwdRefIdeal.main_arg1) = m ((c.tc : Thread Cert.SsmOutFwdRefIdeal.nD Cert.SsmOutFwdRefIdeal.τ).loc Cert.SsmOutFwdRefIdeal.main_arg1))
      ∧ r.2.sem = fun _ => 0)

def quiescent_LatentUpDa [hLatentUpDa : Cert.LatentUpDa.Facts] : Prop :=
  ∀ (m : (ℓ : Loc Cert.LatentUpDa.nD Cert.LatentUpDa.τ Cert.LatentUpDa.sig) → Buf (Elt Bits) ℓ) (g : Dev Cert.LatentUpDa.nD → PrngReg), Pre_LatentUpDa m →
    θ_run (Cert.LatentUpDa.defs (F := Bits)) (onTc (τ := Cert.LatentUpDa.τ) (Cert.LatentUpDa.main (F := Bits))) ⟨m, fun _ => 0, g⟩ (fun r => (∀ c : Dev Cert.LatentUpDa.nD,
      r.2.mem ((c.tc : Thread Cert.LatentUpDa.nD Cert.LatentUpDa.τ).loc Cert.LatentUpDa.main_arg0) = m ((c.tc : Thread Cert.LatentUpDa.nD Cert.LatentUpDa.τ).loc Cert.LatentUpDa.main_arg0)
      ∧ r.2.mem ((c.tc : Thread Cert.LatentUpDa.nD Cert.LatentUpDa.τ).loc Cert.LatentUpDa.main_arg1) = m ((c.tc : Thread Cert.LatentUpDa.nD Cert.LatentUpDa.τ).loc Cert.LatentUpDa.main_arg1))
      ∧ r.2.sem = fun _ => 0)

def quiescent_LatentUpDaIdeal [hLatentUpDaIdeal : Cert.LatentUpDaIdeal.Facts] : Prop :=
  ∀ (m : (ℓ : Loc Cert.LatentUpDaIdeal.nD Cert.LatentUpDaIdeal.τ Cert.LatentUpDaIdeal.sig) → Buf (Elt Ideal) ℓ) (g : Dev Cert.LatentUpDaIdeal.nD → PrngReg), Pre_LatentUpDaIdeal m →
    θ_run (Cert.LatentUpDaIdeal.defs (F := Ideal)) (onTc (τ := Cert.LatentUpDaIdeal.τ) (Cert.LatentUpDaIdeal.main (F := Ideal))) ⟨m, fun _ => 0, g⟩ (fun r => (∀ c : Dev Cert.LatentUpDaIdeal.nD,
      r.2.mem ((c.tc : Thread Cert.LatentUpDaIdeal.nD Cert.LatentUpDaIdeal.τ).loc Cert.LatentUpDaIdeal.main_arg0) = m ((c.tc : Thread Cert.LatentUpDaIdeal.nD Cert.LatentUpDaIdeal.τ).loc Cert.LatentUpDaIdeal.main_arg0)
      ∧ r.2.mem ((c.tc : Thread Cert.LatentUpDaIdeal.nD Cert.LatentUpDaIdeal.τ).loc Cert.LatentUpDaIdeal.main_arg1) = m ((c.tc : Thread Cert.LatentUpDaIdeal.nD Cert.LatentUpDaIdeal.τ).loc Cert.LatentUpDaIdeal.main_arg1))
      ∧ r.2.sem = fun _ => 0)

def quiescent_LatentUpDaRefIdeal [hLatentUpDaRefIdeal : Cert.LatentUpDaRefIdeal.Facts] : Prop :=
  ∀ (m : (ℓ : Loc Cert.LatentUpDaRefIdeal.nD Cert.LatentUpDaRefIdeal.τ Cert.LatentUpDaRefIdeal.sig) → Buf (Elt Ideal) ℓ) (g : Dev Cert.LatentUpDaRefIdeal.nD → PrngReg), Pre_LatentUpDaRefIdeal m →
    θ_run (Cert.LatentUpDaRefIdeal.defs (F := Ideal)) (onTc (τ := Cert.LatentUpDaRefIdeal.τ) (Cert.LatentUpDaRefIdeal.main (F := Ideal))) ⟨m, fun _ => 0, g⟩ (fun r => (∀ c : Dev Cert.LatentUpDaRefIdeal.nD,
      r.2.mem ((c.tc : Thread Cert.LatentUpDaRefIdeal.nD Cert.LatentUpDaRefIdeal.τ).loc Cert.LatentUpDaRefIdeal.main_arg0) = m ((c.tc : Thread Cert.LatentUpDaRefIdeal.nD Cert.LatentUpDaRefIdeal.τ).loc Cert.LatentUpDaRefIdeal.main_arg0)
      ∧ r.2.mem ((c.tc : Thread Cert.LatentUpDaRefIdeal.nD Cert.LatentUpDaRefIdeal.τ).loc Cert.LatentUpDaRefIdeal.main_arg1) = m ((c.tc : Thread Cert.LatentUpDaRefIdeal.nD Cert.LatentUpDaRefIdeal.τ).loc Cert.LatentUpDaRefIdeal.main_arg1))
      ∧ r.2.sem = fun _ => 0)

def quiescent_LatentUpDw [hLatentUpDw : Cert.LatentUpDw.Facts] : Prop :=
  ∀ (m : (ℓ : Loc Cert.LatentUpDw.nD Cert.LatentUpDw.τ Cert.LatentUpDw.sig) → Buf (Elt Bits) ℓ) (g : Dev Cert.LatentUpDw.nD → PrngReg), Pre_LatentUpDw m →
    θ_run (Cert.LatentUpDw.defs (F := Bits)) (onTc (τ := Cert.LatentUpDw.τ) (Cert.LatentUpDw.main (F := Bits))) ⟨m, fun _ => 0, g⟩ (fun r => (∀ c : Dev Cert.LatentUpDw.nD,
      r.2.mem ((c.tc : Thread Cert.LatentUpDw.nD Cert.LatentUpDw.τ).loc Cert.LatentUpDw.main_arg0) = m ((c.tc : Thread Cert.LatentUpDw.nD Cert.LatentUpDw.τ).loc Cert.LatentUpDw.main_arg0)
      ∧ r.2.mem ((c.tc : Thread Cert.LatentUpDw.nD Cert.LatentUpDw.τ).loc Cert.LatentUpDw.main_arg1) = m ((c.tc : Thread Cert.LatentUpDw.nD Cert.LatentUpDw.τ).loc Cert.LatentUpDw.main_arg1))
      ∧ r.2.sem = fun _ => 0)

def quiescent_LatentUpDwIdeal [hLatentUpDwIdeal : Cert.LatentUpDwIdeal.Facts] : Prop :=
  ∀ (m : (ℓ : Loc Cert.LatentUpDwIdeal.nD Cert.LatentUpDwIdeal.τ Cert.LatentUpDwIdeal.sig) → Buf (Elt Ideal) ℓ) (g : Dev Cert.LatentUpDwIdeal.nD → PrngReg), Pre_LatentUpDwIdeal m →
    θ_run (Cert.LatentUpDwIdeal.defs (F := Ideal)) (onTc (τ := Cert.LatentUpDwIdeal.τ) (Cert.LatentUpDwIdeal.main (F := Ideal))) ⟨m, fun _ => 0, g⟩ (fun r => (∀ c : Dev Cert.LatentUpDwIdeal.nD,
      r.2.mem ((c.tc : Thread Cert.LatentUpDwIdeal.nD Cert.LatentUpDwIdeal.τ).loc Cert.LatentUpDwIdeal.main_arg0) = m ((c.tc : Thread Cert.LatentUpDwIdeal.nD Cert.LatentUpDwIdeal.τ).loc Cert.LatentUpDwIdeal.main_arg0)
      ∧ r.2.mem ((c.tc : Thread Cert.LatentUpDwIdeal.nD Cert.LatentUpDwIdeal.τ).loc Cert.LatentUpDwIdeal.main_arg1) = m ((c.tc : Thread Cert.LatentUpDwIdeal.nD Cert.LatentUpDwIdeal.τ).loc Cert.LatentUpDwIdeal.main_arg1))
      ∧ r.2.sem = fun _ => 0)

def quiescent_LatentUpDwRefIdeal [hLatentUpDwRefIdeal : Cert.LatentUpDwRefIdeal.Facts] : Prop :=
  ∀ (m : (ℓ : Loc Cert.LatentUpDwRefIdeal.nD Cert.LatentUpDwRefIdeal.τ Cert.LatentUpDwRefIdeal.sig) → Buf (Elt Ideal) ℓ) (g : Dev Cert.LatentUpDwRefIdeal.nD → PrngReg), Pre_LatentUpDwRefIdeal m →
    θ_run (Cert.LatentUpDwRefIdeal.defs (F := Ideal)) (onTc (τ := Cert.LatentUpDwRefIdeal.τ) (Cert.LatentUpDwRefIdeal.main (F := Ideal))) ⟨m, fun _ => 0, g⟩ (fun r => (∀ c : Dev Cert.LatentUpDwRefIdeal.nD,
      r.2.mem ((c.tc : Thread Cert.LatentUpDwRefIdeal.nD Cert.LatentUpDwRefIdeal.τ).loc Cert.LatentUpDwRefIdeal.main_arg0) = m ((c.tc : Thread Cert.LatentUpDwRefIdeal.nD Cert.LatentUpDwRefIdeal.τ).loc Cert.LatentUpDwRefIdeal.main_arg0)
      ∧ r.2.mem ((c.tc : Thread Cert.LatentUpDwRefIdeal.nD Cert.LatentUpDwRefIdeal.τ).loc Cert.LatentUpDwRefIdeal.main_arg1) = m ((c.tc : Thread Cert.LatentUpDwRefIdeal.nD Cert.LatentUpDwRefIdeal.τ).loc Cert.LatentUpDwRefIdeal.main_arg1))
      ∧ r.2.sem = fun _ => 0)

def quiescent_LatentUpFwd [hLatentUpFwd : Cert.LatentUpFwd.Facts] : Prop :=
  ∀ (m : (ℓ : Loc Cert.LatentUpFwd.nD Cert.LatentUpFwd.τ Cert.LatentUpFwd.sig) → Buf (Elt Bits) ℓ) (g : Dev Cert.LatentUpFwd.nD → PrngReg), Pre_LatentUpFwd m →
    θ_run (Cert.LatentUpFwd.defs (F := Bits)) (onTc (τ := Cert.LatentUpFwd.τ) (Cert.LatentUpFwd.main (F := Bits))) ⟨m, fun _ => 0, g⟩ (fun r => (∀ c : Dev Cert.LatentUpFwd.nD,
      r.2.mem ((c.tc : Thread Cert.LatentUpFwd.nD Cert.LatentUpFwd.τ).loc Cert.LatentUpFwd.main_arg0) = m ((c.tc : Thread Cert.LatentUpFwd.nD Cert.LatentUpFwd.τ).loc Cert.LatentUpFwd.main_arg0)
      ∧ r.2.mem ((c.tc : Thread Cert.LatentUpFwd.nD Cert.LatentUpFwd.τ).loc Cert.LatentUpFwd.main_arg1) = m ((c.tc : Thread Cert.LatentUpFwd.nD Cert.LatentUpFwd.τ).loc Cert.LatentUpFwd.main_arg1))
      ∧ r.2.sem = fun _ => 0)

def quiescent_LatentUpFwdIdeal [hLatentUpFwdIdeal : Cert.LatentUpFwdIdeal.Facts] : Prop :=
  ∀ (m : (ℓ : Loc Cert.LatentUpFwdIdeal.nD Cert.LatentUpFwdIdeal.τ Cert.LatentUpFwdIdeal.sig) → Buf (Elt Ideal) ℓ) (g : Dev Cert.LatentUpFwdIdeal.nD → PrngReg), Pre_LatentUpFwdIdeal m →
    θ_run (Cert.LatentUpFwdIdeal.defs (F := Ideal)) (onTc (τ := Cert.LatentUpFwdIdeal.τ) (Cert.LatentUpFwdIdeal.main (F := Ideal))) ⟨m, fun _ => 0, g⟩ (fun r => (∀ c : Dev Cert.LatentUpFwdIdeal.nD,
      r.2.mem ((c.tc : Thread Cert.LatentUpFwdIdeal.nD Cert.LatentUpFwdIdeal.τ).loc Cert.LatentUpFwdIdeal.main_arg0) = m ((c.tc : Thread Cert.LatentUpFwdIdeal.nD Cert.LatentUpFwdIdeal.τ).loc Cert.LatentUpFwdIdeal.main_arg0)
      ∧ r.2.mem ((c.tc : Thread Cert.LatentUpFwdIdeal.nD Cert.LatentUpFwdIdeal.τ).loc Cert.LatentUpFwdIdeal.main_arg1) = m ((c.tc : Thread Cert.LatentUpFwdIdeal.nD Cert.LatentUpFwdIdeal.τ).loc Cert.LatentUpFwdIdeal.main_arg1))
      ∧ r.2.sem = fun _ => 0)

def quiescent_LatentUpFwdRefIdeal [hLatentUpFwdRefIdeal : Cert.LatentUpFwdRefIdeal.Facts] : Prop :=
  ∀ (m : (ℓ : Loc Cert.LatentUpFwdRefIdeal.nD Cert.LatentUpFwdRefIdeal.τ Cert.LatentUpFwdRefIdeal.sig) → Buf (Elt Ideal) ℓ) (g : Dev Cert.LatentUpFwdRefIdeal.nD → PrngReg), Pre_LatentUpFwdRefIdeal m →
    θ_run (Cert.LatentUpFwdRefIdeal.defs (F := Ideal)) (onTc (τ := Cert.LatentUpFwdRefIdeal.τ) (Cert.LatentUpFwdRefIdeal.main (F := Ideal))) ⟨m, fun _ => 0, g⟩ (fun r => (∀ c : Dev Cert.LatentUpFwdRefIdeal.nD,
      r.2.mem ((c.tc : Thread Cert.LatentUpFwdRefIdeal.nD Cert.LatentUpFwdRefIdeal.τ).loc Cert.LatentUpFwdRefIdeal.main_arg0) = m ((c.tc : Thread Cert.LatentUpFwdRefIdeal.nD Cert.LatentUpFwdRefIdeal.τ).loc Cert.LatentUpFwdRefIdeal.main_arg0)
      ∧ r.2.mem ((c.tc : Thread Cert.LatentUpFwdRefIdeal.nD Cert.LatentUpFwdRefIdeal.τ).loc Cert.LatentUpFwdRefIdeal.main_arg1) = m ((c.tc : Thread Cert.LatentUpFwdRefIdeal.nD Cert.LatentUpFwdRefIdeal.τ).loc Cert.LatentUpFwdRefIdeal.main_arg1))
      ∧ r.2.sem = fun _ => 0)

def quiescent_LatentDownDa [hLatentDownDa : Cert.LatentDownDa.Facts] : Prop :=
  ∀ (m : (ℓ : Loc Cert.LatentDownDa.nD Cert.LatentDownDa.τ Cert.LatentDownDa.sig) → Buf (Elt Bits) ℓ) (g : Dev Cert.LatentDownDa.nD → PrngReg), Pre_LatentDownDa m →
    θ_run (Cert.LatentDownDa.defs (F := Bits)) (onTc (τ := Cert.LatentDownDa.τ) (Cert.LatentDownDa.main (F := Bits))) ⟨m, fun _ => 0, g⟩ (fun r => (∀ c : Dev Cert.LatentDownDa.nD,
      r.2.mem ((c.tc : Thread Cert.LatentDownDa.nD Cert.LatentDownDa.τ).loc Cert.LatentDownDa.main_arg0) = m ((c.tc : Thread Cert.LatentDownDa.nD Cert.LatentDownDa.τ).loc Cert.LatentDownDa.main_arg0)
      ∧ r.2.mem ((c.tc : Thread Cert.LatentDownDa.nD Cert.LatentDownDa.τ).loc Cert.LatentDownDa.main_arg1) = m ((c.tc : Thread Cert.LatentDownDa.nD Cert.LatentDownDa.τ).loc Cert.LatentDownDa.main_arg1))
      ∧ r.2.sem = fun _ => 0)

def quiescent_LatentDownDaIdeal [hLatentDownDaIdeal : Cert.LatentDownDaIdeal.Facts] : Prop :=
  ∀ (m : (ℓ : Loc Cert.LatentDownDaIdeal.nD Cert.LatentDownDaIdeal.τ Cert.LatentDownDaIdeal.sig) → Buf (Elt Ideal) ℓ) (g : Dev Cert.LatentDownDaIdeal.nD → PrngReg), Pre_LatentDownDaIdeal m →
    θ_run (Cert.LatentDownDaIdeal.defs (F := Ideal)) (onTc (τ := Cert.LatentDownDaIdeal.τ) (Cert.LatentDownDaIdeal.main (F := Ideal))) ⟨m, fun _ => 0, g⟩ (fun r => (∀ c : Dev Cert.LatentDownDaIdeal.nD,
      r.2.mem ((c.tc : Thread Cert.LatentDownDaIdeal.nD Cert.LatentDownDaIdeal.τ).loc Cert.LatentDownDaIdeal.main_arg0) = m ((c.tc : Thread Cert.LatentDownDaIdeal.nD Cert.LatentDownDaIdeal.τ).loc Cert.LatentDownDaIdeal.main_arg0)
      ∧ r.2.mem ((c.tc : Thread Cert.LatentDownDaIdeal.nD Cert.LatentDownDaIdeal.τ).loc Cert.LatentDownDaIdeal.main_arg1) = m ((c.tc : Thread Cert.LatentDownDaIdeal.nD Cert.LatentDownDaIdeal.τ).loc Cert.LatentDownDaIdeal.main_arg1))
      ∧ r.2.sem = fun _ => 0)

def quiescent_LatentDownDaRefIdeal [hLatentDownDaRefIdeal : Cert.LatentDownDaRefIdeal.Facts] : Prop :=
  ∀ (m : (ℓ : Loc Cert.LatentDownDaRefIdeal.nD Cert.LatentDownDaRefIdeal.τ Cert.LatentDownDaRefIdeal.sig) → Buf (Elt Ideal) ℓ) (g : Dev Cert.LatentDownDaRefIdeal.nD → PrngReg), Pre_LatentDownDaRefIdeal m →
    θ_run (Cert.LatentDownDaRefIdeal.defs (F := Ideal)) (onTc (τ := Cert.LatentDownDaRefIdeal.τ) (Cert.LatentDownDaRefIdeal.main (F := Ideal))) ⟨m, fun _ => 0, g⟩ (fun r => (∀ c : Dev Cert.LatentDownDaRefIdeal.nD,
      r.2.mem ((c.tc : Thread Cert.LatentDownDaRefIdeal.nD Cert.LatentDownDaRefIdeal.τ).loc Cert.LatentDownDaRefIdeal.main_arg0) = m ((c.tc : Thread Cert.LatentDownDaRefIdeal.nD Cert.LatentDownDaRefIdeal.τ).loc Cert.LatentDownDaRefIdeal.main_arg0)
      ∧ r.2.mem ((c.tc : Thread Cert.LatentDownDaRefIdeal.nD Cert.LatentDownDaRefIdeal.τ).loc Cert.LatentDownDaRefIdeal.main_arg1) = m ((c.tc : Thread Cert.LatentDownDaRefIdeal.nD Cert.LatentDownDaRefIdeal.τ).loc Cert.LatentDownDaRefIdeal.main_arg1))
      ∧ r.2.sem = fun _ => 0)

def quiescent_LatentDownDw [hLatentDownDw : Cert.LatentDownDw.Facts] : Prop :=
  ∀ (m : (ℓ : Loc Cert.LatentDownDw.nD Cert.LatentDownDw.τ Cert.LatentDownDw.sig) → Buf (Elt Bits) ℓ) (g : Dev Cert.LatentDownDw.nD → PrngReg), Pre_LatentDownDw m →
    θ_run (Cert.LatentDownDw.defs (F := Bits)) (onTc (τ := Cert.LatentDownDw.τ) (Cert.LatentDownDw.main (F := Bits))) ⟨m, fun _ => 0, g⟩ (fun r => (∀ c : Dev Cert.LatentDownDw.nD,
      r.2.mem ((c.tc : Thread Cert.LatentDownDw.nD Cert.LatentDownDw.τ).loc Cert.LatentDownDw.main_arg0) = m ((c.tc : Thread Cert.LatentDownDw.nD Cert.LatentDownDw.τ).loc Cert.LatentDownDw.main_arg0)
      ∧ r.2.mem ((c.tc : Thread Cert.LatentDownDw.nD Cert.LatentDownDw.τ).loc Cert.LatentDownDw.main_arg1) = m ((c.tc : Thread Cert.LatentDownDw.nD Cert.LatentDownDw.τ).loc Cert.LatentDownDw.main_arg1))
      ∧ r.2.sem = fun _ => 0)

def quiescent_LatentDownDwIdeal [hLatentDownDwIdeal : Cert.LatentDownDwIdeal.Facts] : Prop :=
  ∀ (m : (ℓ : Loc Cert.LatentDownDwIdeal.nD Cert.LatentDownDwIdeal.τ Cert.LatentDownDwIdeal.sig) → Buf (Elt Ideal) ℓ) (g : Dev Cert.LatentDownDwIdeal.nD → PrngReg), Pre_LatentDownDwIdeal m →
    θ_run (Cert.LatentDownDwIdeal.defs (F := Ideal)) (onTc (τ := Cert.LatentDownDwIdeal.τ) (Cert.LatentDownDwIdeal.main (F := Ideal))) ⟨m, fun _ => 0, g⟩ (fun r => (∀ c : Dev Cert.LatentDownDwIdeal.nD,
      r.2.mem ((c.tc : Thread Cert.LatentDownDwIdeal.nD Cert.LatentDownDwIdeal.τ).loc Cert.LatentDownDwIdeal.main_arg0) = m ((c.tc : Thread Cert.LatentDownDwIdeal.nD Cert.LatentDownDwIdeal.τ).loc Cert.LatentDownDwIdeal.main_arg0)
      ∧ r.2.mem ((c.tc : Thread Cert.LatentDownDwIdeal.nD Cert.LatentDownDwIdeal.τ).loc Cert.LatentDownDwIdeal.main_arg1) = m ((c.tc : Thread Cert.LatentDownDwIdeal.nD Cert.LatentDownDwIdeal.τ).loc Cert.LatentDownDwIdeal.main_arg1))
      ∧ r.2.sem = fun _ => 0)

def quiescent_LatentDownDwRefIdeal [hLatentDownDwRefIdeal : Cert.LatentDownDwRefIdeal.Facts] : Prop :=
  ∀ (m : (ℓ : Loc Cert.LatentDownDwRefIdeal.nD Cert.LatentDownDwRefIdeal.τ Cert.LatentDownDwRefIdeal.sig) → Buf (Elt Ideal) ℓ) (g : Dev Cert.LatentDownDwRefIdeal.nD → PrngReg), Pre_LatentDownDwRefIdeal m →
    θ_run (Cert.LatentDownDwRefIdeal.defs (F := Ideal)) (onTc (τ := Cert.LatentDownDwRefIdeal.τ) (Cert.LatentDownDwRefIdeal.main (F := Ideal))) ⟨m, fun _ => 0, g⟩ (fun r => (∀ c : Dev Cert.LatentDownDwRefIdeal.nD,
      r.2.mem ((c.tc : Thread Cert.LatentDownDwRefIdeal.nD Cert.LatentDownDwRefIdeal.τ).loc Cert.LatentDownDwRefIdeal.main_arg0) = m ((c.tc : Thread Cert.LatentDownDwRefIdeal.nD Cert.LatentDownDwRefIdeal.τ).loc Cert.LatentDownDwRefIdeal.main_arg0)
      ∧ r.2.mem ((c.tc : Thread Cert.LatentDownDwRefIdeal.nD Cert.LatentDownDwRefIdeal.τ).loc Cert.LatentDownDwRefIdeal.main_arg1) = m ((c.tc : Thread Cert.LatentDownDwRefIdeal.nD Cert.LatentDownDwRefIdeal.τ).loc Cert.LatentDownDwRefIdeal.main_arg1))
      ∧ r.2.sem = fun _ => 0)

def quiescent_LatentDownFwd [hLatentDownFwd : Cert.LatentDownFwd.Facts] : Prop :=
  ∀ (m : (ℓ : Loc Cert.LatentDownFwd.nD Cert.LatentDownFwd.τ Cert.LatentDownFwd.sig) → Buf (Elt Bits) ℓ) (g : Dev Cert.LatentDownFwd.nD → PrngReg), Pre_LatentDownFwd m →
    θ_run (Cert.LatentDownFwd.defs (F := Bits)) (onTc (τ := Cert.LatentDownFwd.τ) (Cert.LatentDownFwd.main (F := Bits))) ⟨m, fun _ => 0, g⟩ (fun r => (∀ c : Dev Cert.LatentDownFwd.nD,
      r.2.mem ((c.tc : Thread Cert.LatentDownFwd.nD Cert.LatentDownFwd.τ).loc Cert.LatentDownFwd.main_arg0) = m ((c.tc : Thread Cert.LatentDownFwd.nD Cert.LatentDownFwd.τ).loc Cert.LatentDownFwd.main_arg0)
      ∧ r.2.mem ((c.tc : Thread Cert.LatentDownFwd.nD Cert.LatentDownFwd.τ).loc Cert.LatentDownFwd.main_arg1) = m ((c.tc : Thread Cert.LatentDownFwd.nD Cert.LatentDownFwd.τ).loc Cert.LatentDownFwd.main_arg1))
      ∧ r.2.sem = fun _ => 0)

def quiescent_LatentDownFwdIdeal [hLatentDownFwdIdeal : Cert.LatentDownFwdIdeal.Facts] : Prop :=
  ∀ (m : (ℓ : Loc Cert.LatentDownFwdIdeal.nD Cert.LatentDownFwdIdeal.τ Cert.LatentDownFwdIdeal.sig) → Buf (Elt Ideal) ℓ) (g : Dev Cert.LatentDownFwdIdeal.nD → PrngReg), Pre_LatentDownFwdIdeal m →
    θ_run (Cert.LatentDownFwdIdeal.defs (F := Ideal)) (onTc (τ := Cert.LatentDownFwdIdeal.τ) (Cert.LatentDownFwdIdeal.main (F := Ideal))) ⟨m, fun _ => 0, g⟩ (fun r => (∀ c : Dev Cert.LatentDownFwdIdeal.nD,
      r.2.mem ((c.tc : Thread Cert.LatentDownFwdIdeal.nD Cert.LatentDownFwdIdeal.τ).loc Cert.LatentDownFwdIdeal.main_arg0) = m ((c.tc : Thread Cert.LatentDownFwdIdeal.nD Cert.LatentDownFwdIdeal.τ).loc Cert.LatentDownFwdIdeal.main_arg0)
      ∧ r.2.mem ((c.tc : Thread Cert.LatentDownFwdIdeal.nD Cert.LatentDownFwdIdeal.τ).loc Cert.LatentDownFwdIdeal.main_arg1) = m ((c.tc : Thread Cert.LatentDownFwdIdeal.nD Cert.LatentDownFwdIdeal.τ).loc Cert.LatentDownFwdIdeal.main_arg1))
      ∧ r.2.sem = fun _ => 0)

def quiescent_LatentDownFwdRefIdeal [hLatentDownFwdRefIdeal : Cert.LatentDownFwdRefIdeal.Facts] : Prop :=
  ∀ (m : (ℓ : Loc Cert.LatentDownFwdRefIdeal.nD Cert.LatentDownFwdRefIdeal.τ Cert.LatentDownFwdRefIdeal.sig) → Buf (Elt Ideal) ℓ) (g : Dev Cert.LatentDownFwdRefIdeal.nD → PrngReg), Pre_LatentDownFwdRefIdeal m →
    θ_run (Cert.LatentDownFwdRefIdeal.defs (F := Ideal)) (onTc (τ := Cert.LatentDownFwdRefIdeal.τ) (Cert.LatentDownFwdRefIdeal.main (F := Ideal))) ⟨m, fun _ => 0, g⟩ (fun r => (∀ c : Dev Cert.LatentDownFwdRefIdeal.nD,
      r.2.mem ((c.tc : Thread Cert.LatentDownFwdRefIdeal.nD Cert.LatentDownFwdRefIdeal.τ).loc Cert.LatentDownFwdRefIdeal.main_arg0) = m ((c.tc : Thread Cert.LatentDownFwdRefIdeal.nD Cert.LatentDownFwdRefIdeal.τ).loc Cert.LatentDownFwdRefIdeal.main_arg0)
      ∧ r.2.mem ((c.tc : Thread Cert.LatentDownFwdRefIdeal.nD Cert.LatentDownFwdRefIdeal.τ).loc Cert.LatentDownFwdRefIdeal.main_arg1) = m ((c.tc : Thread Cert.LatentDownFwdRefIdeal.nD Cert.LatentDownFwdRefIdeal.τ).loc Cert.LatentDownFwdRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3))
      ∧ r.2.sem = fun _ => 0)

def quiescent_SsmNorm [hSsmNorm : Cert.SsmNorm.Facts] : Prop :=
  ∀ (m : (ℓ : Loc Cert.SsmNorm.nD Cert.SsmNorm.τ Cert.SsmNorm.sig) → Buf (Elt Bits) ℓ) (g : Dev Cert.SsmNorm.nD → PrngReg), Pre_SsmNorm m →
    θ_run (Cert.SsmNorm.defs (F := Bits)) (onTc (τ := Cert.SsmNorm.τ) (Cert.SsmNorm.main (F := Bits))) ⟨m, fun _ => 0, g⟩ (fun r => (∀ c : Dev Cert.SsmNorm.nD,
      r.2.mem ((c.tc : Thread Cert.SsmNorm.nD Cert.SsmNorm.τ).loc Cert.SsmNorm.main_arg0) = m ((c.tc : Thread Cert.SsmNorm.nD Cert.SsmNorm.τ).loc Cert.SsmNorm.main_arg0)
      ∧ r.2.mem ((c.tc : Thread Cert.SsmNorm.nD Cert.SsmNorm.τ).loc Cert.SsmNorm.main_arg1) = m ((c.tc : Thread Cert.SsmNorm.nD Cert.SsmNorm.τ).loc Cert.SsmNorm.main_arg1)
      ∧ r.2.mem ((c.tc : Thread Cert.SsmNorm.nD Cert.SsmNorm.τ).loc Cert.SsmNorm.main_arg2) = m ((c.tc : Thread Cert.SsmNorm.nD Cert.SsmNorm.τ).loc Cert.SsmNorm.main_arg2)
      ∧ r.2.mem ((c.tc : Thread Cert.SsmNorm.nD Cert.SsmNorm.τ).loc Cert.SsmNorm.main_arg3) = m ((c.tc : Thread Cert.SsmNorm.nD Cert.SsmNorm.τ).loc Cert.SsmNorm.main_arg3))
      ∧ r.2.sem = fun _ => 0)

def quiescent_SsmNormIdeal [hSsmNormIdeal : Cert.SsmNormIdeal.Facts] : Prop :=
  ∀ (m : (ℓ : Loc Cert.SsmNormIdeal.nD Cert.SsmNormIdeal.τ Cert.SsmNormIdeal.sig) → Buf (Elt Ideal) ℓ) (g : Dev Cert.SsmNormIdeal.nD → PrngReg), Pre_SsmNormIdeal m →
    θ_run (Cert.SsmNormIdeal.defs (F := Ideal)) (onTc (τ := Cert.SsmNormIdeal.τ) (Cert.SsmNormIdeal.main (F := Ideal))) ⟨m, fun _ => 0, g⟩ (fun r => (∀ c : Dev Cert.SsmNormIdeal.nD,
      r.2.mem ((c.tc : Thread Cert.SsmNormIdeal.nD Cert.SsmNormIdeal.τ).loc Cert.SsmNormIdeal.main_arg0) = m ((c.tc : Thread Cert.SsmNormIdeal.nD Cert.SsmNormIdeal.τ).loc Cert.SsmNormIdeal.main_arg0)
      ∧ r.2.mem ((c.tc : Thread Cert.SsmNormIdeal.nD Cert.SsmNormIdeal.τ).loc Cert.SsmNormIdeal.main_arg1) = m ((c.tc : Thread Cert.SsmNormIdeal.nD Cert.SsmNormIdeal.τ).loc Cert.SsmNormIdeal.main_arg1)
      ∧ r.2.mem ((c.tc : Thread Cert.SsmNormIdeal.nD Cert.SsmNormIdeal.τ).loc Cert.SsmNormIdeal.main_arg2) = m ((c.tc : Thread Cert.SsmNormIdeal.nD Cert.SsmNormIdeal.τ).loc Cert.SsmNormIdeal.main_arg2)
      ∧ r.2.mem ((c.tc : Thread Cert.SsmNormIdeal.nD Cert.SsmNormIdeal.τ).loc Cert.SsmNormIdeal.main_arg3) = m ((c.tc : Thread Cert.SsmNormIdeal.nD Cert.SsmNormIdeal.τ).loc Cert.SsmNormIdeal.main_arg3))
      ∧ r.2.sem = fun _ => 0)

def quiescent_SsmNormRefIdeal [hSsmNormRefIdeal : Cert.SsmNormRefIdeal.Facts] : Prop :=
  ∀ (m : (ℓ : Loc Cert.SsmNormRefIdeal.nD Cert.SsmNormRefIdeal.τ Cert.SsmNormRefIdeal.sig) → Buf (Elt Ideal) ℓ) (g : Dev Cert.SsmNormRefIdeal.nD → PrngReg), Pre_SsmNormRefIdeal m →
    θ_run (Cert.SsmNormRefIdeal.defs (F := Ideal)) (onTc (τ := Cert.SsmNormRefIdeal.τ) (Cert.SsmNormRefIdeal.main (F := Ideal))) ⟨m, fun _ => 0, g⟩ (fun r => (∀ c : Dev Cert.SsmNormRefIdeal.nD,
      r.2.mem ((c.tc : Thread Cert.SsmNormRefIdeal.nD Cert.SsmNormRefIdeal.τ).loc Cert.SsmNormRefIdeal.main_arg0) = m ((c.tc : Thread Cert.SsmNormRefIdeal.nD Cert.SsmNormRefIdeal.τ).loc Cert.SsmNormRefIdeal.main_arg0)
      ∧ r.2.mem ((c.tc : Thread Cert.SsmNormRefIdeal.nD Cert.SsmNormRefIdeal.τ).loc Cert.SsmNormRefIdeal.main_arg1) = m ((c.tc : Thread Cert.SsmNormRefIdeal.nD Cert.SsmNormRefIdeal.τ).loc Cert.SsmNormRefIdeal.main_arg1)
      ∧ r.2.mem ((c.tc : Thread Cert.SsmNormRefIdeal.nD Cert.SsmNormRefIdeal.τ).loc Cert.SsmNormRefIdeal.main_arg2) = m ((c.tc : Thread Cert.SsmNormRefIdeal.nD Cert.SsmNormRefIdeal.τ).loc Cert.SsmNormRefIdeal.main_arg2)
      ∧ r.2.mem ((c.tc : Thread Cert.SsmNormRefIdeal.nD Cert.SsmNormRefIdeal.τ).loc Cert.SsmNormRefIdeal.main_arg3) = m ((c.tc : Thread Cert.SsmNormRefIdeal.nD Cert.SsmNormRefIdeal.τ).loc Cert.SsmNormRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0)
      ∧ r.2.mem ((c.tc : Thread Cert.Silu.nD Cert.Silu.τ).loc Cert.Silu.main_arg1) = m ((c.tc : Thread Cert.Silu.nD Cert.Silu.τ).loc Cert.Silu.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_HgrnOutFwd [hHgrnOutFwd : Cert.HgrnOutFwd.Facts] : Prop :=
  ∀ (m : (ℓ : Loc Cert.HgrnOutFwd.nD Cert.HgrnOutFwd.τ Cert.HgrnOutFwd.sig) → Buf (Elt Bits) ℓ) (g : Dev Cert.HgrnOutFwd.nD → PrngReg), Pre_HgrnOutFwd m →
    θ_run (Cert.HgrnOutFwd.defs (F := Bits)) (onTc (τ := Cert.HgrnOutFwd.τ) (Cert.HgrnOutFwd.main (F := Bits))) ⟨m, fun _ => 0, g⟩ (fun r => (∀ c : Dev Cert.HgrnOutFwd.nD,
      r.2.mem ((c.tc : Thread Cert.HgrnOutFwd.nD Cert.HgrnOutFwd.τ).loc Cert.HgrnOutFwd.main_arg0) = m ((c.tc : Thread Cert.HgrnOutFwd.nD Cert.HgrnOutFwd.τ).loc Cert.HgrnOutFwd.main_arg0)
      ∧ r.2.mem ((c.tc : Thread Cert.HgrnOutFwd.nD Cert.HgrnOutFwd.τ).loc Cert.HgrnOutFwd.main_arg1) = m ((c.tc : Thread Cert.HgrnOutFwd.nD Cert.HgrnOutFwd.τ).loc Cert.HgrnOutFwd.main_arg1)
      ∧ r.2.mem ((c.tc : Thread Cert.HgrnOutFwd.nD Cert.HgrnOutFwd.τ).loc Cert.HgrnOutFwd.main_arg2) = m ((c.tc : Thread Cert.HgrnOutFwd.nD Cert.HgrnOutFwd.τ).loc Cert.HgrnOutFwd.main_arg2))
      ∧ r.2.sem = fun _ => 0)

def quiescent_HgrnOutFwdIdeal [hHgrnOutFwdIdeal : Cert.HgrnOutFwdIdeal.Facts] : Prop :=
  ∀ (m : (ℓ : Loc Cert.HgrnOutFwdIdeal.nD Cert.HgrnOutFwdIdeal.τ Cert.HgrnOutFwdIdeal.sig) → Buf (Elt Ideal) ℓ) (g : Dev Cert.HgrnOutFwdIdeal.nD → PrngReg), Pre_HgrnOutFwdIdeal m →
    θ_run (Cert.HgrnOutFwdIdeal.defs (F := Ideal)) (onTc (τ := Cert.HgrnOutFwdIdeal.τ) (Cert.HgrnOutFwdIdeal.main (F := Ideal))) ⟨m, fun _ => 0, g⟩ (fun r => (∀ c : Dev Cert.HgrnOutFwdIdeal.nD,
      r.2.mem ((c.tc : Thread Cert.HgrnOutFwdIdeal.nD Cert.HgrnOutFwdIdeal.τ).loc Cert.HgrnOutFwdIdeal.main_arg0) = m ((c.tc : Thread Cert.HgrnOutFwdIdeal.nD Cert.HgrnOutFwdIdeal.τ).loc Cert.HgrnOutFwdIdeal.main_arg0)
      ∧ r.2.mem ((c.tc : Thread Cert.HgrnOutFwdIdeal.nD Cert.HgrnOutFwdIdeal.τ).loc Cert.HgrnOutFwdIdeal.main_arg1) = m ((c.tc : Thread Cert.HgrnOutFwdIdeal.nD Cert.HgrnOutFwdIdeal.τ).loc Cert.HgrnOutFwdIdeal.main_arg1)
      ∧ r.2.mem ((c.tc : Thread Cert.HgrnOutFwdIdeal.nD Cert.HgrnOutFwdIdeal.τ).loc Cert.HgrnOutFwdIdeal.main_arg2) = m ((c.tc : Thread Cert.HgrnOutFwdIdeal.nD Cert.HgrnOutFwdIdeal.τ).loc Cert.HgrnOutFwdIdeal.main_arg2))
      ∧ r.2.sem = fun _ => 0)

def quiescent_HgrnOutFwdRefIdeal [hHgrnOutFwdRefIdeal : Cert.HgrnOutFwdRefIdeal.Facts] : Prop :=
  ∀ (m : (ℓ : Loc Cert.HgrnOutFwdRefIdeal.nD Cert.HgrnOutFwdRefIdeal.τ Cert.HgrnOutFwdRefIdeal.sig) → Buf (Elt Ideal) ℓ) (g : Dev Cert.HgrnOutFwdRefIdeal.nD → PrngReg), Pre_HgrnOutFwdRefIdeal m →
    θ_run (Cert.HgrnOutFwdRefIdeal.defs (F := Ideal)) (onTc (τ := Cert.HgrnOutFwdRefIdeal.τ) (Cert.HgrnOutFwdRefIdeal.main (F := Ideal))) ⟨m, fun _ => 0, g⟩ (fun r => (∀ c : Dev Cert.HgrnOutFwdRefIdeal.nD,
      r.2.mem ((c.tc : Thread Cert.HgrnOutFwdRefIdeal.nD Cert.HgrnOutFwdRefIdeal.τ).loc Cert.HgrnOutFwdRefIdeal.main_arg0) = m ((c.tc : Thread Cert.HgrnOutFwdRefIdeal.nD Cert.HgrnOutFwdRefIdeal.τ).loc Cert.HgrnOutFwdRefIdeal.main_arg0)
      ∧ r.2.mem ((c.tc : Thread Cert.HgrnOutFwdRefIdeal.nD Cert.HgrnOutFwdRefIdeal.τ).loc Cert.HgrnOutFwdRefIdeal.main_arg1) = m ((c.tc : Thread Cert.HgrnOutFwdRefIdeal.nD Cert.HgrnOutFwdRefIdeal.τ).loc Cert.HgrnOutFwdRefIdeal.main_arg1)
      ∧ r.2.mem ((c.tc : Thread Cert.HgrnOutFwdRefIdeal.nD Cert.HgrnOutFwdRefIdeal.τ).loc Cert.HgrnOutFwdRefIdeal.main_arg2) = m ((c.tc : Thread Cert.HgrnOutFwdRefIdeal.nD Cert.HgrnOutFwdRefIdeal.τ).loc Cert.HgrnOutFwdRefIdeal.main_arg2))
      ∧ r.2.sem = fun _ => 0)

def quiescent_SsmNormFwd [hSsmNormFwd : Cert.SsmNormFwd.Facts] : Prop :=
  ∀ (m : (ℓ : Loc Cert.SsmNormFwd.nD Cert.SsmNormFwd.τ Cert.SsmNormFwd.sig) → Buf (Elt Bits) ℓ) (g : Dev Cert.SsmNormFwd.nD → PrngReg), Pre_SsmNormFwd m →
    θ_run (Cert.SsmNormFwd.defs (F := Bits)) (onTc (τ := Cert.SsmNormFwd.τ) (Cert.SsmNormFwd.main (F := Bits))) ⟨m, fun _ => 0, g⟩ (fun r => (∀ c : Dev Cert.SsmNormFwd.nD,
      r.2.mem ((c.tc : Thread Cert.SsmNormFwd.nD Cert.SsmNormFwd.τ).loc Cert.SsmNormFwd.main_arg0) = m ((c.tc : Thread Cert.SsmNormFwd.nD Cert.SsmNormFwd.τ).loc Cert.SsmNormFwd.main_arg0)
      ∧ r.2.mem ((c.tc : Thread Cert.SsmNormFwd.nD Cert.SsmNormFwd.τ).loc Cert.SsmNormFwd.main_arg1) = m ((c.tc : Thread Cert.SsmNormFwd.nD Cert.SsmNormFwd.τ).loc Cert.SsmNormFwd.main_arg1)
      ∧ r.2.mem ((c.tc : Thread Cert.SsmNormFwd.nD Cert.SsmNormFwd.τ).loc Cert.SsmNormFwd.main_arg2) = m ((c.tc : Thread Cert.SsmNormFwd.nD Cert.SsmNormFwd.τ).loc Cert.SsmNormFwd.main_arg2))
      ∧ r.2.sem = fun _ => 0)

def quiescent_SsmNormFwdIdeal [hSsmNormFwdIdeal : Cert.SsmNormFwdIdeal.Facts] : Prop :=
  ∀ (m : (ℓ : Loc Cert.SsmNormFwdIdeal.nD Cert.SsmNormFwdIdeal.τ Cert.SsmNormFwdIdeal.sig) → Buf (Elt Ideal) ℓ) (g : Dev Cert.SsmNormFwdIdeal.nD → PrngReg), Pre_SsmNormFwdIdeal m →
    θ_run (Cert.SsmNormFwdIdeal.defs (F := Ideal)) (onTc (τ := Cert.SsmNormFwdIdeal.τ) (Cert.SsmNormFwdIdeal.main (F := Ideal))) ⟨m, fun _ => 0, g⟩ (fun r => (∀ c : Dev Cert.SsmNormFwdIdeal.nD,
      r.2.mem ((c.tc : Thread Cert.SsmNormFwdIdeal.nD Cert.SsmNormFwdIdeal.τ).loc Cert.SsmNormFwdIdeal.main_arg0) = m ((c.tc : Thread Cert.SsmNormFwdIdeal.nD Cert.SsmNormFwdIdeal.τ).loc Cert.SsmNormFwdIdeal.main_arg0)
      ∧ r.2.mem ((c.tc : Thread Cert.SsmNormFwdIdeal.nD Cert.SsmNormFwdIdeal.τ).loc Cert.SsmNormFwdIdeal.main_arg1) = m ((c.tc : Thread Cert.SsmNormFwdIdeal.nD Cert.SsmNormFwdIdeal.τ).loc Cert.SsmNormFwdIdeal.main_arg1)
      ∧ r.2.mem ((c.tc : Thread Cert.SsmNormFwdIdeal.nD Cert.SsmNormFwdIdeal.τ).loc Cert.SsmNormFwdIdeal.main_arg2) = m ((c.tc : Thread Cert.SsmNormFwdIdeal.nD Cert.SsmNormFwdIdeal.τ).loc Cert.SsmNormFwdIdeal.main_arg2))
      ∧ r.2.sem = fun _ => 0)

def quiescent_SsmNormFwdRefIdeal [hSsmNormFwdRefIdeal : Cert.SsmNormFwdRefIdeal.Facts] : Prop :=
  ∀ (m : (ℓ : Loc Cert.SsmNormFwdRefIdeal.nD Cert.SsmNormFwdRefIdeal.τ Cert.SsmNormFwdRefIdeal.sig) → Buf (Elt Ideal) ℓ) (g : Dev Cert.SsmNormFwdRefIdeal.nD → PrngReg), Pre_SsmNormFwdRefIdeal m →
    θ_run (Cert.SsmNormFwdRefIdeal.defs (F := Ideal)) (onTc (τ := Cert.SsmNormFwdRefIdeal.τ) (Cert.SsmNormFwdRefIdeal.main (F := Ideal))) ⟨m, fun _ => 0, g⟩ (fun r => (∀ c : Dev Cert.SsmNormFwdRefIdeal.nD,
      r.2.mem ((c.tc : Thread Cert.SsmNormFwdRefIdeal.nD Cert.SsmNormFwdRefIdeal.τ).loc Cert.SsmNormFwdRefIdeal.main_arg0) = m ((c.tc : Thread Cert.SsmNormFwdRefIdeal.nD Cert.SsmNormFwdRefIdeal.τ).loc Cert.SsmNormFwdRefIdeal.main_arg0)
      ∧ r.2.mem ((c.tc : Thread Cert.SsmNormFwdRefIdeal.nD Cert.SsmNormFwdRefIdeal.τ).loc Cert.SsmNormFwdRefIdeal.main_arg1) = m ((c.tc : Thread Cert.SsmNormFwdRefIdeal.nD Cert.SsmNormFwdRefIdeal.τ).loc Cert.SsmNormFwdRefIdeal.main_arg1)
      ∧ r.2.mem ((c.tc : Thread Cert.SsmNormFwdRefIdeal.nD Cert.SsmNormFwdRefIdeal.τ).loc Cert.SsmNormFwdRefIdeal.main_arg2) = m ((c.tc : Thread Cert.SsmNormFwdRefIdeal.nD Cert.SsmNormFwdRefIdeal.τ).loc Cert.SsmNormFwdRefIdeal.main_arg2))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_SiluFwd [hSiluFwd : Cert.SiluFwd.Facts] : Prop :=
  ∀ (m : (ℓ : Loc Cert.SiluFwd.nD Cert.SiluFwd.τ Cert.SiluFwd.sig) → Buf (Elt Bits) ℓ) (g : Dev Cert.SiluFwd.nD → PrngReg), Pre_SiluFwd m →
    θ_run (Cert.SiluFwd.defs (F := Bits)) (onTc (τ := Cert.SiluFwd.τ) (Cert.SiluFwd.main (F := Bits))) ⟨m, fun _ => 0, g⟩ (fun r => (∀ c : Dev Cert.SiluFwd.nD,
      r.2.mem ((c.tc : Thread Cert.SiluFwd.nD Cert.SiluFwd.τ).loc Cert.SiluFwd.main_arg0) = m ((c.tc : Thread Cert.SiluFwd.nD Cert.SiluFwd.τ).loc Cert.SiluFwd.main_arg0))
      ∧ r.2.sem = fun _ => 0)

def quiescent_SiluFwdIdeal [hSiluFwdIdeal : Cert.SiluFwdIdeal.Facts] : Prop :=
  ∀ (m : (ℓ : Loc Cert.SiluFwdIdeal.nD Cert.SiluFwdIdeal.τ Cert.SiluFwdIdeal.sig) → Buf (Elt Ideal) ℓ) (g : Dev Cert.SiluFwdIdeal.nD → PrngReg), Pre_SiluFwdIdeal m →
    θ_run (Cert.SiluFwdIdeal.defs (F := Ideal)) (onTc (τ := Cert.SiluFwdIdeal.τ) (Cert.SiluFwdIdeal.main (F := Ideal))) ⟨m, fun _ => 0, g⟩ (fun r => (∀ c : Dev Cert.SiluFwdIdeal.nD,
      r.2.mem ((c.tc : Thread Cert.SiluFwdIdeal.nD Cert.SiluFwdIdeal.τ).loc Cert.SiluFwdIdeal.main_arg0) = m ((c.tc : Thread Cert.SiluFwdIdeal.nD Cert.SiluFwdIdeal.τ).loc Cert.SiluFwdIdeal.main_arg0))
      ∧ r.2.sem = fun _ => 0)

def quiescent_SiluFwdRefIdeal [hSiluFwdRefIdeal : Cert.SiluFwdRefIdeal.Facts] : Prop :=
  ∀ (m : (ℓ : Loc Cert.SiluFwdRefIdeal.nD Cert.SiluFwdRefIdeal.τ Cert.SiluFwdRefIdeal.sig) → Buf (Elt Ideal) ℓ) (g : Dev Cert.SiluFwdRefIdeal.nD → PrngReg), Pre_SiluFwdRefIdeal m →
    θ_run (Cert.SiluFwdRefIdeal.defs (F := Ideal)) (onTc (τ := Cert.SiluFwdRefIdeal.τ) (Cert.SiluFwdRefIdeal.main (F := Ideal))) ⟨m, fun _ => 0, g⟩ (fun r => (∀ c : Dev Cert.SiluFwdRefIdeal.nD,
      r.2.mem ((c.tc : Thread Cert.SiluFwdRefIdeal.nD Cert.SiluFwdRefIdeal.τ).loc Cert.SiluFwdRefIdeal.main_arg0) = m ((c.tc : Thread Cert.SiluFwdRefIdeal.nD Cert.SiluFwdRefIdeal.τ).loc Cert.SiluFwdRefIdeal.main_arg0))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnInDa_FfnInDaIdeal : Prop :=
  True

def algebraic_FfnInDaIdeal_FfnInDaRefIdeal [hFfnInDaIdeal : Cert.FfnInDaIdeal.Facts] [hFfnInDaRefIdeal : Cert.FfnInDaRefIdeal.Facts] : Prop :=
  ∀ (m : (ℓ : Loc Cert.FfnInDaIdeal.nD Cert.FfnInDaIdeal.τ Cert.FfnInDaIdeal.sig) → Buf (Elt Ideal) ℓ) (g : Dev Cert.FfnInDaIdeal.nD → PrngReg)
    (m' : (ℓ : Loc Cert.FfnInDaRefIdeal.nD Cert.FfnInDaRefIdeal.τ Cert.FfnInDaRefIdeal.sig) → Buf (Elt Ideal) ℓ) (g' : Dev Cert.FfnInDaRefIdeal.nD → PrngReg), Pre_FfnInDaIdeal m →
    (∀ c : Dev Cert.FfnInDaIdeal.nD,
      m' ((c.tc : Thread Cert.FfnInDaRefIdeal.nD Cert.FfnInDaRefIdeal.τ).loc Cert.FfnInDaRefIdeal.main_arg0) = m ((c.tc : Thread Cert.FfnInDaIdeal.nD Cert.FfnInDaIdeal.τ).loc Cert.FfnInDaIdeal.main_arg0)
      ∧ m' ((c.tc : Thread Cert.FfnInDaRefIdeal.nD Cert.FfnInDaRefIdeal.τ).loc Cert.FfnInDaRefIdeal.main_arg1) = m ((c.tc : Thread Cert.FfnInDaIdeal.nD Cert.FfnInDaIdeal.τ).loc Cert.FfnInDaIdeal.main_arg1)) →
    ∃ (v0 : (c : Dev Cert.FfnInDaIdeal.nD) → Buf (Elt Ideal) ((c.tc : Thread Cert.FfnInDaIdeal.nD Cert.FfnInDaIdeal.τ).loc Cert.FfnInDaIdeal.main_v2)),
      θ_run (Cert.FfnInDaIdeal.defs (F := Ideal)) (onTc (τ := Cert.FfnInDaIdeal.τ) (Cert.FfnInDaIdeal.main (F := Ideal))) ⟨m, fun _ => 0, g⟩ (fun r => ∀ c : Dev Cert.FfnInDaIdeal.nD,
          r.2.mem ((c.tc : Thread Cert.FfnInDaIdeal.nD Cert.FfnInDaIdeal.τ).loc Cert.FfnInDaIdeal.main_v2) = v0 c
          ∧ r.2.mem ((c.tc : Thread Cert.FfnInDaIdeal.nD Cert.FfnInDaIdeal.τ).loc Cert.FfnInDaIdeal.main_arg0) = m ((c.tc : Thread Cert.FfnInDaIdeal.nD Cert.FfnInDaIdeal.τ).loc Cert.FfnInDaIdeal.main_arg0)
          ∧ r.2.mem ((c.tc : Thread Cert.FfnInDaIdeal.nD Cert.FfnInDaIdeal.τ).loc Cert.FfnInDaIdeal.main_arg1) = m ((c.tc : Thread Cert.FfnInDaIdeal.nD Cert.FfnInDaIdeal.τ).loc Cert.FfnInDaIdeal.main_arg1))
      ∧ θ_run (Cert.FfnInDaRefIdeal.defs (F := Ideal)) (onTc (τ := Cert.FfnInDaRefIdeal.τ) (Cert.FfnInDaRefIdeal.main (F := Ideal))) ⟨m', fun _ => 0, g'⟩ (fun r => ∀ c : Dev Cert.FfnInDaRefIdeal.nD,
          r.2.mem ((c.tc : Thread Cert.FfnInDaRefIdeal.nD Cert.FfnInDaRefIdeal.τ).loc Cert.FfnInDaRefIdeal.main_v2) = v0 c
          ∧ r.2.mem ((c.tc : Thread Cert.FfnInDaRefIdeal.nD Cert.FfnInDaRefIdeal.τ).loc Cert.FfnInDaRefIdeal.main_arg0) = m' ((c.tc : Thread Cert.FfnInDaRefIdeal.nD Cert.FfnInDaRefIdeal.τ).loc Cert.FfnInDaRefIdeal.main_arg0)
          ∧ r.2.mem ((c.tc : Thread Cert.FfnInDaRefIdeal.nD Cert.FfnInDaRefIdeal.τ).loc Cert.FfnInDaRefIdeal.main_arg1) = m' ((c.tc : Thread Cert.FfnInDaRefIdeal.nD Cert.FfnInDaRefIdeal.τ).loc Cert.FfnInDaRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v2)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v2) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v4) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnInFwd_FfnInFwdIdeal : Prop :=
  True

def algebraic_FfnInFwdIdeal_FfnInFwdRefIdeal [hFfnInFwdIdeal : Cert.FfnInFwdIdeal.Facts] [hFfnInFwdRefIdeal : Cert.FfnInFwdRefIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg)
    (m' : (ℓ : Loc Cert.FfnInFwdRefIdeal.nD Cert.FfnInFwdRefIdeal.τ Cert.FfnInFwdRefIdeal.sig) → Buf (Elt Ideal) ℓ) (g' : Dev Cert.FfnInFwdRefIdeal.nD → PrngReg), Pre_FfnInFwdIdeal m →
    (∀ c : Dev Cert.FfnInFwdIdeal.nD,
      m' ((c.tc : Thread Cert.FfnInFwdRefIdeal.nD Cert.FfnInFwdRefIdeal.τ).loc Cert.FfnInFwdRefIdeal.main_arg0) = m ((c.tc : Thread Cert.FfnInFwdIdeal.nD Cert.FfnInFwdIdeal.τ).loc Cert.FfnInFwdIdeal.main_arg0)
      ∧ m' ((c.tc : Thread Cert.FfnInFwdRefIdeal.nD Cert.FfnInFwdRefIdeal.τ).loc Cert.FfnInFwdRefIdeal.main_arg1) = m ((c.tc : Thread Cert.FfnInFwdIdeal.nD Cert.FfnInFwdIdeal.τ).loc Cert.FfnInFwdIdeal.main_arg1)) →
    ∃ (v0 : (c : Dev Cert.FfnInFwdIdeal.nD) → Buf (Elt Ideal) ((c.tc : Thread Cert.FfnInFwdIdeal.nD Cert.FfnInFwdIdeal.τ).loc Cert.FfnInFwdIdeal.main_v2)),
      θ_run (Cert.FfnInFwdIdeal.defs (F := Ideal)) (onTc (τ := Cert.FfnInFwdIdeal.τ) (Cert.FfnInFwdIdeal.main (F := Ideal))) ⟨m, fun _ => 0, g⟩ (fun r => ∀ c : Dev Cert.FfnInFwdIdeal.nD,
          r.2.mem ((c.tc : Thread Cert.FfnInFwdIdeal.nD Cert.FfnInFwdIdeal.τ).loc Cert.FfnInFwdIdeal.main_v2) = v0 c
          ∧ r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
          ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ θ_run (Cert.FfnInFwdRefIdeal.defs (F := Ideal)) (onTc (τ := Cert.FfnInFwdRefIdeal.τ) (Cert.FfnInFwdRefIdeal.main (F := Ideal))) ⟨m', fun _ => 0, g'⟩ (fun r => ∀ c : Dev Cert.FfnInFwdRefIdeal.nD,
          r.2.mem ((c.tc : Thread Cert.FfnInFwdRefIdeal.nD Cert.FfnInFwdRefIdeal.τ).loc Cert.FfnInFwdRefIdeal.main_v0) = v0 c
          ∧ r.2.mem ((c.tc : Thread Cert.FfnInFwdRefIdeal.nD Cert.FfnInFwdRefIdeal.τ).loc Cert.FfnInFwdRefIdeal.main_arg0) = m' ((c.tc : Thread Cert.FfnInFwdRefIdeal.nD Cert.FfnInFwdRefIdeal.τ).loc Cert.FfnInFwdRefIdeal.main_arg0)
          ∧ r.2.mem ((c.tc : Thread Cert.FfnInFwdRefIdeal.nD Cert.FfnInFwdRefIdeal.τ).loc Cert.FfnInFwdRefIdeal.main_arg1) = m' ((c.tc : Thread Cert.FfnInFwdRefIdeal.nD Cert.FfnInFwdRefIdeal.τ).loc Cert.FfnInFwdRefIdeal.main_arg1))

def preserves_FfnOutDa_FfnOutDaIdeal : Prop :=
  True

def algebraic_FfnOutDaIdeal_FfnOutDaRefIdeal [hFfnOutDaIdeal : Cert.FfnOutDaIdeal.Facts] [hFfnOutDaRefIdeal : Cert.FfnOutDaRefIdeal.Facts] : Prop :=
  ∀ (m : (ℓ : Loc Cert.FfnOutDaIdeal.nD Cert.FfnOutDaIdeal.τ Cert.FfnOutDaIdeal.sig) → Buf (Elt Ideal) ℓ) (g : Dev Cert.FfnOutDaIdeal.nD → PrngReg)
    (m' : (ℓ : Loc Cert.FfnOutDaRefIdeal.nD Cert.FfnOutDaRefIdeal.τ Cert.FfnOutDaRefIdeal.sig) → Buf (Elt Ideal) ℓ) (g' : Dev Cert.FfnOutDaRefIdeal.nD → PrngReg), Pre_FfnOutDaIdeal m →
    (∀ c : Dev Cert.FfnOutDaIdeal.nD,
      m' ((c.tc : Thread Cert.FfnOutDaRefIdeal.nD Cert.FfnOutDaRefIdeal.τ).loc Cert.FfnOutDaRefIdeal.main_arg0) = m ((c.tc : Thread Cert.FfnOutDaIdeal.nD Cert.FfnOutDaIdeal.τ).loc Cert.FfnOutDaIdeal.main_arg0)
      ∧ m' ((c.tc : Thread Cert.FfnOutDaRefIdeal.nD Cert.FfnOutDaRefIdeal.τ).loc Cert.FfnOutDaRefIdeal.main_arg1) = m ((c.tc : Thread Cert.FfnOutDaIdeal.nD Cert.FfnOutDaIdeal.τ).loc Cert.FfnOutDaIdeal.main_arg1)) →
    ∃ (v0 : (c : Dev Cert.FfnOutDaIdeal.nD) → Buf (Elt Ideal) ((c.tc : Thread Cert.FfnOutDaIdeal.nD Cert.FfnOutDaIdeal.τ).loc Cert.FfnOutDaIdeal.main_v2)),
      θ_run (Cert.FfnOutDaIdeal.defs (F := Ideal)) (onTc (τ := Cert.FfnOutDaIdeal.τ) (Cert.FfnOutDaIdeal.main (F := Ideal))) ⟨m, fun _ => 0, g⟩ (fun r => ∀ c : Dev Cert.FfnOutDaIdeal.nD,
          r.2.mem ((c.tc : Thread Cert.FfnOutDaIdeal.nD Cert.FfnOutDaIdeal.τ).loc Cert.FfnOutDaIdeal.main_v2) = v0 c
          ∧ r.2.mem ((c.tc : Thread Cert.FfnOutDaIdeal.nD Cert.FfnOutDaIdeal.τ).loc Cert.FfnOutDaIdeal.main_arg0) = m ((c.tc : Thread Cert.FfnOutDaIdeal.nD Cert.FfnOutDaIdeal.τ).loc Cert.FfnOutDaIdeal.main_arg0)
          ∧ r.2.mem ((c.tc : Thread Cert.FfnOutDaIdeal.nD Cert.FfnOutDaIdeal.τ).loc Cert.FfnOutDaIdeal.main_arg1) = m ((c.tc : Thread Cert.FfnOutDaIdeal.nD Cert.FfnOutDaIdeal.τ).loc Cert.FfnOutDaIdeal.main_arg1))
      ∧ θ_run (Cert.FfnOutDaRefIdeal.defs (F := Ideal)) (onTc (τ := Cert.FfnOutDaRefIdeal.τ) (Cert.FfnOutDaRefIdeal.main (F := Ideal))) ⟨m', fun _ => 0, g'⟩ (fun r => ∀ c : Dev Cert.FfnOutDaRefIdeal.nD,
          r.2.mem ((c.tc : Thread Cert.FfnOutDaRefIdeal.nD Cert.FfnOutDaRefIdeal.τ).loc Cert.FfnOutDaRefIdeal.main_v2) = v0 c
          ∧ r.2.mem ((c.tc : Thread Cert.FfnOutDaRefIdeal.nD Cert.FfnOutDaRefIdeal.τ).loc Cert.FfnOutDaRefIdeal.main_arg0) = m' ((c.tc : Thread Cert.FfnOutDaRefIdeal.nD Cert.FfnOutDaRefIdeal.τ).loc Cert.FfnOutDaRefIdeal.main_arg0)
          ∧ r.2.mem ((c.tc : Thread Cert.FfnOutDaRefIdeal.nD Cert.FfnOutDaRefIdeal.τ).loc Cert.FfnOutDaRefIdeal.main_arg1) = m' ((c.tc : Thread Cert.FfnOutDaRefIdeal.nD Cert.FfnOutDaRefIdeal.τ).loc Cert.FfnOutDaRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v2)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v2) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v4) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnOutFwd_FfnOutFwdIdeal : Prop :=
  True

def algebraic_FfnOutFwdIdeal_FfnOutFwdRefIdeal [hFfnOutFwdIdeal : Cert.FfnOutFwdIdeal.Facts] [hFfnOutFwdRefIdeal : Cert.FfnOutFwdRefIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg)
    (m' : (ℓ : Loc Cert.FfnOutFwdRefIdeal.nD Cert.FfnOutFwdRefIdeal.τ Cert.FfnOutFwdRefIdeal.sig) → Buf (Elt Ideal) ℓ) (g' : Dev Cert.FfnOutFwdRefIdeal.nD → PrngReg), Pre_FfnOutFwdIdeal m →
    (∀ c : Dev Cert.FfnOutFwdIdeal.nD,
      m' ((c.tc : Thread Cert.FfnOutFwdRefIdeal.nD Cert.FfnOutFwdRefIdeal.τ).loc Cert.FfnOutFwdRefIdeal.main_arg0) = m ((c.tc : Thread Cert.FfnOutFwdIdeal.nD Cert.FfnOutFwdIdeal.τ).loc Cert.FfnOutFwdIdeal.main_arg0)
      ∧ m' ((c.tc : Thread Cert.FfnOutFwdRefIdeal.nD Cert.FfnOutFwdRefIdeal.τ).loc Cert.FfnOutFwdRefIdeal.main_arg1) = m ((c.tc : Thread Cert.FfnOutFwdIdeal.nD Cert.FfnOutFwdIdeal.τ).loc Cert.FfnOutFwdIdeal.main_arg1)) →
    ∃ (v0 : (c : Dev Cert.FfnOutFwdIdeal.nD) → Buf (Elt Ideal) ((c.tc : Thread Cert.FfnOutFwdIdeal.nD Cert.FfnOutFwdIdeal.τ).loc Cert.FfnOutFwdIdeal.main_v2)),
      θ_run (Cert.FfnOutFwdIdeal.defs (F := Ideal)) (onTc (τ := Cert.FfnOutFwdIdeal.τ) (Cert.FfnOutFwdIdeal.main (F := Ideal))) ⟨m, fun _ => 0, g⟩ (fun r => ∀ c : Dev Cert.FfnOutFwdIdeal.nD,
          r.2.mem ((c.tc : Thread Cert.FfnOutFwdIdeal.nD Cert.FfnOutFwdIdeal.τ).loc Cert.FfnOutFwdIdeal.main_v2) = v0 c
          ∧ r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
          ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1))
      ∧ θ_run (Cert.FfnOutFwdRefIdeal.defs (F := Ideal)) (onTc (τ := Cert.FfnOutFwdRefIdeal.τ) (Cert.FfnOutFwdRefIdeal.main (F := Ideal))) ⟨m', fun _ => 0, g'⟩ (fun r => ∀ c : Dev Cert.FfnOutFwdRefIdeal.nD,
          r.2.mem ((c.tc : Thread Cert.FfnOutFwdRefIdeal.nD Cert.FfnOutFwdRefIdeal.τ).loc Cert.FfnOutFwdRefIdeal.main_v0) = v0 c
          ∧ r.2.mem ((c.tc : Thread Cert.FfnOutFwdRefIdeal.nD Cert.FfnOutFwdRefIdeal.τ).loc Cert.FfnOutFwdRefIdeal.main_arg0) = m' ((c.tc : Thread Cert.FfnOutFwdRefIdeal.nD Cert.FfnOutFwdRefIdeal.τ).loc Cert.FfnOutFwdRefIdeal.main_arg0)
          ∧ r.2.mem ((c.tc : Thread Cert.FfnOutFwdRefIdeal.nD Cert.FfnOutFwdRefIdeal.τ).loc Cert.FfnOutFwdRefIdeal.main_arg1) = m' ((c.tc : Thread Cert.FfnOutFwdRefIdeal.nD Cert.FfnOutFwdRefIdeal.τ).loc Cert.FfnOutFwdRefIdeal.main_arg1))

def preserves_SquareDa_SquareDaIdeal : Prop :=
  True

def algebraic_SquareDaIdeal_SquareDaRefIdeal [hSquareDaIdeal : Cert.SquareDaIdeal.Facts] [hSquareDaRefIdeal : Cert.SquareDaRefIdeal.Facts] : Prop :=
  ∀ (m : (ℓ : Loc Cert.SquareDaIdeal.nD Cert.SquareDaIdeal.τ Cert.SquareDaIdeal.sig) → Buf (Elt Ideal) ℓ) (g : Dev Cert.SquareDaIdeal.nD → PrngReg)
    (m' : (ℓ : Loc Cert.SquareDaRefIdeal.nD Cert.SquareDaRefIdeal.τ Cert.SquareDaRefIdeal.sig) → Buf (Elt Ideal) ℓ) (g' : Dev Cert.SquareDaRefIdeal.nD → PrngReg), Pre_SquareDaIdeal m →
    (∀ c : Dev Cert.SquareDaIdeal.nD,
      m' ((c.tc : Thread Cert.SquareDaRefIdeal.nD Cert.SquareDaRefIdeal.τ).loc Cert.SquareDaRefIdeal.main_arg0) = m ((c.tc : Thread Cert.SquareDaIdeal.nD Cert.SquareDaIdeal.τ).loc Cert.SquareDaIdeal.main_arg0)
      ∧ m' ((c.tc : Thread Cert.SquareDaRefIdeal.nD Cert.SquareDaRefIdeal.τ).loc Cert.SquareDaRefIdeal.main_arg1) = m ((c.tc : Thread Cert.SquareDaIdeal.nD Cert.SquareDaIdeal.τ).loc Cert.SquareDaIdeal.main_arg1)) →
    ∃ (v0 : (c : Dev Cert.SquareDaIdeal.nD) → Buf (Elt Ideal) ((c.tc : Thread Cert.SquareDaIdeal.nD Cert.SquareDaIdeal.τ).loc Cert.SquareDaIdeal.main_v2)),
      θ_run (Cert.SquareDaIdeal.defs (F := Ideal)) (onTc (τ := Cert.SquareDaIdeal.τ) (Cert.SquareDaIdeal.main (F := Ideal))) ⟨m, fun _ => 0, g⟩ (fun r => ∀ c : Dev Cert.SquareDaIdeal.nD,
          r.2.mem ((c.tc : Thread Cert.SquareDaIdeal.nD Cert.SquareDaIdeal.τ).loc Cert.SquareDaIdeal.main_v2) = v0 c
          ∧ r.2.mem ((c.tc : Thread Cert.SquareDaIdeal.nD Cert.SquareDaIdeal.τ).loc Cert.SquareDaIdeal.main_arg0) = m ((c.tc : Thread Cert.SquareDaIdeal.nD Cert.SquareDaIdeal.τ).loc Cert.SquareDaIdeal.main_arg0)
          ∧ r.2.mem ((c.tc : Thread Cert.SquareDaIdeal.nD Cert.SquareDaIdeal.τ).loc Cert.SquareDaIdeal.main_arg1) = m ((c.tc : Thread Cert.SquareDaIdeal.nD Cert.SquareDaIdeal.τ).loc Cert.SquareDaIdeal.main_arg1))
      ∧ θ_run (Cert.SquareDaRefIdeal.defs (F := Ideal)) (onTc (τ := Cert.SquareDaRefIdeal.τ) (Cert.SquareDaRefIdeal.main (F := Ideal))) ⟨m', fun _ => 0, g'⟩ (fun r => ∀ c : Dev Cert.SquareDaRefIdeal.nD,
          r.2.mem ((c.tc : Thread Cert.SquareDaRefIdeal.nD Cert.SquareDaRefIdeal.τ).loc Cert.SquareDaRefIdeal.main_v2) = v0 c
          ∧ r.2.mem ((c.tc : Thread Cert.SquareDaRefIdeal.nD Cert.SquareDaRefIdeal.τ).loc Cert.SquareDaRefIdeal.main_arg0) = m' ((c.tc : Thread Cert.SquareDaRefIdeal.nD Cert.SquareDaRefIdeal.τ).loc Cert.SquareDaRefIdeal.main_arg0)
          ∧ r.2.mem ((c.tc : Thread Cert.SquareDaRefIdeal.nD Cert.SquareDaRefIdeal.τ).loc Cert.SquareDaRefIdeal.main_arg1) = m' ((c.tc : Thread Cert.SquareDaRefIdeal.nD Cert.SquareDaRefIdeal.τ).loc Cert.SquareDaRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v2)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v2) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v4) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_SquareFwd_SquareFwdIdeal : Prop :=
  True

def algebraic_SquareFwdIdeal_SquareFwdRefIdeal [hSquareFwdIdeal : Cert.SquareFwdIdeal.Facts] [hSquareFwdRefIdeal : Cert.SquareFwdRefIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg)
    (m' : (ℓ : Loc Cert.SquareFwdRefIdeal.nD Cert.SquareFwdRefIdeal.τ Cert.SquareFwdRefIdeal.sig) → Buf (Elt Ideal) ℓ) (g' : Dev Cert.SquareFwdRefIdeal.nD → PrngReg), Pre_SquareFwdIdeal m →
    (∀ c : Dev Cert.SquareFwdIdeal.nD,
      m' ((c.tc : Thread Cert.SquareFwdRefIdeal.nD Cert.SquareFwdRefIdeal.τ).loc Cert.SquareFwdRefIdeal.main_arg0) = m ((c.tc : Thread Cert.SquareFwdIdeal.nD Cert.SquareFwdIdeal.τ).loc Cert.SquareFwdIdeal.main_arg0)
      ∧ m' ((c.tc : Thread Cert.SquareFwdRefIdeal.nD Cert.SquareFwdRefIdeal.τ).loc Cert.SquareFwdRefIdeal.main_arg1) = m ((c.tc : Thread Cert.SquareFwdIdeal.nD Cert.SquareFwdIdeal.τ).loc Cert.SquareFwdIdeal.main_arg1)) →
    ∃ (v0 : (c : Dev Cert.SquareFwdIdeal.nD) → Buf (Elt Ideal) ((c.tc : Thread Cert.SquareFwdIdeal.nD Cert.SquareFwdIdeal.τ).loc Cert.SquareFwdIdeal.main_v2)),
      θ_run (Cert.SquareFwdIdeal.defs (F := Ideal)) (onTc (τ := Cert.SquareFwdIdeal.τ) (Cert.SquareFwdIdeal.main (F := Ideal))) ⟨m, fun _ => 0, g⟩ (fun r => ∀ c : Dev Cert.SquareFwdIdeal.nD,
          r.2.mem ((c.tc : Thread Cert.SquareFwdIdeal.nD Cert.SquareFwdIdeal.τ).loc Cert.SquareFwdIdeal.main_v2) = v0 c
          ∧ r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
          ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1))
      ∧ θ_run (Cert.SquareFwdRefIdeal.defs (F := Ideal)) (onTc (τ := Cert.SquareFwdRefIdeal.τ) (Cert.SquareFwdRefIdeal.main (F := Ideal))) ⟨m', fun _ => 0, g'⟩ (fun r => ∀ c : Dev Cert.SquareFwdRefIdeal.nD,
          r.2.mem ((c.tc : Thread Cert.SquareFwdRefIdeal.nD Cert.SquareFwdRefIdeal.τ).loc Cert.SquareFwdRefIdeal.main_v0) = v0 c
          ∧ r.2.mem ((c.tc : Thread Cert.SquareFwdRefIdeal.nD Cert.SquareFwdRefIdeal.τ).loc Cert.SquareFwdRefIdeal.main_arg0) = m' ((c.tc : Thread Cert.SquareFwdRefIdeal.nD Cert.SquareFwdRefIdeal.τ).loc Cert.SquareFwdRefIdeal.main_arg0)
          ∧ r.2.mem ((c.tc : Thread Cert.SquareFwdRefIdeal.nD Cert.SquareFwdRefIdeal.τ).loc Cert.SquareFwdRefIdeal.main_arg1) = m' ((c.tc : Thread Cert.SquareFwdRefIdeal.nD Cert.SquareFwdRefIdeal.τ).loc Cert.SquareFwdRefIdeal.main_arg1))

def preserves_SsmInDa_SsmInDaIdeal : Prop :=
  True

def algebraic_SsmInDaIdeal_SsmInDaRefIdeal [hSsmInDaIdeal : Cert.SsmInDaIdeal.Facts] [hSsmInDaRefIdeal : Cert.SsmInDaRefIdeal.Facts] : Prop :=
  ∀ (m : (ℓ : Loc Cert.SsmInDaIdeal.nD Cert.SsmInDaIdeal.τ Cert.SsmInDaIdeal.sig) → Buf (Elt Ideal) ℓ) (g : Dev Cert.SsmInDaIdeal.nD → PrngReg)
    (m' : (ℓ : Loc Cert.SsmInDaRefIdeal.nD Cert.SsmInDaRefIdeal.τ Cert.SsmInDaRefIdeal.sig) → Buf (Elt Ideal) ℓ) (g' : Dev Cert.SsmInDaRefIdeal.nD → PrngReg), Pre_SsmInDaIdeal m →
    (∀ c : Dev Cert.SsmInDaIdeal.nD,
      m' ((c.tc : Thread Cert.SsmInDaRefIdeal.nD Cert.SsmInDaRefIdeal.τ).loc Cert.SsmInDaRefIdeal.main_arg0) = m ((c.tc : Thread Cert.SsmInDaIdeal.nD Cert.SsmInDaIdeal.τ).loc Cert.SsmInDaIdeal.main_arg0)
      ∧ m' ((c.tc : Thread Cert.SsmInDaRefIdeal.nD Cert.SsmInDaRefIdeal.τ).loc Cert.SsmInDaRefIdeal.main_arg1) = m ((c.tc : Thread Cert.SsmInDaIdeal.nD Cert.SsmInDaIdeal.τ).loc Cert.SsmInDaIdeal.main_arg1)) →
    ∃ (v0 : (c : Dev Cert.SsmInDaIdeal.nD) → Buf (Elt Ideal) ((c.tc : Thread Cert.SsmInDaIdeal.nD Cert.SsmInDaIdeal.τ).loc Cert.SsmInDaIdeal.main_v2)),
      θ_run (Cert.SsmInDaIdeal.defs (F := Ideal)) (onTc (τ := Cert.SsmInDaIdeal.τ) (Cert.SsmInDaIdeal.main (F := Ideal))) ⟨m, fun _ => 0, g⟩ (fun r => ∀ c : Dev Cert.SsmInDaIdeal.nD,
          r.2.mem ((c.tc : Thread Cert.SsmInDaIdeal.nD Cert.SsmInDaIdeal.τ).loc Cert.SsmInDaIdeal.main_v2) = v0 c
          ∧ r.2.mem ((c.tc : Thread Cert.SsmInDaIdeal.nD Cert.SsmInDaIdeal.τ).loc Cert.SsmInDaIdeal.main_arg0) = m ((c.tc : Thread Cert.SsmInDaIdeal.nD Cert.SsmInDaIdeal.τ).loc Cert.SsmInDaIdeal.main_arg0)
          ∧ r.2.mem ((c.tc : Thread Cert.SsmInDaIdeal.nD Cert.SsmInDaIdeal.τ).loc Cert.SsmInDaIdeal.main_arg1) = m ((c.tc : Thread Cert.SsmInDaIdeal.nD Cert.SsmInDaIdeal.τ).loc Cert.SsmInDaIdeal.main_arg1))
      ∧ θ_run (Cert.SsmInDaRefIdeal.defs (F := Ideal)) (onTc (τ := Cert.SsmInDaRefIdeal.τ) (Cert.SsmInDaRefIdeal.main (F := Ideal))) ⟨m', fun _ => 0, g'⟩ (fun r => ∀ c : Dev Cert.SsmInDaRefIdeal.nD,
          r.2.mem ((c.tc : Thread Cert.SsmInDaRefIdeal.nD Cert.SsmInDaRefIdeal.τ).loc Cert.SsmInDaRefIdeal.main_v2) = v0 c
          ∧ r.2.mem ((c.tc : Thread Cert.SsmInDaRefIdeal.nD Cert.SsmInDaRefIdeal.τ).loc Cert.SsmInDaRefIdeal.main_arg0) = m' ((c.tc : Thread Cert.SsmInDaRefIdeal.nD Cert.SsmInDaRefIdeal.τ).loc Cert.SsmInDaRefIdeal.main_arg0)
          ∧ r.2.mem ((c.tc : Thread Cert.SsmInDaRefIdeal.nD Cert.SsmInDaRefIdeal.τ).loc Cert.SsmInDaRefIdeal.main_arg1) = m' ((c.tc : Thread Cert.SsmInDaRefIdeal.nD Cert.SsmInDaRefIdeal.τ).loc Cert.SsmInDaRefIdeal.main_arg1))

def preserves_SsmInDw_SsmInDwIdeal : Prop :=
  True

def algebraic_SsmInDwIdeal_SsmInDwRefIdeal [hSsmInDwIdeal : Cert.SsmInDwIdeal.Facts] [hSsmInDwRefIdeal : Cert.SsmInDwRefIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwRefIdeal.nD Cert.SsmInDwRefIdeal.τ Cert.SsmInDwRefIdeal.sig) → Buf (Elt Ideal) ℓ) (g' : Dev Cert.SsmInDwRefIdeal.nD → PrngReg), Pre_SsmInDwIdeal m →
    (∀ c : Dev Cert.SsmInDwIdeal.nD,
      m' ((c.tc : Thread Cert.SsmInDwRefIdeal.nD Cert.SsmInDwRefIdeal.τ).loc Cert.SsmInDwRefIdeal.main_arg0) = m ((c.tc : Thread Cert.SsmInDwIdeal.nD Cert.SsmInDwIdeal.τ).loc Cert.SsmInDwIdeal.main_arg0)
      ∧ m' ((c.tc : Thread Cert.SsmInDwRefIdeal.nD Cert.SsmInDwRefIdeal.τ).loc Cert.SsmInDwRefIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v2)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v2) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwRefIdeal.defs (F := Ideal)) (onTc (τ := Cert.SsmInDwRefIdeal.τ) (Cert.SsmInDwRefIdeal.main (F := Ideal))) ⟨m', fun _ => 0, g'⟩ (fun r => ∀ c : Dev Cert.SsmInDwRefIdeal.nD,
          r.2.mem ((c.tc : Thread Cert.SsmInDwRefIdeal.nD Cert.SsmInDwRefIdeal.τ).loc Cert.SsmInDwRefIdeal.main_v4) = v0 c
          ∧ r.2.mem ((c.tc : Thread Cert.SsmInDwRefIdeal.nD Cert.SsmInDwRefIdeal.τ).loc Cert.SsmInDwRefIdeal.main_arg0) = m' ((c.tc : Thread Cert.SsmInDwRefIdeal.nD Cert.SsmInDwRefIdeal.τ).loc Cert.SsmInDwRefIdeal.main_arg0)
          ∧ r.2.mem ((c.tc : Thread Cert.SsmInDwRefIdeal.nD Cert.SsmInDwRefIdeal.τ).loc Cert.SsmInDwRefIdeal.main_arg1) = m' ((c.tc : Thread Cert.SsmInDwRefIdeal.nD Cert.SsmInDwRefIdeal.τ).loc Cert.SsmInDwRefIdeal.main_arg1))

def preserves_SsmInFwd_SsmInFwdIdeal : Prop :=
  True

def algebraic_SsmInFwdIdeal_SsmInFwdRefIdeal [hSsmInFwdIdeal : Cert.SsmInFwdIdeal.Facts] [hSsmInFwdRefIdeal : Cert.SsmInFwdRefIdeal.Facts] : Prop :=
  ∀ (m : (ℓ : Loc Cert.SsmInFwdIdeal.nD Cert.SsmInFwdIdeal.τ Cert.SsmInFwdIdeal.sig) → Buf (Elt Ideal) ℓ) (g : Dev Cert.SsmInFwdIdeal.nD → PrngReg)
    (m' : (ℓ : Loc Cert.SsmInFwdRefIdeal.nD Cert.SsmInFwdRefIdeal.τ Cert.SsmInFwdRefIdeal.sig) → Buf (Elt Ideal) ℓ) (g' : Dev Cert.SsmInFwdRefIdeal.nD → PrngReg), Pre_SsmInFwdIdeal m →
    (∀ c : Dev Cert.SsmInFwdIdeal.nD,
      m' ((c.tc : Thread Cert.SsmInFwdRefIdeal.nD Cert.SsmInFwdRefIdeal.τ).loc Cert.SsmInFwdRefIdeal.main_arg0) = m ((c.tc : Thread Cert.SsmInFwdIdeal.nD Cert.SsmInFwdIdeal.τ).loc Cert.SsmInFwdIdeal.main_arg0)
      ∧ m' ((c.tc : Thread Cert.SsmInFwdRefIdeal.nD Cert.SsmInFwdRefIdeal.τ).loc Cert.SsmInFwdRefIdeal.main_arg1) = m ((c.tc : Thread Cert.SsmInFwdIdeal.nD Cert.SsmInFwdIdeal.τ).loc Cert.SsmInFwdIdeal.main_arg1)) →
    ∃ (v0 : (c : Dev Cert.SsmInFwdIdeal.nD) → Buf (Elt Ideal) ((c.tc : Thread Cert.SsmInFwdIdeal.nD Cert.SsmInFwdIdeal.τ).loc Cert.SsmInFwdIdeal.main_v2)),
      θ_run (Cert.SsmInFwdIdeal.defs (F := Ideal)) (onTc (τ := Cert.SsmInFwdIdeal.τ) (Cert.SsmInFwdIdeal.main (F := Ideal))) ⟨m, fun _ => 0, g⟩ (fun r => ∀ c : Dev Cert.SsmInFwdIdeal.nD,
          r.2.mem ((c.tc : Thread Cert.SsmInFwdIdeal.nD Cert.SsmInFwdIdeal.τ).loc Cert.SsmInFwdIdeal.main_v2) = v0 c
          ∧ r.2.mem ((c.tc : Thread Cert.SsmInFwdIdeal.nD Cert.SsmInFwdIdeal.τ).loc Cert.SsmInFwdIdeal.main_arg0) = m ((c.tc : Thread Cert.SsmInFwdIdeal.nD Cert.SsmInFwdIdeal.τ).loc Cert.SsmInFwdIdeal.main_arg0)
          ∧ r.2.mem ((c.tc : Thread Cert.SsmInFwdIdeal.nD Cert.SsmInFwdIdeal.τ).loc Cert.SsmInFwdIdeal.main_arg1) = m ((c.tc : Thread Cert.SsmInFwdIdeal.nD Cert.SsmInFwdIdeal.τ).loc Cert.SsmInFwdIdeal.main_arg1))
      ∧ θ_run (Cert.SsmInFwdRefIdeal.defs (F := Ideal)) (onTc (τ := Cert.SsmInFwdRefIdeal.τ) (Cert.SsmInFwdRefIdeal.main (F := Ideal))) ⟨m', fun _ => 0, g'⟩ (fun r => ∀ c : Dev Cert.SsmInFwdRefIdeal.nD,
          r.2.mem ((c.tc : Thread Cert.SsmInFwdRefIdeal.nD Cert.SsmInFwdRefIdeal.τ).loc Cert.SsmInFwdRefIdeal.main_v0) = v0 c
          ∧ r.2.mem ((c.tc : Thread Cert.SsmInFwdRefIdeal.nD Cert.SsmInFwdRefIdeal.τ).loc Cert.SsmInFwdRefIdeal.main_arg0) = m' ((c.tc : Thread Cert.SsmInFwdRefIdeal.nD Cert.SsmInFwdRefIdeal.τ).loc Cert.SsmInFwdRefIdeal.main_arg0)
          ∧ r.2.mem ((c.tc : Thread Cert.SsmInFwdRefIdeal.nD Cert.SsmInFwdRefIdeal.τ).loc Cert.SsmInFwdRefIdeal.main_arg1) = m' ((c.tc : Thread Cert.SsmInFwdRefIdeal.nD Cert.SsmInFwdRefIdeal.τ).loc Cert.SsmInFwdRefIdeal.main_arg1))

def preserves_SsmGateDa_SsmGateDaIdeal : Prop :=
  True

def algebraic_SsmGateDaIdeal_SsmGateDaRefIdeal [hSsmGateDaIdeal : Cert.SsmGateDaIdeal.Facts] [hSsmGateDaRefIdeal : Cert.SsmGateDaRefIdeal.Facts] : Prop :=
  ∀ (m : (ℓ : Loc Cert.SsmGateDaIdeal.nD Cert.SsmGateDaIdeal.τ Cert.SsmGateDaIdeal.sig) → Buf (Elt Ideal) ℓ) (g : Dev Cert.SsmGateDaIdeal.nD → PrngReg)
    (m' : (ℓ : Loc Cert.SsmGateDaRefIdeal.nD Cert.SsmGateDaRefIdeal.τ Cert.SsmGateDaRefIdeal.sig) → Buf (Elt Ideal) ℓ) (g' : Dev Cert.SsmGateDaRefIdeal.nD → PrngReg), Pre_SsmGateDaIdeal m →
    (∀ c : Dev Cert.SsmGateDaIdeal.nD,
      m' ((c.tc : Thread Cert.SsmGateDaRefIdeal.nD Cert.SsmGateDaRefIdeal.τ).loc Cert.SsmGateDaRefIdeal.main_arg0) = m ((c.tc : Thread Cert.SsmGateDaIdeal.nD Cert.SsmGateDaIdeal.τ).loc Cert.SsmGateDaIdeal.main_arg0)
      ∧ m' ((c.tc : Thread Cert.SsmGateDaRefIdeal.nD Cert.SsmGateDaRefIdeal.τ).loc Cert.SsmGateDaRefIdeal.main_arg1) = m ((c.tc : Thread Cert.SsmGateDaIdeal.nD Cert.SsmGateDaIdeal.τ).loc Cert.SsmGateDaIdeal.main_arg1)) →
    ∃ (v0 : (c : Dev Cert.SsmGateDaIdeal.nD) → Buf (Elt Ideal) ((c.tc : Thread Cert.SsmGateDaIdeal.nD Cert.SsmGateDaIdeal.τ).loc Cert.SsmGateDaIdeal.main_v2)),
      θ_run (Cert.SsmGateDaIdeal.defs (F := Ideal)) (onTc (τ := Cert.SsmGateDaIdeal.τ) (Cert.SsmGateDaIdeal.main (F := Ideal))) ⟨m, fun _ => 0, g⟩ (fun r => ∀ c : Dev Cert.SsmGateDaIdeal.nD,
          r.2.mem ((c.tc : Thread Cert.SsmGateDaIdeal.nD Cert.SsmGateDaIdeal.τ).loc Cert.SsmGateDaIdeal.main_v2) = v0 c
          ∧ r.2.mem ((c.tc : Thread Cert.SsmGateDaIdeal.nD Cert.SsmGateDaIdeal.τ).loc Cert.SsmGateDaIdeal.main_arg0) = m ((c.tc : Thread Cert.SsmGateDaIdeal.nD Cert.SsmGateDaIdeal.τ).loc Cert.SsmGateDaIdeal.main_arg0)
          ∧ r.2.mem ((c.tc : Thread Cert.SsmGateDaIdeal.nD Cert.SsmGateDaIdeal.τ).loc Cert.SsmGateDaIdeal.main_arg1) = m ((c.tc : Thread Cert.SsmGateDaIdeal.nD Cert.SsmGateDaIdeal.τ).loc Cert.SsmGateDaIdeal.main_arg1))
      ∧ θ_run (Cert.SsmGateDaRefIdeal.defs (F := Ideal)) (onTc (τ := Cert.SsmGateDaRefIdeal.τ) (Cert.SsmGateDaRefIdeal.main (F := Ideal))) ⟨m', fun _ => 0, g'⟩ (fun r => ∀ c : Dev Cert.SsmGateDaRefIdeal.nD,
          r.2.mem ((c.tc : Thread Cert.SsmGateDaRefIdeal.nD Cert.SsmGateDaRefIdeal.τ).loc Cert.SsmGateDaRefIdeal.main_v2) = v0 c
          ∧ r.2.mem ((c.tc : Thread Cert.SsmGateDaRefIdeal.nD Cert.SsmGateDaRefIdeal.τ).loc Cert.SsmGateDaRefIdeal.main_arg0) = m' ((c.tc : Thread Cert.SsmGateDaRefIdeal.nD Cert.SsmGateDaRefIdeal.τ).loc Cert.SsmGateDaRefIdeal.main_arg0)
          ∧ r.2.mem ((c.tc : Thread Cert.SsmGateDaRefIdeal.nD Cert.SsmGateDaRefIdeal.τ).loc Cert.SsmGateDaRefIdeal.main_arg1) = m' ((c.tc : Thread Cert.SsmGateDaRefIdeal.nD Cert.SsmGateDaRefIdeal.τ).loc Cert.SsmGateDaRefIdeal.main_arg1))

def preserves_SsmGateDw_SsmGateDwIdeal : Prop :=
  True

def algebraic_SsmGateDwIdeal_SsmGateDwRefIdeal [hSsmGateDwIdeal : Cert.SsmGateDwIdeal.Facts] [hSsmGateDwRefIdeal : Cert.SsmGateDwRefIdeal.Facts] : Prop :=
  ∀ (m : (ℓ : Loc Cert.SsmGateDwIdeal.nD Cert.SsmGateDwIdeal.τ Cert.SsmGateDwIdeal.sig) → Buf (Elt Ideal) ℓ) (g : Dev Cert.SsmGateDwIdeal.nD → PrngReg)
    (m' : (ℓ : Loc Cert.SsmGateDwRefIdeal.nD Cert.SsmGateDwRefIdeal.τ Cert.SsmGateDwRefIdeal.sig) → Buf (Elt Ideal) ℓ) (g' : Dev Cert.SsmGateDwRefIdeal.nD → PrngReg), Pre_SsmGateDwIdeal m →
    (∀ c : Dev Cert.SsmGateDwIdeal.nD,
      m' ((c.tc : Thread Cert.SsmGateDwRefIdeal.nD Cert.SsmGateDwRefIdeal.τ).loc Cert.SsmGateDwRefIdeal.main_arg0) = m ((c.tc : Thread Cert.SsmGateDwIdeal.nD Cert.SsmGateDwIdeal.τ).loc Cert.SsmGateDwIdeal.main_arg0)
      ∧ m' ((c.tc : Thread Cert.SsmGateDwRefIdeal.nD Cert.SsmGateDwRefIdeal.τ).loc Cert.SsmGateDwRefIdeal.main_arg1) = m ((c.tc : Thread Cert.SsmGateDwIdeal.nD Cert.SsmGateDwIdeal.τ).loc Cert.SsmGateDwIdeal.main_arg1)) →
    ∃ (v0 : (c : Dev Cert.SsmGateDwIdeal.nD) → Buf (Elt Ideal) ((c.tc : Thread Cert.SsmGateDwIdeal.nD Cert.SsmGateDwIdeal.τ).loc Cert.SsmGateDwIdeal.main_v2)),
      θ_run (Cert.SsmGateDwIdeal.defs (F := Ideal)) (onTc (τ := Cert.SsmGateDwIdeal.τ) (Cert.SsmGateDwIdeal.main (F := Ideal))) ⟨m, fun _ => 0, g⟩ (fun r => ∀ c : Dev Cert.SsmGateDwIdeal.nD,
          r.2.mem ((c.tc : Thread Cert.SsmGateDwIdeal.nD Cert.SsmGateDwIdeal.τ).loc Cert.SsmGateDwIdeal.main_v2) = v0 c
          ∧ r.2.mem ((c.tc : Thread Cert.SsmGateDwIdeal.nD Cert.SsmGateDwIdeal.τ).loc Cert.SsmGateDwIdeal.main_arg0) = m ((c.tc : Thread Cert.SsmGateDwIdeal.nD Cert.SsmGateDwIdeal.τ).loc Cert.SsmGateDwIdeal.main_arg0)
          ∧ r.2.mem ((c.tc : Thread Cert.SsmGateDwIdeal.nD Cert.SsmGateDwIdeal.τ).loc Cert.SsmGateDwIdeal.main_arg1) = m ((c.tc : Thread Cert.SsmGateDwIdeal.nD Cert.SsmGateDwIdeal.τ).loc Cert.SsmGateDwIdeal.main_arg1))
      ∧ θ_run (Cert.SsmGateDwRefIdeal.defs (F := Ideal)) (onTc (τ := Cert.SsmGateDwRefIdeal.τ) (Cert.SsmGateDwRefIdeal.main (F := Ideal))) ⟨m', fun _ => 0, g'⟩ (fun r => ∀ c : Dev Cert.SsmGateDwRefIdeal.nD,
          r.2.mem ((c.tc : Thread Cert.SsmGateDwRefIdeal.nD Cert.SsmGateDwRefIdeal.τ).loc Cert.SsmGateDwRefIdeal.main_v4) = v0 c
          ∧ r.2.mem ((c.tc : Thread Cert.SsmGateDwRefIdeal.nD Cert.SsmGateDwRefIdeal.τ).loc Cert.SsmGateDwRefIdeal.main_arg0) = m' ((c.tc : Thread Cert.SsmGateDwRefIdeal.nD Cert.SsmGateDwRefIdeal.τ).loc Cert.SsmGateDwRefIdeal.main_arg0)
          ∧ r.2.mem ((c.tc : Thread Cert.SsmGateDwRefIdeal.nD Cert.SsmGateDwRefIdeal.τ).loc Cert.SsmGateDwRefIdeal.main_arg1) = m' ((c.tc : Thread Cert.SsmGateDwRefIdeal.nD Cert.SsmGateDwRefIdeal.τ).loc Cert.SsmGateDwRefIdeal.main_arg1))

def preserves_SsmGateFwd_SsmGateFwdIdeal : Prop :=
  True

def algebraic_SsmGateFwdIdeal_SsmGateFwdRefIdeal [hSsmGateFwdIdeal : Cert.SsmGateFwdIdeal.Facts] [hSsmGateFwdRefIdeal : Cert.SsmGateFwdRefIdeal.Facts] : Prop :=
  ∀ (m : (ℓ : Loc Cert.SsmGateFwdIdeal.nD Cert.SsmGateFwdIdeal.τ Cert.SsmGateFwdIdeal.sig) → Buf (Elt Ideal) ℓ) (g : Dev Cert.SsmGateFwdIdeal.nD → PrngReg)
    (m' : (ℓ : Loc Cert.SsmGateFwdRefIdeal.nD Cert.SsmGateFwdRefIdeal.τ Cert.SsmGateFwdRefIdeal.sig) → Buf (Elt Ideal) ℓ) (g' : Dev Cert.SsmGateFwdRefIdeal.nD → PrngReg), Pre_SsmGateFwdIdeal m →
    (∀ c : Dev Cert.SsmGateFwdIdeal.nD,
      m' ((c.tc : Thread Cert.SsmGateFwdRefIdeal.nD Cert.SsmGateFwdRefIdeal.τ).loc Cert.SsmGateFwdRefIdeal.main_arg0) = m ((c.tc : Thread Cert.SsmGateFwdIdeal.nD Cert.SsmGateFwdIdeal.τ).loc Cert.SsmGateFwdIdeal.main_arg0)
      ∧ m' ((c.tc : Thread Cert.SsmGateFwdRefIdeal.nD Cert.SsmGateFwdRefIdeal.τ).loc Cert.SsmGateFwdRefIdeal.main_arg1) = m ((c.tc : Thread Cert.SsmGateFwdIdeal.nD Cert.SsmGateFwdIdeal.τ).loc Cert.SsmGateFwdIdeal.main_arg1)) →
    ∃ (v0 : (c : Dev Cert.SsmGateFwdIdeal.nD) → Buf (Elt Ideal) ((c.tc : Thread Cert.SsmGateFwdIdeal.nD Cert.SsmGateFwdIdeal.τ).loc Cert.SsmGateFwdIdeal.main_v2)),
      θ_run (Cert.SsmGateFwdIdeal.defs (F := Ideal)) (onTc (τ := Cert.SsmGateFwdIdeal.τ) (Cert.SsmGateFwdIdeal.main (F := Ideal))) ⟨m, fun _ => 0, g⟩ (fun r => ∀ c : Dev Cert.SsmGateFwdIdeal.nD,
          r.2.mem ((c.tc : Thread Cert.SsmGateFwdIdeal.nD Cert.SsmGateFwdIdeal.τ).loc Cert.SsmGateFwdIdeal.main_v2) = v0 c
          ∧ r.2.mem ((c.tc : Thread Cert.SsmGateFwdIdeal.nD Cert.SsmGateFwdIdeal.τ).loc Cert.SsmGateFwdIdeal.main_arg0) = m ((c.tc : Thread Cert.SsmGateFwdIdeal.nD Cert.SsmGateFwdIdeal.τ).loc Cert.SsmGateFwdIdeal.main_arg0)
          ∧ r.2.mem ((c.tc : Thread Cert.SsmGateFwdIdeal.nD Cert.SsmGateFwdIdeal.τ).loc Cert.SsmGateFwdIdeal.main_arg1) = m ((c.tc : Thread Cert.SsmGateFwdIdeal.nD Cert.SsmGateFwdIdeal.τ).loc Cert.SsmGateFwdIdeal.main_arg1))
      ∧ θ_run (Cert.SsmGateFwdRefIdeal.defs (F := Ideal)) (onTc (τ := Cert.SsmGateFwdRefIdeal.τ) (Cert.SsmGateFwdRefIdeal.main (F := Ideal))) ⟨m', fun _ => 0, g'⟩ (fun r => ∀ c : Dev Cert.SsmGateFwdRefIdeal.nD,
          r.2.mem ((c.tc : Thread Cert.SsmGateFwdRefIdeal.nD Cert.SsmGateFwdRefIdeal.τ).loc Cert.SsmGateFwdRefIdeal.main_v0) = v0 c
          ∧ r.2.mem ((c.tc : Thread Cert.SsmGateFwdRefIdeal.nD Cert.SsmGateFwdRefIdeal.τ).loc Cert.SsmGateFwdRefIdeal.main_arg0) = m' ((c.tc : Thread Cert.SsmGateFwdRefIdeal.nD Cert.SsmGateFwdRefIdeal.τ).loc Cert.SsmGateFwdRefIdeal.main_arg0)
          ∧ r.2.mem ((c.tc : Thread Cert.SsmGateFwdRefIdeal.nD Cert.SsmGateFwdRefIdeal.τ).loc Cert.SsmGateFwdRefIdeal.main_arg1) = m' ((c.tc : Thread Cert.SsmGateFwdRefIdeal.nD Cert.SsmGateFwdRefIdeal.τ).loc Cert.SsmGateFwdRefIdeal.main_arg1))

def preserves_SsmOutDa_SsmOutDaIdeal : Prop :=
  True

def algebraic_SsmOutDaIdeal_SsmOutDaRefIdeal [hSsmOutDaIdeal : Cert.SsmOutDaIdeal.Facts] [hSsmOutDaRefIdeal : Cert.SsmOutDaRefIdeal.Facts] : Prop :=
  ∀ (m : (ℓ : Loc Cert.SsmOutDaIdeal.nD Cert.SsmOutDaIdeal.τ Cert.SsmOutDaIdeal.sig) → Buf (Elt Ideal) ℓ) (g : Dev Cert.SsmOutDaIdeal.nD → PrngReg)
    (m' : (ℓ : Loc Cert.SsmOutDaRefIdeal.nD Cert.SsmOutDaRefIdeal.τ Cert.SsmOutDaRefIdeal.sig) → Buf (Elt Ideal) ℓ) (g' : Dev Cert.SsmOutDaRefIdeal.nD → PrngReg), Pre_SsmOutDaIdeal m →
    (∀ c : Dev Cert.SsmOutDaIdeal.nD,
      m' ((c.tc : Thread Cert.SsmOutDaRefIdeal.nD Cert.SsmOutDaRefIdeal.τ).loc Cert.SsmOutDaRefIdeal.main_arg0) = m ((c.tc : Thread Cert.SsmOutDaIdeal.nD Cert.SsmOutDaIdeal.τ).loc Cert.SsmOutDaIdeal.main_arg0)
      ∧ m' ((c.tc : Thread Cert.SsmOutDaRefIdeal.nD Cert.SsmOutDaRefIdeal.τ).loc Cert.SsmOutDaRefIdeal.main_arg1) = m ((c.tc : Thread Cert.SsmOutDaIdeal.nD Cert.SsmOutDaIdeal.τ).loc Cert.SsmOutDaIdeal.main_arg1)) →
    ∃ (v0 : (c : Dev Cert.SsmOutDaIdeal.nD) → Buf (Elt Ideal) ((c.tc : Thread Cert.SsmOutDaIdeal.nD Cert.SsmOutDaIdeal.τ).loc Cert.SsmOutDaIdeal.main_v2)),
      θ_run (Cert.SsmOutDaIdeal.defs (F := Ideal)) (onTc (τ := Cert.SsmOutDaIdeal.τ) (Cert.SsmOutDaIdeal.main (F := Ideal))) ⟨m, fun _ => 0, g⟩ (fun r => ∀ c : Dev Cert.SsmOutDaIdeal.nD,
          r.2.mem ((c.tc : Thread Cert.SsmOutDaIdeal.nD Cert.SsmOutDaIdeal.τ).loc Cert.SsmOutDaIdeal.main_v2) = v0 c
          ∧ r.2.mem ((c.tc : Thread Cert.SsmOutDaIdeal.nD Cert.SsmOutDaIdeal.τ).loc Cert.SsmOutDaIdeal.main_arg0) = m ((c.tc : Thread Cert.SsmOutDaIdeal.nD Cert.SsmOutDaIdeal.τ).loc Cert.SsmOutDaIdeal.main_arg0)
          ∧ r.2.mem ((c.tc : Thread Cert.SsmOutDaIdeal.nD Cert.SsmOutDaIdeal.τ).loc Cert.SsmOutDaIdeal.main_arg1) = m ((c.tc : Thread Cert.SsmOutDaIdeal.nD Cert.SsmOutDaIdeal.τ).loc Cert.SsmOutDaIdeal.main_arg1))
      ∧ θ_run (Cert.SsmOutDaRefIdeal.defs (F := Ideal)) (onTc (τ := Cert.SsmOutDaRefIdeal.τ) (Cert.SsmOutDaRefIdeal.main (F := Ideal))) ⟨m', fun _ => 0, g'⟩ (fun r => ∀ c : Dev Cert.SsmOutDaRefIdeal.nD,
          r.2.mem ((c.tc : Thread Cert.SsmOutDaRefIdeal.nD Cert.SsmOutDaRefIdeal.τ).loc Cert.SsmOutDaRefIdeal.main_v2) = v0 c
          ∧ r.2.mem ((c.tc : Thread Cert.SsmOutDaRefIdeal.nD Cert.SsmOutDaRefIdeal.τ).loc Cert.SsmOutDaRefIdeal.main_arg0) = m' ((c.tc : Thread Cert.SsmOutDaRefIdeal.nD Cert.SsmOutDaRefIdeal.τ).loc Cert.SsmOutDaRefIdeal.main_arg0)
          ∧ r.2.mem ((c.tc : Thread Cert.SsmOutDaRefIdeal.nD Cert.SsmOutDaRefIdeal.τ).loc Cert.SsmOutDaRefIdeal.main_arg1) = m' ((c.tc : Thread Cert.SsmOutDaRefIdeal.nD Cert.SsmOutDaRefIdeal.τ).loc Cert.SsmOutDaRefIdeal.main_arg1))

def preserves_SsmOutDw_SsmOutDwIdeal : Prop :=
  True

def algebraic_SsmOutDwIdeal_SsmOutDwRefIdeal [hSsmOutDwIdeal : Cert.SsmOutDwIdeal.Facts] [hSsmOutDwRefIdeal : Cert.SsmOutDwRefIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwRefIdeal.nD Cert.SsmOutDwRefIdeal.τ Cert.SsmOutDwRefIdeal.sig) → Buf (Elt Ideal) ℓ) (g' : Dev Cert.SsmOutDwRefIdeal.nD → PrngReg), Pre_SsmOutDwIdeal m →
    (∀ c : Dev Cert.SsmOutDwIdeal.nD,
      m' ((c.tc : Thread Cert.SsmOutDwRefIdeal.nD Cert.SsmOutDwRefIdeal.τ).loc Cert.SsmOutDwRefIdeal.main_arg0) = m ((c.tc : Thread Cert.SsmOutDwIdeal.nD Cert.SsmOutDwIdeal.τ).loc Cert.SsmOutDwIdeal.main_arg0)
      ∧ m' ((c.tc : Thread Cert.SsmOutDwRefIdeal.nD Cert.SsmOutDwRefIdeal.τ).loc Cert.SsmOutDwRefIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v2)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v2) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwRefIdeal.defs (F := Ideal)) (onTc (τ := Cert.SsmOutDwRefIdeal.τ) (Cert.SsmOutDwRefIdeal.main (F := Ideal))) ⟨m', fun _ => 0, g'⟩ (fun r => ∀ c : Dev Cert.SsmOutDwRefIdeal.nD,
          r.2.mem ((c.tc : Thread Cert.SsmOutDwRefIdeal.nD Cert.SsmOutDwRefIdeal.τ).loc Cert.SsmOutDwRefIdeal.main_v4) = v0 c
          ∧ r.2.mem ((c.tc : Thread Cert.SsmOutDwRefIdeal.nD Cert.SsmOutDwRefIdeal.τ).loc Cert.SsmOutDwRefIdeal.main_arg0) = m' ((c.tc : Thread Cert.SsmOutDwRefIdeal.nD Cert.SsmOutDwRefIdeal.τ).loc Cert.SsmOutDwRefIdeal.main_arg0)
          ∧ r.2.mem ((c.tc : Thread Cert.SsmOutDwRefIdeal.nD Cert.SsmOutDwRefIdeal.τ).loc Cert.SsmOutDwRefIdeal.main_arg1) = m' ((c.tc : Thread Cert.SsmOutDwRefIdeal.nD Cert.SsmOutDwRefIdeal.τ).loc Cert.SsmOutDwRefIdeal.main_arg1))

def preserves_SsmOutFwd_SsmOutFwdIdeal : Prop :=
  True

def algebraic_SsmOutFwdIdeal_SsmOutFwdRefIdeal [hSsmOutFwdIdeal : Cert.SsmOutFwdIdeal.Facts] [hSsmOutFwdRefIdeal : Cert.SsmOutFwdRefIdeal.Facts] : Prop :=
  ∀ (m : (ℓ : Loc Cert.SsmOutFwdIdeal.nD Cert.SsmOutFwdIdeal.τ Cert.SsmOutFwdIdeal.sig) → Buf (Elt Ideal) ℓ) (g : Dev Cert.SsmOutFwdIdeal.nD → PrngReg)
    (m' : (ℓ : Loc Cert.SsmOutFwdRefIdeal.nD Cert.SsmOutFwdRefIdeal.τ Cert.SsmOutFwdRefIdeal.sig) → Buf (Elt Ideal) ℓ) (g' : Dev Cert.SsmOutFwdRefIdeal.nD → PrngReg), Pre_SsmOutFwdIdeal m →
    (∀ c : Dev Cert.SsmOutFwdIdeal.nD,
      m' ((c.tc : Thread Cert.SsmOutFwdRefIdeal.nD Cert.SsmOutFwdRefIdeal.τ).loc Cert.SsmOutFwdRefIdeal.main_arg0) = m ((c.tc : Thread Cert.SsmOutFwdIdeal.nD Cert.SsmOutFwdIdeal.τ).loc Cert.SsmOutFwdIdeal.main_arg0)
      ∧ m' ((c.tc : Thread Cert.SsmOutFwdRefIdeal.nD Cert.SsmOutFwdRefIdeal.τ).loc Cert.SsmOutFwdRefIdeal.main_arg1) = m ((c.tc : Thread Cert.SsmOutFwdIdeal.nD Cert.SsmOutFwdIdeal.τ).loc Cert.SsmOutFwdIdeal.main_arg1)) →
    ∃ (v0 : (c : Dev Cert.SsmOutFwdIdeal.nD) → Buf (Elt Ideal) ((c.tc : Thread Cert.SsmOutFwdIdeal.nD Cert.SsmOutFwdIdeal.τ).loc Cert.SsmOutFwdIdeal.main_v2)),
      θ_run (Cert.SsmOutFwdIdeal.defs (F := Ideal)) (onTc (τ := Cert.SsmOutFwdIdeal.τ) (Cert.SsmOutFwdIdeal.main (F := Ideal))) ⟨m, fun _ => 0, g⟩ (fun r => ∀ c : Dev Cert.SsmOutFwdIdeal.nD,
          r.2.mem ((c.tc : Thread Cert.SsmOutFwdIdeal.nD Cert.SsmOutFwdIdeal.τ).loc Cert.SsmOutFwdIdeal.main_v2) = v0 c
          ∧ r.2.mem ((c.tc : Thread Cert.SsmOutFwdIdeal.nD Cert.SsmOutFwdIdeal.τ).loc Cert.SsmOutFwdIdeal.main_arg0) = m ((c.tc : Thread Cert.SsmOutFwdIdeal.nD Cert.SsmOutFwdIdeal.τ).loc Cert.SsmOutFwdIdeal.main_arg0)
          ∧ r.2.mem ((c.tc : Thread Cert.SsmOutFwdIdeal.nD Cert.SsmOutFwdIdeal.τ).loc Cert.SsmOutFwdIdeal.main_arg1) = m ((c.tc : Thread Cert.SsmOutFwdIdeal.nD Cert.SsmOutFwdIdeal.τ).loc Cert.SsmOutFwdIdeal.main_arg1))
      ∧ θ_run (Cert.SsmOutFwdRefIdeal.defs (F := Ideal)) (onTc (τ := Cert.SsmOutFwdRefIdeal.τ) (Cert.SsmOutFwdRefIdeal.main (F := Ideal))) ⟨m', fun _ => 0, g'⟩ (fun r => ∀ c : Dev Cert.SsmOutFwdRefIdeal.nD,
          r.2.mem ((c.tc : Thread Cert.SsmOutFwdRefIdeal.nD Cert.SsmOutFwdRefIdeal.τ).loc Cert.SsmOutFwdRefIdeal.main_v0) = v0 c
          ∧ r.2.mem ((c.tc : Thread Cert.SsmOutFwdRefIdeal.nD Cert.SsmOutFwdRefIdeal.τ).loc Cert.SsmOutFwdRefIdeal.main_arg0) = m' ((c.tc : Thread Cert.SsmOutFwdRefIdeal.nD Cert.SsmOutFwdRefIdeal.τ).loc Cert.SsmOutFwdRefIdeal.main_arg0)
          ∧ r.2.mem ((c.tc : Thread Cert.SsmOutFwdRefIdeal.nD Cert.SsmOutFwdRefIdeal.τ).loc Cert.SsmOutFwdRefIdeal.main_arg1) = m' ((c.tc : Thread Cert.SsmOutFwdRefIdeal.nD Cert.SsmOutFwdRefIdeal.τ).loc Cert.SsmOutFwdRefIdeal.main_arg1))

def preserves_LatentUpDa_LatentUpDaIdeal : Prop :=
  True

def algebraic_LatentUpDaIdeal_LatentUpDaRefIdeal [hLatentUpDaIdeal : Cert.LatentUpDaIdeal.Facts] [hLatentUpDaRefIdeal : Cert.LatentUpDaRefIdeal.Facts] : Prop :=
  ∀ (m : (ℓ : Loc Cert.LatentUpDaIdeal.nD Cert.LatentUpDaIdeal.τ Cert.LatentUpDaIdeal.sig) → Buf (Elt Ideal) ℓ) (g : Dev Cert.LatentUpDaIdeal.nD → PrngReg)
    (m' : (ℓ : Loc Cert.LatentUpDaRefIdeal.nD Cert.LatentUpDaRefIdeal.τ Cert.LatentUpDaRefIdeal.sig) → Buf (Elt Ideal) ℓ) (g' : Dev Cert.LatentUpDaRefIdeal.nD → PrngReg), Pre_LatentUpDaIdeal m →
    (∀ c : Dev Cert.LatentUpDaIdeal.nD,
      m' ((c.tc : Thread Cert.LatentUpDaRefIdeal.nD Cert.LatentUpDaRefIdeal.τ).loc Cert.LatentUpDaRefIdeal.main_arg0) = m ((c.tc : Thread Cert.LatentUpDaIdeal.nD Cert.LatentUpDaIdeal.τ).loc Cert.LatentUpDaIdeal.main_arg0)
      ∧ m' ((c.tc : Thread Cert.LatentUpDaRefIdeal.nD Cert.LatentUpDaRefIdeal.τ).loc Cert.LatentUpDaRefIdeal.main_arg1) = m ((c.tc : Thread Cert.LatentUpDaIdeal.nD Cert.LatentUpDaIdeal.τ).loc Cert.LatentUpDaIdeal.main_arg1)) →
    ∃ (v0 : (c : Dev Cert.LatentUpDaIdeal.nD) → Buf (Elt Ideal) ((c.tc : Thread Cert.LatentUpDaIdeal.nD Cert.LatentUpDaIdeal.τ).loc Cert.LatentUpDaIdeal.main_v2)),
      θ_run (Cert.LatentUpDaIdeal.defs (F := Ideal)) (onTc (τ := Cert.LatentUpDaIdeal.τ) (Cert.LatentUpDaIdeal.main (F := Ideal))) ⟨m, fun _ => 0, g⟩ (fun r => ∀ c : Dev Cert.LatentUpDaIdeal.nD,
          r.2.mem ((c.tc : Thread Cert.LatentUpDaIdeal.nD Cert.LatentUpDaIdeal.τ).loc Cert.LatentUpDaIdeal.main_v2) = v0 c
          ∧ r.2.mem ((c.tc : Thread Cert.LatentUpDaIdeal.nD Cert.LatentUpDaIdeal.τ).loc Cert.LatentUpDaIdeal.main_arg0) = m ((c.tc : Thread Cert.LatentUpDaIdeal.nD Cert.LatentUpDaIdeal.τ).loc Cert.LatentUpDaIdeal.main_arg0)
          ∧ r.2.mem ((c.tc : Thread Cert.LatentUpDaIdeal.nD Cert.LatentUpDaIdeal.τ).loc Cert.LatentUpDaIdeal.main_arg1) = m ((c.tc : Thread Cert.LatentUpDaIdeal.nD Cert.LatentUpDaIdeal.τ).loc Cert.LatentUpDaIdeal.main_arg1))
      ∧ θ_run (Cert.LatentUpDaRefIdeal.defs (F := Ideal)) (onTc (τ := Cert.LatentUpDaRefIdeal.τ) (Cert.LatentUpDaRefIdeal.main (F := Ideal))) ⟨m', fun _ => 0, g'⟩ (fun r => ∀ c : Dev Cert.LatentUpDaRefIdeal.nD,
          r.2.mem ((c.tc : Thread Cert.LatentUpDaRefIdeal.nD Cert.LatentUpDaRefIdeal.τ).loc Cert.LatentUpDaRefIdeal.main_v2) = v0 c
          ∧ r.2.mem ((c.tc : Thread Cert.LatentUpDaRefIdeal.nD Cert.LatentUpDaRefIdeal.τ).loc Cert.LatentUpDaRefIdeal.main_arg0) = m' ((c.tc : Thread Cert.LatentUpDaRefIdeal.nD Cert.LatentUpDaRefIdeal.τ).loc Cert.LatentUpDaRefIdeal.main_arg0)
          ∧ r.2.mem ((c.tc : Thread Cert.LatentUpDaRefIdeal.nD Cert.LatentUpDaRefIdeal.τ).loc Cert.LatentUpDaRefIdeal.main_arg1) = m' ((c.tc : Thread Cert.LatentUpDaRefIdeal.nD Cert.LatentUpDaRefIdeal.τ).loc Cert.LatentUpDaRefIdeal.main_arg1))

def preserves_LatentUpDw_LatentUpDwIdeal : Prop :=
  True

def algebraic_LatentUpDwIdeal_LatentUpDwRefIdeal [hLatentUpDwIdeal : Cert.LatentUpDwIdeal.Facts] [hLatentUpDwRefIdeal : Cert.LatentUpDwRefIdeal.Facts] : Prop :=
  ∀ (m : (ℓ : Loc Cert.LatentUpDwIdeal.nD Cert.LatentUpDwIdeal.τ Cert.LatentUpDwIdeal.sig) → Buf (Elt Ideal) ℓ) (g : Dev Cert.LatentUpDwIdeal.nD → PrngReg)
    (m' : (ℓ : Loc Cert.LatentUpDwRefIdeal.nD Cert.LatentUpDwRefIdeal.τ Cert.LatentUpDwRefIdeal.sig) → Buf (Elt Ideal) ℓ) (g' : Dev Cert.LatentUpDwRefIdeal.nD → PrngReg), Pre_LatentUpDwIdeal m →
    (∀ c : Dev Cert.LatentUpDwIdeal.nD,
      m' ((c.tc : Thread Cert.LatentUpDwRefIdeal.nD Cert.LatentUpDwRefIdeal.τ).loc Cert.LatentUpDwRefIdeal.main_arg0) = m ((c.tc : Thread Cert.LatentUpDwIdeal.nD Cert.LatentUpDwIdeal.τ).loc Cert.LatentUpDwIdeal.main_arg0)
      ∧ m' ((c.tc : Thread Cert.LatentUpDwRefIdeal.nD Cert.LatentUpDwRefIdeal.τ).loc Cert.LatentUpDwRefIdeal.main_arg1) = m ((c.tc : Thread Cert.LatentUpDwIdeal.nD Cert.LatentUpDwIdeal.τ).loc Cert.LatentUpDwIdeal.main_arg1)) →
    ∃ (v0 : (c : Dev Cert.LatentUpDwIdeal.nD) → Buf (Elt Ideal) ((c.tc : Thread Cert.LatentUpDwIdeal.nD Cert.LatentUpDwIdeal.τ).loc Cert.LatentUpDwIdeal.main_v2)),
      θ_run (Cert.LatentUpDwIdeal.defs (F := Ideal)) (onTc (τ := Cert.LatentUpDwIdeal.τ) (Cert.LatentUpDwIdeal.main (F := Ideal))) ⟨m, fun _ => 0, g⟩ (fun r => ∀ c : Dev Cert.LatentUpDwIdeal.nD,
          r.2.mem ((c.tc : Thread Cert.LatentUpDwIdeal.nD Cert.LatentUpDwIdeal.τ).loc Cert.LatentUpDwIdeal.main_v2) = v0 c
          ∧ r.2.mem ((c.tc : Thread Cert.LatentUpDwIdeal.nD Cert.LatentUpDwIdeal.τ).loc Cert.LatentUpDwIdeal.main_arg0) = m ((c.tc : Thread Cert.LatentUpDwIdeal.nD Cert.LatentUpDwIdeal.τ).loc Cert.LatentUpDwIdeal.main_arg0)
          ∧ r.2.mem ((c.tc : Thread Cert.LatentUpDwIdeal.nD Cert.LatentUpDwIdeal.τ).loc Cert.LatentUpDwIdeal.main_arg1) = m ((c.tc : Thread Cert.LatentUpDwIdeal.nD Cert.LatentUpDwIdeal.τ).loc Cert.LatentUpDwIdeal.main_arg1))
      ∧ θ_run (Cert.LatentUpDwRefIdeal.defs (F := Ideal)) (onTc (τ := Cert.LatentUpDwRefIdeal.τ) (Cert.LatentUpDwRefIdeal.main (F := Ideal))) ⟨m', fun _ => 0, g'⟩ (fun r => ∀ c : Dev Cert.LatentUpDwRefIdeal.nD,
          r.2.mem ((c.tc : Thread Cert.LatentUpDwRefIdeal.nD Cert.LatentUpDwRefIdeal.τ).loc Cert.LatentUpDwRefIdeal.main_v4) = v0 c
          ∧ r.2.mem ((c.tc : Thread Cert.LatentUpDwRefIdeal.nD Cert.LatentUpDwRefIdeal.τ).loc Cert.LatentUpDwRefIdeal.main_arg0) = m' ((c.tc : Thread Cert.LatentUpDwRefIdeal.nD Cert.LatentUpDwRefIdeal.τ).loc Cert.LatentUpDwRefIdeal.main_arg0)
          ∧ r.2.mem ((c.tc : Thread Cert.LatentUpDwRefIdeal.nD Cert.LatentUpDwRefIdeal.τ).loc Cert.LatentUpDwRefIdeal.main_arg1) = m' ((c.tc : Thread Cert.LatentUpDwRefIdeal.nD Cert.LatentUpDwRefIdeal.τ).loc Cert.LatentUpDwRefIdeal.main_arg1))

def preserves_LatentUpFwd_LatentUpFwdIdeal : Prop :=
  True

def algebraic_LatentUpFwdIdeal_LatentUpFwdRefIdeal [hLatentUpFwdIdeal : Cert.LatentUpFwdIdeal.Facts] [hLatentUpFwdRefIdeal : Cert.LatentUpFwdRefIdeal.Facts] : Prop :=
  ∀ (m : (ℓ : Loc Cert.LatentUpFwdIdeal.nD Cert.LatentUpFwdIdeal.τ Cert.LatentUpFwdIdeal.sig) → Buf (Elt Ideal) ℓ) (g : Dev Cert.LatentUpFwdIdeal.nD → PrngReg)
    (m' : (ℓ : Loc Cert.LatentUpFwdRefIdeal.nD Cert.LatentUpFwdRefIdeal.τ Cert.LatentUpFwdRefIdeal.sig) → Buf (Elt Ideal) ℓ) (g' : Dev Cert.LatentUpFwdRefIdeal.nD → PrngReg), Pre_LatentUpFwdIdeal m →
    (∀ c : Dev Cert.LatentUpFwdIdeal.nD,
      m' ((c.tc : Thread Cert.LatentUpFwdRefIdeal.nD Cert.LatentUpFwdRefIdeal.τ).loc Cert.LatentUpFwdRefIdeal.main_arg0) = m ((c.tc : Thread Cert.LatentUpFwdIdeal.nD Cert.LatentUpFwdIdeal.τ).loc Cert.LatentUpFwdIdeal.main_arg0)
      ∧ m' ((c.tc : Thread Cert.LatentUpFwdRefIdeal.nD Cert.LatentUpFwdRefIdeal.τ).loc Cert.LatentUpFwdRefIdeal.main_arg1) = m ((c.tc : Thread Cert.LatentUpFwdIdeal.nD Cert.LatentUpFwdIdeal.τ).loc Cert.LatentUpFwdIdeal.main_arg1)) →
    ∃ (v0 : (c : Dev Cert.LatentUpFwdIdeal.nD) → Buf (Elt Ideal) ((c.tc : Thread Cert.LatentUpFwdIdeal.nD Cert.LatentUpFwdIdeal.τ).loc Cert.LatentUpFwdIdeal.main_v2)),
      θ_run (Cert.LatentUpFwdIdeal.defs (F := Ideal)) (onTc (τ := Cert.LatentUpFwdIdeal.τ) (Cert.LatentUpFwdIdeal.main (F := Ideal))) ⟨m, fun _ => 0, g⟩ (fun r => ∀ c : Dev Cert.LatentUpFwdIdeal.nD,
          r.2.mem ((c.tc : Thread Cert.LatentUpFwdIdeal.nD Cert.LatentUpFwdIdeal.τ).loc Cert.LatentUpFwdIdeal.main_v2) = v0 c
          ∧ r.2.mem ((c.tc : Thread Cert.LatentUpFwdIdeal.nD Cert.LatentUpFwdIdeal.τ).loc Cert.LatentUpFwdIdeal.main_arg0) = m ((c.tc : Thread Cert.LatentUpFwdIdeal.nD Cert.LatentUpFwdIdeal.τ).loc Cert.LatentUpFwdIdeal.main_arg0)
          ∧ r.2.mem ((c.tc : Thread Cert.LatentUpFwdIdeal.nD Cert.LatentUpFwdIdeal.τ).loc Cert.LatentUpFwdIdeal.main_arg1) = m ((c.tc : Thread Cert.LatentUpFwdIdeal.nD Cert.LatentUpFwdIdeal.τ).loc Cert.LatentUpFwdIdeal.main_arg1))
      ∧ θ_run (Cert.LatentUpFwdRefIdeal.defs (F := Ideal)) (onTc (τ := Cert.LatentUpFwdRefIdeal.τ) (Cert.LatentUpFwdRefIdeal.main (F := Ideal))) ⟨m', fun _ => 0, g'⟩ (fun r => ∀ c : Dev Cert.LatentUpFwdRefIdeal.nD,
          r.2.mem ((c.tc : Thread Cert.LatentUpFwdRefIdeal.nD Cert.LatentUpFwdRefIdeal.τ).loc Cert.LatentUpFwdRefIdeal.main_v0) = v0 c
          ∧ r.2.mem ((c.tc : Thread Cert.LatentUpFwdRefIdeal.nD Cert.LatentUpFwdRefIdeal.τ).loc Cert.LatentUpFwdRefIdeal.main_arg0) = m' ((c.tc : Thread Cert.LatentUpFwdRefIdeal.nD Cert.LatentUpFwdRefIdeal.τ).loc Cert.LatentUpFwdRefIdeal.main_arg0)
          ∧ r.2.mem ((c.tc : Thread Cert.LatentUpFwdRefIdeal.nD Cert.LatentUpFwdRefIdeal.τ).loc Cert.LatentUpFwdRefIdeal.main_arg1) = m' ((c.tc : Thread Cert.LatentUpFwdRefIdeal.nD Cert.LatentUpFwdRefIdeal.τ).loc Cert.LatentUpFwdRefIdeal.main_arg1))

def preserves_LatentDownDa_LatentDownDaIdeal : Prop :=
  True

def algebraic_LatentDownDaIdeal_LatentDownDaRefIdeal [hLatentDownDaIdeal : Cert.LatentDownDaIdeal.Facts] [hLatentDownDaRefIdeal : Cert.LatentDownDaRefIdeal.Facts] : Prop :=
  ∀ (m : (ℓ : Loc Cert.LatentDownDaIdeal.nD Cert.LatentDownDaIdeal.τ Cert.LatentDownDaIdeal.sig) → Buf (Elt Ideal) ℓ) (g : Dev Cert.LatentDownDaIdeal.nD → PrngReg)
    (m' : (ℓ : Loc Cert.LatentDownDaRefIdeal.nD Cert.LatentDownDaRefIdeal.τ Cert.LatentDownDaRefIdeal.sig) → Buf (Elt Ideal) ℓ) (g' : Dev Cert.LatentDownDaRefIdeal.nD → PrngReg), Pre_LatentDownDaIdeal m →
    (∀ c : Dev Cert.LatentDownDaIdeal.nD,
      m' ((c.tc : Thread Cert.LatentDownDaRefIdeal.nD Cert.LatentDownDaRefIdeal.τ).loc Cert.LatentDownDaRefIdeal.main_arg0) = m ((c.tc : Thread Cert.LatentDownDaIdeal.nD Cert.LatentDownDaIdeal.τ).loc Cert.LatentDownDaIdeal.main_arg0)
      ∧ m' ((c.tc : Thread Cert.LatentDownDaRefIdeal.nD Cert.LatentDownDaRefIdeal.τ).loc Cert.LatentDownDaRefIdeal.main_arg1) = m ((c.tc : Thread Cert.LatentDownDaIdeal.nD Cert.LatentDownDaIdeal.τ).loc Cert.LatentDownDaIdeal.main_arg1)) →
    ∃ (v0 : (c : Dev Cert.LatentDownDaIdeal.nD) → Buf (Elt Ideal) ((c.tc : Thread Cert.LatentDownDaIdeal.nD Cert.LatentDownDaIdeal.τ).loc Cert.LatentDownDaIdeal.main_v2)),
      θ_run (Cert.LatentDownDaIdeal.defs (F := Ideal)) (onTc (τ := Cert.LatentDownDaIdeal.τ) (Cert.LatentDownDaIdeal.main (F := Ideal))) ⟨m, fun _ => 0, g⟩ (fun r => ∀ c : Dev Cert.LatentDownDaIdeal.nD,
          r.2.mem ((c.tc : Thread Cert.LatentDownDaIdeal.nD Cert.LatentDownDaIdeal.τ).loc Cert.LatentDownDaIdeal.main_v2) = v0 c
          ∧ r.2.mem ((c.tc : Thread Cert.LatentDownDaIdeal.nD Cert.LatentDownDaIdeal.τ).loc Cert.LatentDownDaIdeal.main_arg0) = m ((c.tc : Thread Cert.LatentDownDaIdeal.nD Cert.LatentDownDaIdeal.τ).loc Cert.LatentDownDaIdeal.main_arg0)
          ∧ r.2.mem ((c.tc : Thread Cert.LatentDownDaIdeal.nD Cert.LatentDownDaIdeal.τ).loc Cert.LatentDownDaIdeal.main_arg1) = m ((c.tc : Thread Cert.LatentDownDaIdeal.nD Cert.LatentDownDaIdeal.τ).loc Cert.LatentDownDaIdeal.main_arg1))
      ∧ θ_run (Cert.LatentDownDaRefIdeal.defs (F := Ideal)) (onTc (τ := Cert.LatentDownDaRefIdeal.τ) (Cert.LatentDownDaRefIdeal.main (F := Ideal))) ⟨m', fun _ => 0, g'⟩ (fun r => ∀ c : Dev Cert.LatentDownDaRefIdeal.nD,
          r.2.mem ((c.tc : Thread Cert.LatentDownDaRefIdeal.nD Cert.LatentDownDaRefIdeal.τ).loc Cert.LatentDownDaRefIdeal.main_v2) = v0 c
          ∧ r.2.mem ((c.tc : Thread Cert.LatentDownDaRefIdeal.nD Cert.LatentDownDaRefIdeal.τ).loc Cert.LatentDownDaRefIdeal.main_arg0) = m' ((c.tc : Thread Cert.LatentDownDaRefIdeal.nD Cert.LatentDownDaRefIdeal.τ).loc Cert.LatentDownDaRefIdeal.main_arg0)
          ∧ r.2.mem ((c.tc : Thread Cert.LatentDownDaRefIdeal.nD Cert.LatentDownDaRefIdeal.τ).loc Cert.LatentDownDaRefIdeal.main_arg1) = m' ((c.tc : Thread Cert.LatentDownDaRefIdeal.nD Cert.LatentDownDaRefIdeal.τ).loc Cert.LatentDownDaRefIdeal.main_arg1))

def preserves_LatentDownDw_LatentDownDwIdeal : Prop :=
  True

def algebraic_LatentDownDwIdeal_LatentDownDwRefIdeal [hLatentDownDwIdeal : Cert.LatentDownDwIdeal.Facts] [hLatentDownDwRefIdeal : Cert.LatentDownDwRefIdeal.Facts] : Prop :=
  ∀ (m : (ℓ : Loc Cert.LatentDownDwIdeal.nD Cert.LatentDownDwIdeal.τ Cert.LatentDownDwIdeal.sig) → Buf (Elt Ideal) ℓ) (g : Dev Cert.LatentDownDwIdeal.nD → PrngReg)
    (m' : (ℓ : Loc Cert.LatentDownDwRefIdeal.nD Cert.LatentDownDwRefIdeal.τ Cert.LatentDownDwRefIdeal.sig) → Buf (Elt Ideal) ℓ) (g' : Dev Cert.LatentDownDwRefIdeal.nD → PrngReg), Pre_LatentDownDwIdeal m →
    (∀ c : Dev Cert.LatentDownDwIdeal.nD,
      m' ((c.tc : Thread Cert.LatentDownDwRefIdeal.nD Cert.LatentDownDwRefIdeal.τ).loc Cert.LatentDownDwRefIdeal.main_arg0) = m ((c.tc : Thread Cert.LatentDownDwIdeal.nD Cert.LatentDownDwIdeal.τ).loc Cert.LatentDownDwIdeal.main_arg0)
      ∧ m' ((c.tc : Thread Cert.LatentDownDwRefIdeal.nD Cert.LatentDownDwRefIdeal.τ).loc Cert.LatentDownDwRefIdeal.main_arg1) = m ((c.tc : Thread Cert.LatentDownDwIdeal.nD Cert.LatentDownDwIdeal.τ).loc Cert.LatentDownDwIdeal.main_arg1)) →
    ∃ (v0 : (c : Dev Cert.LatentDownDwIdeal.nD) → Buf (Elt Ideal) ((c.tc : Thread Cert.LatentDownDwIdeal.nD Cert.LatentDownDwIdeal.τ).loc Cert.LatentDownDwIdeal.main_v2)),
      θ_run (Cert.LatentDownDwIdeal.defs (F := Ideal)) (onTc (τ := Cert.LatentDownDwIdeal.τ) (Cert.LatentDownDwIdeal.main (F := Ideal))) ⟨m, fun _ => 0, g⟩ (fun r => ∀ c : Dev Cert.LatentDownDwIdeal.nD,
          r.2.mem ((c.tc : Thread Cert.LatentDownDwIdeal.nD Cert.LatentDownDwIdeal.τ).loc Cert.LatentDownDwIdeal.main_v2) = v0 c
          ∧ r.2.mem ((c.tc : Thread Cert.LatentDownDwIdeal.nD Cert.LatentDownDwIdeal.τ).loc Cert.LatentDownDwIdeal.main_arg0) = m ((c.tc : Thread Cert.LatentDownDwIdeal.nD Cert.LatentDownDwIdeal.τ).loc Cert.LatentDownDwIdeal.main_arg0)
          ∧ r.2.mem ((c.tc : Thread Cert.LatentDownDwIdeal.nD Cert.LatentDownDwIdeal.τ).loc Cert.LatentDownDwIdeal.main_arg1) = m ((c.tc : Thread Cert.LatentDownDwIdeal.nD Cert.LatentDownDwIdeal.τ).loc Cert.LatentDownDwIdeal.main_arg1))
      ∧ θ_run (Cert.LatentDownDwRefIdeal.defs (F := Ideal)) (onTc (τ := Cert.LatentDownDwRefIdeal.τ) (Cert.LatentDownDwRefIdeal.main (F := Ideal))) ⟨m', fun _ => 0, g'⟩ (fun r => ∀ c : Dev Cert.LatentDownDwRefIdeal.nD,
          r.2.mem ((c.tc : Thread Cert.LatentDownDwRefIdeal.nD Cert.LatentDownDwRefIdeal.τ).loc Cert.LatentDownDwRefIdeal.main_v4) = v0 c
          ∧ r.2.mem ((c.tc : Thread Cert.LatentDownDwRefIdeal.nD Cert.LatentDownDwRefIdeal.τ).loc Cert.LatentDownDwRefIdeal.main_arg0) = m' ((c.tc : Thread Cert.LatentDownDwRefIdeal.nD Cert.LatentDownDwRefIdeal.τ).loc Cert.LatentDownDwRefIdeal.main_arg0)
          ∧ r.2.mem ((c.tc : Thread Cert.LatentDownDwRefIdeal.nD Cert.LatentDownDwRefIdeal.τ).loc Cert.LatentDownDwRefIdeal.main_arg1) = m' ((c.tc : Thread Cert.LatentDownDwRefIdeal.nD Cert.LatentDownDwRefIdeal.τ).loc Cert.LatentDownDwRefIdeal.main_arg1))

def preserves_LatentDownFwd_LatentDownFwdIdeal : Prop :=
  True

def algebraic_LatentDownFwdIdeal_LatentDownFwdRefIdeal [hLatentDownFwdIdeal : Cert.LatentDownFwdIdeal.Facts] [hLatentDownFwdRefIdeal : Cert.LatentDownFwdRefIdeal.Facts] : Prop :=
  ∀ (m : (ℓ : Loc Cert.LatentDownFwdIdeal.nD Cert.LatentDownFwdIdeal.τ Cert.LatentDownFwdIdeal.sig) → Buf (Elt Ideal) ℓ) (g : Dev Cert.LatentDownFwdIdeal.nD → PrngReg)
    (m' : (ℓ : Loc Cert.LatentDownFwdRefIdeal.nD Cert.LatentDownFwdRefIdeal.τ Cert.LatentDownFwdRefIdeal.sig) → Buf (Elt Ideal) ℓ) (g' : Dev Cert.LatentDownFwdRefIdeal.nD → PrngReg), Pre_LatentDownFwdIdeal m →
    (∀ c : Dev Cert.LatentDownFwdIdeal.nD,
      m' ((c.tc : Thread Cert.LatentDownFwdRefIdeal.nD Cert.LatentDownFwdRefIdeal.τ).loc Cert.LatentDownFwdRefIdeal.main_arg0) = m ((c.tc : Thread Cert.LatentDownFwdIdeal.nD Cert.LatentDownFwdIdeal.τ).loc Cert.LatentDownFwdIdeal.main_arg0)
      ∧ m' ((c.tc : Thread Cert.LatentDownFwdRefIdeal.nD Cert.LatentDownFwdRefIdeal.τ).loc Cert.LatentDownFwdRefIdeal.main_arg1) = m ((c.tc : Thread Cert.LatentDownFwdIdeal.nD Cert.LatentDownFwdIdeal.τ).loc Cert.LatentDownFwdIdeal.main_arg1)) →
    ∃ (v0 : (c : Dev Cert.LatentDownFwdIdeal.nD) → Buf (Elt Ideal) ((c.tc : Thread Cert.LatentDownFwdIdeal.nD Cert.LatentDownFwdIdeal.τ).loc Cert.LatentDownFwdIdeal.main_v2)),
      θ_run (Cert.LatentDownFwdIdeal.defs (F := Ideal)) (onTc (τ := Cert.LatentDownFwdIdeal.τ) (Cert.LatentDownFwdIdeal.main (F := Ideal))) ⟨m, fun _ => 0, g⟩ (fun r => ∀ c : Dev Cert.LatentDownFwdIdeal.nD,
          r.2.mem ((c.tc : Thread Cert.LatentDownFwdIdeal.nD Cert.LatentDownFwdIdeal.τ).loc Cert.LatentDownFwdIdeal.main_v2) = v0 c
          ∧ r.2.mem ((c.tc : Thread Cert.LatentDownFwdIdeal.nD Cert.LatentDownFwdIdeal.τ).loc Cert.LatentDownFwdIdeal.main_arg0) = m ((c.tc : Thread Cert.LatentDownFwdIdeal.nD Cert.LatentDownFwdIdeal.τ).loc Cert.LatentDownFwdIdeal.main_arg0)
          ∧ r.2.mem ((c.tc : Thread Cert.LatentDownFwdIdeal.nD Cert.LatentDownFwdIdeal.τ).loc Cert.LatentDownFwdIdeal.main_arg1) = m ((c.tc : Thread Cert.LatentDownFwdIdeal.nD Cert.LatentDownFwdIdeal.τ).loc Cert.LatentDownFwdIdeal.main_arg1))
      ∧ θ_run (Cert.LatentDownFwdRefIdeal.defs (F := Ideal)) (onTc (τ := Cert.LatentDownFwdRefIdeal.τ) (Cert.LatentDownFwdRefIdeal.main (F := Ideal))) ⟨m', fun _ => 0, g'⟩ (fun r => ∀ c : Dev Cert.LatentDownFwdRefIdeal.nD,
          r.2.mem ((c.tc : Thread Cert.LatentDownFwdRefIdeal.nD Cert.LatentDownFwdRefIdeal.τ).loc Cert.LatentDownFwdRefIdeal.main_v0) = v0 c
          ∧ r.2.mem ((c.tc : Thread Cert.LatentDownFwdRefIdeal.nD Cert.LatentDownFwdRefIdeal.τ).loc Cert.LatentDownFwdRefIdeal.main_arg0) = m' ((c.tc : Thread Cert.LatentDownFwdRefIdeal.nD Cert.LatentDownFwdRefIdeal.τ).loc Cert.LatentDownFwdRefIdeal.main_arg0)
          ∧ r.2.mem ((c.tc : Thread Cert.LatentDownFwdRefIdeal.nD Cert.LatentDownFwdRefIdeal.τ).loc Cert.LatentDownFwdRefIdeal.main_arg1) = m' ((c.tc : Thread Cert.LatentDownFwdRefIdeal.nD Cert.LatentDownFwdRefIdeal.τ).loc Cert.LatentDownFwdRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v35) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)
      ∧ m' ((c.tc : Thread Cert.HgrnOutRefIdeal.nD Cert.HgrnOutRefIdeal.τ).loc Cert.HgrnOutRefIdeal.main_arg3) = m ((c.tc : Thread Cert.HgrnOutIdeal.nD Cert.HgrnOutIdeal.τ).loc Cert.HgrnOutIdeal.main_arg3)) →
    ∃ (v0 : (c : Dev Cert.HgrnOutIdeal.nD) → Buf (Elt Ideal) ((c.tc : Thread Cert.HgrnOutIdeal.nD Cert.HgrnOutIdeal.τ).loc Cert.HgrnOutIdeal.main_v1_0)) (v1 : (c : Dev Cert.HgrnOutIdeal.nD) → Buf (Elt Ideal) ((c.tc : Thread Cert.HgrnOutIdeal.nD Cert.HgrnOutIdeal.τ).loc Cert.HgrnOutIdeal.main_v1_1)) (v2 : (c : Dev Cert.HgrnOutIdeal.nD) → Buf (Elt Ideal) ((c.tc : Thread Cert.HgrnOutIdeal.nD Cert.HgrnOutIdeal.τ).loc Cert.HgrnOutIdeal.main_v1_2)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v1_0) = v0 c
          ∧ r.2.mem ((c.tc : Thread Cert.HgrnOutIdeal.nD Cert.HgrnOutIdeal.τ).loc Cert.HgrnOutIdeal.main_v1_1) = v1 c
          ∧ r.2.mem ((c.tc : Thread Cert.HgrnOutIdeal.nD Cert.HgrnOutIdeal.τ).loc Cert.HgrnOutIdeal.main_v1_2) = v2 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v45) = v0 c
          ∧ r.2.mem ((c.tc : Thread Cert.HgrnOutRefIdeal.nD Cert.HgrnOutRefIdeal.τ).loc Cert.HgrnOutRefIdeal.main_v44) = v1 c
          ∧ r.2.mem ((c.tc : Thread Cert.HgrnOutRefIdeal.nD Cert.HgrnOutRefIdeal.τ).loc Cert.HgrnOutRefIdeal.main_v22) = v2 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2)
          ∧ r.2.mem ((c.tc : Thread Cert.HgrnOutRefIdeal.nD Cert.HgrnOutRefIdeal.τ).loc Cert.HgrnOutRefIdeal.main_arg3) = m' ((c.tc : Thread Cert.HgrnOutRefIdeal.nD Cert.HgrnOutRefIdeal.τ).loc Cert.HgrnOutRefIdeal.main_arg3))

def preserves_SsmNorm_SsmNormIdeal : Prop :=
  True

def algebraic_SsmNormIdeal_SsmNormRefIdeal [hSsmNormIdeal : Cert.SsmNormIdeal.Facts] [hSsmNormRefIdeal : Cert.SsmNormRefIdeal.Facts] : Prop :=
  ∀ (m : (ℓ : Loc Cert.SsmNormIdeal.nD Cert.SsmNormIdeal.τ Cert.SsmNormIdeal.sig) → Buf (Elt Ideal) ℓ) (g : Dev Cert.SsmNormIdeal.nD → PrngReg)
    (m' : (ℓ : Loc Cert.SsmNormRefIdeal.nD Cert.SsmNormRefIdeal.τ Cert.SsmNormRefIdeal.sig) → Buf (Elt Ideal) ℓ) (g' : Dev Cert.SsmNormRefIdeal.nD → PrngReg), Pre_SsmNormIdeal m →
    (∀ c : Dev Cert.SsmNormIdeal.nD,
      m' ((c.tc : Thread Cert.SsmNormRefIdeal.nD Cert.SsmNormRefIdeal.τ).loc Cert.SsmNormRefIdeal.main_arg0) = m ((c.tc : Thread Cert.SsmNormIdeal.nD Cert.SsmNormIdeal.τ).loc Cert.SsmNormIdeal.main_arg0)
      ∧ m' ((c.tc : Thread Cert.SsmNormRefIdeal.nD Cert.SsmNormRefIdeal.τ).loc Cert.SsmNormRefIdeal.main_arg1) = m ((c.tc : Thread Cert.SsmNormIdeal.nD Cert.SsmNormIdeal.τ).loc Cert.SsmNormIdeal.main_arg1)
      ∧ m' ((c.tc : Thread Cert.SsmNormRefIdeal.nD Cert.SsmNormRefIdeal.τ).loc Cert.SsmNormRefIdeal.main_arg2) = m ((c.tc : Thread Cert.SsmNormIdeal.nD Cert.SsmNormIdeal.τ).loc Cert.SsmNormIdeal.main_arg2)
      ∧ m' ((c.tc : Thread Cert.SsmNormRefIdeal.nD Cert.SsmNormRefIdeal.τ).loc Cert.SsmNormRefIdeal.main_arg3) = m ((c.tc : Thread Cert.SsmNormIdeal.nD Cert.SsmNormIdeal.τ).loc Cert.SsmNormIdeal.main_arg3)) →
    ∃ (v0 : (c : Dev Cert.SsmNormIdeal.nD) → Buf (Elt Ideal) ((c.tc : Thread Cert.SsmNormIdeal.nD Cert.SsmNormIdeal.τ).loc Cert.SsmNormIdeal.main_v1_0)) (v1 : (c : Dev Cert.SsmNormIdeal.nD) → Buf (Elt Ideal) ((c.tc : Thread Cert.SsmNormIdeal.nD Cert.SsmNormIdeal.τ).loc Cert.SsmNormIdeal.main_v1_1)) (v2 : (c : Dev Cert.SsmNormIdeal.nD) → Buf (Elt Ideal) ((c.tc : Thread Cert.SsmNormIdeal.nD Cert.SsmNormIdeal.τ).loc Cert.SsmNormIdeal.main_v1_2)),
      θ_run (Cert.SsmNormIdeal.defs (F := Ideal)) (onTc (τ := Cert.SsmNormIdeal.τ) (Cert.SsmNormIdeal.main (F := Ideal))) ⟨m, fun _ => 0, g⟩ (fun r => ∀ c : Dev Cert.SsmNormIdeal.nD,
          r.2.mem ((c.tc : Thread Cert.SsmNormIdeal.nD Cert.SsmNormIdeal.τ).loc Cert.SsmNormIdeal.main_v1_0) = v0 c
          ∧ r.2.mem ((c.tc : Thread Cert.SsmNormIdeal.nD Cert.SsmNormIdeal.τ).loc Cert.SsmNormIdeal.main_v1_1) = v1 c
          ∧ r.2.mem ((c.tc : Thread Cert.SsmNormIdeal.nD Cert.SsmNormIdeal.τ).loc Cert.SsmNormIdeal.main_v1_2) = v2 c
          ∧ r.2.mem ((c.tc : Thread Cert.SsmNormIdeal.nD Cert.SsmNormIdeal.τ).loc Cert.SsmNormIdeal.main_arg0) = m ((c.tc : Thread Cert.SsmNormIdeal.nD Cert.SsmNormIdeal.τ).loc Cert.SsmNormIdeal.main_arg0)
          ∧ r.2.mem ((c.tc : Thread Cert.SsmNormIdeal.nD Cert.SsmNormIdeal.τ).loc Cert.SsmNormIdeal.main_arg1) = m ((c.tc : Thread Cert.SsmNormIdeal.nD Cert.SsmNormIdeal.τ).loc Cert.SsmNormIdeal.main_arg1)
          ∧ r.2.mem ((c.tc : Thread Cert.SsmNormIdeal.nD Cert.SsmNormIdeal.τ).loc Cert.SsmNormIdeal.main_arg2) = m ((c.tc : Thread Cert.SsmNormIdeal.nD Cert.SsmNormIdeal.τ).loc Cert.SsmNormIdeal.main_arg2)
          ∧ r.2.mem ((c.tc : Thread Cert.SsmNormIdeal.nD Cert.SsmNormIdeal.τ).loc Cert.SsmNormIdeal.main_arg3) = m ((c.tc : Thread Cert.SsmNormIdeal.nD Cert.SsmNormIdeal.τ).loc Cert.SsmNormIdeal.main_arg3))
      ∧ θ_run (Cert.SsmNormRefIdeal.defs (F := Ideal)) (onTc (τ := Cert.SsmNormRefIdeal.τ) (Cert.SsmNormRefIdeal.main (F := Ideal))) ⟨m', fun _ => 0, g'⟩ (fun r => ∀ c : Dev Cert.SsmNormRefIdeal.nD,
          r.2.mem ((c.tc : Thread Cert.SsmNormRefIdeal.nD Cert.SsmNormRefIdeal.τ).loc Cert.SsmNormRefIdeal.main_v45) = v0 c
          ∧ r.2.mem ((c.tc : Thread Cert.SsmNormRefIdeal.nD Cert.SsmNormRefIdeal.τ).loc Cert.SsmNormRefIdeal.main_v43) = v1 c
          ∧ r.2.mem ((c.tc : Thread Cert.SsmNormRefIdeal.nD Cert.SsmNormRefIdeal.τ).loc Cert.SsmNormRefIdeal.main_v44) = v2 c
          ∧ r.2.mem ((c.tc : Thread Cert.SsmNormRefIdeal.nD Cert.SsmNormRefIdeal.τ).loc Cert.SsmNormRefIdeal.main_arg0) = m' ((c.tc : Thread Cert.SsmNormRefIdeal.nD Cert.SsmNormRefIdeal.τ).loc Cert.SsmNormRefIdeal.main_arg0)
          ∧ r.2.mem ((c.tc : Thread Cert.SsmNormRefIdeal.nD Cert.SsmNormRefIdeal.τ).loc Cert.SsmNormRefIdeal.main_arg1) = m' ((c.tc : Thread Cert.SsmNormRefIdeal.nD Cert.SsmNormRefIdeal.τ).loc Cert.SsmNormRefIdeal.main_arg1)
          ∧ r.2.mem ((c.tc : Thread Cert.SsmNormRefIdeal.nD Cert.SsmNormRefIdeal.τ).loc Cert.SsmNormRefIdeal.main_arg2) = m' ((c.tc : Thread Cert.SsmNormRefIdeal.nD Cert.SsmNormRefIdeal.τ).loc Cert.SsmNormRefIdeal.main_arg2)
          ∧ r.2.mem ((c.tc : Thread Cert.SsmNormRefIdeal.nD Cert.SsmNormRefIdeal.τ).loc Cert.SsmNormRefIdeal.main_arg3) = m' ((c.tc : Thread Cert.SsmNormRefIdeal.nD Cert.SsmNormRefIdeal.τ).loc Cert.SsmNormRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_v2) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)
      ∧ m' ((c.tc : Thread Cert.SiluRefIdeal.nD Cert.SiluRefIdeal.τ).loc Cert.SiluRefIdeal.main_arg1) = m ((c.tc : Thread Cert.SiluIdeal.nD Cert.SiluIdeal.τ).loc Cert.SiluIdeal.main_arg1)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v1) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0)
          ∧ r.2.mem ((c.tc : Thread Cert.SiluRefIdeal.nD Cert.SiluRefIdeal.τ).loc Cert.SiluRefIdeal.main_arg1) = m' ((c.tc : Thread Cert.SiluRefIdeal.nD Cert.SiluRefIdeal.τ).loc Cert.SiluRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_v37) = v1 c
          ∧ r.2.mem ((c.tc : Thread Cert.MergeRefIdeal.nD Cert.MergeRefIdeal.τ).loc Cert.MergeRefIdeal.main_v34) = v2 c
          ∧ r.2.mem ((c.tc : Thread Cert.MergeRefIdeal.nD Cert.MergeRefIdeal.τ).loc Cert.MergeRefIdeal.main_v42) = v3 c
          ∧ r.2.mem ((c.tc : Thread Cert.MergeRefIdeal.nD Cert.MergeRefIdeal.τ).loc Cert.MergeRefIdeal.main_v39) = v4 c
          ∧ r.2.mem ((c.tc : Thread Cert.MergeRefIdeal.nD Cert.MergeRefIdeal.τ).loc Cert.MergeRefIdeal.main_v36) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_HgrnOutFwd_HgrnOutFwdIdeal : Prop :=
  True

def algebraic_HgrnOutFwdIdeal_HgrnOutFwdRefIdeal [hHgrnOutFwdIdeal : Cert.HgrnOutFwdIdeal.Facts] [hHgrnOutFwdRefIdeal : Cert.HgrnOutFwdRefIdeal.Facts] : Prop :=
  ∀ (m : (ℓ : Loc Cert.HgrnOutFwdIdeal.nD Cert.HgrnOutFwdIdeal.τ Cert.HgrnOutFwdIdeal.sig) → Buf (Elt Ideal) ℓ) (g : Dev Cert.HgrnOutFwdIdeal.nD → PrngReg)
    (m' : (ℓ : Loc Cert.HgrnOutFwdRefIdeal.nD Cert.HgrnOutFwdRefIdeal.τ Cert.HgrnOutFwdRefIdeal.sig) → Buf (Elt Ideal) ℓ) (g' : Dev Cert.HgrnOutFwdRefIdeal.nD → PrngReg), Pre_HgrnOutFwdIdeal m →
    (∀ c : Dev Cert.HgrnOutFwdIdeal.nD,
      m' ((c.tc : Thread Cert.HgrnOutFwdRefIdeal.nD Cert.HgrnOutFwdRefIdeal.τ).loc Cert.HgrnOutFwdRefIdeal.main_arg0) = m ((c.tc : Thread Cert.HgrnOutFwdIdeal.nD Cert.HgrnOutFwdIdeal.τ).loc Cert.HgrnOutFwdIdeal.main_arg0)
      ∧ m' ((c.tc : Thread Cert.HgrnOutFwdRefIdeal.nD Cert.HgrnOutFwdRefIdeal.τ).loc Cert.HgrnOutFwdRefIdeal.main_arg1) = m ((c.tc : Thread Cert.HgrnOutFwdIdeal.nD Cert.HgrnOutFwdIdeal.τ).loc Cert.HgrnOutFwdIdeal.main_arg1)
      ∧ m' ((c.tc : Thread Cert.HgrnOutFwdRefIdeal.nD Cert.HgrnOutFwdRefIdeal.τ).loc Cert.HgrnOutFwdRefIdeal.main_arg2) = m ((c.tc : Thread Cert.HgrnOutFwdIdeal.nD Cert.HgrnOutFwdIdeal.τ).loc Cert.HgrnOutFwdIdeal.main_arg2)) →
    ∃ (v0 : (c : Dev Cert.HgrnOutFwdIdeal.nD) → Buf (Elt Ideal) ((c.tc : Thread Cert.HgrnOutFwdIdeal.nD Cert.HgrnOutFwdIdeal.τ).loc Cert.HgrnOutFwdIdeal.main_v1)),
      θ_run (Cert.HgrnOutFwdIdeal.defs (F := Ideal)) (onTc (τ := Cert.HgrnOutFwdIdeal.τ) (Cert.HgrnOutFwdIdeal.main (F := Ideal))) ⟨m, fun _ => 0, g⟩ (fun r => ∀ c : Dev Cert.HgrnOutFwdIdeal.nD,
          r.2.mem ((c.tc : Thread Cert.HgrnOutFwdIdeal.nD Cert.HgrnOutFwdIdeal.τ).loc Cert.HgrnOutFwdIdeal.main_v1) = v0 c
          ∧ r.2.mem ((c.tc : Thread Cert.HgrnOutFwdIdeal.nD Cert.HgrnOutFwdIdeal.τ).loc Cert.HgrnOutFwdIdeal.main_arg0) = m ((c.tc : Thread Cert.HgrnOutFwdIdeal.nD Cert.HgrnOutFwdIdeal.τ).loc Cert.HgrnOutFwdIdeal.main_arg0)
          ∧ r.2.mem ((c.tc : Thread Cert.HgrnOutFwdIdeal.nD Cert.HgrnOutFwdIdeal.τ).loc Cert.HgrnOutFwdIdeal.main_arg1) = m ((c.tc : Thread Cert.HgrnOutFwdIdeal.nD Cert.HgrnOutFwdIdeal.τ).loc Cert.HgrnOutFwdIdeal.main_arg1)
          ∧ r.2.mem ((c.tc : Thread Cert.HgrnOutFwdIdeal.nD Cert.HgrnOutFwdIdeal.τ).loc Cert.HgrnOutFwdIdeal.main_arg2) = m ((c.tc : Thread Cert.HgrnOutFwdIdeal.nD Cert.HgrnOutFwdIdeal.τ).loc Cert.HgrnOutFwdIdeal.main_arg2))
      ∧ θ_run (Cert.HgrnOutFwdRefIdeal.defs (F := Ideal)) (onTc (τ := Cert.HgrnOutFwdRefIdeal.τ) (Cert.HgrnOutFwdRefIdeal.main (F := Ideal))) ⟨m', fun _ => 0, g'⟩ (fun r => ∀ c : Dev Cert.HgrnOutFwdRefIdeal.nD,
          r.2.mem ((c.tc : Thread Cert.HgrnOutFwdRefIdeal.nD Cert.HgrnOutFwdRefIdeal.τ).loc Cert.HgrnOutFwdRefIdeal.main_v16) = v0 c
          ∧ r.2.mem ((c.tc : Thread Cert.HgrnOutFwdRefIdeal.nD Cert.HgrnOutFwdRefIdeal.τ).loc Cert.HgrnOutFwdRefIdeal.main_arg0) = m' ((c.tc : Thread Cert.HgrnOutFwdRefIdeal.nD Cert.HgrnOutFwdRefIdeal.τ).loc Cert.HgrnOutFwdRefIdeal.main_arg0)
          ∧ r.2.mem ((c.tc : Thread Cert.HgrnOutFwdRefIdeal.nD Cert.HgrnOutFwdRefIdeal.τ).loc Cert.HgrnOutFwdRefIdeal.main_arg1) = m' ((c.tc : Thread Cert.HgrnOutFwdRefIdeal.nD Cert.HgrnOutFwdRefIdeal.τ).loc Cert.HgrnOutFwdRefIdeal.main_arg1)
          ∧ r.2.mem ((c.tc : Thread Cert.HgrnOutFwdRefIdeal.nD Cert.HgrnOutFwdRefIdeal.τ).loc Cert.HgrnOutFwdRefIdeal.main_arg2) = m' ((c.tc : Thread Cert.HgrnOutFwdRefIdeal.nD Cert.HgrnOutFwdRefIdeal.τ).loc Cert.HgrnOutFwdRefIdeal.main_arg2))

def preserves_SsmNormFwd_SsmNormFwdIdeal : Prop :=
  True

def algebraic_SsmNormFwdIdeal_SsmNormFwdRefIdeal [hSsmNormFwdIdeal : Cert.SsmNormFwdIdeal.Facts] [hSsmNormFwdRefIdeal : Cert.SsmNormFwdRefIdeal.Facts] : Prop :=
  ∀ (m : (ℓ : Loc Cert.SsmNormFwdIdeal.nD Cert.SsmNormFwdIdeal.τ Cert.SsmNormFwdIdeal.sig) → Buf (Elt Ideal) ℓ) (g : Dev Cert.SsmNormFwdIdeal.nD → PrngReg)
    (m' : (ℓ : Loc Cert.SsmNormFwdRefIdeal.nD Cert.SsmNormFwdRefIdeal.τ Cert.SsmNormFwdRefIdeal.sig) → Buf (Elt Ideal) ℓ) (g' : Dev Cert.SsmNormFwdRefIdeal.nD → PrngReg), Pre_SsmNormFwdIdeal m →
    (∀ c : Dev Cert.SsmNormFwdIdeal.nD,
      m' ((c.tc : Thread Cert.SsmNormFwdRefIdeal.nD Cert.SsmNormFwdRefIdeal.τ).loc Cert.SsmNormFwdRefIdeal.main_arg0) = m ((c.tc : Thread Cert.SsmNormFwdIdeal.nD Cert.SsmNormFwdIdeal.τ).loc Cert.SsmNormFwdIdeal.main_arg0)
      ∧ m' ((c.tc : Thread Cert.SsmNormFwdRefIdeal.nD Cert.SsmNormFwdRefIdeal.τ).loc Cert.SsmNormFwdRefIdeal.main_arg1) = m ((c.tc : Thread Cert.SsmNormFwdIdeal.nD Cert.SsmNormFwdIdeal.τ).loc Cert.SsmNormFwdIdeal.main_arg1)
      ∧ m' ((c.tc : Thread Cert.SsmNormFwdRefIdeal.nD Cert.SsmNormFwdRefIdeal.τ).loc Cert.SsmNormFwdRefIdeal.main_arg2) = m ((c.tc : Thread Cert.SsmNormFwdIdeal.nD Cert.SsmNormFwdIdeal.τ).loc Cert.SsmNormFwdIdeal.main_arg2)) →
    ∃ (v0 : (c : Dev Cert.SsmNormFwdIdeal.nD) → Buf (Elt Ideal) ((c.tc : Thread Cert.SsmNormFwdIdeal.nD Cert.SsmNormFwdIdeal.τ).loc Cert.SsmNormFwdIdeal.main_v1)),
      θ_run (Cert.SsmNormFwdIdeal.defs (F := Ideal)) (onTc (τ := Cert.SsmNormFwdIdeal.τ) (Cert.SsmNormFwdIdeal.main (F := Ideal))) ⟨m, fun _ => 0, g⟩ (fun r => ∀ c : Dev Cert.SsmNormFwdIdeal.nD,
          r.2.mem ((c.tc : Thread Cert.SsmNormFwdIdeal.nD Cert.SsmNormFwdIdeal.τ).loc Cert.SsmNormFwdIdeal.main_v1) = v0 c
          ∧ r.2.mem ((c.tc : Thread Cert.SsmNormFwdIdeal.nD Cert.SsmNormFwdIdeal.τ).loc Cert.SsmNormFwdIdeal.main_arg0) = m ((c.tc : Thread Cert.SsmNormFwdIdeal.nD Cert.SsmNormFwdIdeal.τ).loc Cert.SsmNormFwdIdeal.main_arg0)
          ∧ r.2.mem ((c.tc : Thread Cert.SsmNormFwdIdeal.nD Cert.SsmNormFwdIdeal.τ).loc Cert.SsmNormFwdIdeal.main_arg1) = m ((c.tc : Thread Cert.SsmNormFwdIdeal.nD Cert.SsmNormFwdIdeal.τ).loc Cert.SsmNormFwdIdeal.main_arg1)
          ∧ r.2.mem ((c.tc : Thread Cert.SsmNormFwdIdeal.nD Cert.SsmNormFwdIdeal.τ).loc Cert.SsmNormFwdIdeal.main_arg2) = m ((c.tc : Thread Cert.SsmNormFwdIdeal.nD Cert.SsmNormFwdIdeal.τ).loc Cert.SsmNormFwdIdeal.main_arg2))
      ∧ θ_run (Cert.SsmNormFwdRefIdeal.defs (F := Ideal)) (onTc (τ := Cert.SsmNormFwdRefIdeal.τ) (Cert.SsmNormFwdRefIdeal.main (F := Ideal))) ⟨m', fun _ => 0, g'⟩ (fun r => ∀ c : Dev Cert.SsmNormFwdRefIdeal.nD,
          r.2.mem ((c.tc : Thread Cert.SsmNormFwdRefIdeal.nD Cert.SsmNormFwdRefIdeal.τ).loc Cert.SsmNormFwdRefIdeal.main_v16) = v0 c
          ∧ r.2.mem ((c.tc : Thread Cert.SsmNormFwdRefIdeal.nD Cert.SsmNormFwdRefIdeal.τ).loc Cert.SsmNormFwdRefIdeal.main_arg0) = m' ((c.tc : Thread Cert.SsmNormFwdRefIdeal.nD Cert.SsmNormFwdRefIdeal.τ).loc Cert.SsmNormFwdRefIdeal.main_arg0)
          ∧ r.2.mem ((c.tc : Thread Cert.SsmNormFwdRefIdeal.nD Cert.SsmNormFwdRefIdeal.τ).loc Cert.SsmNormFwdRefIdeal.main_arg1) = m' ((c.tc : Thread Cert.SsmNormFwdRefIdeal.nD Cert.SsmNormFwdRefIdeal.τ).loc Cert.SsmNormFwdRefIdeal.main_arg1)
          ∧ r.2.mem ((c.tc : Thread Cert.SsmNormFwdRefIdeal.nD Cert.SsmNormFwdRefIdeal.τ).loc Cert.SsmNormFwdRefIdeal.main_arg2) = m' ((c.tc : Thread Cert.SsmNormFwdRefIdeal.nD Cert.SsmNormFwdRefIdeal.τ).loc Cert.SsmNormFwdRefIdeal.main_arg2))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v1) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_SiluFwd_SiluFwdIdeal : Prop :=
  True

def algebraic_SiluFwdIdeal_SiluFwdRefIdeal [hSiluFwdIdeal : Cert.SiluFwdIdeal.Facts] [hSiluFwdRefIdeal : Cert.SiluFwdRefIdeal.Facts] : Prop :=
  ∀ (m : (ℓ : Loc Cert.SiluFwdIdeal.nD Cert.SiluFwdIdeal.τ Cert.SiluFwdIdeal.sig) → Buf (Elt Ideal) ℓ) (g : Dev Cert.SiluFwdIdeal.nD → PrngReg)
    (m' : (ℓ : Loc Cert.SiluFwdRefIdeal.nD Cert.SiluFwdRefIdeal.τ Cert.SiluFwdRefIdeal.sig) → Buf (Elt Ideal) ℓ) (g' : Dev Cert.SiluFwdRefIdeal.nD → PrngReg), Pre_SiluFwdIdeal m →
    (∀ c : Dev Cert.SiluFwdIdeal.nD,
      m' ((c.tc : Thread Cert.SiluFwdRefIdeal.nD Cert.SiluFwdRefIdeal.τ).loc Cert.SiluFwdRefIdeal.main_arg0) = m ((c.tc : Thread Cert.SiluFwdIdeal.nD Cert.SiluFwdIdeal.τ).loc Cert.SiluFwdIdeal.main_arg0)) →
    ∃ (v0 : (c : Dev Cert.SiluFwdIdeal.nD) → Buf (Elt Ideal) ((c.tc : Thread Cert.SiluFwdIdeal.nD Cert.SiluFwdIdeal.τ).loc Cert.SiluFwdIdeal.main_v0)),
      θ_run (Cert.SiluFwdIdeal.defs (F := Ideal)) (onTc (τ := Cert.SiluFwdIdeal.τ) (Cert.SiluFwdIdeal.main (F := Ideal))) ⟨m, fun _ => 0, g⟩ (fun r => ∀ c : Dev Cert.SiluFwdIdeal.nD,
          r.2.mem ((c.tc : Thread Cert.SiluFwdIdeal.nD Cert.SiluFwdIdeal.τ).loc Cert.SiluFwdIdeal.main_v0) = v0 c
          ∧ r.2.mem ((c.tc : Thread Cert.SiluFwdIdeal.nD Cert.SiluFwdIdeal.τ).loc Cert.SiluFwdIdeal.main_arg0) = m ((c.tc : Thread Cert.SiluFwdIdeal.nD Cert.SiluFwdIdeal.τ).loc Cert.SiluFwdIdeal.main_arg0))
      ∧ θ_run (Cert.SiluFwdRefIdeal.defs (F := Ideal)) (onTc (τ := Cert.SiluFwdRefIdeal.τ) (Cert.SiluFwdRefIdeal.main (F := Ideal))) ⟨m', fun _ => 0, g'⟩ (fun r => ∀ c : Dev Cert.SiluFwdRefIdeal.nD,
          r.2.mem ((c.tc : Thread Cert.SiluFwdRefIdeal.nD Cert.SiluFwdRefIdeal.τ).loc Cert.SiluFwdRefIdeal.main_v0) = v0 c
          ∧ r.2.mem ((c.tc : Thread Cert.SiluFwdRefIdeal.nD Cert.SiluFwdRefIdeal.τ).loc Cert.SiluFwdRefIdeal.main_arg0) = m' ((c.tc : Thread Cert.SiluFwdRefIdeal.nD Cert.SiluFwdRefIdeal.τ).loc Cert.SiluFwdRefIdeal.main_arg0))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v22) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def Claim : Prop :=
  ∃ (hKernel : Cert.Kernel.Facts) (hKernelIdeal : Cert.KernelIdeal.Facts) (hReferenceIdeal : Cert.ReferenceIdeal.Facts) (hFfnInDa : Cert.FfnInDa.Facts) (hFfnInDaIdeal : Cert.FfnInDaIdeal.Facts) (hFfnInDaRefIdeal : Cert.FfnInDaRefIdeal.Facts) (hFfnInDw : Cert.FfnInDw.Facts) (hFfnInDwIdeal : Cert.FfnInDwIdeal.Facts) (hFfnInDwRefIdeal : Cert.FfnInDwRefIdeal.Facts) (hFfnInFwd : Cert.FfnInFwd.Facts) (hFfnInFwdIdeal : Cert.FfnInFwdIdeal.Facts) (hFfnInFwdRefIdeal : Cert.FfnInFwdRefIdeal.Facts) (hFfnOutDa : Cert.FfnOutDa.Facts) (hFfnOutDaIdeal : Cert.FfnOutDaIdeal.Facts) (hFfnOutDaRefIdeal : Cert.FfnOutDaRefIdeal.Facts) (hFfnOutDw : Cert.FfnOutDw.Facts) (hFfnOutDwIdeal : Cert.FfnOutDwIdeal.Facts) (hFfnOutDwRefIdeal : Cert.FfnOutDwRefIdeal.Facts) (hFfnOutFwd : Cert.FfnOutFwd.Facts) (hFfnOutFwdIdeal : Cert.FfnOutFwdIdeal.Facts) (hFfnOutFwdRefIdeal : Cert.FfnOutFwdRefIdeal.Facts) (hSquareDa : Cert.SquareDa.Facts) (hSquareDaIdeal : Cert.SquareDaIdeal.Facts) (hSquareDaRefIdeal : Cert.SquareDaRefIdeal.Facts) (hSquareDw : Cert.SquareDw.Facts) (hSquareDwIdeal : Cert.SquareDwIdeal.Facts) (hSquareDwRefIdeal : Cert.SquareDwRefIdeal.Facts) (hSquareFwd : Cert.SquareFwd.Facts) (hSquareFwdIdeal : Cert.SquareFwdIdeal.Facts) (hSquareFwdRefIdeal : Cert.SquareFwdRefIdeal.Facts) (hSsmInDa : Cert.SsmInDa.Facts) (hSsmInDaIdeal : Cert.SsmInDaIdeal.Facts) (hSsmInDaRefIdeal : Cert.SsmInDaRefIdeal.Facts) (hSsmInDw : Cert.SsmInDw.Facts) (hSsmInDwIdeal : Cert.SsmInDwIdeal.Facts) (hSsmInDwRefIdeal : Cert.SsmInDwRefIdeal.Facts) (hSsmInFwd : Cert.SsmInFwd.Facts) (hSsmInFwdIdeal : Cert.SsmInFwdIdeal.Facts) (hSsmInFwdRefIdeal : Cert.SsmInFwdRefIdeal.Facts) (hSsmGateDa : Cert.SsmGateDa.Facts) (hSsmGateDaIdeal : Cert.SsmGateDaIdeal.Facts) (hSsmGateDaRefIdeal : Cert.SsmGateDaRefIdeal.Facts) (hSsmGateDw : Cert.SsmGateDw.Facts) (hSsmGateDwIdeal : Cert.SsmGateDwIdeal.Facts) (hSsmGateDwRefIdeal : Cert.SsmGateDwRefIdeal.Facts) (hSsmGateFwd : Cert.SsmGateFwd.Facts) (hSsmGateFwdIdeal : Cert.SsmGateFwdIdeal.Facts) (hSsmGateFwdRefIdeal : Cert.SsmGateFwdRefIdeal.Facts) (hSsmOutDa : Cert.SsmOutDa.Facts) (hSsmOutDaIdeal : Cert.SsmOutDaIdeal.Facts) (hSsmOutDaRefIdeal : Cert.SsmOutDaRefIdeal.Facts) (hSsmOutDw : Cert.SsmOutDw.Facts) (hSsmOutDwIdeal : Cert.SsmOutDwIdeal.Facts) (hSsmOutDwRefIdeal : Cert.SsmOutDwRefIdeal.Facts) (hSsmOutFwd : Cert.SsmOutFwd.Facts) (hSsmOutFwdIdeal : Cert.SsmOutFwdIdeal.Facts) (hSsmOutFwdRefIdeal : Cert.SsmOutFwdRefIdeal.Facts) (hLatentUpDa : Cert.LatentUpDa.Facts) (hLatentUpDaIdeal : Cert.LatentUpDaIdeal.Facts) (hLatentUpDaRefIdeal : Cert.LatentUpDaRefIdeal.Facts) (hLatentUpDw : Cert.LatentUpDw.Facts) (hLatentUpDwIdeal : Cert.LatentUpDwIdeal.Facts) (hLatentUpDwRefIdeal : Cert.LatentUpDwRefIdeal.Facts) (hLatentUpFwd : Cert.LatentUpFwd.Facts) (hLatentUpFwdIdeal : Cert.LatentUpFwdIdeal.Facts) (hLatentUpFwdRefIdeal : Cert.LatentUpFwdRefIdeal.Facts) (hLatentDownDa : Cert.LatentDownDa.Facts) (hLatentDownDaIdeal : Cert.LatentDownDaIdeal.Facts) (hLatentDownDaRefIdeal : Cert.LatentDownDaRefIdeal.Facts) (hLatentDownDw : Cert.LatentDownDw.Facts) (hLatentDownDwIdeal : Cert.LatentDownDwIdeal.Facts) (hLatentDownDwRefIdeal : Cert.LatentDownDwRefIdeal.Facts) (hLatentDownFwd : Cert.LatentDownFwd.Facts) (hLatentDownFwdIdeal : Cert.LatentDownFwdIdeal.Facts) (hLatentDownFwdRefIdeal : Cert.LatentDownFwdRefIdeal.Facts) (hNorm : Cert.Norm.Facts) (hNormIdeal : Cert.NormIdeal.Facts) (hNormRefIdeal : Cert.NormRefIdeal.Facts) (hHgrnOut : Cert.HgrnOut.Facts) (hHgrnOutIdeal : Cert.HgrnOutIdeal.Facts) (hHgrnOutRefIdeal : Cert.HgrnOutRefIdeal.Facts) (hSsmNorm : Cert.SsmNorm.Facts) (hSsmNormIdeal : Cert.SsmNormIdeal.Facts) (hSsmNormRefIdeal : Cert.SsmNormRefIdeal.Facts) (hSwiglu : Cert.Swiglu.Facts) (hSwigluIdeal : Cert.SwigluIdeal.Facts) (hSwigluRefIdeal : Cert.SwigluRefIdeal.Facts) (hSilu : Cert.Silu.Facts) (hSiluIdeal : Cert.SiluIdeal.Facts) (hSiluRefIdeal : Cert.SiluRefIdeal.Facts) (hMerge : Cert.Merge.Facts) (hMergeIdeal : Cert.MergeIdeal.Facts) (hMergeRefIdeal : Cert.MergeRefIdeal.Facts) (hNormFwd : Cert.NormFwd.Facts) (hNormFwdIdeal : Cert.NormFwdIdeal.Facts) (hNormFwdRefIdeal : Cert.NormFwdRefIdeal.Facts) (hHgrnOutFwd : Cert.HgrnOutFwd.Facts) (hHgrnOutFwdIdeal : Cert.HgrnOutFwdIdeal.Facts) (hHgrnOutFwdRefIdeal : Cert.HgrnOutFwdRefIdeal.Facts) (hSsmNormFwd : Cert.SsmNormFwd.Facts) (hSsmNormFwdIdeal : Cert.SsmNormFwdIdeal.Facts) (hSsmNormFwdRefIdeal : Cert.SsmNormFwdRefIdeal.Facts) (hSwigluFwd : Cert.SwigluFwd.Facts) (hSwigluFwdIdeal : Cert.SwigluFwdIdeal.Facts) (hSwigluFwdRefIdeal : Cert.SwigluFwdRefIdeal.Facts) (hSiluFwd : Cert.SiluFwd.Facts) (hSiluFwdIdeal : Cert.SiluFwdIdeal.Facts) (hSiluFwdRefIdeal : Cert.SiluFwdRefIdeal.Facts) (hMergeFwd : Cert.MergeFwd.Facts) (hMergeFwdIdeal : Cert.MergeFwdIdeal.Facts) (hMergeFwdRefIdeal : Cert.MergeFwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnInDa (hFfnInDa := hFfnInDa)
    ∧ quiescent_FfnInDaIdeal (hFfnInDaIdeal := hFfnInDaIdeal)
    ∧ quiescent_FfnInDaRefIdeal (hFfnInDaRefIdeal := hFfnInDaRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnInFwd (hFfnInFwd := hFfnInFwd)
    ∧ quiescent_FfnInFwdIdeal (hFfnInFwdIdeal := hFfnInFwdIdeal)
    ∧ quiescent_FfnInFwdRefIdeal (hFfnInFwdRefIdeal := hFfnInFwdRefIdeal)
    ∧ quiescent_FfnOutDa (hFfnOutDa := hFfnOutDa)
    ∧ quiescent_FfnOutDaIdeal (hFfnOutDaIdeal := hFfnOutDaIdeal)
    ∧ quiescent_FfnOutDaRefIdeal (hFfnOutDaRefIdeal := hFfnOutDaRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnOutFwd (hFfnOutFwd := hFfnOutFwd)
    ∧ quiescent_FfnOutFwdIdeal (hFfnOutFwdIdeal := hFfnOutFwdIdeal)
    ∧ quiescent_FfnOutFwdRefIdeal (hFfnOutFwdRefIdeal := hFfnOutFwdRefIdeal)
    ∧ quiescent_SquareDa (hSquareDa := hSquareDa)
    ∧ quiescent_SquareDaIdeal (hSquareDaIdeal := hSquareDaIdeal)
    ∧ quiescent_SquareDaRefIdeal (hSquareDaRefIdeal := hSquareDaRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_SquareFwd (hSquareFwd := hSquareFwd)
    ∧ quiescent_SquareFwdIdeal (hSquareFwdIdeal := hSquareFwdIdeal)
    ∧ quiescent_SquareFwdRefIdeal (hSquareFwdRefIdeal := hSquareFwdRefIdeal)
    ∧ quiescent_SsmInDa (hSsmInDa := hSsmInDa)
    ∧ quiescent_SsmInDaIdeal (hSsmInDaIdeal := hSsmInDaIdeal)
    ∧ quiescent_SsmInDaRefIdeal (hSsmInDaRefIdeal := hSsmInDaRefIdeal)
    ∧ quiescent_SsmInDw (hSsmInDw := hSsmInDw)
    ∧ quiescent_SsmInDwIdeal (hSsmInDwIdeal := hSsmInDwIdeal)
    ∧ quiescent_SsmInDwRefIdeal (hSsmInDwRefIdeal := hSsmInDwRefIdeal)
    ∧ quiescent_SsmInFwd (hSsmInFwd := hSsmInFwd)
    ∧ quiescent_SsmInFwdIdeal (hSsmInFwdIdeal := hSsmInFwdIdeal)
    ∧ quiescent_SsmInFwdRefIdeal (hSsmInFwdRefIdeal := hSsmInFwdRefIdeal)
    ∧ quiescent_SsmGateDa (hSsmGateDa := hSsmGateDa)
    ∧ quiescent_SsmGateDaIdeal (hSsmGateDaIdeal := hSsmGateDaIdeal)
    ∧ quiescent_SsmGateDaRefIdeal (hSsmGateDaRefIdeal := hSsmGateDaRefIdeal)
    ∧ quiescent_SsmGateDw (hSsmGateDw := hSsmGateDw)
    ∧ quiescent_SsmGateDwIdeal (hSsmGateDwIdeal := hSsmGateDwIdeal)
    ∧ quiescent_SsmGateDwRefIdeal (hSsmGateDwRefIdeal := hSsmGateDwRefIdeal)
    ∧ quiescent_SsmGateFwd (hSsmGateFwd := hSsmGateFwd)
    ∧ quiescent_SsmGateFwdIdeal (hSsmGateFwdIdeal := hSsmGateFwdIdeal)
    ∧ quiescent_SsmGateFwdRefIdeal (hSsmGateFwdRefIdeal := hSsmGateFwdRefIdeal)
    ∧ quiescent_SsmOutDa (hSsmOutDa := hSsmOutDa)
    ∧ quiescent_SsmOutDaIdeal (hSsmOutDaIdeal := hSsmOutDaIdeal)
    ∧ quiescent_SsmOutDaRefIdeal (hSsmOutDaRefIdeal := hSsmOutDaRefIdeal)
    ∧ quiescent_SsmOutDw (hSsmOutDw := hSsmOutDw)
    ∧ quiescent_SsmOutDwIdeal (hSsmOutDwIdeal := hSsmOutDwIdeal)
    ∧ quiescent_SsmOutDwRefIdeal (hSsmOutDwRefIdeal := hSsmOutDwRefIdeal)
    ∧ quiescent_SsmOutFwd (hSsmOutFwd := hSsmOutFwd)
    ∧ quiescent_SsmOutFwdIdeal (hSsmOutFwdIdeal := hSsmOutFwdIdeal)
    ∧ quiescent_SsmOutFwdRefIdeal (hSsmOutFwdRefIdeal := hSsmOutFwdRefIdeal)
    ∧ quiescent_LatentUpDa (hLatentUpDa := hLatentUpDa)
    ∧ quiescent_LatentUpDaIdeal (hLatentUpDaIdeal := hLatentUpDaIdeal)
    ∧ quiescent_LatentUpDaRefIdeal (hLatentUpDaRefIdeal := hLatentUpDaRefIdeal)
    ∧ quiescent_LatentUpDw (hLatentUpDw := hLatentUpDw)
    ∧ quiescent_LatentUpDwIdeal (hLatentUpDwIdeal := hLatentUpDwIdeal)
    ∧ quiescent_LatentUpDwRefIdeal (hLatentUpDwRefIdeal := hLatentUpDwRefIdeal)
    ∧ quiescent_LatentUpFwd (hLatentUpFwd := hLatentUpFwd)
    ∧ quiescent_LatentUpFwdIdeal (hLatentUpFwdIdeal := hLatentUpFwdIdeal)
    ∧ quiescent_LatentUpFwdRefIdeal (hLatentUpFwdRefIdeal := hLatentUpFwdRefIdeal)
    ∧ quiescent_LatentDownDa (hLatentDownDa := hLatentDownDa)
    ∧ quiescent_LatentDownDaIdeal (hLatentDownDaIdeal := hLatentDownDaIdeal)
    ∧ quiescent_LatentDownDaRefIdeal (hLatentDownDaRefIdeal := hLatentDownDaRefIdeal)
    ∧ quiescent_LatentDownDw (hLatentDownDw := hLatentDownDw)
    ∧ quiescent_LatentDownDwIdeal (hLatentDownDwIdeal := hLatentDownDwIdeal)
    ∧ quiescent_LatentDownDwRefIdeal (hLatentDownDwRefIdeal := hLatentDownDwRefIdeal)
    ∧ quiescent_LatentDownFwd (hLatentDownFwd := hLatentDownFwd)
    ∧ quiescent_LatentDownFwdIdeal (hLatentDownFwdIdeal := hLatentDownFwdIdeal)
    ∧ quiescent_LatentDownFwdRefIdeal (hLatentDownFwdRefIdeal := hLatentDownFwdRefIdeal)
    ∧ quiescent_Norm (hNorm := hNorm)
    ∧ quiescent_NormIdeal (hNormIdeal := hNormIdeal)
    ∧ quiescent_NormRefIdeal (hNormRefIdeal := hNormRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_SsmNorm (hSsmNorm := hSsmNorm)
    ∧ quiescent_SsmNormIdeal (hSsmNormIdeal := hSsmNormIdeal)
    ∧ quiescent_SsmNormRefIdeal (hSsmNormRefIdeal := hSsmNormRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Silu (hSilu := hSilu)
    ∧ quiescent_SiluIdeal (hSiluIdeal := hSiluIdeal)
    ∧ quiescent_SiluRefIdeal (hSiluRefIdeal := hSiluRefIdeal)
    ∧ quiescent_Merge (hMerge := hMerge)
    ∧ quiescent_MergeIdeal (hMergeIdeal := hMergeIdeal)
    ∧ quiescent_MergeRefIdeal (hMergeRefIdeal := hMergeRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_HgrnOutFwd (hHgrnOutFwd := hHgrnOutFwd)
    ∧ quiescent_HgrnOutFwdIdeal (hHgrnOutFwdIdeal := hHgrnOutFwdIdeal)
    ∧ quiescent_HgrnOutFwdRefIdeal (hHgrnOutFwdRefIdeal := hHgrnOutFwdRefIdeal)
    ∧ quiescent_SsmNormFwd (hSsmNormFwd := hSsmNormFwd)
    ∧ quiescent_SsmNormFwdIdeal (hSsmNormFwdIdeal := hSsmNormFwdIdeal)
    ∧ quiescent_SsmNormFwdRefIdeal (hSsmNormFwdRefIdeal := hSsmNormFwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_SiluFwd (hSiluFwd := hSiluFwd)
    ∧ quiescent_SiluFwdIdeal (hSiluFwdIdeal := hSiluFwdIdeal)
    ∧ quiescent_SiluFwdRefIdeal (hSiluFwdRefIdeal := hSiluFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnInDa_FfnInDaIdeal
    ∧ algebraic_FfnInDaIdeal_FfnInDaRefIdeal (hFfnInDaIdeal := hFfnInDaIdeal) (hFfnInDaRefIdeal := hFfnInDaRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnInFwd_FfnInFwdIdeal
    ∧ algebraic_FfnInFwdIdeal_FfnInFwdRefIdeal (hFfnInFwdIdeal := hFfnInFwdIdeal) (hFfnInFwdRefIdeal := hFfnInFwdRefIdeal)
    ∧ preserves_FfnOutDa_FfnOutDaIdeal
    ∧ algebraic_FfnOutDaIdeal_FfnOutDaRefIdeal (hFfnOutDaIdeal := hFfnOutDaIdeal) (hFfnOutDaRefIdeal := hFfnOutDaRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnOutFwd_FfnOutFwdIdeal
    ∧ algebraic_FfnOutFwdIdeal_FfnOutFwdRefIdeal (hFfnOutFwdIdeal := hFfnOutFwdIdeal) (hFfnOutFwdRefIdeal := hFfnOutFwdRefIdeal)
    ∧ preserves_SquareDa_SquareDaIdeal
    ∧ algebraic_SquareDaIdeal_SquareDaRefIdeal (hSquareDaIdeal := hSquareDaIdeal) (hSquareDaRefIdeal := hSquareDaRefIdeal)
    ∧ preserves_SquareDw_SquareDwIdeal
    ∧ algebraic_SquareDwIdeal_SquareDwRefIdeal (hSquareDwIdeal := hSquareDwIdeal) (hSquareDwRefIdeal := hSquareDwRefIdeal)
    ∧ preserves_SquareFwd_SquareFwdIdeal
    ∧ algebraic_SquareFwdIdeal_SquareFwdRefIdeal (hSquareFwdIdeal := hSquareFwdIdeal) (hSquareFwdRefIdeal := hSquareFwdRefIdeal)
    ∧ preserves_SsmInDa_SsmInDaIdeal
    ∧ algebraic_SsmInDaIdeal_SsmInDaRefIdeal (hSsmInDaIdeal := hSsmInDaIdeal) (hSsmInDaRefIdeal := hSsmInDaRefIdeal)
    ∧ preserves_SsmInDw_SsmInDwIdeal
    ∧ algebraic_SsmInDwIdeal_SsmInDwRefIdeal (hSsmInDwIdeal := hSsmInDwIdeal) (hSsmInDwRefIdeal := hSsmInDwRefIdeal)
    ∧ preserves_SsmInFwd_SsmInFwdIdeal
    ∧ algebraic_SsmInFwdIdeal_SsmInFwdRefIdeal (hSsmInFwdIdeal := hSsmInFwdIdeal) (hSsmInFwdRefIdeal := hSsmInFwdRefIdeal)
    ∧ preserves_SsmGateDa_SsmGateDaIdeal
    ∧ algebraic_SsmGateDaIdeal_SsmGateDaRefIdeal (hSsmGateDaIdeal := hSsmGateDaIdeal) (hSsmGateDaRefIdeal := hSsmGateDaRefIdeal)
    ∧ preserves_SsmGateDw_SsmGateDwIdeal
    ∧ algebraic_SsmGateDwIdeal_SsmGateDwRefIdeal (hSsmGateDwIdeal := hSsmGateDwIdeal) (hSsmGateDwRefIdeal := hSsmGateDwRefIdeal)
    ∧ preserves_SsmGateFwd_SsmGateFwdIdeal
    ∧ algebraic_SsmGateFwdIdeal_SsmGateFwdRefIdeal (hSsmGateFwdIdeal := hSsmGateFwdIdeal) (hSsmGateFwdRefIdeal := hSsmGateFwdRefIdeal)
    ∧ preserves_SsmOutDa_SsmOutDaIdeal
    ∧ algebraic_SsmOutDaIdeal_SsmOutDaRefIdeal (hSsmOutDaIdeal := hSsmOutDaIdeal) (hSsmOutDaRefIdeal := hSsmOutDaRefIdeal)
    ∧ preserves_SsmOutDw_SsmOutDwIdeal
    ∧ algebraic_SsmOutDwIdeal_SsmOutDwRefIdeal (hSsmOutDwIdeal := hSsmOutDwIdeal) (hSsmOutDwRefIdeal := hSsmOutDwRefIdeal)
    ∧ preserves_SsmOutFwd_SsmOutFwdIdeal
    ∧ algebraic_SsmOutFwdIdeal_SsmOutFwdRefIdeal (hSsmOutFwdIdeal := hSsmOutFwdIdeal) (hSsmOutFwdRefIdeal := hSsmOutFwdRefIdeal)
    ∧ preserves_LatentUpDa_LatentUpDaIdeal
    ∧ algebraic_LatentUpDaIdeal_LatentUpDaRefIdeal (hLatentUpDaIdeal := hLatentUpDaIdeal) (hLatentUpDaRefIdeal := hLatentUpDaRefIdeal)
    ∧ preserves_LatentUpDw_LatentUpDwIdeal
    ∧ algebraic_LatentUpDwIdeal_LatentUpDwRefIdeal (hLatentUpDwIdeal := hLatentUpDwIdeal) (hLatentUpDwRefIdeal := hLatentUpDwRefIdeal)
    ∧ preserves_LatentUpFwd_LatentUpFwdIdeal
    ∧ algebraic_LatentUpFwdIdeal_LatentUpFwdRefIdeal (hLatentUpFwdIdeal := hLatentUpFwdIdeal) (hLatentUpFwdRefIdeal := hLatentUpFwdRefIdeal)
    ∧ preserves_LatentDownDa_LatentDownDaIdeal
    ∧ algebraic_LatentDownDaIdeal_LatentDownDaRefIdeal (hLatentDownDaIdeal := hLatentDownDaIdeal) (hLatentDownDaRefIdeal := hLatentDownDaRefIdeal)
    ∧ preserves_LatentDownDw_LatentDownDwIdeal
    ∧ algebraic_LatentDownDwIdeal_LatentDownDwRefIdeal (hLatentDownDwIdeal := hLatentDownDwIdeal) (hLatentDownDwRefIdeal := hLatentDownDwRefIdeal)
    ∧ preserves_LatentDownFwd_LatentDownFwdIdeal
    ∧ algebraic_LatentDownFwdIdeal_LatentDownFwdRefIdeal (hLatentDownFwdIdeal := hLatentDownFwdIdeal) (hLatentDownFwdRefIdeal := hLatentDownFwdRefIdeal)
    ∧ preserves_Norm_NormIdeal
    ∧ algebraic_NormIdeal_NormRefIdeal (hNormIdeal := hNormIdeal) (hNormRefIdeal := hNormRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_SsmNorm_SsmNormIdeal
    ∧ algebraic_SsmNormIdeal_SsmNormRefIdeal (hSsmNormIdeal := hSsmNormIdeal) (hSsmNormRefIdeal := hSsmNormRefIdeal)
    ∧ preserves_Swiglu_SwigluIdeal
    ∧ algebraic_SwigluIdeal_SwigluRefIdeal (hSwigluIdeal := hSwigluIdeal) (hSwigluRefIdeal := hSwigluRefIdeal)
    ∧ preserves_Silu_SiluIdeal
    ∧ algebraic_SiluIdeal_SiluRefIdeal (hSiluIdeal := hSiluIdeal) (hSiluRefIdeal := hSiluRefIdeal)
    ∧ preserves_Merge_MergeIdeal
    ∧ algebraic_MergeIdeal_MergeRefIdeal (hMergeIdeal := hMergeIdeal) (hMergeRefIdeal := hMergeRefIdeal)
    ∧ preserves_NormFwd_NormFwdIdeal
    ∧ algebraic_NormFwdIdeal_NormFwdRefIdeal (hNormFwdIdeal := hNormFwdIdeal) (hNormFwdRefIdeal := hNormFwdRefIdeal)
    ∧ preserves_HgrnOutFwd_HgrnOutFwdIdeal
    ∧ algebraic_HgrnOutFwdIdeal_HgrnOutFwdRefIdeal (hHgrnOutFwdIdeal := hHgrnOutFwdIdeal) (hHgrnOutFwdRefIdeal := hHgrnOutFwdRefIdeal)
    ∧ preserves_SsmNormFwd_SsmNormFwdIdeal
    ∧ algebraic_SsmNormFwdIdeal_SsmNormFwdRefIdeal (hSsmNormFwdIdeal := hSsmNormFwdIdeal) (hSsmNormFwdRefIdeal := hSsmNormFwdRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_SiluFwd_SiluFwdIdeal
    ∧ algebraic_SiluFwdIdeal_SiluFwdRefIdeal (hSiluFwdIdeal := hSiluFwdIdeal) (hSiluFwdRefIdeal := hSiluFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
-- ==== Pre_finite.lean ====
abbrev S8192x16x128 : Shape := ⟨3, ![8192, 16, 128]⟩
abbrev S8192x16x64 : Shape := ⟨3, ![8192, 16, 64]⟩
abbrev S8192x64 : Shape := ⟨2, ![8192, 64]⟩
abbrev S8192x2048 : Shape := ⟨2, ![8192, 2048]⟩
abbrev S_ : Shape := ⟨0, ![]⟩

class Facts : Prop where
  bcast_S_S8192x16x128 : S_.BroadcastsInDim S8192x16x128 (![] : Fin 0 → Fin S8192x16x128.rank)
  bcast_S_S8192x16x64 : S_.BroadcastsInDim S8192x16x64 (![] : Fin 0 → Fin S8192x16x64.rank)
  bcast_S_S8192x64 : S_.BroadcastsInDim S8192x64 (![] : Fin 0 → Fin S8192x64.rank)
  bcast_S_S8192x2048 : S_.BroadcastsInDim S8192x2048 (![] : Fin 0 → Fin S8192x2048.rank)

variable [Facts]

def fn {F : FTy → Type} [FloatOps F] (main_arg0 : FVec F S8192x16x128 .f32) (main_arg1 : FVec F S8192x16x64 .f32) (main_arg2 : FVec F S8192x16x128 .f32) (main_arg3 : FVec F S8192x64 .f32) (main_arg4 : FVec F S8192x16x128 .f32) (main_arg5 : FVec F S8192x2048 .f32) : IVec S8192x16x128 1 × IVec S8192x16x64 1 × IVec S8192x16x128 1 × IVec S8192x64 1 × IVec S8192x16x128 1 × IVec S8192x2048 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_v12 : FVec F S8192x16x128 .f32 := Host.absf main_arg4
  let main_cst_3 : FVec F S_ .f32 := constant S_ .f32 0x7F800000#32
  let main_v13 : FVec F S8192x16x128 .f32 := broadcastInDim S8192x16x128 ![] bcast_S_S8192x16x128 main_cst_3
  let main_v14 : IVec S8192x16x128 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Kernel.lean ====
abbrev S8192x16x128 : Shape := ⟨3, ![8192, 16, 128]⟩
abbrev S8192x16x64 : Shape := ⟨3, ![8192, 16, 64]⟩
abbrev S8192x64 : Shape := ⟨2, ![8192, 64]⟩
abbrev S8192x2048 : Shape := ⟨2, ![8192, 2048]⟩
abbrev S8192x1x64 : Shape := ⟨3, ![8192, 1, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16 : Shape := ⟨2, ![8192, 16]⟩
abbrev S8192x16x256 : Shape := ⟨3, ![8192, 16, 256]⟩
abbrev S8192x128 : Shape := ⟨2, ![8192, 128]⟩
abbrev S8192x1x128 : Shape := ⟨3, ![8192, 1, 128]⟩
abbrev S8192x4096 : Shape := ⟨2, ![8192, 4096]⟩
abbrev S512x256 : Shape := ⟨2, ![512, 256]⟩
abbrev S1024x256 : Shape := ⟨2, ![1024, 256]⟩
abbrev S1024x128 : Shape := ⟨2, ![1024, 128]⟩
abbrev S1x512x1 : Shape := ⟨3, ![1, 512, 1]⟩
abbrev S512x128 : Shape := ⟨2, ![512, 128]⟩
abbrev S512x1024 : Shape := ⟨2, ![512, 1024]⟩
abbrev S512x1 : Shape := ⟨2, ![512, 1]⟩

abbrev nBuf : Space → Nat
  | .hbm => 130
  | .vmem => 18
  | .smem => 0
  | _ => 0

abbrev hbmTy0_0 (i : Nat) : BufTy := match i % 128 with
  | 0 => ⟨S8192x16x128, .f32⟩
  | 1 => ⟨S8192x16x64, .f32⟩
  | 2 => ⟨S8192x16x128, .f32⟩
  | 3 => ⟨S8192x64, .f32⟩
  | 4 => ⟨S8192x16x128, .f32⟩
  | 5 => ⟨S8192x2048, .f32⟩
  | 6 => ⟨S8192x1x64, .f32⟩
  | 7 => ⟨S8192x16x64, .f32⟩
  | 8 => ⟨S16x8192x8192, .f32⟩
  | 9 => ⟨S16x8192x8192, .f32⟩
  | 10 => ⟨S16x8192x8192, .f32⟩
  | 11 => ⟨S_, .f32⟩
  | 12 => ⟨S16x8192x8192, .f32⟩
  | 13 => ⟨S16x8192x8192, .f32⟩
  | 14 => ⟨S8192, .i32⟩
  | 15 => ⟨S_, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i1⟩
  | 23 => ⟨S8192, .i32⟩
  | 24 => ⟨S8192, .i32⟩
  | 25 => ⟨S_, .i32⟩
  | 26 => ⟨S8192, .i32⟩
  | 27 => ⟨S8192, .i1⟩
  | 28 => ⟨S8192, .i1⟩
  | 29 => ⟨S_, .i32⟩
  | 30 => ⟨S8192, .i32⟩
  | 31 => ⟨S8192, .i32⟩
  | 32 => ⟨S8192, .i32⟩
  | 33 => ⟨S1x8192, .i32⟩
  | 34 => ⟨S8192x1, .i32⟩
  | 35 => ⟨S8192x8192, .i32⟩
  | 36 => ⟨S8192x8192, .i32⟩
  | 37 => ⟨S8192x8192, .i1⟩
  | 38 => ⟨S_, .f32⟩
  | 39 => ⟨S_, .f32⟩
  | 40 => ⟨S16x8192x8192, .i1⟩
  | 41 => ⟨S16x8192x8192, .f32⟩
  | 42 => ⟨S16x8192x8192, .f32⟩
  | 43 => ⟨S_, .f32⟩
  | 44 => ⟨S16x8192, .f32⟩
  | 45 => ⟨S16x8192x1, .f32⟩
  | 46 => ⟨S16x8192x8192, .f32⟩
  | 47 => ⟨S16x8192x8192, .f32⟩
  | 48 => ⟨S16x8192x8192, .f32⟩
  | 49 => ⟨S_, .f32⟩
  | 50 => ⟨S16x8192, .f32⟩
  | 51 => ⟨S16x8192x1, .f32⟩
  | 52 => ⟨S16x8192x1, .f32⟩
  | 53 => ⟨S16x8192x1, .f32⟩
  | 54 => ⟨S16x8192x8192, .f32⟩
  | 55 => ⟨S16x8192x8192, .f32⟩
  | 56 => ⟨S16x8192x8192, .f32⟩
  | 57 => ⟨S_, .f32⟩
  | 58 => ⟨S16x8192x8192, .f32⟩
  | 59 => ⟨S16x8192x8192, .f32⟩
  | 60 => ⟨S8192, .i32⟩
  | 61 => ⟨S_, .i32⟩
  | 62 => ⟨S_, .i32⟩
  | 63 => ⟨S8192, .i32⟩
  | 64 => ⟨S8192, .i32⟩
  | 65 => ⟨S8192, .i32⟩
  | 66 => ⟨S_, .i32⟩
  | 67 => ⟨S8192, .i32⟩
  | 68 => ⟨S8192, .i1⟩
  | 69 => ⟨S8192, .i32⟩
  | 70 => ⟨S8192, .i32⟩
  | 71 => ⟨S_, .i32⟩
  | 72 => ⟨S8192, .i32⟩
  | 73 => ⟨S8192, .i1⟩
  | 74 => ⟨S8192, .i1⟩
  | 75 => ⟨S_, .i32⟩
  | 76 => ⟨S8192, .i32⟩
  | 77 => ⟨S8192, .i32⟩
  | 78 => ⟨S8192, .i32⟩
  | 79 => ⟨S1x8192, .i32⟩
  | 80 => ⟨S8192x1, .i32⟩
  | 81 => ⟨S8192x8192, .i32⟩
  | 82 => ⟨S8192x8192, .i32⟩
  | 83 => ⟨S8192x8192, .i1⟩
  | 84 => ⟨S_, .f32⟩
  | 85 => ⟨S_, .f32⟩
  | 86 => ⟨S16x8192x8192, .i1⟩
  | 87 => ⟨S16x8192x8192, .f32⟩
  | 88 => ⟨S16x8192x8192, .f32⟩
  | 89 => ⟨S_, .f32⟩
  | 90 => ⟨S16x8192, .f32⟩
  | 91 => ⟨S_, .f32⟩
  | 92 => ⟨S16x8192, .f32⟩
  | 93 => ⟨S16x8192, .f32⟩
  | 94 => ⟨S16x8192x1, .f32⟩
  | 95 => ⟨S16x8192x8192, .f32⟩
  | 96 => ⟨S16x8192x8192, .f32⟩
  | 97 => ⟨S16x8192x8192, .f32⟩
  | 98 => ⟨S_, .f32⟩
  | 99 => ⟨S16x8192, .f32⟩
  | 100 => ⟨S16x8192x1, .f32⟩
  | 101 => ⟨S16x8192x8192, .f32⟩
  | 102 => ⟨S16x8192x8192, .f32⟩
  | 103 => ⟨S16x128x8192, .f32⟩
  | 104 => ⟨S8192x16x128, .f32⟩
  | 105 => ⟨S8192x2048, .f32⟩
  | 106 => ⟨S8192x2048, .f32⟩
  | 107 => ⟨S8192x16x128, .f32⟩
  | 108 => ⟨S_, .f32⟩
  | 109 => ⟨S8192x16, .f32⟩
  | 110 => ⟨S16x8192, .f32⟩
  | 111 => ⟨S16x8192x1, .f32⟩
  | 112 => ⟨S_, .i32⟩
  | 113 => ⟨S_, .f32⟩
  | 114 => ⟨S8192x16x128, .f32⟩
  | 115 => ⟨S8192x16x256, .f32⟩
  | 116 => ⟨S_, .i32⟩
  | 117 => ⟨S_, .f32⟩
  | 118 => ⟨S8192x128, .f32⟩
  | 119 => ⟨S8192x1x128, .f32⟩
  | 120 => ⟨S8192x16x128, .f32⟩
  | 121 => ⟨S8192x16x256, .f32⟩
  | 122 => ⟨S8192x4096, .f32⟩
  | 123 => ⟨S8192x4096, .bf16⟩
  | 124 => ⟨S8192x4096, .f32⟩
  | 125 => ⟨S8192x4096, .bf16⟩
  | 126 => ⟨S8192x2048, .f32⟩
  | 127 => ⟨S8192x2048, .bf16⟩
  | _ => ⟨S8192x16x128, .f32⟩

abbrev hbmTy0_1 (i : Nat) : BufTy := match i % 128 with
  | 0 => ⟨S8192x4096, .bf16⟩
  | 1 => ⟨S8192x2048, .bf16⟩
  | _ => ⟨S8192x16x128, .f32⟩

abbrev hbmTy (i : Nat) : BufTy := match i / 128 with
  | 0 => hbmTy0_0 i
  | 1 => hbmTy0_1 i
  | _ => ⟨S8192x16x128, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x128, .f32⟩
  | .local _ .vmem, ⟨11, _⟩ => ⟨S512x128, .f32⟩
  | .local _ .vmem, ⟨12, _⟩ => ⟨S1024x256, .bf16⟩
  | .local _ .vmem, ⟨13, _⟩ => ⟨S1024x256, .bf16⟩
  | .local _ .vmem, ⟨14, _⟩ => ⟨S1024x128, .bf16⟩
  | .local _ .vmem, ⟨15, _⟩ => ⟨S1024x128, .bf16⟩
  | .local _ .vmem, ⟨16, _⟩ => ⟨S1024x256, .f32⟩
  | .local _ .vmem, ⟨17, _⟩ => ⟨S1024x128, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_5 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v36 : Ref sig .tc := ⟨.hbm, 88, rfl⟩
abbrev main_cst_6 : Ref sig .tc := ⟨.hbm, 89, rfl⟩
abbrev main_v37 : Ref sig .tc := ⟨.hbm, 90, rfl⟩
abbrev main_cst_7 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_cst_8 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_c_10 : Ref sig .tc := ⟨.hbm, 112, rfl⟩
abbrev main_call4_v0 : Ref sig .tc := ⟨.hbm, 113, rfl⟩
abbrev main_v56 : Ref sig .tc := ⟨.hbm, 114, rfl⟩
abbrev main_v57 : Ref sig .tc := ⟨.hbm, 115, rfl⟩
abbrev main_c_11 : Ref sig .tc := ⟨.hbm, 116, rfl⟩
abbrev main_call5_v0 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68_0 : Ref sig .tc := ⟨.hbm, 128, rfl⟩
abbrev main_v68_1 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 8, 16], ![false, false, false]⟩

def k0_cond4 (i : grid0.Coords) : BitVec 1 :=
  let arg2 : BitVec 32 := BitVec.ofNat 32 (i 2).val
  let c15_i32 : BitVec 32 := 15#32
  let v43 : BitVec 1 := Scalar.cmpi .eq arg2 c15_i32
  let v44 : BitVec 32 := Scalar.extui v43
  let c0_i32_15 : BitVec 32 := 0#32
  let v45 : BitVec 1 := Scalar.cmpi .ne v44 c0_i32_15
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.maxsi arg2 v0
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.maxsi arg2 v0
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.maxsi arg2 v0
  let c0_i32 : BitVec 32 := 0#32
  let c0_i32_0 : BitVec 32 := 0#32
  ![arg0.toNat, v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.maxsi arg2 v0
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x16x128 : Shape := ⟨3, ![8192, 16, 128]⟩
abbrev S8192x16x64 : Shape := ⟨3, ![8192, 16, 64]⟩
abbrev S8192x64 : Shape := ⟨2, ![8192, 64]⟩
abbrev S8192x2048 : Shape := ⟨2, ![8192, 2048]⟩
abbrev S8192x1x64 : Shape := ⟨3, ![8192, 1, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x64 : Shape := ⟨3, ![16, 8192, 64]⟩
abbrev S16x8192x128 : Shape := ⟨3, ![16, 8192, 128]⟩
abbrev S8192x16x192 : Shape := ⟨3, ![8192, 16, 192]⟩
abbrev S8192x16x256 : Shape := ⟨3, ![8192, 16, 256]⟩
abbrev S8192x4096 : Shape := ⟨2, ![8192, 4096]⟩

abbrev nBuf : Space → Nat
  | .hbm => 123
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x2048, .f32⟩
  | .hbm, ⟨6, _⟩ => ⟨S8192x1x64, .f32⟩
  | .hbm, ⟨7, _⟩ => ⟨S8192x16x64, .f32⟩
  | .hbm, ⟨8, _⟩ => ⟨S16x8192x8192, .f32⟩
  | .hbm, ⟨9, _⟩ => ⟨S16x8192x8192, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192x1, .f32⟩
  | .hbm, ⟨48, _⟩ => ⟨S16x8192x8192, .f32⟩
  | .hbm, ⟨49, _⟩ => ⟨S16x8192x8192, .i1⟩
  | .hbm, ⟨50, _⟩ => ⟨S16x8192x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S_, .f32⟩
  | .hbm, ⟨57, _⟩ => ⟨S16x8192, .f32⟩
  | .hbm, ⟨58, _⟩ => ⟨S16x8192, .i1⟩
  | .hbm, ⟨59, _⟩ => ⟨S_, .f32⟩
  | .hbm, ⟨60, _⟩ => ⟨S16x8192, .f32⟩
  | .hbm, ⟨61, _⟩ => ⟨S16x8192, .i1⟩
  | .hbm, ⟨62, _⟩ => ⟨S_, .f32⟩
  | .hbm, ⟨63, _⟩ => ⟨S16x8192, .f32⟩
  | .hbm, ⟨64, _⟩ => ⟨S_, .f32⟩
  | .hbm, ⟨65, _⟩ => ⟨S16x8192, .f32⟩
  | .hbm, ⟨66, _⟩ => ⟨S_, .f32⟩
  | .hbm, ⟨67, _⟩ => ⟨S16x8192, .f32⟩
  | .hbm, ⟨68, _⟩ => ⟨S16x8192, .f32⟩
  | .hbm, ⟨69, _⟩ => ⟨S16x8192, .f32⟩
  | .hbm, ⟨70, _⟩ => ⟨S16x8192x1, .f32⟩
  | .hbm, ⟨71, _⟩ => ⟨S16x8192x8192, .f32⟩
  | .hbm, ⟨72, _⟩ => ⟨S16x8192x8192, .f32⟩
  | .hbm, ⟨73, _⟩ => ⟨S16x8192x8192, .f32⟩
  | .hbm, ⟨74, _⟩ => ⟨S_, .f32⟩
  | .hbm, ⟨75, _⟩ => ⟨S16x8192, .f32⟩
  | .hbm, ⟨76, _⟩ => ⟨S16x8192x1, .f32⟩
  | .hbm, ⟨77, _⟩ => ⟨S16x8192x8192, .f32⟩
  | .hbm, ⟨78, _⟩ => ⟨S16x8192x8192, .f32⟩
  | .hbm, ⟨79, _⟩ => ⟨S16x8192x1, .f32⟩
  | .hbm, ⟨80, _⟩ => ⟨S_, .f32⟩
  | .hbm, ⟨81, _⟩ => ⟨S16x8192x1, .f32⟩
  | .hbm, ⟨82, _⟩ => ⟨S16x8192x1, .f32⟩
  | .hbm, ⟨83, _⟩ => ⟨S16x128x8192, .f32⟩
  | .hbm, ⟨84, _⟩ => ⟨S8192x16x128, .f32⟩
  | .hbm, ⟨85, _⟩ => ⟨S8192x2048, .f32⟩
  | .hbm, ⟨86, _⟩ => ⟨S8192x16x128, .f32⟩
  | .hbm, ⟨87, _⟩ => ⟨S16x128x8192, .f32⟩
  | .hbm, ⟨88, _⟩ => ⟨S16x8192x8192, .f32⟩
  | .hbm, ⟨89, _⟩ => ⟨S16x128x8192, .f32⟩
  | .hbm, ⟨90, _⟩ => ⟨S8192x16x128, .f32⟩
  | .hbm, ⟨91, _⟩ => ⟨S16x8192x8192, .f32⟩
  | .hbm, ⟨92, _⟩ => ⟨S16x8192x8192, .f32⟩
  | .hbm, ⟨93, _⟩ => ⟨S16x8192x8192, .f32⟩
  | .hbm, ⟨94, _⟩ => ⟨S_, .f32⟩
  | .hbm, ⟨95, _⟩ => ⟨S16x8192, .f32⟩
  | .hbm, ⟨96, _⟩ => ⟨S16x8192x1, .f32⟩
  | .hbm, ⟨97, _⟩ => ⟨S16x8192x1, .f32⟩
  | .hbm, ⟨98, _⟩ => ⟨S16x8192x8192, .f32⟩
  | .hbm, ⟨99, _⟩ => ⟨S16x8192x8192, .f32⟩
  | .hbm, ⟨100, _⟩ => ⟨S_, .f32⟩
  | .hbm, ⟨101, _⟩ => ⟨S16x8192, .f32⟩
  | .hbm, ⟨102, _⟩ => ⟨S16x8192x8192, .f32⟩
  | .hbm, ⟨103, _⟩ => ⟨S16x8192x8192, .f32⟩
  | .hbm, ⟨104, _⟩ => ⟨S16x8192x8192, .f32⟩
  | .hbm, ⟨105, _⟩ => ⟨S_, .f32⟩
  | .hbm, ⟨106, _⟩ => ⟨S16x8192x8192, .f32⟩
  | .hbm, ⟨107, _⟩ => ⟨S16x8192x8192, .f32⟩
  | .hbm, ⟨108, _⟩ => ⟨S_, .f32⟩
  | .hbm, ⟨109, _⟩ => ⟨S16x8192x8192, .f32⟩
  | .hbm, ⟨110, _⟩ => ⟨S16x8192x8192, .f32⟩
  | .hbm, ⟨111, _⟩ => ⟨S16x8192x64, .f32⟩
  | .hbm, ⟨112, _⟩ => ⟨S8192x16x64, .f32⟩
  | .hbm, ⟨113, _⟩ => ⟨S16x8192x128, .f32⟩
  | .hbm, ⟨114, _⟩ => ⟨S8192x16x128, .f32⟩
  | .hbm, ⟨115, _⟩ => ⟨S8192x16x192, .f32⟩
  | .hbm, ⟨116, _⟩ => ⟨S_, .i32⟩
  | .hbm, ⟨117, _⟩ => ⟨S_, .f32⟩
  | .hbm, ⟨118, _⟩ => ⟨S8192x16x256, .f32⟩
  | .hbm, ⟨119, _⟩ => ⟨S8192x4096, .f32⟩
  | .hbm, ⟨120, _⟩ => ⟨S8192x4096, .bf16⟩
  | .hbm, ⟨121, _⟩ => ⟨S8192x2048, .f32⟩
  | .hbm, ⟨122, _⟩ => ⟨S8192x2048, .bf16⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_call1_v0 : Ref sig .tc := ⟨.hbm, 39, rfl⟩
abbrev main_v14_1 : Ref sig .tc := ⟨.hbm, 40, rfl⟩
abbrev main_call1_v2 : Ref sig .tc := ⟨.hbm, 41, rfl⟩
abbrev main_v14_0 : Ref sig .tc := ⟨.hbm, 42, rfl⟩
abbrev main_call1_cst : Ref sig .tc := ⟨.hbm, 43, rfl⟩
abbrev main_v14_2 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_12 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call2_cst : Ref sig .tc := ⟨.hbm, 105, rfl⟩
abbrev main_call2_v0 : Ref sig .tc := ⟨.hbm, 106, rfl⟩
abbrev main_v63 : Ref sig .tc := ⟨.hbm, 107, rfl⟩
abbrev main_cst_13 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_c_14 : Ref sig .tc := ⟨.hbm, 116, rfl⟩
abbrev main_call3_v0 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩

abbrev nD : Nat := 1
abbrev τ : Topo := Topo.v7x

variable {F : FTy → Type} [FloatOps F]
-- ==== FfnInDa.lean ====
abbrev S2048x5632 : Shape := ⟨2, ![2048, 5632]⟩
abbrev S8192x5632 : Shape := ⟨2, ![8192, 5632]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S8192x5632, .f32⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDaIdeal.lean ====
abbrev S2048x5632 : Shape := ⟨2, ![2048, 5632]⟩
abbrev S8192x5632 : Shape := ⟨2, ![8192, 5632]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S8192x5632, .f32⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDaRefIdeal.lean ====
abbrev S2048x5632 : Shape := ⟨2, ![2048, 5632]⟩
abbrev S8192x5632 : Shape := ⟨2, ![8192, 5632]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S8192x5632, .f32⟩
  | .hbm, ⟨2, _⟩ => ⟨S_, .f32⟩
  | .hbm, ⟨3, _⟩ => ⟨S8192x2048, .f32⟩
  | .hbm, ⟨4, _⟩ => ⟨S8192x5632, .f32⟩
  | .hbm, ⟨5, _⟩ => ⟨S8192x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnInDw.lean ====
abbrev S8192x2048 : Shape := ⟨2, ![8192, 2048]⟩
abbrev S8192x5632 : Shape := ⟨2, ![8192, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwIdeal.lean ====
abbrev S8192x2048 : Shape := ⟨2, ![8192, 2048]⟩
abbrev S8192x5632 : Shape := ⟨2, ![8192, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInFwd.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x2048, .bf16⟩
  | .hbm, ⟨3, _⟩ => ⟨S2048x5632, .bf16⟩
  | .hbm, ⟨4, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwdIdeal.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x2048, .bf16⟩
  | .hbm, ⟨3, _⟩ => ⟨S2048x5632, .bf16⟩
  | .hbm, ⟨4, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwdRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnOutDa.lean ====
abbrev S5632x2048 : Shape := ⟨2, ![5632, 2048]⟩
abbrev S8192x2048 : Shape := ⟨2, ![8192, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S8192x2048, .bf16⟩
  | .hbm, ⟨3, _⟩ => ⟨S5632x2048, .bf16⟩
  | .hbm, ⟨4, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDaIdeal.lean ====
abbrev S5632x2048 : Shape := ⟨2, ![5632, 2048]⟩
abbrev S8192x2048 : Shape := ⟨2, ![8192, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S8192x2048, .bf16⟩
  | .hbm, ⟨3, _⟩ => ⟨S5632x2048, .bf16⟩
  | .hbm, ⟨4, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDaRefIdeal.lean ====
abbrev S5632x2048 : Shape := ⟨2, ![5632, 2048]⟩
abbrev S8192x2048 : Shape := ⟨2, ![8192, 2048]⟩
abbrev S_ : Shape := ⟨0, ![]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnOutDw.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwIdeal.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOutFwd.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutFwdIdeal.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutFwdRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SquareDa.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDaIdeal.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDaRefIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SquareDw.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwIdeal.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SquareFwd.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareFwdIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareFwdRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsmInDa.lean ====
abbrev S2048x6144 : Shape := ⟨2, ![2048, 6144]⟩
abbrev S8192x6144 : Shape := ⟨2, ![8192, 6144]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S8192x6144, .bf16⟩
  | .hbm, ⟨3, _⟩ => ⟨S2048x6144, .bf16⟩
  | .hbm, ⟨4, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDaIdeal.lean ====
abbrev S2048x6144 : Shape := ⟨2, ![2048, 6144]⟩
abbrev S8192x6144 : Shape := ⟨2, ![8192, 6144]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S8192x6144, .bf16⟩
  | .hbm, ⟨3, _⟩ => ⟨S2048x6144, .bf16⟩
  | .hbm, ⟨4, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDaRefIdeal.lean ====
abbrev S2048x6144 : Shape := ⟨2, ![2048, 6144]⟩
abbrev S8192x6144 : Shape := ⟨2, ![8192, 6144]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S8192x6144, .f32⟩
  | .hbm, ⟨2, _⟩ => ⟨S_, .f32⟩
  | .hbm, ⟨3, _⟩ => ⟨S8192x2048, .f32⟩
  | .hbm, ⟨4, _⟩ => ⟨S8192x6144, .f32⟩
  | .hbm, ⟨5, _⟩ => ⟨S8192x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsmInDw.lean ====
abbrev S8192x2048 : Shape := ⟨2, ![8192, 2048]⟩
abbrev S8192x6144 : Shape := ⟨2, ![8192, 6144]⟩
abbrev S2048x6144 : Shape := ⟨2, ![2048, 6144]⟩
abbrev S1024x1024 : Shape := ⟨2, ![1024, 1024]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S8192x2048, .bf16⟩
  | .hbm, ⟨3, _⟩ => ⟨S8192x6144, .bf16⟩
  | .hbm, ⟨4, _⟩ => ⟨S2048x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDwIdeal.lean ====
abbrev S8192x2048 : Shape := ⟨2, ![8192, 2048]⟩
abbrev S8192x6144 : Shape := ⟨2, ![8192, 6144]⟩
abbrev S2048x6144 : Shape := ⟨2, ![2048, 6144]⟩
abbrev S1024x1024 : Shape := ⟨2, ![1024, 1024]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S8192x2048, .bf16⟩
  | .hbm, ⟨3, _⟩ => ⟨S8192x6144, .bf16⟩
  | .hbm, ⟨4, _⟩ => ⟨S2048x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDwRefIdeal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S_, .f32⟩
  | .hbm, ⟨3, _⟩ => ⟨S2048x6144, .f32⟩
  | .hbm, ⟨4, _⟩ => ⟨S8192x6144, .f32⟩
  | .hbm, ⟨5, _⟩ => ⟨S6144x2048, .f32⟩
  | .hbm, ⟨6, _⟩ => ⟨S2048x6144, .f32⟩
  | .hbm, ⟨7, _⟩ => ⟨S2048x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmInFwd.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x2048, .bf16⟩
  | .hbm, ⟨3, _⟩ => ⟨S2048x6144, .bf16⟩
  | .hbm, ⟨4, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInFwdIdeal.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x2048, .bf16⟩
  | .hbm, ⟨3, _⟩ => ⟨S2048x6144, .bf16⟩
  | .hbm, ⟨4, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInFwdRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsmGateDa.lean ====
abbrev S2048x4096 : Shape := ⟨2, ![2048, 4096]⟩
abbrev S8192x4096 : Shape := ⟨2, ![8192, 4096]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S8192x4096, .bf16⟩
  | .hbm, ⟨3, _⟩ => ⟨S2048x4096, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGateDaIdeal.lean ====
abbrev S2048x4096 : Shape := ⟨2, ![2048, 4096]⟩
abbrev S8192x4096 : Shape := ⟨2, ![8192, 4096]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S8192x4096, .bf16⟩
  | .hbm, ⟨3, _⟩ => ⟨S2048x4096, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGateDaRefIdeal.lean ====
abbrev S2048x4096 : Shape := ⟨2, ![2048, 4096]⟩
abbrev S8192x4096 : Shape := ⟨2, ![8192, 4096]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsmGateDw.lean ====
abbrev S8192x2048 : Shape := ⟨2, ![8192, 2048]⟩
abbrev S8192x4096 : Shape := ⟨2, ![8192, 4096]⟩
abbrev S2048x4096 : Shape := ⟨2, ![2048, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGateDwIdeal.lean ====
abbrev S8192x2048 : Shape := ⟨2, ![8192, 2048]⟩
abbrev S8192x4096 : Shape := ⟨2, ![8192, 4096]⟩
abbrev S2048x4096 : Shape := ⟨2, ![2048, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGateDwRefIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmGateFwd.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGateFwdIdeal.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGateFwdRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsmOutDa.lean ====
abbrev S4096x2048 : Shape := ⟨2, ![4096, 2048]⟩
abbrev S8192x2048 : Shape := ⟨2, ![8192, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192x2048, .bf16⟩
  | .hbm, ⟨3, _⟩ => ⟨S4096x2048, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDaIdeal.lean ====
abbrev S4096x2048 : Shape := ⟨2, ![4096, 2048]⟩
abbrev S8192x2048 : Shape := ⟨2, ![8192, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192x2048, .bf16⟩
  | .hbm, ⟨3, _⟩ => ⟨S4096x2048, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDaRefIdeal.lean ====
abbrev S4096x2048 : Shape := ⟨2, ![4096, 2048]⟩
abbrev S8192x2048 : Shape := ⟨2, ![8192, 2048]⟩
abbrev S_ : Shape := ⟨0, ![]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S_, .f32⟩
  | .hbm, ⟨3, _⟩ => ⟨S8192x4096, .f32⟩
  | .hbm, ⟨4, _⟩ => ⟨S8192x2048, .f32⟩
  | .hbm, ⟨5, _⟩ => ⟨S8192x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsmOutDw.lean ====
abbrev S8192x4096 : Shape := ⟨2, ![8192, 4096]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDwIdeal.lean ====
abbrev S8192x4096 : Shape := ⟨2, ![8192, 4096]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDwRefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S2048x4096, .f32⟩
  | .hbm, ⟨6, _⟩ => ⟨S4096x2048, .f32⟩
  | .hbm, ⟨7, _⟩ => ⟨S4096x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmOutFwd.lean ====
abbrev S8192x4096 : Shape := ⟨2, ![8192, 4096]⟩
abbrev S4096x2048 : Shape := ⟨2, ![4096, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S4096x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutFwdIdeal.lean ====
abbrev S8192x4096 : Shape := ⟨2, ![8192, 4096]⟩
abbrev S4096x2048 : Shape := ⟨2, ![4096, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S4096x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutFwdRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LatentUpDa.lean ====
abbrev S512x2048 : Shape := ⟨2, ![512, 2048]⟩
abbrev S8192x2048 : Shape := ⟨2, ![8192, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentUpDaIdeal.lean ====
abbrev S512x2048 : Shape := ⟨2, ![512, 2048]⟩
abbrev S8192x2048 : Shape := ⟨2, ![8192, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentUpDaRefIdeal.lean ====
abbrev S512x2048 : Shape := ⟨2, ![512, 2048]⟩
abbrev S8192x2048 : Shape := ⟨2, ![8192, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LatentUpDw.lean ====
abbrev S8192x512 : Shape := ⟨2, ![8192, 512]⟩
abbrev S8192x2048 : Shape := ⟨2, ![8192, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentUpDwIdeal.lean ====
abbrev S8192x512 : Shape := ⟨2, ![8192, 512]⟩
abbrev S8192x2048 : Shape := ⟨2, ![8192, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentUpDwRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatentUpFwd.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentUpFwdIdeal.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentUpFwdRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LatentDownDa.lean ====
abbrev S2048x512 : Shape := ⟨2, ![2048, 512]⟩
abbrev S8192x512 : Shape := ⟨2, ![8192, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S8192x512, .f32⟩
  | .hbm, ⟨2, _⟩ => ⟨S8192x512, .bf16⟩
  | .hbm, ⟨3, _⟩ => ⟨S2048x512, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentDownDaRefIdeal.lean ====
abbrev S2048x512 : Shape := ⟨2, ![2048, 512]⟩
abbrev S8192x512 : Shape := ⟨2, ![8192, 512]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S8192x512, .f32⟩
  | .hbm, ⟨2, _⟩ => ⟨S_, .f32⟩
  | .hbm, ⟨3, _⟩ => ⟨S8192x2048, .f32⟩
  | .hbm, ⟨4, _⟩ => ⟨S8192x512, .f32⟩
  | .hbm, ⟨5, _⟩ => ⟨S8192x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LatentDownDw.lean ====
abbrev S8192x2048 : Shape := ⟨2, ![8192, 2048]⟩
abbrev S8192x512 : Shape := ⟨2, ![8192, 512]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x2048, .bf16⟩
  | .hbm, ⟨3, _⟩ => ⟨S8192x512, .bf16⟩
  | .hbm, ⟨4, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentDownDwRefIdeal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S_, .f32⟩
  | .hbm, ⟨3, _⟩ => ⟨S2048x512, .f32⟩
  | .hbm, ⟨4, _⟩ => ⟨S8192x512, .f32⟩
  | .hbm, ⟨5, _⟩ => ⟨S512x2048, .f32⟩
  | .hbm, ⟨6, _⟩ => ⟨S2048x512, .f32⟩
  | .hbm, ⟨7, _⟩ => ⟨S2048x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatentDownFwd.lean ====
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S8192x2048, .bf16⟩
  | .hbm, ⟨3, _⟩ => ⟨S2048x512, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentDownFwdRefIdeal.lean ====
abbrev S8192x2048 : Shape := ⟨2, ![8192, 2048]⟩
abbrev S2048x512 : Shape := ⟨2, ![2048, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S2048 : Shape := ⟨1, ![2048]⟩
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S1x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 64], ![false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let v38 : BitVec 32 := Scalar.extui v37
  let c0_i32_12 : BitVec 32 := 0#32
  let v39 : BitVec 1 := Scalar.cmpi .ne v38 c0_i32_12
  v39

def k0_cond2 (i : grid0.Coords) : BitVec 1 :=
  let arg1 : BitVec 32 := BitVec.ofNat 32 (i 1).val
  let c0_i32_13 : BitVec 32 := 0#32
  let v40 : BitVec 1 := Scalar.cmpi .ne arg1 c0_i32_13
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormRefIdeal.lean ====
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== HgrnOut.lean ====
abbrev S2048 : Shape := ⟨1, ![2048]⟩
abbrev S8192x2048 : Shape := ⟨2, ![8192, 2048]⟩
abbrev S1x2048 : Shape := ⟨2, ![1, 2048]⟩
abbrev S1x128 : Shape := ⟨2, ![1, 128]⟩
abbrev S2048x128 : Shape := ⟨2, ![2048, 128]⟩
abbrev S2048x1 : Shape := ⟨2, ![2048, 1]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .local _ .vmem, ⟨0, _⟩ => ⟨S1x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v51 : BitVec 1 := Scalar.cmpi .eq arg1 c0_i32
  let v52 : BitVec 32 := Scalar.extui v51
  let c0_i32_15 : BitVec 32 := 0#32
  let v53 : BitVec 1 := Scalar.cmpi .ne v52 c0_i32_15
  v53

def k0_cond2 (i : grid0.Coords) : BitVec 1 :=
  let arg1 : BitVec 32 := BitVec.ofNat 32 (i 1).val
  let c0_i32_16 : BitVec 32 := 0#32
  let v54 : BitVec 1 := Scalar.cmpi .ne arg1 c0_i32_16
  let v55 : BitVec 32 := Scalar.extui v54
  let c0_i32_17 : BitVec 32 := 0#32
  let v56 : BitVec 1 := Scalar.cmpi .ne v55 c0_i32_17
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgrnOutRefIdeal.lean ====
abbrev S2048 : Shape := ⟨1, ![2048]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x16x128, .f32⟩
  | .hbm, ⟨5, _⟩ => ⟨S8192x16x128, .f32⟩
  | .hbm, ⟨6, _⟩ => ⟨S_, .f32⟩
  | .hbm, ⟨7, _⟩ => ⟨S8192x16, .f32⟩
  | .hbm, ⟨8, _⟩ => ⟨S8192x16x1, .f32⟩
  | .hbm, ⟨9, _⟩ => ⟨S_, .f32⟩
  | .hbm, ⟨10, _⟩ => ⟨S8192x16x1, .f32⟩
  | .hbm, ⟨11, _⟩ => ⟨S8192x16x1, .f32⟩
  | .hbm, ⟨12, _⟩ => ⟨S_, .f32⟩
  | .hbm, ⟨13, _⟩ => ⟨S8192x16x1, .f32⟩
  | .hbm, ⟨14, _⟩ => ⟨S8192x16x1, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x16x128, .f32⟩
  | .hbm, ⟨55, _⟩ => ⟨S8192x16x128, .f32⟩
  | .hbm, ⟨56, _⟩ => ⟨S_, .f32⟩
  | .hbm, ⟨57, _⟩ => ⟨S8192x16, .f32⟩
  | .hbm, ⟨58, _⟩ => ⟨S8192x16x1, .f32⟩
  | .hbm, ⟨59, _⟩ => ⟨S8192x16x128, .f32⟩
  | .hbm, ⟨60, _⟩ => ⟨S8192x16x128, .f32⟩
  | .hbm, ⟨61, _⟩ => ⟨S8192x16x1, .f32⟩
  | .hbm, ⟨62, _⟩ => ⟨S_, .f32⟩
  | .hbm, ⟨63, _⟩ => ⟨S8192x16x1, .f32⟩
  | .hbm, ⟨64, _⟩ => ⟨S8192x16x1, .f32⟩
  | .hbm, ⟨65, _⟩ => ⟨S_, .f32⟩
  | .hbm, ⟨66, _⟩ => ⟨S8192x16, .f32⟩
  | .hbm, ⟨67, _⟩ => ⟨S8192x16x128, .f32⟩
  | .hbm, ⟨68, _⟩ => ⟨S8192x16x128, .f32⟩
  | .hbm, ⟨69, _⟩ => ⟨S8192x16x128, .f32⟩
  | .hbm, ⟨70, _⟩ => ⟨S8192x16x128, .f32⟩
  | .hbm, ⟨71, _⟩ => ⟨S8192x16x128, .f32⟩
  | .hbm, ⟨72, _⟩ => ⟨S8192x2048, .f32⟩
  | .hbm, ⟨73, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== SsmNorm.lean ====
abbrev S4096 : Shape := ⟨1, ![4096]⟩
abbrev S8192x4096 : Shape := ⟨2, ![8192, 4096]⟩
abbrev S1x4096 : Shape := ⟨2, ![1, 4096]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .local _ .vmem, ⟨0, _⟩ => ⟨S1x512, .f32⟩
  | .local _ .vmem, ⟨1, _⟩ => ⟨S1x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v50 : BitVec 1 := Scalar.cmpi .eq arg1 c0_i32
  let v51 : BitVec 32 := Scalar.extui v50
  let c0_i32_15 : BitVec 32 := 0#32
  let v52 : BitVec 1 := Scalar.cmpi .ne v51 c0_i32_15
  v52

def k0_cond2 (i : grid0.Coords) : BitVec 1 :=
  let arg1 : BitVec 32 := BitVec.ofNat 32 (i 1).val
  let c0_i32_16 : BitVec 32 := 0#32
  let v53 : BitVec 1 := Scalar.cmpi .ne arg1 c0_i32_16
  let v54 : BitVec 32 := Scalar.extui v53
  let c0_i32_17 : BitVec 32 := 0#32
  let v55 : BitVec 1 := Scalar.cmpi .ne v54 c0_i32_17
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsmNormRefIdeal.lean ====
abbrev S4096 : Shape := ⟨1, ![4096]⟩
abbrev S8192x4096 : Shape := ⟨2, ![8192, 4096]⟩
abbrev S_ : Shape := ⟨0, ![]⟩
abbrev S8192x8x512 : Shape := ⟨3, ![8192, 8, 512]⟩
abbrev S8192x8 : Shape := ⟨2, ![8192, 8]⟩
abbrev S8192x8x1 : Shape := ⟨3, ![8192, 8, 1]⟩
abbrev S1x4096 : Shape := ⟨2, ![1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x8x512, .f32⟩
  | .hbm, ⟨19, _⟩ => ⟨S8192x8x512, .f32⟩
  | .hbm, ⟨20, _⟩ => ⟨S_, .f32⟩
  | .hbm, ⟨21, _⟩ => ⟨S8192x8, .f32⟩
  | .hbm, ⟨22, _⟩ => ⟨S8192x8x1, .f32⟩
  | .hbm, ⟨23, _⟩ => ⟨S_, .f32⟩
  | .hbm, ⟨24, _⟩ => ⟨S8192x8x1, .f32⟩
  | .hbm, ⟨25, _⟩ => ⟨S8192x8x1, .f32⟩
  | .hbm, ⟨26, _⟩ => ⟨S_, .f32⟩
  | .hbm, ⟨27, _⟩ => ⟨S8192x8x1, .f32⟩
  | .hbm, ⟨28, _⟩ => ⟨S8192x8x1, .f32⟩
  | .hbm, ⟨29, _⟩ => ⟨S8192x8x1, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S8192x8x512, .f32⟩
  | .hbm, ⟨35, _⟩ => ⟨S8192x8x512, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S4096, .f32⟩
  | .hbm, ⟨43, _⟩ => ⟨S1x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S4096, .f32⟩
  | .hbm, ⟨48, _⟩ => ⟨S8192x8x512, .f32⟩
  | .hbm, ⟨49, _⟩ => ⟨S8192x8x512, .f32⟩
  | .hbm, ⟨50, _⟩ => ⟨S_, .f32⟩
  | .hbm, ⟨51, _⟩ => ⟨S8192x8, .f32⟩
  | .hbm, ⟨52, _⟩ => ⟨S8192x8x1, .f32⟩
  | .hbm, ⟨53, _⟩ => ⟨S8192x8x512, .f32⟩
  | .hbm, ⟨54, _⟩ => ⟨S8192x8x512, .f32⟩
  | .hbm, ⟨55, _⟩ => ⟨S8192x8x1, .f32⟩
  | .hbm, ⟨56, _⟩ => ⟨S_, .f32⟩
  | .hbm, ⟨57, _⟩ => ⟨S8192x8x1, .f32⟩
  | .hbm, ⟨58, _⟩ => ⟨S8192x8x1, .f32⟩
  | .hbm, ⟨59, _⟩ => ⟨S_, .f32⟩
  | .hbm, ⟨60, _⟩ => ⟨S8192x8, .f32⟩
  | .hbm, ⟨61, _⟩ => ⟨S8192x8x512, .f32⟩
  | .hbm, ⟨62, _⟩ => ⟨S8192x8x512, .f32⟩
  | .hbm, ⟨63, _⟩ => ⟨S8192x8x512, .f32⟩
  | .hbm, ⟨64, _⟩ => ⟨S8192x8x512, .f32⟩
  | .hbm, ⟨65, _⟩ => ⟨S8192x8x512, .f32⟩
  | .hbm, ⟨66, _⟩ => ⟨S8192x4096, .f32⟩
  | .hbm, ⟨67, _⟩ => ⟨S8192x4096, .f32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S8192x4096, .f32⟩
  | .hbm, ⟨73, _⟩ => ⟨S1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Swiglu.lean ====
abbrev S8192x5632 : Shape := ⟨2, ![8192, 5632]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluRefIdeal.lean ====
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Silu.lean ====
abbrev S8192x6144 : Shape := ⟨2, ![8192, 6144]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x6144, .f32⟩
  | .hbm, ⟨1, _⟩ => ⟨S8192x6144, .f32⟩
  | .hbm, ⟨2, _⟩ => ⟨S8192x6144, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SiluRefIdeal.lean ====
abbrev S8192x6144 : Shape := ⟨2, ![8192, 6144]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x6144, .f32⟩
  | .hbm, ⟨2, _⟩ => ⟨S8192x6144, .f32⟩
  | .hbm, ⟨3, _⟩ => ⟨S8192x6144, .f32⟩
  | .hbm, ⟨4, _⟩ => ⟨S_, .f32⟩
  | .hbm, ⟨5, _⟩ => ⟨S8192x6144, .f32⟩
  | .hbm, ⟨6, _⟩ => ⟨S8192x6144, .f32⟩
  | .hbm, ⟨7, _⟩ => ⟨S_, .f32⟩
  | .hbm, ⟨8, _⟩ => ⟨S8192x6144, .f32⟩
  | .hbm, ⟨9, _⟩ => ⟨S8192x6144, .f32⟩
  | .hbm, ⟨10, _⟩ => ⟨S_, .f32⟩
  | .hbm, ⟨11, _⟩ => ⟨S8192x6144, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S8192x6144, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== Merge.lean ====
abbrev S8192x2048 : Shape := ⟨2, ![8192, 2048]⟩
abbrev S512x512 : Shape := ⟨2, ![512, 512]⟩

abbrev nBuf : Space → Nat
  | .hbm => 13
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8192x2048 : Shape := ⟨2, ![8192, 2048]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== NormFwd.lean ====
abbrev S2048 : Shape := ⟨1, ![2048]⟩
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S1x2048, .f32⟩
  | .hbm, ⟨3, _⟩ => ⟨S8192x2048, .f32⟩
  | .local _ .vmem, ⟨0, _⟩ => ⟨S1x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormFwdRefIdeal.lean ====
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== HgrnOutFwd.lean ====
abbrev S2048 : Shape := ⟨1, ![2048]⟩
abbrev S8192x2048 : Shape := ⟨2, ![8192, 2048]⟩
abbrev S1x2048 : Shape := ⟨2, ![1, 2048]⟩
abbrev S1x128 : Shape := ⟨2, ![1, 128]⟩
abbrev S2048x128 : Shape := ⟨2, ![2048, 128]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgrnOutFwdRefIdeal.lean ====
abbrev S2048 : Shape := ⟨1, ![2048]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048, .f32⟩
  | .hbm, ⟨1, _⟩ => ⟨S8192x2048, .f32⟩
  | .hbm, ⟨2, _⟩ => ⟨S8192x2048, .f32⟩
  | .hbm, ⟨3, _⟩ => ⟨S8192x16x128, .f32⟩
  | .hbm, ⟨4, _⟩ => ⟨S8192x16x128, .f32⟩
  | .hbm, ⟨5, _⟩ => ⟨S_, .f32⟩
  | .hbm, ⟨6, _⟩ => ⟨S8192x16, .f32⟩
  | .hbm, ⟨7, _⟩ => ⟨S8192x16x1, .f32⟩
  | .hbm, ⟨8, _⟩ => ⟨S_, .f32⟩
  | .hbm, ⟨9, _⟩ => ⟨S8192x16x1, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S8192x16x1, .f32⟩
  | .hbm, ⟨15, _⟩ => ⟨S8192x16x128, .f32⟩
  | .hbm, ⟨16, _⟩ => ⟨S8192x16x128, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== SsmNormFwd.lean ====
abbrev S4096 : Shape := ⟨1, ![4096]⟩
abbrev S8192x4096 : Shape := ⟨2, ![8192, 4096]⟩
abbrev S1x4096 : Shape := ⟨2, ![1, 4096]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S1x512, .f32⟩
  | .local _ .vmem, ⟨1, _⟩ => ⟨S1x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmNormFwdRefIdeal.lean ====
abbrev S4096 : Shape := ⟨1, ![4096]⟩
abbrev S8192x4096 : Shape := ⟨2, ![8192, 4096]⟩
abbrev S_ : Shape := ⟨0, ![]⟩
abbrev S8192x8x512 : Shape := ⟨3, ![8192, 8, 512]⟩
abbrev S8192x8 : Shape := ⟨2, ![8192, 8]⟩
abbrev S8192x8x1 : Shape := ⟨3, ![8192, 8, 1]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x8x512, .f32⟩
  | .hbm, ⟨14, _⟩ => ⟨S8192x8x512, .f32⟩
  | .hbm, ⟨15, _⟩ => ⟨S_, .f32⟩
  | .hbm, ⟨16, _⟩ => ⟨S8192x8, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S8192x8x1, .f32⟩
  | .hbm, ⟨25, _⟩ => ⟨S8192x8x512, .f32⟩
  | .hbm, ⟨26, _⟩ => ⟨S8192x8x512, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== SwigluFwd.lean ====
abbrev S8192x5632 : Shape := ⟨2, ![8192, 5632]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluFwdRefIdeal.lean ====
abbrev S8192x5632 : Shape := ⟨2, ![8192, 5632]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S_, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== SiluFwd.lean ====
abbrev S8192x6144 : Shape := ⟨2, ![8192, 6144]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S8192x6144, .f32⟩
  | .hbm, ⟨1, _⟩ => ⟨S8192x6144, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SiluFwdRefIdeal.lean ====
abbrev S8192x6144 : Shape := ⟨2, ![8192, 6144]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x6144, .f32⟩
  | .hbm, ⟨2, _⟩ => ⟨S8192x6144, .f32⟩
  | .hbm, ⟨3, _⟩ => ⟨S_, .f32⟩
  | .hbm, ⟨4, _⟩ => ⟨S8192x6144, .f32⟩
  | .hbm, ⟨5, _⟩ => ⟨S8192x6144, .f32⟩
  | .hbm, ⟨6, _⟩ => ⟨S_, .f32⟩
  | .hbm, ⟨7, _⟩ => ⟨S8192x6144, .f32⟩
  | .hbm, ⟨8, _⟩ => ⟨S8192x6144, .f32⟩
  | .hbm, ⟨9, _⟩ => ⟨S8192x6144, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== MergeFwd.lean ====
abbrev S8192x2048 : Shape := ⟨2, ![8192, 2048]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdRefIdeal.lean ====
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Prod.lean ====
module

public import Idealize.ShloMosaic.Lib.Pointwise
public import Idealize.ShloMosaic.Lib.Pipeline.ValueKit
public import Idealize.ShloMosaic.Lib.Pipeline.Value

@[expose] public section

/-! What the blocked products share: a product summed block of lanes by block of lanes is the product summed at once. -/

noncomputable section

open Idealize.ShloMosaic Idealize.ShloMosaic.TcCoe

namespace Cert.Prod

/-- Two arrays of one rank-two reading are one. -/
theorem ext2 {a b : ℕ} {f g : (⟨2, ![a, b]⟩ : Shape).Idx → EReal} (h : ∀ k l, f (ix2 k l) = g (ix2 k l)) : f = g :=
  funext fun i => (congrArg f (eq_ix2 i)).trans ((h (i 0) (i 1)).trans (congrArg g (eq_ix2 i)).symm)

/-- An array of rank two at an index with the values of `r` and `c`. -/
theorem at2 {a b : ℕ} (A : (⟨2, ![a, b]⟩ : Shape).Idx → EReal) (i : (⟨2, ![a, b]⟩ : Shape).Idx) {r : Fin a} {c : Fin b} (h0 : (i 0).val = r.val) (h1 : (i 1).val = c.val) :
    A i = A (ix2 r c) :=
  congrArg A ((eq_ix2 i).trans (congrArg₂ ix2 (Fin.ext h0) (Fin.ext h1)))

/-- A point that makes its whole block at once: the block's element is the reference's where the block's rows and columns lie. -/
theorem step {R C r c K : ℕ} {out : (⟨2, ![r, c]⟩ : Shape).Idx → EReal} {ref : (⟨2, ![R, C]⟩ : Shape).Idx → EReal}
    {a : Fin r → Fin K → EReal} {b : Fin c → Fin K → EReal} {A : Fin R → Fin K → EReal} {B : Fin C → Fin K → EReal}
    (hout : ∀ x y, out (ix2 x y) = ∑ z, a x z * b y z) (href : ∀ x y, ref (ix2 x y) = ∑ z, A x z * B y z)
    (y : (⟨2, ![r, c]⟩ : Shape).Idx) (I : (⟨2, ![R, C]⟩ : Shape).Idx) (p : Fin R) (q : Fin C) (h0 : (I 0).val = p.val) (h1 : (I 1).val = q.val)
    (ha : ∀ z, a (y 0) z = A p z) (hb : ∀ z, b (y 1) z = B q z) : out y = ref I :=
  (congrArg out (eq_ix2 y)).trans ((hout _ _).trans ((Finset.sum_congr rfl fun z _ => congrArg₂ (· * ·) (ha z) (hb z)).trans
    ((href p q).symm.trans (at2 ref I h0 h1).symm)))

/-- Lane `z` of lane block `q`, of `n` blocks of `w` lanes. -/
theorem lane_lt {n w K : ℕ} (hK : K = n * w) (q : Fin n) (z : Fin w) : q.val * w + z.val < K := by
  have := z.isLt
  have : (q.val + 1) * w ≤ n * w := Nat.mul_le_mul_right w q.isLt
  rw [Nat.add_mul] at this; omega

/-- An accumulator reset at point `b` and added into up to point `b + e`, each point adding at `x`, `y` the products of its own blocks' `w`
    lanes, ends at the sum of the products of all `K` lanes. -/
theorem fold_product {N b e w K R C : ℕ} {r : (n : ℕ) → n < N → (⟨2, ![R, C]⟩ : Shape).Idx → EReal}
    {s : (n : ℕ) → n < N → ((⟨2, ![R, C]⟩ : Shape).Idx → EReal) → (⟨2, ![R, C]⟩ : Shape).Idx → EReal}
    (f g : (n : ℕ) → n < N → Fin w → EReal) (x : Fin R) (y : Fin C) (A B : Fin K → EReal) (hK : K = (e + 1) * w) (hb : b + e < N)
    (hr : ∀ h : b < N, r b h (ix2 x y) = 0 + ∑ z, f b h z * g b h z)
    (hs : ∀ n (h : n < N) acc, b < n → n ≤ b + e → s n h acc (ix2 x y) = acc (ix2 x y) + ∑ z, f n h z * g n h z)
    (hf : ∀ (q : Fin (e + 1)) (h : b + q.val < N) (z : Fin w), f (b + q.val) h z = A ⟨q.val * w + z.val, lane_lt hK q z⟩)
    (hg : ∀ (q : Fin (e + 1)) (h : b + q.val < N) (z : Fin w), g (b + q.val) h z = B ⟨q.val * w + z.val, lane_lt hK q z⟩) :
    Pipeline.accAt r s b e hb (ix2 x y) = ∑ z, A z * B z := by
  have fold : ∀ (j : ℕ) (hj : j ≤ e) (h : b + j < N), Pipeline.accAt r s b j h (ix2 x y)
      = ∑ q ∈ Finset.range (j + 1), if h : b + q < N then ∑ z, f (b + q) h z * g (b + q) h z else 0 := by
    intro j
    induction j with
    | zero => intro _ h; rw [Pipeline.accAt_zero, hr, zero_add, Finset.sum_range_one, dif_pos h]; rfl
    | succ j ih => intro hj h; rw [Pipeline.accAt_succ, hs _ _ _ (by omega) (by omega), ih (by omega) (by omega), Finset.sum_range_succ _ (j + 1), dif_pos h]
  rw [fold e le_rfl hb, ← Fin.sum_univ_eq_sum_range (fun q => if h : b + q < N then ∑ z, f (b + q) h z * g (b + q) h z else 0),
    ← Fin.sum_mul_add_fin (e + 1) w (fun z => A z * B z) hK]
  refine Finset.sum_congr rfl fun q _ => ?_
  have hq : b + q.val < N := by have := q.isLt; omega
  rw [dif_pos hq]
  exact Finset.sum_congr rfl fun z _ => congrArg₂ (· * ·) (hf q hq z) (hg q hq z)

end Cert.Prod

end
-- ==== Proof.FfnInDa.lean ====
module

public import proofs.«01_k».proof.Proof.Prod
public import proofs.«01_k».proof.Proof.Gen.FfnInDaIdeal.Value
public import proofs.«01_k».proof.Proof.Gen.FfnInDaRefIdeal.Run
public import proofs.«01_k».proof.Defs
public import Idealize.ShloMosaic.Lib.Quiescent
public import Idealize.ShloMosaic.Adequacy
public import Idealize.ShloMosaic.Init

@[expose] public section

set_option maxRecDepth 65536

/-! The gradient of a product's operand, 2048 lanes by 5632: point `t` is row block `t / 8`, column block `t / 4 % 2`, lane block `t % 4`. -/

noncomputable section

open Idealize.ShloMosaic Idealize.ShloMosaic.TcCoe Idealize.SL.Sem Idealize.ShloMosaic.StableHlo

namespace Cert.FfnInDaIdeal.Prod

open Cert.FfnInDaIdeal Cert.FfnInDaIdeal.Gen Cert.Prod

variable (m : (ℓ : Loc nD τ sig) → Buf (Elt Ideal) ℓ) (c : Dev nD)

abbrev W : FVec Ideal S2048x5632 .f32 := m (c.tc.loc main_arg0)
abbrev G : FVec Ideal S8192x5632 .f32 := m (c.tc.loc main_arg1)

/-- The cotangent as the call reads it: the argument, whose cast is exact. -/
theorem V_g : (V m c main_v0 : FVec Ideal S8192x5632 .bf16) = truncf .bf16 (G m c) bitsLt_bf16_f32 := by entry_read; rfl

/-- The weight as the call reads it. -/
theorem V_w : (V m c main_v1 : FVec Ideal S2048x5632 .bf16) = truncf .bf16 (W m c) bitsLt_bf16_f32 := by entry_read; rfl

/-- Where each window's block of a point begins, in blocks. -/
theorem idx_facts : ∀ t : Fin grid0.N, (win0_0.index t (0 : Fin 2) = t.val / 8 ∧ win0_0.index t (1 : Fin 2) = t.val % 4)
    ∧ (win0_1.index t (0 : Fin 2) = t.val / 4 % 2 ∧ win0_1.index t (1 : Fin 2) = t.val % 4) := by
  decide +kernel

/-- A block of the cotangent at the place of `r` and `k`. -/
theorem blk0 (t : Fin cfg0.N) (x : Fin 1024) (z : Fin 1408) (r : Fin 8192) (k : Fin 5632) (hr : t.val / 8 * 1024 + x.val = r.val) (hk : t.val % 4 * 1408 + z.val = k.val) :
    (iblk m c 0 t : FVec Ideal S1024x1408 .bf16) (ix2 x z) = G m c (ix2 r k) := by
  obtain ⟨⟨e0, e1⟩, _⟩ := idx_facts t
  refine (View.read_apply ..).trans ((congrFun (V_g m c) _).trans (at2 (G m c) _ ?_ ?_))
  · show win0_0.index t (0 : Fin 2) * 1024 + 1 * x.val = r.val; omega
  · show win0_0.index t (1 : Fin 2) * 1408 + 1 * z.val = k.val; omega

/-- A block of the weight at the place of `r` and `k`. -/
theorem blk1 (t : Fin cfg0.N) (x : Fin 1024) (z : Fin 1408) (r : Fin 2048) (k : Fin 5632) (hr : t.val / 4 % 2 * 1024 + x.val = r.val) (hk : t.val % 4 * 1408 + z.val = k.val) :
    (iblk m c 1 t : FVec Ideal S1024x1408 .bf16) (ix2 x z) = W m c (ix2 r k) := by
  obtain ⟨_, e0, e1⟩ := idx_facts t
  refine (View.read_apply ..).trans ((congrFun (V_w m c) _).trans (at2 (W m c) _ ?_ ?_))
  · show win0_1.index t (0 : Fin 2) * 1024 + 1 * x.val = r.val; omega
  · show win0_1.index t (1 : Fin 2) * 1408 + 1 * z.val = k.val; omega

/-- What a point adds to its block. -/
theorem pay_at (acc : Vec Ideal S1024x1024 .f32) (g w : Vec Ideal S1024x1408 .bf16) (x y : Fin 1024) :
    k0_pay2 acc g w (ix2 x y) = acc (ix2 x y) + ∑ z, g (ix2 x z) * w (ix2 y z) := by
  pointwise [k0_pay2]

theorem zero_at (x y : Fin 1024) : k0_pay1 (F := Ideal) (ix2 x y) = 0 := by pointwise [k0_pay1]

/-- The blocks point `n` reads. -/
abbrev bG (n : ℕ) (h : n < cfg0.N) : FVec Ideal S1024x1408 .bf16 := iblk m c 0 ⟨n, h⟩
abbrev bW (n : ℕ) (h : n < cfg0.N) : FVec Ideal S1024x1408 .bf16 := iblk m c 1 ⟨n, h⟩

/-- The array after the run, element by element: the whole product. -/
theorem G2_at (x : Fin 8192) (y : Fin 2048) : Value.G2 m c (ix2 x y) = ∑ z, G m c (ix2 x z) * W m c (ix2 y z) := by
  have e : 4 * Value.run2Of (ix2 x y) = 8 * (x.val / 1024) + 4 * (y.val / 1024) := by
    show 4 * (2 * (x.val / 1024 - 0) + 1 * (y.val / 1024 - 0)) = _; omega
  have hN : 4 * Value.run2Of (ix2 x y) + 3 < cfg0.N := Nat.lt_of_lt_of_eq (by omega) N_0.symm
  have key : Pipeline.accAt (Value.reset2 m c) (Value.step2 m c) (4 * Value.run2Of (ix2 x y)) 3 hN (ix2 ⟨x.val % 1024, by omega⟩ ⟨y.val % 1024, by omega⟩)
      = ∑ z, G m c (ix2 x z) * W m c (ix2 y z) :=
    fold_product (fun n h z => bG m c n h (ix2 ⟨x.val % 1024, by omega⟩ z)) (fun n h z => bW m c n h (ix2 ⟨y.val % 1024, by omega⟩ z)) _ _
      (fun z => G m c (ix2 x z)) (fun z => W m c (ix2 y z)) rfl hN
      (fun h => (pay_at _ _ _ _ _).trans (congrArg (· + _) (zero_at _ _))) (fun n h acc _ _ => pay_at acc _ _ _ _)
      (fun q h z => blk0 m c _ _ _ _ _ (by dsimp only; omega) (by dsimp only; omega)) (fun q h z => blk1 m c _ _ _ _ _ (by dsimp only; omega) (by dsimp only; omega))
  exact (dif_pos hN).trans ((congrArg _ (eq_ix2 _)).trans key)

/-- The reference's product, element by element. -/
theorem ref_at (G : FVec Ideal S8192x5632 .f32) (W : FVec Ideal S2048x5632 .f32) (x : Fin 8192) (y : Fin 2048) :
    Host.dotGeneral Cert.FfnInDaRefIdeal.dot_S8192x5632_S2048x5632_S8192x2048_1_1_0_0_n_n none G W (ix2 x y) = ∑ z, G (ix2 x z) * W (ix2 y z) := by
  pointwise

/-- The call leaves the reference's product. -/
theorem same : (Value.G2 m c : FVec Ideal S8192x2048 .f32) = Host.dotGeneral Cert.FfnInDaRefIdeal.dot_S8192x5632_S2048x5632_S8192x2048_1_1_0_0_n_n none (G m c) (W m c) :=
  ext2 fun x y => (G2_at m c x y).trans (ref_at _ _ x y).symm

end Cert.FfnInDaIdeal.Prod

namespace Cert.FfnInDa.Prod

theorem facts : Cert.FfnInDa.Facts where
  toFacts₀ := { Cert.FfnInDaIdeal.Gen.facts₀ with }

/-- The kernel's body is the idealized kernel's. -/
theorem body_eq : @Cert.FfnInDa.defs₀ Bits _ facts = Cert.FfnInDaIdeal.defs₀ := by
  refine congrArg Defs.onTc (funext fun l => funext fun x => ?_)
  match l, x with
  | 0, (t, s) => rfl

/-- The kernel runs and keeps its arguments. -/
theorem frame_p : Cert.quiescent_FfnInDa (hFfnInDa := facts) := fun m ρ _ => by
  unfold Cert.FfnInDa.defs
  rw [body_eq]
  exact Cert.FfnInDaIdeal.Gen.frame (F := Bits) m ρ

/-- The idealized kernel runs and keeps its arguments. -/
theorem frame_pi : Cert.quiescent_FfnInDaIdeal (hFfnInDaIdeal := Cert.FfnInDaIdeal.Gen.facts) := fun m ρ _ => Cert.FfnInDaIdeal.Gen.frame m ρ

/-- The reference runs and keeps its arguments. -/
theorem frame_ri : Cert.quiescent_FfnInDaRefIdeal (hFfnInDaRefIdeal := Cert.FfnInDaRefIdeal.Gen.facts) := fun m ρ _ =>
  (θ_run Cert.FfnInDaRefIdeal.defs _ _).mono (fun r h => ⟨fun c => (h c).2, sem_eq_zero_of_no_sems (by decide) r.2⟩)
    (Cert.FfnInDaRefIdeal.Value.run (F := Ideal) m ρ)

/-- The kernel's result is the reference's. -/
theorem algebraic : Cert.algebraic_FfnInDaIdeal_FfnInDaRefIdeal (hFfnInDaIdeal := Cert.FfnInDaIdeal.Gen.facts) (hFfnInDaRefIdeal := Cert.FfnInDaRefIdeal.Gen.facts) := by
  intro m ρ m' ρ' _ hagree
  refine ⟨_, Cert.FfnInDaIdeal.Value.run (F := Ideal) m ρ, (θ_run Cert.FfnInDaRefIdeal.defs _ _).mono (fun _ h c => ⟨(h c).1.trans ?_, (h c).2⟩)
    (Cert.FfnInDaRefIdeal.Value.run (F := Ideal) m' ρ')⟩
  rw [(hagree c).1, (hagree c).2]
  exact (Cert.FfnInDaIdeal.Prod.same m c).symm

end Cert.FfnInDa.Prod

end
-- ==== Proof.FfnInDw.lean ====
module

public import proofs.«01_k».proof.Proof.Prod
public import proofs.«01_k».proof.Proof.Gen.FfnInDwIdeal.Value
public import proofs.«01_k».proof.Proof.Gen.FfnInDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 2048 lanes by 5632: point `t` is row block `t / 32`, column block `t / 8 % 4`, token block `t % 8`. -/

noncomputable section

open Idealize.ShloMosaic Idealize.ShloMosaic.TcCoe Idealize.SL.Sem Idealize.ShloMosaic.StableHlo

namespace Cert.FfnInDwIdeal.Prod

open Cert.FfnInDwIdeal Cert.FfnInDwIdeal.Gen Cert.Prod

section Cases

variable {F : FTy → Type} [FloatOps F] (c : Dev nD) (i : grid0.Coords) (arg3 : Memref sig .tc .vmem S1024x1024 .bf16) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1024x1408 .f32) (harg6 : arg6.IsWhole)
  (x0 : Vec F S1024x1024 .bf16) (x1 : Vec F S1024x1408 .bf16) (s : Vec F S1024x1408 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x2048 .f32 := m (c.tc.loc main_arg0)
abbrev G : FVec Ideal S8192x5632 .f32 := m (c.tc.loc main_arg1)

/-- The operand as the call reads it: the argument, whose cast is exact. -/
theorem V_a : (V m c main_v0 : FVec Ideal S8192x2048 .bf16) = truncf .bf16 (A m c) bitsLt_bf16_f32 := by entry_read; rfl

/-- The cotangent as the call reads it. -/
theorem V_g : (V m c main_v1 : FVec Ideal S8192x5632 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 32)
    ∧ (win0_1.index t (0 : Fin 2) = t.val % 8 ∧ win0_1.index t (1 : Fin 2) = t.val / 8 % 4)
    ∧ (win0_2.index t (0 : Fin 2) = t.val / 32 ∧ win0_2.index t (1 : Fin 2) = t.val / 8 % 4) := by
  decide +kernel

/-- A block of the operand at the place of `k` and `r`. -/
theorem blk0 (t : Fin cfg0.N) (z : Fin 1024) (x : Fin 1024) (k : Fin 8192) (r : Fin 2048) (hk : t.val % 8 * 1024 + z.val = k.val) (hr : t.val / 32 * 1024 + x.val = r.val) :
    (iblk m c 0 t : FVec Ideal S1024x1024 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1024 + 1 * x.val = r.val; omega

/-- A block of the cotangent at the place of `k` and `r`. -/
theorem blk1 (t : Fin cfg0.N) (z : Fin 1024) (y : Fin 1408) (k : Fin 8192) (r : Fin 5632) (hk : t.val % 8 * 1024 + z.val = k.val) (hr : t.val / 8 % 4 * 1408 + y.val = r.val) :
    (iblk m c 1 t : FVec Ideal S1024x1408 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1408 + 1 * y.val = r.val; omega

/-- What a point adds to the accumulator. -/
theorem pay_at (acc : Vec Ideal S1024x1408 .f32) (a : Vec Ideal S1024x1024 .bf16) (g : Vec Ideal S1024x1408 .bf16) (x : Fin 1024) (y : Fin 1408) :
    k0_pay2 acc a g (ix2 x y) = acc (ix2 x y) + ∑ z, a (ix2 z x) * g (ix2 z y) := by
  pointwise [k0_pay2]

theorem zero_at (x : Fin 1024) (y : Fin 1408) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bG (n : ℕ) (h : n < cfg0.N) : FVec Ideal S1024x1408 .bf16 := iblk m c 1 ⟨n, h⟩

/-- What a first point leaves in the accumulator, whatever it held. -/
theorem at_first (n : ℕ) (h : n < cfg0.N) (acc : Vec Ideal S1024x1408 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1024x1408 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1024) (y : Fin 1408) (r : Fin 2048) (s : Fin 5632) (hr : t.val / 32 * 1024 + x.val = r.val) (hs : t.val / 8 % 4 * 1408 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S2048x5632 .bf16 :=
  truncf .bf16 (transpose S2048x5632 [1,0] (Host.dotGeneral Cert.FfnInDwRefIdeal.dot_S8192x5632_S8192x2048_S5632x2048_0_0_1_1_n_n none (G m c) (A m c) : FVec Ideal Cert.FfnInDwRefIdeal.S5632x2048 .f32) Cert.FfnInDwRefIdeal.Gen.facts.transposes_S5632x2048_S2048x5632_1_0) bitsLt_bf16_f32

/-- The reference's product, element by element. -/
theorem ref_at (x : Fin 2048) (y : Fin 5632) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S2048x5632 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 64 := lt_of_lt_of_eq t.isLt N_0
  have hx : (y 0).val < 1024 := (y 0).isLt
  have hy : (y 1).val < 1408 := (y 1).isLt
  refine (congrArg _ (eq_ix2 y)).trans ((acc_at m c t ((flush0_2 t).mp hf) (y 0) (y 1) ⟨t.val / 32 * 1024 + (y 0).val, by omega⟩ ⟨t.val / 8 % 4 * 1408 + (y 1).val, by omega⟩ rfl rfl).trans (ref_at m c _ _).symm) |>.trans (at2 (ref m c) _ ?_ ?_).symm
  · show win0_2.index t (0 : Fin 2) * 1024 + 1 * (y 0).val = t.val / 32 * 1024 + (y 0).val; omega
  · show win0_2.index t (1 : Fin 2) * 1408 + 1 * (y 1).val = t.val / 8 % 4 * 1408 + (y 1).val; omega

end Cert.FfnInDwIdeal.Prod

namespace Cert.FfnInDw.Prod

theorem facts : Cert.FfnInDw.Facts where
  toFacts₀ := { Cert.FfnInDwIdeal.Gen.facts₀ with }

/-- The kernel's body is the idealized kernel's. -/
theorem body_eq : @Cert.FfnInDw.defs₀ Bits _ facts = Cert.FfnInDwIdeal.defs₀ := by
  refine congrArg Defs.onTc (funext fun l => funext fun x => ?_)
  match l, x with
  | 0, (t, s) => rfl

/-- The kernel runs and keeps its arguments. -/
theorem frame_p : Cert.quiescent_FfnInDw (hFfnInDw := facts) := fun m ρ _ => by
  unfold Cert.FfnInDw.defs
  rw [body_eq]
  exact Cert.FfnInDwIdeal.Gen.frame (F := Bits) m ρ

/-- The idealized kernel runs and keeps its arguments. -/
theorem frame_pi : Cert.quiescent_FfnInDwIdeal (hFfnInDwIdeal := Cert.FfnInDwIdeal.Gen.facts) := fun m ρ _ => Cert.FfnInDwIdeal.Gen.frame m ρ

/-- The reference runs and keeps its arguments. -/
theorem frame_ri : Cert.quiescent_FfnInDwRefIdeal (hFfnInDwRefIdeal := Cert.FfnInDwRefIdeal.Gen.facts) := fun m ρ _ =>
  (θ_run Cert.FfnInDwRefIdeal.defs _ _).mono (fun r h => ⟨fun c => (h c).2, sem_eq_zero_of_no_sems (by decide) r.2⟩)
    (Cert.FfnInDwRefIdeal.Value.run (F := Ideal) m ρ)

/-- The kernel's result is the reference's. -/
theorem algebraic : Cert.algebraic_FfnInDwIdeal_FfnInDwRefIdeal (hFfnInDwIdeal := Cert.FfnInDwIdeal.Gen.facts) (hFfnInDwRefIdeal := Cert.FfnInDwRefIdeal.Gen.facts) := by
  intro m ρ m' ρ' _ hagree
  refine ⟨_, Cert.FfnInDwIdeal.Value.run_blocks (F := Ideal) m ρ, (θ_run Cert.FfnInDwRefIdeal.defs _ _).mono (fun _ h c => ⟨(h c).1.trans ?_, (h c).2⟩)
    (Cert.FfnInDwRefIdeal.Value.run (F := Ideal) m' ρ')⟩
  rw [(hagree c).1, (hagree c).2]
  exact (Cert.FfnInDwIdeal.Prod.same m c).symm

end Cert.FfnInDw.Prod

end
-- ==== Proof.FfnInFwd.lean ====
module

public import proofs.«01_k».proof.Proof.Prod
public import proofs.«01_k».proof.Proof.Gen.FfnInFwdIdeal.Value
public import proofs.«01_k».proof.Proof.Gen.FfnInFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 2048 lanes by 5632: point `t` is token block `t / 4`, column block `t % 4`. -/

noncomputable section

open Idealize.ShloMosaic Idealize.ShloMosaic.TcCoe Idealize.SL.Sem Idealize.ShloMosaic.StableHlo

namespace Cert.FfnInFwdIdeal.Prod

open Cert.FfnInFwdIdeal Cert.FfnInFwdIdeal.Gen Cert.Prod

variable (m : (ℓ : Loc nD τ sig) → Buf (Elt Ideal) ℓ) (c : Dev nD)

abbrev A : FVec Ideal S8192x2048 .f32 := m (c.tc.loc main_arg0)
abbrev W : FVec Ideal S2048x5632 .f32 := m (c.tc.loc main_arg1)

/-- The tokens as the call reads them: the argument, whose cast is exact. -/
theorem V_a : (V m c main_v0 : FVec Ideal S8192x2048 .bf16) = truncf .bf16 (A m c) bitsLt_bf16_f32 := by entry_read; rfl

/-- The weight as the call reads it. -/
theorem V_w : (V m c main_v1 : FVec Ideal S2048x5632 .bf16) = truncf .bf16 (W m c) bitsLt_bf16_f32 := by entry_read; rfl

/-- Where each window's block of a point begins, in blocks. -/
theorem idx_facts : ∀ t : Fin grid0.N, (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4) := by
  decide +kernel

/-- A block of the tokens at the place of `r` and `k`. -/
theorem blk0 (t : Fin cfg0.N) (x : Fin 1024) (r : Fin 8192) (k : Fin 2048) (hr : t.val / 4 * 1024 + x.val = r.val) :
    (iblk m c 0 t : FVec Ideal S1024x2048 .bf16) (ix2 x k) = A m c (ix2 r k) := by
  obtain ⟨⟨e0, e1⟩, _⟩ := idx_facts t
  refine (View.read_apply ..).trans ((congrFun (V_a m c) _).trans (at2 (A m c) _ ?_ ?_))
  · show win0_0.index t (0 : Fin 2) * 1024 + 1 * x.val = r.val; omega
  · show win0_0.index t (1 : Fin 2) * 2048 + 1 * k.val = k.val; omega

/-- A block of the weight at the place of `k` and `r`. -/
theorem blk1 (t : Fin cfg0.N) (k : Fin 2048) (y : Fin 1408) (r : Fin 5632) (hr : t.val % 4 * 1408 + y.val = r.val) :
    (iblk m c 1 t : FVec Ideal S2048x1408 .bf16) (ix2 k y) = W m c (ix2 k r) := by
  obtain ⟨_, ⟨e0, e1⟩, _⟩ := idx_facts t
  refine (View.read_apply ..).trans ((congrFun (V_w m c) _).trans (at2 (W m c) _ ?_ ?_))
  · show win0_1.index t (0 : Fin 2) * 2048 + 1 * k.val = k.val; omega
  · show win0_1.index t (1 : Fin 2) * 1408 + 1 * y.val = r.val; omega

/-- What a point leaves in its block. -/
theorem pay_at (a : Vec Ideal S1024x2048 .bf16) (w : Vec Ideal S2048x1408 .bf16) (x : Fin 1024) (y : Fin 1408) :
    k0_pay1 a w (ix2 x y) = ∑ z, a (ix2 x z) * w (ix2 z y) := by
  pointwise [k0_pay1]

/-- The reference's product. -/
abbrev ref : FVec Ideal S8192x5632 .f32 := (Host.dotGeneral Cert.FfnInFwdRefIdeal.dot_S8192x2048_S2048x5632_S8192x5632_1_0_0_1_n_n none (A m c) (W m c) : FVec Ideal S8192x5632 .f32)

/-- The reference's product, element by element. -/
theorem ref_at (A : FVec Ideal S8192x2048 .f32) (W : FVec Ideal S2048x5632 .f32) (x : Fin 8192) (y : Fin 5632) :
    Host.dotGeneral Cert.FfnInFwdRefIdeal.dot_S8192x2048_S2048x5632_S8192x5632_1_0_0_1_n_n none A W (ix2 x y) = ∑ z, A (ix2 x z) * W (ix2 z y) := by
  pointwise

/-- The call leaves the reference's product. -/
theorem same : ((dats m 0 c).arrAt 2 cfg0.N : FVec Ideal S8192x5632 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 32 := lt_of_lt_of_eq t.isLt N_0
  have hx : (y 0).val < 1024 := (y 0).isLt
  have hy : (y 1).val < 1408 := (y 1).isLt
  refine (congrArg _ (eq_ix2 y)).trans ((pay_at _ _ (y 0) (y 1)).trans (Eq.trans ?_ (ref_at (A m c) (W m c) ⟨t.val / 4 * 1024 + (y 0).val, by omega⟩ ⟨t.val % 4 * 1408 + (y 1).val, by omega⟩).symm) |>.trans (at2 (ref m c) _ ?_ ?_).symm)
  · exact Finset.sum_congr rfl fun z _ => congrArg₂ (· * ·) (blk0 m c t _ _ z rfl) (blk1 m c t z _ _ rfl)
  · show win0_2.index t (0 : Fin 2) * 1024 + 1 * (y 0).val = t.val / 4 * 1024 + (y 0).val; omega
  · show win0_2.index t (1 : Fin 2) * 1408 + 1 * (y 1).val = t.val % 4 * 1408 + (y 1).val; omega

end Cert.FfnInFwdIdeal.Prod

namespace Cert.FfnInFwd.Prod

theorem facts : Cert.FfnInFwd.Facts where
  toFacts₀ := { Cert.FfnInFwdIdeal.Gen.facts₀ with }

/-- The kernel's body is the idealized kernel's. -/
theorem body_eq : @Cert.FfnInFwd.defs₀ Bits _ facts = Cert.FfnInFwdIdeal.defs₀ := by
  refine congrArg Defs.onTc (funext fun l => funext fun x => ?_)
  match l, x with
  | 0, (t, s) => rfl

/-- The kernel runs and keeps its arguments. -/
theorem frame_p : Cert.quiescent_FfnInFwd (hFfnInFwd := facts) := fun m ρ _ => by
  unfold Cert.FfnInFwd.defs
  rw [body_eq]
  exact Cert.FfnInFwdIdeal.Gen.frame (F := Bits) m ρ

/-- The idealized kernel runs and keeps its arguments. -/
theorem frame_pi : Cert.quiescent_FfnInFwdIdeal (hFfnInFwdIdeal := Cert.FfnInFwdIdeal.Gen.facts) := fun m ρ _ => Cert.FfnInFwdIdeal.Gen.frame m ρ

/-- The reference runs and keeps its arguments. -/
theorem frame_ri : Cert.quiescent_FfnInFwdRefIdeal (hFfnInFwdRefIdeal := Cert.FfnInFwdRefIdeal.Gen.facts) := fun m ρ _ =>
  (θ_run Cert.FfnInFwdRefIdeal.defs _ _).mono (fun r h => ⟨fun c => (h c).2, sem_eq_zero_of_no_sems (by decide) r.2⟩)
    (Cert.FfnInFwdRefIdeal.Value.run (F := Ideal) m ρ)

/-- The kernel's result is the reference's. -/
theorem algebraic : Cert.algebraic_FfnInFwdIdeal_FfnInFwdRefIdeal (hFfnInFwdIdeal := Cert.FfnInFwdIdeal.Gen.facts) (hFfnInFwdRefIdeal := Cert.FfnInFwdRefIdeal.Gen.facts) := by
  intro m ρ m' ρ' _ hagree
  refine ⟨_, Cert.FfnInFwdIdeal.Value.run_blocks (F := Ideal) m ρ, (θ_run Cert.FfnInFwdRefIdeal.defs _ _).mono (fun _ h c => ⟨(h c).1.trans ?_, (h c).2⟩)
    (Cert.FfnInFwdRefIdeal.Value.run (F := Ideal) m' ρ')⟩
  rw [(hagree c).1, (hagree c).2]
  exact (Cert.FfnInFwdIdeal.Prod.same m c).symm

end Cert.FfnInFwd.Prod

end
-- ==== Proof.FfnOutDa.lean ====
module

public import proofs.«01_k».proof.Proof.Prod
public import proofs.«01_k».proof.Proof.Gen.FfnOutDaIdeal.Value
public import proofs.«01_k».proof.Proof.Gen.FfnOutDaRefIdeal.Run
public import proofs.«01_k».proof.Defs
public import Idealize.ShloMosaic.Lib.Quiescent
public import Idealize.ShloMosaic.Adequacy
public import Idealize.ShloMosaic.Init

@[expose] public section

set_option maxRecDepth 65536

/-! The gradient of a product's operand, 5632 lanes by 2048: point `t` is row block `t / 4`, column block `t % 4`. -/

noncomputable section

open Idealize.ShloMosaic Idealize.ShloMosaic.TcCoe Idealize.SL.Sem Idealize.ShloMosaic.StableHlo

namespace Cert.FfnOutDaIdeal.Prod

open Cert.FfnOutDaIdeal Cert.FfnOutDaIdeal.Gen Cert.Prod

variable (m : (ℓ : Loc nD τ sig) → Buf (Elt Ideal) ℓ) (c : Dev nD)

abbrev W : FVec Ideal S5632x2048 .f32 := m (c.tc.loc main_arg0)
abbrev G : FVec Ideal S8192x2048 .f32 := m (c.tc.loc main_arg1)

/-- The cotangent as the call reads them: the argument, whose cast is exact. -/
theorem V_g : (V m c main_v0 : FVec Ideal S8192x2048 .bf16) = truncf .bf16 (G m c) bitsLt_bf16_f32 := by entry_read; rfl

/-- The weight as the call reads it. -/
theorem V_w : (V m c main_v1 : FVec Ideal S5632x2048 .bf16) = truncf .bf16 (W m c) bitsLt_bf16_f32 := by entry_read; rfl

/-- Where each window's block of a point begins, in blocks. -/
theorem idx_facts : ∀ t : Fin grid0.N, (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = t.val % 4) := by
  decide +kernel

/-- A block of the cotangent at the place of `r` and `k`. -/
theorem blk0 (t : Fin cfg0.N) (x : Fin 1024) (r : Fin 8192) (k : Fin 2048) (hr : t.val / 4 * 1024 + x.val = r.val) :
    (iblk m c 0 t : FVec Ideal S1024x2048 .bf16) (ix2 x k) = G m c (ix2 r k) := by
  obtain ⟨⟨e0, e1⟩, _⟩ := idx_facts t
  refine (View.read_apply ..).trans ((congrFun (V_g m c) _).trans (at2 (G m c) _ ?_ ?_))
  · show win0_0.index t (0 : Fin 2) * 1024 + 1 * x.val = r.val; omega
  · show win0_0.index t (1 : Fin 2) * 2048 + 1 * k.val = k.val; omega

/-- A block of the weight at the place of `r` and `k`. -/
theorem blk1 (t : Fin cfg0.N) (y : Fin 1408) (r : Fin 5632) (k : Fin 2048) (hr : t.val % 4 * 1408 + y.val = r.val) :
    (iblk m c 1 t : FVec Ideal S1408x2048 .bf16) (ix2 y k) = W m c (ix2 r k) := by
  obtain ⟨_, ⟨e0, e1⟩, _⟩ := idx_facts t
  refine (View.read_apply ..).trans ((congrFun (V_w m c) _).trans (at2 (W m c) _ ?_ ?_))
  · show win0_1.index t (0 : Fin 2) * 1408 + 1 * y.val = r.val; omega
  · show win0_1.index t (1 : Fin 2) * 2048 + 1 * k.val = k.val; omega

/-- What a point leaves in its block. -/
theorem pay_at (g : Vec Ideal S1024x2048 .bf16) (w : Vec Ideal S1408x2048 .bf16) (x : Fin 1024) (y : Fin 1408) :
    k0_pay1 g w (ix2 x y) = ∑ z, g (ix2 x z) * w (ix2 y z) := by
  pointwise [k0_pay1]

/-- The reference's product. -/
abbrev ref : FVec Ideal S8192x5632 .f32 := (Host.dotGeneral Cert.FfnOutDaRefIdeal.dot_S8192x2048_S5632x2048_S8192x5632_1_1_0_0_n_n none (G m c) (W m c) : FVec Ideal S8192x5632 .f32)

/-- The reference's product, element by element. -/
theorem ref_at (G : FVec Ideal S8192x2048 .f32) (W : FVec Ideal S5632x2048 .f32) (x : Fin 8192) (y : Fin 5632) :
    Host.dotGeneral Cert.FfnOutDaRefIdeal.dot_S8192x2048_S5632x2048_S8192x5632_1_1_0_0_n_n none G W (ix2 x y) = ∑ z, G (ix2 x z) * W (ix2 y z) := by
  pointwise

/-- The call leaves the reference's product. -/
theorem same : ((dats m 0 c).arrAt 2 cfg0.N : FVec Ideal S8192x5632 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 32 := lt_of_lt_of_eq t.isLt N_0
  have hx : (y 0).val < 1024 := (y 0).isLt
  have hy : (y 1).val < 1408 := (y 1).isLt
  refine (congrArg _ (eq_ix2 y)).trans ((pay_at _ _ (y 0) (y 1)).trans (Eq.trans ?_ (ref_at (G m c) (W m c) ⟨t.val / 4 * 1024 + (y 0).val, by omega⟩ ⟨t.val % 4 * 1408 + (y 1).val, by omega⟩).symm) |>.trans (at2 (ref m c) _ ?_ ?_).symm)
  · exact Finset.sum_congr rfl fun z _ => congrArg₂ (· * ·) (blk0 m c t _ _ z rfl) (blk1 m c t _ _ z rfl)
  · show win0_2.index t (0 : Fin 2) * 1024 + 1 * (y 0).val = t.val / 4 * 1024 + (y 0).val; omega
  · show win0_2.index t (1 : Fin 2) * 1408 + 1 * (y 1).val = t.val % 4 * 1408 + (y 1).val; omega

end Cert.FfnOutDaIdeal.Prod

namespace Cert.FfnOutDa.Prod

theorem facts : Cert.FfnOutDa.Facts where
  toFacts₀ := { Cert.FfnOutDaIdeal.Gen.facts₀ with }

/-- The kernel's body is the idealized kernel's. -/
theorem body_eq : @Cert.FfnOutDa.defs₀ Bits _ facts = Cert.FfnOutDaIdeal.defs₀ := by
  refine congrArg Defs.onTc (funext fun l => funext fun x => ?_)
  match l, x with
  | 0, (t, s) => rfl

/-- The kernel runs and keeps its arguments. -/
theorem frame_p : Cert.quiescent_FfnOutDa (hFfnOutDa := facts) := fun m ρ _ => by
  unfold Cert.FfnOutDa.defs
  rw [body_eq]
  exact Cert.FfnOutDaIdeal.Gen.frame (F := Bits) m ρ

/-- The idealized kernel runs and keeps its arguments. -/
theorem frame_pi : Cert.quiescent_FfnOutDaIdeal (hFfnOutDaIdeal := Cert.FfnOutDaIdeal.Gen.facts) := fun m ρ _ => Cert.FfnOutDaIdeal.Gen.frame m ρ

/-- The reference runs and keeps its arguments. -/
theorem frame_ri : Cert.quiescent_FfnOutDaRefIdeal (hFfnOutDaRefIdeal := Cert.FfnOutDaRefIdeal.Gen.facts) := fun m ρ _ =>
  (θ_run Cert.FfnOutDaRefIdeal.defs _ _).mono (fun r h => ⟨fun c => (h c).2, sem_eq_zero_of_no_sems (by decide) r.2⟩)
    (Cert.FfnOutDaRefIdeal.Value.run (F := Ideal) m ρ)

/-- The kernel's result is the reference's. -/
theorem algebraic : Cert.algebraic_FfnOutDaIdeal_FfnOutDaRefIdeal (hFfnOutDaIdeal := Cert.FfnOutDaIdeal.Gen.facts) (hFfnOutDaRefIdeal := Cert.FfnOutDaRefIdeal.Gen.facts) := by
  intro m ρ m' ρ' _ hagree
  refine ⟨_, Cert.FfnOutDaIdeal.Value.run_blocks (F := Ideal) m ρ, (θ_run Cert.FfnOutDaRefIdeal.defs _ _).mono (fun _ h c => ⟨(h c).1.trans ?_, (h c).2⟩)
    (Cert.FfnOutDaRefIdeal.Value.run (F := Ideal) m' ρ')⟩
  rw [(hagree c).1, (hagree c).2]
  exact (Cert.FfnOutDaIdeal.Prod.same m c).symm

end Cert.FfnOutDa.Prod

end
-- ==== Proof.FfnOutDw.lean ====
module

public import proofs.«01_k».proof.Proof.Prod
public import proofs.«01_k».proof.Proof.Gen.FfnOutDwIdeal.Value
public import proofs.«01_k».proof.Proof.Gen.FfnOutDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 5632 lanes by 2048: point `t` is row block `t / 16`, column block `t / 8 % 2`, token block `t % 8`. -/

noncomputable section

open Idealize.ShloMosaic Idealize.ShloMosaic.TcCoe Idealize.SL.Sem Idealize.ShloMosaic.StableHlo

namespace Cert.FfnOutDwIdeal.Prod

open Cert.FfnOutDwIdeal Cert.FfnOutDwIdeal.Gen Cert.Prod

section Cases

variable {F : FTy → Type} [FloatOps F] (c : Dev nD) (i : grid0.Coords) (arg3 : Memref sig .tc .vmem S1024x1408 .bf16) (harg3 : arg3.IsWhole) (arg4 : Memref sig .tc .vmem S1024x1024 .bf16) (harg4 : arg4.IsWhole)
  (arg5 : Memref sig .tc .vmem S1408x1024 .bf16) (harg5 : arg5.IsWhole) (arg6 : Memref sig .tc .vmem S1408x1024 .f32) (harg6 : arg6.IsWhole)
  (x0 : Vec F S1024x1408 .bf16) (x1 : Vec F S1024x1024 .bf16) (s : Vec F S1408x1024 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x5632 .f32 := m (c.tc.loc main_arg0)
abbrev G : FVec Ideal S8192x2048 .f32 := m (c.tc.loc main_arg1)

/-- The operand as the call reads it: the argument, whose cast is exact. -/
theorem V_a : (V m c main_v0 : FVec Ideal S8192x5632 .bf16) = truncf .bf16 (A m c) bitsLt_bf16_f32 := by entry_read; rfl

/-- The cotangent as the call reads it. -/
theorem V_g : (V m c main_v1 : FVec Ideal S8192x2048 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 16)
    ∧ (win0_1.index t (0 : Fin 2) = t.val % 8 ∧ win0_1.index t (1 : Fin 2) = t.val / 8 % 2)
    ∧ (win0_2.index t (0 : Fin 2) = t.val / 16 ∧ win0_2.index t (1 : Fin 2) = t.val / 8 % 2) := by
  decide +kernel

/-- A block of the operand at the place of `k` and `r`. -/
theorem blk0 (t : Fin cfg0.N) (z : Fin 1024) (x : Fin 1408) (k : Fin 8192) (r : Fin 5632) (hk : t.val % 8 * 1024 + z.val = k.val) (hr : t.val / 16 * 1408 + x.val = r.val) :
    (iblk m c 0 t : FVec Ideal S1024x1408 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1408 + 1 * x.val = r.val; omega

/-- A block of the cotangent at the place of `k` and `r`. -/
theorem blk1 (t : Fin cfg0.N) (z : Fin 1024) (y : Fin 1024) (k : Fin 8192) (r : Fin 2048) (hk : t.val % 8 * 1024 + z.val = k.val) (hr : t.val / 8 % 2 * 1024 + y.val = r.val) :
    (iblk m c 1 t : FVec Ideal S1024x1024 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1024 + 1 * y.val = r.val; omega

/-- What a point adds to the accumulator. -/
theorem pay_at (acc : Vec Ideal S1408x1024 .f32) (a : Vec Ideal S1024x1408 .bf16) (g : Vec Ideal S1024x1024 .bf16) (x : Fin 1408) (y : Fin 1024) :
    k0_pay2 acc a g (ix2 x y) = acc (ix2 x y) + ∑ z, a (ix2 z x) * g (ix2 z y) := by
  pointwise [k0_pay2]

theorem zero_at (x : Fin 1408) (y : Fin 1024) : k0_pay1 (F := Ideal) (ix2 x y) = 0 := by pointwise [k0_pay1]

/-- The blocks point `n` reads. -/
abbrev bA (n : ℕ) (h : n < cfg0.N) : FVec Ideal S1024x1408 .bf16 := iblk m c 0 ⟨n, h⟩
abbrev bG (n : ℕ) (h : n < cfg0.N) : FVec Ideal S1024x1024 .bf16 := iblk m c 1 ⟨n, h⟩

/-- What a first point leaves in the accumulator, whatever it held. -/
theorem at_first (n : ℕ) (h : n < cfg0.N) (acc : Vec Ideal S1408x1024 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1408x1024 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1408) (y : Fin 1024) (r : Fin 5632) (s : Fin 2048) (hr : t.val / 16 * 1408 + x.val = r.val) (hs : t.val / 8 % 2 * 1024 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S5632x2048 .bf16 :=
  truncf .bf16 (transpose S5632x2048 [1,0] (Host.dotGeneral Cert.FfnOutDwRefIdeal.dot_S8192x2048_S8192x5632_S2048x5632_0_0_1_1_n_n none (G m c) (A m c) : FVec Ideal Cert.FfnOutDwRefIdeal.S2048x5632 .f32) Cert.FfnOutDwRefIdeal.Gen.facts.transposes_S2048x5632_S5632x2048_1_0) bitsLt_bf16_f32

/-- The reference's product, element by element. -/
theorem ref_at (x : Fin 5632) (y : Fin 2048) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S5632x2048 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 64 := lt_of_lt_of_eq t.isLt N_0
  have hx : (y 0).val < 1408 := (y 0).isLt
  have hy : (y 1).val < 1024 := (y 1).isLt
  refine (congrArg _ (eq_ix2 y)).trans ((acc_at m c t ((flush0_2 t).mp hf) (y 0) (y 1) ⟨t.val / 16 * 1408 + (y 0).val, by omega⟩ ⟨t.val / 8 % 2 * 1024 + (y 1).val, by omega⟩ rfl rfl).trans (ref_at m c _ _).symm) |>.trans (at2 (ref m c) _ ?_ ?_).symm
  · show win0_2.index t (0 : Fin 2) * 1408 + 1 * (y 0).val = t.val / 16 * 1408 + (y 0).val; omega
  · show win0_2.index t (1 : Fin 2) * 1024 + 1 * (y 1).val = t.val / 8 % 2 * 1024 + (y 1).val; omega

end Cert.FfnOutDwIdeal.Prod

namespace Cert.FfnOutDw.Prod

theorem facts : Cert.FfnOutDw.Facts where
  toFacts₀ := { Cert.FfnOutDwIdeal.Gen.facts₀ with }

/-- The kernel's body is the idealized kernel's. -/
theorem body_eq : @Cert.FfnOutDw.defs₀ Bits _ facts = Cert.FfnOutDwIdeal.defs₀ := by
  refine congrArg Defs.onTc (funext fun l => funext fun x => ?_)
  match l, x with
  | 0, (t, s) => rfl

/-- The kernel runs and keeps its arguments. -/
theorem frame_p : Cert.quiescent_FfnOutDw (hFfnOutDw := facts) := fun m ρ _ => by
  unfold Cert.FfnOutDw.defs
  rw [body_eq]
  exact Cert.FfnOutDwIdeal.Gen.frame (F := Bits) m ρ

/-- The idealized kernel runs and keeps its arguments. -/
theorem frame_pi : Cert.quiescent_FfnOutDwIdeal (hFfnOutDwIdeal := Cert.FfnOutDwIdeal.Gen.facts) := fun m ρ _ => Cert.FfnOutDwIdeal.Gen.frame m ρ

/-- The reference runs and keeps its arguments. -/
theorem frame_ri : Cert.quiescent_FfnOutDwRefIdeal (hFfnOutDwRefIdeal := Cert.FfnOutDwRefIdeal.Gen.facts) := fun m ρ _ =>
  (θ_run Cert.FfnOutDwRefIdeal.defs _ _).mono (fun r h => ⟨fun c => (h c).2, sem_eq_zero_of_no_sems (by decide) r.2⟩)
    (Cert.FfnOutDwRefIdeal.Value.run (F := Ideal) m ρ)

/-- The kernel's result is the reference's. -/
theorem algebraic : Cert.algebraic_FfnOutDwIdeal_FfnOutDwRefIdeal (hFfnOutDwIdeal := Cert.FfnOutDwIdeal.Gen.facts) (hFfnOutDwRefIdeal := Cert.FfnOutDwRefIdeal.Gen.facts) := by
  intro m ρ m' ρ' _ hagree
  refine ⟨_, Cert.FfnOutDwIdeal.Value.run_blocks (F := Ideal) m ρ, (θ_run Cert.FfnOutDwRefIdeal.defs _ _).mono (fun _ h c => ⟨(h c).1.trans ?_, (h c).2⟩)
    (Cert.FfnOutDwRefIdeal.Value.run (F := Ideal) m' ρ')⟩
  rw [(hagree c).1, (hagree c).2]
  exact (Cert.FfnOutDwIdeal.Prod.same m c).symm

end Cert.FfnOutDw.Prod

end
-- ==== Proof.FfnOutFwd.lean ====
module

public import proofs.«01_k».proof.Proof.Prod
public import proofs.«01_k».proof.Proof.Gen.FfnOutFwdIdeal.Value
public import proofs.«01_k».proof.Proof.Gen.FfnOutFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 5632 lanes by 2048: point `t` is row block `t / 8`, column block `t / 4 % 2`, lane block `t % 4`. -/

noncomputable section

open Idealize.ShloMosaic Idealize.ShloMosaic.TcCoe Idealize.SL.Sem Idealize.ShloMosaic.StableHlo

namespace Cert.FfnOutFwdIdeal.Prod

open Cert.FfnOutFwdIdeal Cert.FfnOutFwdIdeal.Gen Cert.Prod

variable (m : (ℓ : Loc nD τ sig) → Buf (Elt Ideal) ℓ) (c : Dev nD)

abbrev A : FVec Ideal S8192x5632 .f32 := m (c.tc.loc main_arg0)
abbrev W : FVec Ideal S5632x2048 .f32 := m (c.tc.loc main_arg1)

/-- The operand as the call reads it: the argument, whose cast is exact. -/
theorem V_a : (V m c main_v0 : FVec Ideal S8192x5632 .bf16) = truncf .bf16 (A m c) bitsLt_bf16_f32 := by entry_read; rfl

/-- The weight as the call reads it. -/
theorem V_w : (V m c main_v1 : FVec Ideal S5632x2048 .bf16) = truncf .bf16 (W m c) bitsLt_bf16_f32 := by entry_read; rfl

/-- Where each window's block of a point begins, in blocks. -/
theorem idx_facts : ∀ t : Fin grid0.N, (win0_0.index t (0 : Fin 2) = t.val / 8 ∧ win0_0.index t (1 : Fin 2) = t.val % 4)
    ∧ (win0_1.index t (0 : Fin 2) = t.val % 4 ∧ win0_1.index t (1 : Fin 2) = t.val / 4 % 2) := by
  decide +kernel

/-- A block of the operand at the place of `r` and `k`. -/
theorem blk0 (t : Fin cfg0.N) (x : Fin 1024) (z : Fin 1408) (r : Fin 8192) (k : Fin 5632) (hr : t.val / 8 * 1024 + x.val = r.val) (hk : t.val % 4 * 1408 + z.val = k.val) :
    (iblk m c 0 t : FVec Ideal S1024x1408 .bf16) (ix2 x z) = A m c (ix2 r k) := by
  obtain ⟨⟨e0, e1⟩, _⟩ := idx_facts t
  refine (View.read_apply ..).trans ((congrFun (V_a m c) _).trans (at2 (A m c) _ ?_ ?_))
  · show win0_0.index t (0 : Fin 2) * 1024 + 1 * x.val = r.val; omega
  · show win0_0.index t (1 : Fin 2) * 1408 + 1 * z.val = k.val; omega

/-- A block of the weight at the place of `k` and `r`. -/
theorem blk1 (t : Fin cfg0.N) (z : Fin 1408) (y : Fin 1024) (k : Fin 5632) (r : Fin 2048) (hk : t.val % 4 * 1408 + z.val = k.val) (hr : t.val / 4 % 2 * 1024 + y.val = r.val) :
    (iblk m c 1 t : FVec Ideal S1408x1024 .bf16) (ix2 z y) = W m c (ix2 k r) := by
  obtain ⟨_, e0, e1⟩ := idx_facts t
  refine (View.read_apply ..).trans ((congrFun (V_w m c) _).trans (at2 (W m c) _ ?_ ?_))
  · show win0_1.index t (0 : Fin 2) * 1408 + 1 * z.val = k.val; omega
  · show win0_1.index t (1 : Fin 2) * 1024 + 1 * y.val = r.val; omega

/-- What a point adds to its block. -/
theorem pay_at (acc : Vec Ideal S1024x1024 .f32) (a : Vec Ideal S1024x1408 .bf16) (w : Vec Ideal S1408x1024 .bf16) (x y : Fin 1024) :
    k0_pay2 acc a w (ix2 x y) = acc (ix2 x y) + ∑ z, a (ix2 x z) * w (ix2 z y) := by
  pointwise [k0_pay2]

theorem zero_at (x y : Fin 1024) : k0_pay1 (F := Ideal) (ix2 x y) = 0 := by pointwise [k0_pay1]

/-- The blocks point `n` reads. -/
abbrev bA (n : ℕ) (h : n < cfg0.N) : FVec Ideal S1024x1408 .bf16 := iblk m c 0 ⟨n, h⟩
abbrev bW (n : ℕ) (h : n < cfg0.N) : FVec Ideal S1408x1024 .bf16 := iblk m c 1 ⟨n, h⟩

/-- The array after the run, element by element: the whole product. -/
theorem G2_at (x : Fin 8192) (y : Fin 2048) : Value.G2 m c (ix2 x y) = ∑ z, A m c (ix2 x z) * W m c (ix2 z y) := by
  have e : 4 * Value.run2Of (ix2 x y) = 8 * (x.val / 1024) + 4 * (y.val / 1024) := by
    show 4 * (2 * (x.val / 1024 - 0) + 1 * (y.val / 1024 - 0)) = _; omega
  have hN : 4 * Value.run2Of (ix2 x y) + 3 < cfg0.N := Nat.lt_of_lt_of_eq (by omega) N_0.symm
  have key : Pipeline.accAt (Value.reset2 m c) (Value.step2 m c) (4 * Value.run2Of (ix2 x y)) 3 hN (ix2 ⟨x.val % 1024, by omega⟩ ⟨y.val % 1024, by omega⟩)
      = ∑ z, A m c (ix2 x z) * W m c (ix2 z y) :=
    fold_product (fun n h z => bA m c n h (ix2 ⟨x.val % 1024, by omega⟩ z)) (fun n h z => bW m c n h (ix2 z ⟨y.val % 1024, by omega⟩)) _ _
      (fun z => A m c (ix2 x z)) (fun z => W m c (ix2 z y)) rfl hN
      (fun h => (pay_at _ _ _ _ _).trans (congrArg (· + _) (zero_at _ _))) (fun n h acc _ _ => pay_at acc _ _ _ _)
      (fun q h z => blk0 m c _ _ _ _ _ (by dsimp only; omega) (by dsimp only; omega)) (fun q h z => blk1 m c _ _ _ _ _ (by dsimp only; omega) (by dsimp only; omega))
  exact (dif_pos hN).trans ((congrArg _ (eq_ix2 _)).trans key)

/-- The reference's product, element by element. -/
theorem ref_at (A : FVec Ideal S8192x5632 .f32) (W : FVec Ideal S5632x2048 .f32) (x : Fin 8192) (y : Fin 2048) :
    Host.dotGeneral Cert.FfnOutFwdRefIdeal.dot_S8192x5632_S5632x2048_S8192x2048_1_0_0_1_n_n none A W (ix2 x y) = ∑ z, A (ix2 x z) * W (ix2 z y) := by
  pointwise

/-- The call leaves the reference's product. -/
theorem same : (Value.G2 m c : FVec Ideal S8192x2048 .f32) = Host.dotGeneral Cert.FfnOutFwdRefIdeal.dot_S8192x5632_S5632x2048_S8192x2048_1_0_0_1_n_n none (A m c) (W m c) :=
  ext2 fun x y => (G2_at m c x y).trans (ref_at _ _ x y).symm

end Cert.FfnOutFwdIdeal.Prod

namespace Cert.FfnOutFwd.Prod

theorem facts : Cert.FfnOutFwd.Facts where
  toFacts₀ := { Cert.FfnOutFwdIdeal.Gen.facts₀ with }

/-- The kernel's body is the idealized kernel's. -/
theorem body_eq : @Cert.FfnOutFwd.defs₀ Bits _ facts = Cert.FfnOutFwdIdeal.defs₀ := by
  refine congrArg Defs.onTc (funext fun l => funext fun x => ?_)
  match l, x with
  | 0, (t, s) => rfl

/-- The kernel runs and keeps its arguments. -/
theorem frame_p : Cert.quiescent_FfnOutFwd (hFfnOutFwd := facts) := fun m ρ _ => by
  unfold Cert.FfnOutFwd.defs
  rw [body_eq]
  exact Cert.FfnOutFwdIdeal.Gen.frame (F := Bits) m ρ

/-- The idealized kernel runs and keeps its arguments. -/
theorem frame_pi : Cert.quiescent_FfnOutFwdIdeal (hFfnOutFwdIdeal := Cert.FfnOutFwdIdeal.Gen.facts) := fun m ρ _ => Cert.FfnOutFwdIdeal.Gen.frame m ρ

/-- The reference runs and keeps its arguments. -/
theorem frame_ri : Cert.quiescent_FfnOutFwdRefIdeal (hFfnOutFwdRefIdeal := Cert.FfnOutFwdRefIdeal.Gen.facts) := fun m ρ _ =>
  (θ_run Cert.FfnOutFwdRefIdeal.defs _ _).mono (fun r h => ⟨fun c => (h c).2, sem_eq_zero_of_no_sems (by decide) r.2⟩)
    (Cert.FfnOutFwdRefIdeal.Value.run (F := Ideal) m ρ)

/-- The kernel's result is the reference's. -/
theorem algebraic : Cert.algebraic_FfnOutFwdIdeal_FfnOutFwdRefIdeal (hFfnOutFwdIdeal := Cert.FfnOutFwdIdeal.Gen.facts) (hFfnOutFwdRefIdeal := Cert.FfnOutFwdRefIdeal.Gen.facts) := by
  intro m ρ m' ρ' _ hagree
  refine ⟨_, Cert.FfnOutFwdIdeal.Value.run (F := Ideal) m ρ, (θ_run Cert.FfnOutFwdRefIdeal.defs _ _).mono (fun _ h c => ⟨(h c).1.trans ?_, (h c).2⟩)
    (Cert.FfnOutFwdRefIdeal.Value.run (F := Ideal) m' ρ')⟩
  rw [(hagree c).1, (hagree c).2]
  exact (Cert.FfnOutFwdIdeal.Prod.same m c).symm

end Cert.FfnOutFwd.Prod

end
-- ==== Proof.SquareDa.lean ====
module

public import proofs.«01_k».proof.Proof.Prod
public import proofs.«01_k».proof.Proof.Gen.SquareDaIdeal.Value
public import proofs.«01_k».proof.Proof.Gen.SquareDaRefIdeal.Run
public import proofs.«01_k».proof.Defs
public import Idealize.ShloMosaic.Lib.Quiescent
public import Idealize.ShloMosaic.Adequacy
public import Idealize.ShloMosaic.Init

@[expose] public section

set_option maxRecDepth 65536

/-! The gradient of a product's operand, 2048 lanes by 2048: point `t` is row block `t / 2`, column block `t % 2`. -/

noncomputable section

open Idealize.ShloMosaic Idealize.ShloMosaic.TcCoe Idealize.SL.Sem Idealize.ShloMosaic.StableHlo

namespace Cert.SquareDaIdeal.Prod

open Cert.SquareDaIdeal Cert.SquareDaIdeal.Gen Cert.Prod

variable (m : (ℓ : Loc nD τ sig) → Buf (Elt Ideal) ℓ) (c : Dev nD)

abbrev W : FVec Ideal S2048x2048 .f32 := m (c.tc.loc main_arg0)
abbrev G : FVec Ideal S8192x2048 .f32 := m (c.tc.loc main_arg1)

/-- The cotangent as the call reads them: the argument, whose cast is exact. -/
theorem V_g : (V m c main_v0 : FVec Ideal S8192x2048 .bf16) = truncf .bf16 (G m c) bitsLt_bf16_f32 := by entry_read; rfl

/-- The weight as the call reads it. -/
theorem V_w : (V m c main_v1 : FVec Ideal S2048x2048 .bf16) = truncf .bf16 (W m c) bitsLt_bf16_f32 := by entry_read; rfl

/-- Where each window's block of a point begins, in blocks. -/
theorem idx_facts : ∀ t : Fin grid0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) := by
  decide +kernel

/-- A block of the cotangent at the place of `r` and `k`. -/
theorem blk0 (t : Fin cfg0.N) (x : Fin 1024) (r : Fin 8192) (k : Fin 2048) (hr : t.val / 2 * 1024 + x.val = r.val) :
    (iblk m c 0 t : FVec Ideal S1024x2048 .bf16) (ix2 x k) = G m c (ix2 r k) := by
  obtain ⟨⟨e0, e1⟩, _⟩ := idx_facts t
  refine (View.read_apply ..).trans ((congrFun (V_g m c) _).trans (at2 (G m c) _ ?_ ?_))
  · show win0_0.index t (0 : Fin 2) * 1024 + 1 * x.val = r.val; omega
  · show win0_0.index t (1 : Fin 2) * 2048 + 1 * k.val = k.val; omega

/-- A block of the weight at the place of `r` and `k`. -/
theorem blk1 (t : Fin cfg0.N) (y : Fin 1024) (r : Fin 2048) (k : Fin 2048) (hr : t.val % 2 * 1024 + y.val = r.val) :
    (iblk m c 1 t : FVec Ideal S1024x2048 .bf16) (ix2 y k) = W m c (ix2 r k) := by
  obtain ⟨_, ⟨e0, e1⟩, _⟩ := idx_facts t
  refine (View.read_apply ..).trans ((congrFun (V_w m c) _).trans (at2 (W m c) _ ?_ ?_))
  · show win0_1.index t (0 : Fin 2) * 1024 + 1 * y.val = r.val; omega
  · show win0_1.index t (1 : Fin 2) * 2048 + 1 * k.val = k.val; omega

/-- What a point leaves in its block. -/
theorem pay_at (g : Vec Ideal S1024x2048 .bf16) (w : Vec Ideal S1024x2048 .bf16) (x : Fin 1024) (y : Fin 1024) :
    k0_pay1 g w (ix2 x y) = ∑ z, g (ix2 x z) * w (ix2 y z) := by
  pointwise [k0_pay1]

/-- The reference's product. -/
abbrev ref : FVec Ideal S8192x2048 .f32 := (Host.dotGeneral Cert.SquareDaRefIdeal.dot_S8192x2048_S2048x2048_S8192x2048_1_1_0_0_n_n none (G m c) (W m c) : FVec Ideal S8192x2048 .f32)

/-- The reference's product, element by element. -/
theorem ref_at (G : FVec Ideal S8192x2048 .f32) (W : FVec Ideal S2048x2048 .f32) (x : Fin 8192) (y : Fin 2048) :
    Host.dotGeneral Cert.SquareDaRefIdeal.dot_S8192x2048_S2048x2048_S8192x2048_1_1_0_0_n_n none G W (ix2 x y) = ∑ z, G (ix2 x z) * W (ix2 y z) := by
  pointwise

/-- The call leaves the reference's product. -/
theorem same : ((dats m 0 c).arrAt 2 cfg0.N : FVec Ideal S8192x2048 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 16 := lt_of_lt_of_eq t.isLt N_0
  have hx : (y 0).val < 1024 := (y 0).isLt
  have hy : (y 1).val < 1024 := (y 1).isLt
  refine (congrArg _ (eq_ix2 y)).trans ((pay_at _ _ (y 0) (y 1)).trans (Eq.trans ?_ (ref_at (G m c) (W m c) ⟨t.val / 2 * 1024 + (y 0).val, by omega⟩ ⟨t.val % 2 * 1024 + (y 1).val, by omega⟩).symm) |>.trans (at2 (ref m c) _ ?_ ?_).symm)
  · exact Finset.sum_congr rfl fun z _ => congrArg₂ (· * ·) (blk0 m c t _ _ z rfl) (blk1 m c t _ _ z rfl)
  · show win0_2.index t (0 : Fin 2) * 1024 + 1 * (y 0).val = t.val / 2 * 1024 + (y 0).val; omega
  · show win0_2.index t (1 : Fin 2) * 1024 + 1 * (y 1).val = t.val % 2 * 1024 + (y 1).val; omega

end Cert.SquareDaIdeal.Prod

namespace Cert.SquareDa.Prod

theorem facts : Cert.SquareDa.Facts where
  toFacts₀ := { Cert.SquareDaIdeal.Gen.facts₀ with }

/-- The kernel's body is the idealized kernel's. -/
theorem body_eq : @Cert.SquareDa.defs₀ Bits _ facts = Cert.SquareDaIdeal.defs₀ := by
  refine congrArg Defs.onTc (funext fun l => funext fun x => ?_)
  match l, x with
  | 0, (t, s) => rfl

/-- The kernel runs and keeps its arguments. -/
theorem frame_p : Cert.quiescent_SquareDa (hSquareDa := facts) := fun m ρ _ => by
  unfold Cert.SquareDa.defs
  rw [body_eq]
  exact Cert.SquareDaIdeal.Gen.frame (F := Bits) m ρ

/-- The idealized kernel runs and keeps its arguments. -/
theorem frame_pi : Cert.quiescent_SquareDaIdeal (hSquareDaIdeal := Cert.SquareDaIdeal.Gen.facts) := fun m ρ _ => Cert.SquareDaIdeal.Gen.frame m ρ

/-- The reference runs and keeps its arguments. -/
theorem frame_ri : Cert.quiescent_SquareDaRefIdeal (hSquareDaRefIdeal := Cert.SquareDaRefIdeal.Gen.facts) := fun m ρ _ =>
  (θ_run Cert.SquareDaRefIdeal.defs _ _).mono (fun r h => ⟨fun c => (h c).2, sem_eq_zero_of_no_sems (by decide) r.2⟩)
    (Cert.SquareDaRefIdeal.Value.run (F := Ideal) m ρ)

/-- The kernel's result is the reference's. -/
theorem algebraic : Cert.algebraic_SquareDaIdeal_SquareDaRefIdeal (hSquareDaIdeal := Cert.SquareDaIdeal.Gen.facts) (hSquareDaRefIdeal := Cert.SquareDaRefIdeal.Gen.facts) := by
  intro m ρ m' ρ' _ hagree
  refine ⟨_, Cert.SquareDaIdeal.Value.run_blocks (F := Ideal) m ρ, (θ_run Cert.SquareDaRefIdeal.defs _ _).mono (fun _ h c => ⟨(h c).1.trans ?_, (h c).2⟩)
    (Cert.SquareDaRefIdeal.Value.run (F := Ideal) m' ρ')⟩
  rw [(hagree c).1, (hagree c).2]
  exact (Cert.SquareDaIdeal.Prod.same m c).symm

end Cert.SquareDa.Prod

end
-- ==== Proof.SquareDw.lean ====
module

public import proofs.«01_k».proof.Proof.Prod
public import proofs.«01_k».proof.Proof.Gen.SquareDwIdeal.Value
public import proofs.«01_k».proof.Proof.Gen.SquareDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 2048 lanes by 2048: point `t` is row block `t / 16`, column block `t / 8 % 2`, token block `t % 8`. -/

noncomputable section

open Idealize.ShloMosaic Idealize.ShloMosaic.TcCoe Idealize.SL.Sem Idealize.ShloMosaic.StableHlo

namespace Cert.SquareDwIdeal.Prod

open Cert.SquareDwIdeal Cert.SquareDwIdeal.Gen Cert.Prod

section Cases

variable {F : FTy → Type} [FloatOps F] (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec F S1024x1024 .bf16) (x1 : Vec F S1024x1024 .bf16) (s : Vec F S1024x1024 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x2048 .f32 := m (c.tc.loc main_arg0)
abbrev G : FVec Ideal S8192x2048 .f32 := m (c.tc.loc main_arg1)

/-- The operand as the call reads it: the argument, whose cast is exact. -/
theorem V_a : (V m c main_v0 : FVec Ideal S8192x2048 .bf16) = truncf .bf16 (A m c) bitsLt_bf16_f32 := by entry_read; rfl

/-- The cotangent as the call reads it. -/
theorem V_g : (V m c main_v1 : FVec Ideal S8192x2048 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 16)
    ∧ (win0_1.index t (0 : Fin 2) = t.val % 8 ∧ win0_1.index t (1 : Fin 2) = t.val / 8 % 2)
    ∧ (win0_2.index t (0 : Fin 2) = t.val / 16 ∧ win0_2.index t (1 : Fin 2) = t.val / 8 % 2) := by
  decide +kernel

/-- A block of the operand at the place of `k` and `r`. -/
theorem blk0 (t : Fin cfg0.N) (z : Fin 1024) (x : Fin 1024) (k : Fin 8192) (r : Fin 2048) (hk : t.val % 8 * 1024 + z.val = k.val) (hr : t.val / 16 * 1024 + x.val = r.val) :
    (iblk m c 0 t : FVec Ideal S1024x1024 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1024 + 1 * x.val = r.val; omega

/-- A block of the cotangent at the place of `k` and `r`. -/
theorem blk1 (t : Fin cfg0.N) (z : Fin 1024) (y : Fin 1024) (k : Fin 8192) (r : Fin 2048) (hk : t.val % 8 * 1024 + z.val = k.val) (hr : t.val / 8 % 2 * 1024 + y.val = r.val) :
    (iblk m c 1 t : FVec Ideal S1024x1024 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1024 + 1 * y.val = r.val; omega

/-- What a point adds to the accumulator. -/
theorem pay_at (acc : Vec Ideal S1024x1024 .f32) (a : Vec Ideal S1024x1024 .bf16) (g : Vec Ideal S1024x1024 .bf16) (x : Fin 1024) (y : Fin 1024) :
    k0_pay2 acc a g (ix2 x y) = acc (ix2 x y) + ∑ z, a (ix2 z x) * g (ix2 z y) := by
  pointwise [k0_pay2]

theorem zero_at (x : Fin 1024) (y : Fin 1024) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bG (n : ℕ) (h : n < cfg0.N) : FVec Ideal S1024x1024 .bf16 := iblk m c 1 ⟨n, h⟩

/-- What a first point leaves in the accumulator, whatever it held. -/
theorem at_first (n : ℕ) (h : n < cfg0.N) (acc : Vec Ideal S1024x1024 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1024x1024 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1024) (y : Fin 1024) (r : Fin 2048) (s : Fin 2048) (hr : t.val / 16 * 1024 + x.val = r.val) (hs : t.val / 8 % 2 * 1024 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S2048x2048 .bf16 :=
  truncf .bf16 (transpose S2048x2048 [1,0] (Host.dotGeneral Cert.SquareDwRefIdeal.dot_S8192x2048_S8192x2048_S2048x2048_0_0_1_1_n_n none (G m c) (A m c) : FVec Ideal Cert.SquareDwRefIdeal.S2048x2048 .f32) Cert.SquareDwRefIdeal.Gen.facts.transposes_S2048x2048_S2048x2048_1_0) bitsLt_bf16_f32

/-- The reference's product, element by element. -/
theorem ref_at (x : Fin 2048) (y : Fin 2048) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S2048x2048 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 32 := lt_of_lt_of_eq t.isLt N_0
  have hx : (y 0).val < 1024 := (y 0).isLt
  have hy : (y 1).val < 1024 := (y 1).isLt
  refine (congrArg _ (eq_ix2 y)).trans ((acc_at m c t ((flush0_2 t).mp hf) (y 0) (y 1) ⟨t.val / 16 * 1024 + (y 0).val, by omega⟩ ⟨t.val / 8 % 2 * 1024 + (y 1).val, by omega⟩ rfl rfl).trans (ref_at m c _ _).symm) |>.trans (at2 (ref m c) _ ?_ ?_).symm
  · show win0_2.index t (0 : Fin 2) * 1024 + 1 * (y 0).val = t.val / 16 * 1024 + (y 0).val; omega
  · show win0_2.index t (1 : Fin 2) * 1024 + 1 * (y 1).val = t.val / 8 % 2 * 1024 + (y 1).val; omega

end Cert.SquareDwIdeal.Prod

namespace Cert.SquareDw.Prod

theorem facts : Cert.SquareDw.Facts where
  toFacts₀ := { Cert.SquareDwIdeal.Gen.facts₀ with }

/-- The kernel's body is the idealized kernel's. -/
theorem body_eq : @Cert.SquareDw.defs₀ Bits _ facts = Cert.SquareDwIdeal.defs₀ := by
  refine congrArg Defs.onTc (funext fun l => funext fun x => ?_)
  match l, x with
  | 0, (t, s) => rfl

/-- The kernel runs and keeps its arguments. -/
theorem frame_p : Cert.quiescent_SquareDw (hSquareDw := facts) := fun m ρ _ => by
  unfold Cert.SquareDw.defs
  rw [body_eq]
  exact Cert.SquareDwIdeal.Gen.frame (F := Bits) m ρ

/-- The idealized kernel runs and keeps its arguments. -/
theorem frame_pi : Cert.quiescent_SquareDwIdeal (hSquareDwIdeal := Cert.SquareDwIdeal.Gen.facts) := fun m ρ _ => Cert.SquareDwIdeal.Gen.frame m ρ

/-- The reference runs and keeps its arguments. -/
theorem frame_ri : Cert.quiescent_SquareDwRefIdeal (hSquareDwRefIdeal := Cert.SquareDwRefIdeal.Gen.facts) := fun m ρ _ =>
  (θ_run Cert.SquareDwRefIdeal.defs _ _).mono (fun r h => ⟨fun c => (h c).2, sem_eq_zero_of_no_sems (by decide) r.2⟩)
    (Cert.SquareDwRefIdeal.Value.run (F := Ideal) m ρ)

/-- The kernel's result is the reference's. -/
theorem algebraic : Cert.algebraic_SquareDwIdeal_SquareDwRefIdeal (hSquareDwIdeal := Cert.SquareDwIdeal.Gen.facts) (hSquareDwRefIdeal := Cert.SquareDwRefIdeal.Gen.facts) := by
  intro m ρ m' ρ' _ hagree
  refine ⟨_, Cert.SquareDwIdeal.Value.run_blocks (F := Ideal) m ρ, (θ_run Cert.SquareDwRefIdeal.defs _ _).mono (fun _ h c => ⟨(h c).1.trans ?_, (h c).2⟩)
    (Cert.SquareDwRefIdeal.Value.run (F := Ideal) m' ρ')⟩
  rw [(hagree c).1, (hagree c).2]
  exact (Cert.SquareDwIdeal.Prod.same m c).symm

end Cert.SquareDw.Prod

end
-- ==== Proof.SquareFwd.lean ====
module

public import proofs.«01_k».proof.Proof.Prod
public import proofs.«01_k».proof.Proof.Gen.SquareFwdIdeal.Value
public import proofs.«01_k».proof.Proof.Gen.SquareFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 2048 lanes by 2048: point `t` is token block `t / 2`, column block `t % 2`. -/

noncomputable section

open Idealize.ShloMosaic Idealize.ShloMosaic.TcCoe Idealize.SL.Sem Idealize.ShloMosaic.StableHlo

namespace Cert.SquareFwdIdeal.Prod

open Cert.SquareFwdIdeal Cert.SquareFwdIdeal.Gen Cert.Prod

variable (m : (ℓ : Loc nD τ sig) → Buf (Elt Ideal) ℓ) (c : Dev nD)

abbrev A : FVec Ideal S8192x2048 .f32 := m (c.tc.loc main_arg0)
abbrev W : FVec Ideal S2048x2048 .f32 := m (c.tc.loc main_arg1)

/-- The tokens as the call reads them: the argument, whose cast is exact. -/
theorem V_a : (V m c main_v0 : FVec Ideal S8192x2048 .bf16) = truncf .bf16 (A m c) bitsLt_bf16_f32 := by entry_read; rfl

/-- The weight as the call reads it. -/
theorem V_w : (V m c main_v1 : FVec Ideal S2048x2048 .bf16) = truncf .bf16 (W m c) bitsLt_bf16_f32 := by entry_read; rfl

/-- Where each window's block of a point begins, in blocks. -/
theorem idx_facts : ∀ t : Fin grid0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) := by
  decide +kernel

/-- A block of the tokens at the place of `r` and `k`. -/
theorem blk0 (t : Fin cfg0.N) (x : Fin 1024) (r : Fin 8192) (k : Fin 2048) (hr : t.val / 2 * 1024 + x.val = r.val) :
    (iblk m c 0 t : FVec Ideal S1024x2048 .bf16) (ix2 x k) = A m c (ix2 r k) := by
  obtain ⟨⟨e0, e1⟩, _⟩ := idx_facts t
  refine (View.read_apply ..).trans ((congrFun (V_a m c) _).trans (at2 (A m c) _ ?_ ?_))
  · show win0_0.index t (0 : Fin 2) * 1024 + 1 * x.val = r.val; omega
  · show win0_0.index t (1 : Fin 2) * 2048 + 1 * k.val = k.val; omega

/-- A block of the weight at the place of `k` and `r`. -/
theorem blk1 (t : Fin cfg0.N) (k : Fin 2048) (y : Fin 1024) (r : Fin 2048) (hr : t.val % 2 * 1024 + y.val = r.val) :
    (iblk m c 1 t : FVec Ideal S2048x1024 .bf16) (ix2 k y) = W m c (ix2 k r) := by
  obtain ⟨_, ⟨e0, e1⟩, _⟩ := idx_facts t
  refine (View.read_apply ..).trans ((congrFun (V_w m c) _).trans (at2 (W m c) _ ?_ ?_))
  · show win0_1.index t (0 : Fin 2) * 2048 + 1 * k.val = k.val; omega
  · show win0_1.index t (1 : Fin 2) * 1024 + 1 * y.val = r.val; omega

/-- What a point leaves in its block. -/
theorem pay_at (a : Vec Ideal S1024x2048 .bf16) (w : Vec Ideal S2048x1024 .bf16) (x : Fin 1024) (y : Fin 1024) :
    k0_pay1 a w (ix2 x y) = ∑ z, a (ix2 x z) * w (ix2 z y) := by
  pointwise [k0_pay1]

/-- The reference's product. -/
abbrev ref : FVec Ideal S8192x2048 .f32 := (Host.dotGeneral Cert.SquareFwdRefIdeal.dot_S8192x2048_S2048x2048_S8192x2048_1_0_0_1_n_n none (A m c) (W m c) : FVec Ideal S8192x2048 .f32)

/-- The reference's product, element by element. -/
theorem ref_at (A : FVec Ideal S8192x2048 .f32) (W : FVec Ideal S2048x2048 .f32) (x : Fin 8192) (y : Fin 2048) :
    Host.dotGeneral Cert.SquareFwdRefIdeal.dot_S8192x2048_S2048x2048_S8192x2048_1_0_0_1_n_n none A W (ix2 x y) = ∑ z, A (ix2 x z) * W (ix2 z y) := by
  pointwise

/-- The call leaves the reference's product. -/
theorem same : ((dats m 0 c).arrAt 2 cfg0.N : FVec Ideal S8192x2048 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 16 := lt_of_lt_of_eq t.isLt N_0
  have hx : (y 0).val < 1024 := (y 0).isLt
  have hy : (y 1).val < 1024 := (y 1).isLt
  refine (congrArg _ (eq_ix2 y)).trans ((pay_at _ _ (y 0) (y 1)).trans (Eq.trans ?_ (ref_at (A m c) (W m c) ⟨t.val / 2 * 1024 + (y 0).val, by omega⟩ ⟨t.val % 2 * 1024 + (y 1).val, by omega⟩).symm) |>.trans (at2 (ref m c) _ ?_ ?_).symm)
  · exact Finset.sum_congr rfl fun z _ => congrArg₂ (· * ·) (blk0 m c t _ _ z rfl) (blk1 m c t z _ _ rfl)
  · show win0_2.index t (0 : Fin 2) * 1024 + 1 * (y 0).val = t.val / 2 * 1024 + (y 0).val; omega
  · show win0_2.index t (1 : Fin 2) * 1024 + 1 * (y 1).val = t.val % 2 * 1024 + (y 1).val; omega

end Cert.SquareFwdIdeal.Prod

namespace Cert.SquareFwd.Prod

theorem facts : Cert.SquareFwd.Facts where
  toFacts₀ := { Cert.SquareFwdIdeal.Gen.facts₀ with }

/-- The kernel's body is the idealized kernel's. -/
theorem body_eq : @Cert.SquareFwd.defs₀ Bits _ facts = Cert.SquareFwdIdeal.defs₀ := by
  refine congrArg Defs.onTc (funext fun l => funext fun x => ?_)
  match l, x with
  | 0, (t, s) => rfl

/-- The kernel runs and keeps its arguments. -/
theorem frame_p : Cert.quiescent_SquareFwd (hSquareFwd := facts) := fun m ρ _ => by
  unfold Cert.SquareFwd.defs
  rw [body_eq]
  exact Cert.SquareFwdIdeal.Gen.frame (F := Bits) m ρ

/-- The idealized kernel runs and keeps its arguments. -/
theorem frame_pi : Cert.quiescent_SquareFwdIdeal (hSquareFwdIdeal := Cert.SquareFwdIdeal.Gen.facts) := fun m ρ _ => Cert.SquareFwdIdeal.Gen.frame m ρ

/-- The reference runs and keeps its arguments. -/
theorem frame_ri : Cert.quiescent_SquareFwdRefIdeal (hSquareFwdRefIdeal := Cert.SquareFwdRefIdeal.Gen.facts) := fun m ρ _ =>
  (θ_run Cert.SquareFwdRefIdeal.defs _ _).mono (fun r h => ⟨fun c => (h c).2, sem_eq_zero_of_no_sems (by decide) r.2⟩)
    (Cert.SquareFwdRefIdeal.Value.run (F := Ideal) m ρ)

/-- The kernel's result is the reference's. -/
theorem algebraic : Cert.algebraic_SquareFwdIdeal_SquareFwdRefIdeal (hSquareFwdIdeal := Cert.SquareFwdIdeal.Gen.facts) (hSquareFwdRefIdeal := Cert.SquareFwdRefIdeal.Gen.facts) := by
  intro m ρ m' ρ' _ hagree
  refine ⟨_, Cert.SquareFwdIdeal.Value.run_blocks (F := Ideal) m ρ, (θ_run Cert.SquareFwdRefIdeal.defs _ _).mono (fun _ h c => ⟨(h c).1.trans ?_, (h c).2⟩)
    (Cert.SquareFwdRefIdeal.Value.run (F := Ideal) m' ρ')⟩
  rw [(hagree c).1, (hagree c).2]
  exact (Cert.SquareFwdIdeal.Prod.same m c).symm

end Cert.SquareFwd.Prod

end
-- ==== Proof.SsmInDa.lean ====
module

public import proofs.«01_k».proof.Proof.Prod
public import proofs.«01_k».proof.Proof.Gen.SsmInDaIdeal.Value
public import proofs.«01_k».proof.Proof.Gen.SsmInDaRefIdeal.Run
public import proofs.«01_k».proof.Defs
public import Idealize.ShloMosaic.Lib.Quiescent
public import Idealize.ShloMosaic.Adequacy
public import Idealize.ShloMosaic.Init

@[expose] public section

set_option maxRecDepth 65536

/-! The gradient of a product's operand, 2048 lanes by 6144: point `t` is row block `t / 8`, column block `t / 4 % 2`, lane block `t % 4`. -/

noncomputable section

open Idealize.ShloMosaic Idealize.ShloMosaic.TcCoe Idealize.SL.Sem Idealize.ShloMosaic.StableHlo

namespace Cert.SsmInDaIdeal.Prod

open Cert.SsmInDaIdeal Cert.SsmInDaIdeal.Gen Cert.Prod

variable (m : (ℓ : Loc nD τ sig) → Buf (Elt Ideal) ℓ) (c : Dev nD)

abbrev W : FVec Ideal S2048x6144 .f32 := m (c.tc.loc main_arg0)
abbrev G : FVec Ideal S8192x6144 .f32 := m (c.tc.loc main_arg1)

/-- The cotangent as the call reads it: the argument, whose cast is exact. -/
theorem V_g : (V m c main_v0 : FVec Ideal S8192x6144 .bf16) = truncf .bf16 (G m c) bitsLt_bf16_f32 := by entry_read; rfl

/-- The weight as the call reads it. -/
theorem V_w : (V m c main_v1 : FVec Ideal S2048x6144 .bf16) = truncf .bf16 (W m c) bitsLt_bf16_f32 := by entry_read; rfl

/-- Where each window's block of a point begins, in blocks. -/
theorem idx_facts : ∀ t : Fin grid0.N, (win0_0.index t (0 : Fin 2) = t.val / 8 ∧ win0_0.index t (1 : Fin 2) = t.val % 4)
    ∧ (win0_1.index t (0 : Fin 2) = t.val / 4 % 2 ∧ win0_1.index t (1 : Fin 2) = t.val % 4) := by
  decide +kernel

/-- A block of the cotangent at the place of `r` and `k`. -/
theorem blk0 (t : Fin cfg0.N) (x : Fin 1024) (z : Fin 1536) (r : Fin 8192) (k : Fin 6144) (hr : t.val / 8 * 1024 + x.val = r.val) (hk : t.val % 4 * 1536 + z.val = k.val) :
    (iblk m c 0 t : FVec Ideal S1024x1536 .bf16) (ix2 x z) = G m c (ix2 r k) := by
  obtain ⟨⟨e0, e1⟩, _⟩ := idx_facts t
  refine (View.read_apply ..).trans ((congrFun (V_g m c) _).trans (at2 (G m c) _ ?_ ?_))
  · show win0_0.index t (0 : Fin 2) * 1024 + 1 * x.val = r.val; omega
  · show win0_0.index t (1 : Fin 2) * 1536 + 1 * z.val = k.val; omega

/-- A block of the weight at the place of `r` and `k`. -/
theorem blk1 (t : Fin cfg0.N) (x : Fin 1024) (z : Fin 1536) (r : Fin 2048) (k : Fin 6144) (hr : t.val / 4 % 2 * 1024 + x.val = r.val) (hk : t.val % 4 * 1536 + z.val = k.val) :
    (iblk m c 1 t : FVec Ideal S1024x1536 .bf16) (ix2 x z) = W m c (ix2 r k) := by
  obtain ⟨_, e0, e1⟩ := idx_facts t
  refine (View.read_apply ..).trans ((congrFun (V_w m c) _).trans (at2 (W m c) _ ?_ ?_))
  · show win0_1.index t (0 : Fin 2) * 1024 + 1 * x.val = r.val; omega
  · show win0_1.index t (1 : Fin 2) * 1536 + 1 * z.val = k.val; omega

/-- What a point adds to its block. -/
theorem pay_at (acc : Vec Ideal S1024x1024 .f32) (g w : Vec Ideal S1024x1536 .bf16) (x y : Fin 1024) :
    k0_pay2 acc g w (ix2 x y) = acc (ix2 x y) + ∑ z, g (ix2 x z) * w (ix2 y z) := by
  pointwise [k0_pay2]

theorem zero_at (x y : Fin 1024) : k0_pay1 (F := Ideal) (ix2 x y) = 0 := by pointwise [k0_pay1]

/-- The blocks point `n` reads. -/
abbrev bG (n : ℕ) (h : n < cfg0.N) : FVec Ideal S1024x1536 .bf16 := iblk m c 0 ⟨n, h⟩
abbrev bW (n : ℕ) (h : n < cfg0.N) : FVec Ideal S1024x1536 .bf16 := iblk m c 1 ⟨n, h⟩

/-- The array after the run, element by element: the whole product. -/
theorem G2_at (x : Fin 8192) (y : Fin 2048) : Value.G2 m c (ix2 x y) = ∑ z, G m c (ix2 x z) * W m c (ix2 y z) := by
  have e : 4 * Value.run2Of (ix2 x y) = 8 * (x.val / 1024) + 4 * (y.val / 1024) := by
    show 4 * (2 * (x.val / 1024 - 0) + 1 * (y.val / 1024 - 0)) = _; omega
  have hN : 4 * Value.run2Of (ix2 x y) + 3 < cfg0.N := Nat.lt_of_lt_of_eq (by omega) N_0.symm
  have key : Pipeline.accAt (Value.reset2 m c) (Value.step2 m c) (4 * Value.run2Of (ix2 x y)) 3 hN (ix2 ⟨x.val % 1024, by omega⟩ ⟨y.val % 1024, by omega⟩)
      = ∑ z, G m c (ix2 x z) * W m c (ix2 y z) :=
    fold_product (fun n h z => bG m c n h (ix2 ⟨x.val % 1024, by omega⟩ z)) (fun n h z => bW m c n h (ix2 ⟨y.val % 1024, by omega⟩ z)) _ _
      (fun z => G m c (ix2 x z)) (fun z => W m c (ix2 y z)) rfl hN
      (fun h => (pay_at _ _ _ _ _).trans (congrArg (· + _) (zero_at _ _))) (fun n h acc _ _ => pay_at acc _ _ _ _)
      (fun q h z => blk0 m c _ _ _ _ _ (by dsimp only; omega) (by dsimp only; omega)) (fun q h z => blk1 m c _ _ _ _ _ (by dsimp only; omega) (by dsimp only; omega))
  exact (dif_pos hN).trans ((congrArg _ (eq_ix2 _)).trans key)

/-- The reference's product, element by element. -/
theorem ref_at (G : FVec Ideal S8192x6144 .f32) (W : FVec Ideal S2048x6144 .f32) (x : Fin 8192) (y : Fin 2048) :
    Host.dotGeneral Cert.SsmInDaRefIdeal.dot_S8192x6144_S2048x6144_S8192x2048_1_1_0_0_n_n none G W (ix2 x y) = ∑ z, G (ix2 x z) * W (ix2 y z) := by
  pointwise

/-- The call leaves the reference's product. -/
theorem same : (Value.G2 m c : FVec Ideal S8192x2048 .f32) = Host.dotGeneral Cert.SsmInDaRefIdeal.dot_S8192x6144_S2048x6144_S8192x2048_1_1_0_0_n_n none (G m c) (W m c) :=
  ext2 fun x y => (G2_at m c x y).trans (ref_at _ _ x y).symm

end Cert.SsmInDaIdeal.Prod

namespace Cert.SsmInDa.Prod

theorem facts : Cert.SsmInDa.Facts where
  toFacts₀ := { Cert.SsmInDaIdeal.Gen.facts₀ with }

/-- The kernel's body is the idealized kernel's. -/
theorem body_eq : @Cert.SsmInDa.defs₀ Bits _ facts = Cert.SsmInDaIdeal.defs₀ := by
  refine congrArg Defs.onTc (funext fun l => funext fun x => ?_)
  match l, x with
  | 0, (t, s) => rfl

/-- The kernel runs and keeps its arguments. -/
theorem frame_p : Cert.quiescent_SsmInDa (hSsmInDa := facts) := fun m ρ _ => by
  unfold Cert.SsmInDa.defs
  rw [body_eq]
  exact Cert.SsmInDaIdeal.Gen.frame (F := Bits) m ρ

/-- The idealized kernel runs and keeps its arguments. -/
theorem frame_pi : Cert.quiescent_SsmInDaIdeal (hSsmInDaIdeal := Cert.SsmInDaIdeal.Gen.facts) := fun m ρ _ => Cert.SsmInDaIdeal.Gen.frame m ρ

/-- The reference runs and keeps its arguments. -/
theorem frame_ri : Cert.quiescent_SsmInDaRefIdeal (hSsmInDaRefIdeal := Cert.SsmInDaRefIdeal.Gen.facts) := fun m ρ _ =>
  (θ_run Cert.SsmInDaRefIdeal.defs _ _).mono (fun r h => ⟨fun c => (h c).2, sem_eq_zero_of_no_sems (by decide) r.2⟩)
    (Cert.SsmInDaRefIdeal.Value.run (F := Ideal) m ρ)

/-- The kernel's result is the reference's. -/
theorem algebraic : Cert.algebraic_SsmInDaIdeal_SsmInDaRefIdeal (hSsmInDaIdeal := Cert.SsmInDaIdeal.Gen.facts) (hSsmInDaRefIdeal := Cert.SsmInDaRefIdeal.Gen.facts) := by
  intro m ρ m' ρ' _ hagree
  refine ⟨_, Cert.SsmInDaIdeal.Value.run (F := Ideal) m ρ, (θ_run Cert.SsmInDaRefIdeal.defs _ _).mono (fun _ h c => ⟨(h c).1.trans ?_, (h c).2⟩)
    (Cert.SsmInDaRefIdeal.Value.run (F := Ideal) m' ρ')⟩
  rw [(hagree c).1, (hagree c).2]
  exact (Cert.SsmInDaIdeal.Prod.same m c).symm

end Cert.SsmInDa.Prod

end
-- ==== Proof.SsmInDw.lean ====
module

public import proofs.«01_k».proof.Proof.Prod
public import proofs.«01_k».proof.Proof.Gen.SsmInDwIdeal.Value
public import proofs.«01_k».proof.Proof.Gen.SsmInDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 2048 lanes by 6144: point `t` is row block `t / 32`, column block `t / 8 % 4`, token block `t % 8`. -/

noncomputable section

open Idealize.ShloMosaic Idealize.ShloMosaic.TcCoe Idealize.SL.Sem Idealize.ShloMosaic.StableHlo

namespace Cert.SsmInDwIdeal.Prod

open Cert.SsmInDwIdeal Cert.SsmInDwIdeal.Gen Cert.Prod

section Cases

variable {F : FTy → Type} [FloatOps F] (c : Dev nD) (i : grid0.Coords) (arg3 : Memref sig .tc .vmem S1024x1024 .bf16) (harg3 : arg3.IsWhole) (arg4 : Memref sig .tc .vmem S1024x1536 .bf16) (harg4 : arg4.IsWhole)
  (arg5 : Memref sig .tc .vmem S1024x1536 .bf16) (harg5 : arg5.IsWhole) (arg6 : Memref sig .tc .vmem S1024x1536 .f32) (harg6 : arg6.IsWhole)
  (x0 : Vec F S1024x1024 .bf16) (x1 : Vec F S1024x1536 .bf16) (s : Vec F S1024x1536 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x2048 .f32 := m (c.tc.loc main_arg0)
abbrev G : FVec Ideal S8192x6144 .f32 := m (c.tc.loc main_arg1)

/-- The operand as the call reads it: the argument, whose cast is exact. -/
theorem V_a : (V m c main_v0 : FVec Ideal S8192x2048 .bf16) = truncf .bf16 (A m c) bitsLt_bf16_f32 := by entry_read; rfl

/-- The cotangent as the call reads it. -/
theorem V_g : (V m c main_v1 : FVec Ideal S8192x6144 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 32)
    ∧ (win0_1.index t (0 : Fin 2) = t.val % 8 ∧ win0_1.index t (1 : Fin 2) = t.val / 8 % 4)
    ∧ (win0_2.index t (0 : Fin 2) = t.val / 32 ∧ win0_2.index t (1 : Fin 2) = t.val / 8 % 4) := by
  decide +kernel

/-- A block of the operand at the place of `k` and `r`. -/
theorem blk0 (t : Fin cfg0.N) (z : Fin 1024) (x : Fin 1024) (k : Fin 8192) (r : Fin 2048) (hk : t.val % 8 * 1024 + z.val = k.val) (hr : t.val / 32 * 1024 + x.val = r.val) :
    (iblk m c 0 t : FVec Ideal S1024x1024 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1024 + 1 * x.val = r.val; omega

/-- A block of the cotangent at the place of `k` and `r`. -/
theorem blk1 (t : Fin cfg0.N) (z : Fin 1024) (y : Fin 1536) (k : Fin 8192) (r : Fin 6144) (hk : t.val % 8 * 1024 + z.val = k.val) (hr : t.val / 8 % 4 * 1536 + y.val = r.val) :
    (iblk m c 1 t : FVec Ideal S1024x1536 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1536 + 1 * y.val = r.val; omega

/-- What a point adds to the accumulator. -/
theorem pay_at (acc : Vec Ideal S1024x1536 .f32) (a : Vec Ideal S1024x1024 .bf16) (g : Vec Ideal S1024x1536 .bf16) (x : Fin 1024) (y : Fin 1536) :
    k0_pay2 acc a g (ix2 x y) = acc (ix2 x y) + ∑ z, a (ix2 z x) * g (ix2 z y) := by
  pointwise [k0_pay2]

theorem zero_at (x : Fin 1024) (y : Fin 1536) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bG (n : ℕ) (h : n < cfg0.N) : FVec Ideal S1024x1536 .bf16 := iblk m c 1 ⟨n, h⟩

/-- What a first point leaves in the accumulator, whatever it held. -/
theorem at_first (n : ℕ) (h : n < cfg0.N) (acc : Vec Ideal S1024x1536 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1024x1536 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1024) (y : Fin 1536) (r : Fin 2048) (s : Fin 6144) (hr : t.val / 32 * 1024 + x.val = r.val) (hs : t.val / 8 % 4 * 1536 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S2048x6144 .bf16 :=
  truncf .bf16 (transpose S2048x6144 [1,0] (Host.dotGeneral Cert.SsmInDwRefIdeal.dot_S8192x6144_S8192x2048_S6144x2048_0_0_1_1_n_n none (G m c) (A m c) : FVec Ideal Cert.SsmInDwRefIdeal.S6144x2048 .f32) Cert.SsmInDwRefIdeal.Gen.facts.transposes_S6144x2048_S2048x6144_1_0) bitsLt_bf16_f32

/-- The reference's product, element by element. -/
theorem ref_at (x : Fin 2048) (y : Fin 6144) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S2048x6144 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 64 := lt_of_lt_of_eq t.isLt N_0
  have hx : (y 0).val < 1024 := (y 0).isLt
  have hy : (y 1).val < 1536 := (y 1).isLt
  refine (congrArg _ (eq_ix2 y)).trans ((acc_at m c t ((flush0_2 t).mp hf) (y 0) (y 1) ⟨t.val / 32 * 1024 + (y 0).val, by omega⟩ ⟨t.val / 8 % 4 * 1536 + (y 1).val, by omega⟩ rfl rfl).trans (ref_at m c _ _).symm) |>.trans (at2 (ref m c) _ ?_ ?_).symm
  · show win0_2.index t (0 : Fin 2) * 1024 + 1 * (y 0).val = t.val / 32 * 1024 + (y 0).val; omega
  · show win0_2.index t (1 : Fin 2) * 1536 + 1 * (y 1).val = t.val / 8 % 4 * 1536 + (y 1).val; omega

end Cert.SsmInDwIdeal.Prod

namespace Cert.SsmInDw.Prod

theorem facts : Cert.SsmInDw.Facts where
  toFacts₀ := { Cert.SsmInDwIdeal.Gen.facts₀ with }

/-- The kernel's body is the idealized kernel's. -/
theorem body_eq : @Cert.SsmInDw.defs₀ Bits _ facts = Cert.SsmInDwIdeal.defs₀ := by
  refine congrArg Defs.onTc (funext fun l => funext fun x => ?_)
  match l, x with
  | 0, (t, s) => rfl

/-- The kernel runs and keeps its arguments. -/
theorem frame_p : Cert.quiescent_SsmInDw (hSsmInDw := facts) := fun m ρ _ => by
  unfold Cert.SsmInDw.defs
  rw [body_eq]
  exact Cert.SsmInDwIdeal.Gen.frame (F := Bits) m ρ

/-- The idealized kernel runs and keeps its arguments. -/
theorem frame_pi : Cert.quiescent_SsmInDwIdeal (hSsmInDwIdeal := Cert.SsmInDwIdeal.Gen.facts) := fun m ρ _ => Cert.SsmInDwIdeal.Gen.frame m ρ

/-- The reference runs and keeps its arguments. -/
theorem frame_ri : Cert.quiescent_SsmInDwRefIdeal (hSsmInDwRefIdeal := Cert.SsmInDwRefIdeal.Gen.facts) := fun m ρ _ =>
  (θ_run Cert.SsmInDwRefIdeal.defs _ _).mono (fun r h => ⟨fun c => (h c).2, sem_eq_zero_of_no_sems (by decide) r.2⟩)
    (Cert.SsmInDwRefIdeal.Value.run (F := Ideal) m ρ)

/-- The kernel's result is the reference's. -/
theorem algebraic : Cert.algebraic_SsmInDwIdeal_SsmInDwRefIdeal (hSsmInDwIdeal := Cert.SsmInDwIdeal.Gen.facts) (hSsmInDwRefIdeal := Cert.SsmInDwRefIdeal.Gen.facts) := by
  intro m ρ m' ρ' _ hagree
  refine ⟨_, Cert.SsmInDwIdeal.Value.run_blocks (F := Ideal) m ρ, (θ_run Cert.SsmInDwRefIdeal.defs _ _).mono (fun _ h c => ⟨(h c).1.trans ?_, (h c).2⟩)
    (Cert.SsmInDwRefIdeal.Value.run (F := Ideal) m' ρ')⟩
  rw [(hagree c).1, (hagree c).2]
  exact (Cert.SsmInDwIdeal.Prod.same m c).symm

end Cert.SsmInDw.Prod

end
-- ==== Proof.SsmInFwd.lean ====
module

public import proofs.«01_k».proof.Proof.Prod
public import proofs.«01_k».proof.Proof.Gen.SsmInFwdIdeal.Value
public import proofs.«01_k».proof.Proof.Gen.SsmInFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 2048 lanes by 6144: point `t` is token block `t / 4`, column block `t % 4`. -/

noncomputable section

open Idealize.ShloMosaic Idealize.ShloMosaic.TcCoe Idealize.SL.Sem Idealize.ShloMosaic.StableHlo

namespace Cert.SsmInFwdIdeal.Prod

open Cert.SsmInFwdIdeal Cert.SsmInFwdIdeal.Gen Cert.Prod

variable (m : (ℓ : Loc nD τ sig) → Buf (Elt Ideal) ℓ) (c : Dev nD)

abbrev A : FVec Ideal S8192x2048 .f32 := m (c.tc.loc main_arg0)
abbrev W : FVec Ideal S2048x6144 .f32 := m (c.tc.loc main_arg1)

/-- The tokens as the call reads them: the argument, whose cast is exact. -/
theorem V_a : (V m c main_v0 : FVec Ideal S8192x2048 .bf16) = truncf .bf16 (A m c) bitsLt_bf16_f32 := by entry_read; rfl

/-- The weight as the call reads it. -/
theorem V_w : (V m c main_v1 : FVec Ideal S2048x6144 .bf16) = truncf .bf16 (W m c) bitsLt_bf16_f32 := by entry_read; rfl

/-- Where each window's block of a point begins, in blocks. -/
theorem idx_facts : ∀ t : Fin grid0.N, (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4) := by
  decide +kernel

/-- A block of the tokens at the place of `r` and `k`. -/
theorem blk0 (t : Fin cfg0.N) (x : Fin 1024) (r : Fin 8192) (k : Fin 2048) (hr : t.val / 4 * 1024 + x.val = r.val) :
    (iblk m c 0 t : FVec Ideal S1024x2048 .bf16) (ix2 x k) = A m c (ix2 r k) := by
  obtain ⟨⟨e0, e1⟩, _⟩ := idx_facts t
  refine (View.read_apply ..).trans ((congrFun (V_a m c) _).trans (at2 (A m c) _ ?_ ?_))
  · show win0_0.index t (0 : Fin 2) * 1024 + 1 * x.val = r.val; omega
  · show win0_0.index t (1 : Fin 2) * 2048 + 1 * k.val = k.val; omega

/-- A block of the weight at the place of `k` and `r`. -/
theorem blk1 (t : Fin cfg0.N) (k : Fin 2048) (y : Fin 1536) (r : Fin 6144) (hr : t.val % 4 * 1536 + y.val = r.val) :
    (iblk m c 1 t : FVec Ideal S2048x1536 .bf16) (ix2 k y) = W m c (ix2 k r) := by
  obtain ⟨_, ⟨e0, e1⟩, _⟩ := idx_facts t
  refine (View.read_apply ..).trans ((congrFun (V_w m c) _).trans (at2 (W m c) _ ?_ ?_))
  · show win0_1.index t (0 : Fin 2) * 2048 + 1 * k.val = k.val; omega
  · show win0_1.index t (1 : Fin 2) * 1536 + 1 * y.val = r.val; omega

/-- What a point leaves in its block. -/
theorem pay_at (a : Vec Ideal S1024x2048 .bf16) (w : Vec Ideal S2048x1536 .bf16) (x : Fin 1024) (y : Fin 1536) :
    k0_pay1 a w (ix2 x y) = ∑ z, a (ix2 x z) * w (ix2 z y) := by
  pointwise [k0_pay1]

/-- The reference's product. -/
abbrev ref : FVec Ideal S8192x6144 .f32 := (Host.dotGeneral Cert.SsmInFwdRefIdeal.dot_S8192x2048_S2048x6144_S8192x6144_1_0_0_1_n_n none (A m c) (W m c) : FVec Ideal S8192x6144 .f32)

/-- The reference's product, element by element. -/
theorem ref_at (A : FVec Ideal S8192x2048 .f32) (W : FVec Ideal S2048x6144 .f32) (x : Fin 8192) (y : Fin 6144) :
    Host.dotGeneral Cert.SsmInFwdRefIdeal.dot_S8192x2048_S2048x6144_S8192x6144_1_0_0_1_n_n none A W (ix2 x y) = ∑ z, A (ix2 x z) * W (ix2 z y) := by
  pointwise

/-- The call leaves the reference's product. -/
theorem same : ((dats m 0 c).arrAt 2 cfg0.N : FVec Ideal S8192x6144 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 32 := lt_of_lt_of_eq t.isLt N_0
  have hx : (y 0).val < 1024 := (y 0).isLt
  have hy : (y 1).val < 1536 := (y 1).isLt
  refine (congrArg _ (eq_ix2 y)).trans ((pay_at _ _ (y 0) (y 1)).trans (Eq.trans ?_ (ref_at (A m c) (W m c) ⟨t.val / 4 * 1024 + (y 0).val, by omega⟩ ⟨t.val % 4 * 1536 + (y 1).val, by omega⟩).symm) |>.trans (at2 (ref m c) _ ?_ ?_).symm)
  · exact Finset.sum_congr rfl fun z _ => congrArg₂ (· * ·) (blk0 m c t _ _ z rfl) (blk1 m c t z _ _ rfl)
  · show win0_2.index t (0 : Fin 2) * 1024 + 1 * (y 0).val = t.val / 4 * 1024 + (y 0).val; omega
  · show win0_2.index t (1 : Fin 2) * 1536 + 1 * (y 1).val = t.val % 4 * 1536 + (y 1).val; omega

end Cert.SsmInFwdIdeal.Prod

namespace Cert.SsmInFwd.Prod

theorem facts : Cert.SsmInFwd.Facts where
  toFacts₀ := { Cert.SsmInFwdIdeal.Gen.facts₀ with }

/-- The kernel's body is the idealized kernel's. -/
theorem body_eq : @Cert.SsmInFwd.defs₀ Bits _ facts = Cert.SsmInFwdIdeal.defs₀ := by
  refine congrArg Defs.onTc (funext fun l => funext fun x => ?_)
  match l, x with
  | 0, (t, s) => rfl

/-- The kernel runs and keeps its arguments. -/
theorem frame_p : Cert.quiescent_SsmInFwd (hSsmInFwd := facts) := fun m ρ _ => by
  unfold Cert.SsmInFwd.defs
  rw [body_eq]
  exact Cert.SsmInFwdIdeal.Gen.frame (F := Bits) m ρ

/-- The idealized kernel runs and keeps its arguments. -/
theorem frame_pi : Cert.quiescent_SsmInFwdIdeal (hSsmInFwdIdeal := Cert.SsmInFwdIdeal.Gen.facts) := fun m ρ _ => Cert.SsmInFwdIdeal.Gen.frame m ρ

/-- The reference runs and keeps its arguments. -/
theorem frame_ri : Cert.quiescent_SsmInFwdRefIdeal (hSsmInFwdRefIdeal := Cert.SsmInFwdRefIdeal.Gen.facts) := fun m ρ _ =>
  (θ_run Cert.SsmInFwdRefIdeal.defs _ _).mono (fun r h => ⟨fun c => (h c).2, sem_eq_zero_of_no_sems (by decide) r.2⟩)
    (Cert.SsmInFwdRefIdeal.Value.run (F := Ideal) m ρ)

/-- The kernel's result is the reference's. -/
theorem algebraic : Cert.algebraic_SsmInFwdIdeal_SsmInFwdRefIdeal (hSsmInFwdIdeal := Cert.SsmInFwdIdeal.Gen.facts) (hSsmInFwdRefIdeal := Cert.SsmInFwdRefIdeal.Gen.facts) := by
  intro m ρ m' ρ' _ hagree
  refine ⟨_, Cert.SsmInFwdIdeal.Value.run_blocks (F := Ideal) m ρ, (θ_run Cert.SsmInFwdRefIdeal.defs _ _).mono (fun _ h c => ⟨(h c).1.trans ?_, (h c).2⟩)
    (Cert.SsmInFwdRefIdeal.Value.run (F := Ideal) m' ρ')⟩
  rw [(hagree c).1, (hagree c).2]
  exact (Cert.SsmInFwdIdeal.Prod.same m c).symm

end Cert.SsmInFwd.Prod

end
-- ==== Proof.SsmGateDa.lean ====
module

public import proofs.«01_k».proof.Proof.Prod
public import proofs.«01_k».proof.Proof.Gen.SsmGateDaIdeal.Value
public import proofs.«01_k».proof.Proof.Gen.SsmGateDaRefIdeal.Run
public import proofs.«01_k».proof.Defs
public import Idealize.ShloMosaic.Lib.Quiescent
public import Idealize.ShloMosaic.Adequacy
public import Idealize.ShloMosaic.Init

@[expose] public section

set_option maxRecDepth 65536

/-! The gradient of a product's operand, 2048 lanes by 4096: point `t` is row block `t / 8`, column block `t / 4 % 2`, lane block `t % 4`. -/

noncomputable section

open Idealize.ShloMosaic Idealize.ShloMosaic.TcCoe Idealize.SL.Sem Idealize.ShloMosaic.StableHlo

namespace Cert.SsmGateDaIdeal.Prod

open Cert.SsmGateDaIdeal Cert.SsmGateDaIdeal.Gen Cert.Prod

variable (m : (ℓ : Loc nD τ sig) → Buf (Elt Ideal) ℓ) (c : Dev nD)

abbrev W : FVec Ideal S2048x4096 .f32 := m (c.tc.loc main_arg0)
abbrev G : FVec Ideal S8192x4096 .f32 := m (c.tc.loc main_arg1)

/-- The cotangent as the call reads it: the argument, whose cast is exact. -/
theorem V_g : (V m c main_v0 : FVec Ideal S8192x4096 .bf16) = truncf .bf16 (G m c) bitsLt_bf16_f32 := by entry_read; rfl

/-- The weight as the call reads it. -/
theorem V_w : (V m c main_v1 : FVec Ideal S2048x4096 .bf16) = truncf .bf16 (W m c) bitsLt_bf16_f32 := by entry_read; rfl

/-- Where each window's block of a point begins, in blocks. -/
theorem idx_facts : ∀ t : Fin grid0.N, (win0_0.index t (0 : Fin 2) = t.val / 8 ∧ win0_0.index t (1 : Fin 2) = t.val % 4)
    ∧ (win0_1.index t (0 : Fin 2) = t.val / 4 % 2 ∧ win0_1.index t (1 : Fin 2) = t.val % 4) := by
  decide +kernel

/-- A block of the cotangent at the place of `r` and `k`. -/
theorem blk0 (t : Fin cfg0.N) (x : Fin 1024) (z : Fin 1024) (r : Fin 8192) (k : Fin 4096) (hr : t.val / 8 * 1024 + x.val = r.val) (hk : t.val % 4 * 1024 + z.val = k.val) :
    (iblk m c 0 t : FVec Ideal S1024x1024 .bf16) (ix2 x z) = G m c (ix2 r k) := by
  obtain ⟨⟨e0, e1⟩, _⟩ := idx_facts t
  refine (View.read_apply ..).trans ((congrFun (V_g m c) _).trans (at2 (G m c) _ ?_ ?_))
  · show win0_0.index t (0 : Fin 2) * 1024 + 1 * x.val = r.val; omega
  · show win0_0.index t (1 : Fin 2) * 1024 + 1 * z.val = k.val; omega

/-- A block of the weight at the place of `r` and `k`. -/
theorem blk1 (t : Fin cfg0.N) (x : Fin 1024) (z : Fin 1024) (r : Fin 2048) (k : Fin 4096) (hr : t.val / 4 % 2 * 1024 + x.val = r.val) (hk : t.val % 4 * 1024 + z.val = k.val) :
    (iblk m c 1 t : FVec Ideal S1024x1024 .bf16) (ix2 x z) = W m c (ix2 r k) := by
  obtain ⟨_, e0, e1⟩ := idx_facts t
  refine (View.read_apply ..).trans ((congrFun (V_w m c) _).trans (at2 (W m c) _ ?_ ?_))
  · show win0_1.index t (0 : Fin 2) * 1024 + 1 * x.val = r.val; omega
  · show win0_1.index t (1 : Fin 2) * 1024 + 1 * z.val = k.val; omega

/-- What a point adds to its block. -/
theorem pay_at (acc : Vec Ideal S1024x1024 .f32) (g w : Vec Ideal S1024x1024 .bf16) (x y : Fin 1024) :
    k0_pay2 acc g w (ix2 x y) = acc (ix2 x y) + ∑ z, g (ix2 x z) * w (ix2 y z) := by
  pointwise [k0_pay2]

theorem zero_at (x y : Fin 1024) : k0_pay1 (F := Ideal) (ix2 x y) = 0 := by pointwise [k0_pay1]

/-- The blocks point `n` reads. -/
abbrev bG (n : ℕ) (h : n < cfg0.N) : FVec Ideal S1024x1024 .bf16 := iblk m c 0 ⟨n, h⟩
abbrev bW (n : ℕ) (h : n < cfg0.N) : FVec Ideal S1024x1024 .bf16 := iblk m c 1 ⟨n, h⟩

/-- The array after the run, element by element: the whole product. -/
theorem G2_at (x : Fin 8192) (y : Fin 2048) : Value.G2 m c (ix2 x y) = ∑ z, G m c (ix2 x z) * W m c (ix2 y z) := by
  have e : 4 * Value.run2Of (ix2 x y) = 8 * (x.val / 1024) + 4 * (y.val / 1024) := by
    show 4 * (2 * (x.val / 1024 - 0) + 1 * (y.val / 1024 - 0)) = _; omega
  have hN : 4 * Value.run2Of (ix2 x y) + 3 < cfg0.N := Nat.lt_of_lt_of_eq (by omega) N_0.symm
  have key : Pipeline.accAt (Value.reset2 m c) (Value.step2 m c) (4 * Value.run2Of (ix2 x y)) 3 hN (ix2 ⟨x.val % 1024, by omega⟩ ⟨y.val % 1024, by omega⟩)
      = ∑ z, G m c (ix2 x z) * W m c (ix2 y z) :=
    fold_product (fun n h z => bG m c n h (ix2 ⟨x.val % 1024, by omega⟩ z)) (fun n h z => bW m c n h (ix2 ⟨y.val % 1024, by omega⟩ z)) _ _
      (fun z => G m c (ix2 x z)) (fun z => W m c (ix2 y z)) rfl hN
      (fun h => (pay_at _ _ _ _ _).trans (congrArg (· + _) (zero_at _ _))) (fun n h acc _ _ => pay_at acc _ _ _ _)
      (fun q h z => blk0 m c _ _ _ _ _ (by dsimp only; omega) (by dsimp only; omega)) (fun q h z => blk1 m c _ _ _ _ _ (by dsimp only; omega) (by dsimp only; omega))
  exact (dif_pos hN).trans ((congrArg _ (eq_ix2 _)).trans key)

/-- The reference's product, element by element. -/
theorem ref_at (G : FVec Ideal S8192x4096 .f32) (W : FVec Ideal S2048x4096 .f32) (x : Fin 8192) (y : Fin 2048) :
    Host.dotGeneral Cert.SsmGateDaRefIdeal.dot_S8192x4096_S2048x4096_S8192x2048_1_1_0_0_n_n none G W (ix2 x y) = ∑ z, G (ix2 x z) * W (ix2 y z) := by
  pointwise

/-- The call leaves the reference's product. -/
theorem same : (Value.G2 m c : FVec Ideal S8192x2048 .f32) = Host.dotGeneral Cert.SsmGateDaRefIdeal.dot_S8192x4096_S2048x4096_S8192x2048_1_1_0_0_n_n none (G m c) (W m c) :=
  ext2 fun x y => (G2_at m c x y).trans (ref_at _ _ x y).symm

end Cert.SsmGateDaIdeal.Prod

namespace Cert.SsmGateDa.Prod

theorem facts : Cert.SsmGateDa.Facts where
  toFacts₀ := { Cert.SsmGateDaIdeal.Gen.facts₀ with }

/-- The kernel's body is the idealized kernel's. -/
theorem body_eq : @Cert.SsmGateDa.defs₀ Bits _ facts = Cert.SsmGateDaIdeal.defs₀ := by
  refine congrArg Defs.onTc (funext fun l => funext fun x => ?_)
  match l, x with
  | 0, (t, s) => rfl

/-- The kernel runs and keeps its arguments. -/
theorem frame_p : Cert.quiescent_SsmGateDa (hSsmGateDa := facts) := fun m ρ _ => by
  unfold Cert.SsmGateDa.defs
  rw [body_eq]
  exact Cert.SsmGateDaIdeal.Gen.frame (F := Bits) m ρ

/-- The idealized kernel runs and keeps its arguments. -/
theorem frame_pi : Cert.quiescent_SsmGateDaIdeal (hSsmGateDaIdeal := Cert.SsmGateDaIdeal.Gen.facts) := fun m ρ _ => Cert.SsmGateDaIdeal.Gen.frame m ρ

/-- The reference runs and keeps its arguments. -/
theorem frame_ri : Cert.quiescent_SsmGateDaRefIdeal (hSsmGateDaRefIdeal := Cert.SsmGateDaRefIdeal.Gen.facts) := fun m ρ _ =>
  (θ_run Cert.SsmGateDaRefIdeal.defs _ _).mono (fun r h => ⟨fun c => (h c).2, sem_eq_zero_of_no_sems (by decide) r.2⟩)
    (Cert.SsmGateDaRefIdeal.Value.run (F := Ideal) m ρ)

/-- The kernel's result is the reference's. -/
theorem algebraic : Cert.algebraic_SsmGateDaIdeal_SsmGateDaRefIdeal (hSsmGateDaIdeal := Cert.SsmGateDaIdeal.Gen.facts) (hSsmGateDaRefIdeal := Cert.SsmGateDaRefIdeal.Gen.facts) := by
  intro m ρ m' ρ' _ hagree
  refine ⟨_, Cert.SsmGateDaIdeal.Value.run (F := Ideal) m ρ, (θ_run Cert.SsmGateDaRefIdeal.defs _ _).mono (fun _ h c => ⟨(h c).1.trans ?_, (h c).2⟩)
    (Cert.SsmGateDaRefIdeal.Value.run (F := Ideal) m' ρ')⟩
  rw [(hagree c).1, (hagree c).2]
  exact (Cert.SsmGateDaIdeal.Prod.same m c).symm

end Cert.SsmGateDa.Prod

end
-- ==== Proof.SsmGateDw.lean ====
module

public import proofs.«01_k».proof.Proof.Prod
public import proofs.«01_k».proof.Proof.Gen.SsmGateDwIdeal.Value
public import proofs.«01_k».proof.Proof.Gen.SsmGateDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 2048 lanes by 4096: point `t` is row block `t / 32`, column block `t / 8 % 4`, token block `t % 8`. -/

noncomputable section

open Idealize.ShloMosaic Idealize.ShloMosaic.TcCoe Idealize.SL.Sem Idealize.ShloMosaic.StableHlo

namespace Cert.SsmGateDwIdeal.Prod

open Cert.SsmGateDwIdeal Cert.SsmGateDwIdeal.Gen Cert.Prod

section Cases

variable {F : FTy → Type} [FloatOps F] (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec F S1024x1024 .bf16) (x1 : Vec F S1024x1024 .bf16) (s : Vec F S1024x1024 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x2048 .f32 := m (c.tc.loc main_arg0)
abbrev G : FVec Ideal S8192x4096 .f32 := m (c.tc.loc main_arg1)

/-- The operand as the call reads it: the argument, whose cast is exact. -/
theorem V_a : (V m c main_v0 : FVec Ideal S8192x2048 .bf16) = truncf .bf16 (A m c) bitsLt_bf16_f32 := by entry_read; rfl

/-- The cotangent as the call reads it. -/
theorem V_g : (V m c main_v1 : FVec Ideal S8192x4096 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 32)
    ∧ (win0_1.index t (0 : Fin 2) = t.val % 8 ∧ win0_1.index t (1 : Fin 2) = t.val / 8 % 4)
    ∧ (win0_2.index t (0 : Fin 2) = t.val / 32 ∧ win0_2.index t (1 : Fin 2) = t.val / 8 % 4) := by
  decide +kernel

/-- A block of the operand at the place of `k` and `r`. -/
theorem blk0 (t : Fin cfg0.N) (z : Fin 1024) (x : Fin 1024) (k : Fin 8192) (r : Fin 2048) (hk : t.val % 8 * 1024 + z.val = k.val) (hr : t.val / 32 * 1024 + x.val = r.val) :
    (iblk m c 0 t : FVec Ideal S1024x1024 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1024 + 1 * x.val = r.val; omega

/-- A block of the cotangent at the place of `k` and `r`. -/
theorem blk1 (t : Fin cfg0.N) (z : Fin 1024) (y : Fin 1024) (k : Fin 8192) (r : Fin 4096) (hk : t.val % 8 * 1024 + z.val = k.val) (hr : t.val / 8 % 4 * 1024 + y.val = r.val) :
    (iblk m c 1 t : FVec Ideal S1024x1024 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1024 + 1 * y.val = r.val; omega

/-- What a point adds to the accumulator. -/
theorem pay_at (acc : Vec Ideal S1024x1024 .f32) (a : Vec Ideal S1024x1024 .bf16) (g : Vec Ideal S1024x1024 .bf16) (x : Fin 1024) (y : Fin 1024) :
    k0_pay2 acc a g (ix2 x y) = acc (ix2 x y) + ∑ z, a (ix2 z x) * g (ix2 z y) := by
  pointwise [k0_pay2]

theorem zero_at (x : Fin 1024) (y : Fin 1024) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bG (n : ℕ) (h : n < cfg0.N) : FVec Ideal S1024x1024 .bf16 := iblk m c 1 ⟨n, h⟩

/-- What a first point leaves in the accumulator, whatever it held. -/
theorem at_first (n : ℕ) (h : n < cfg0.N) (acc : Vec Ideal S1024x1024 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1024x1024 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1024) (y : Fin 1024) (r : Fin 2048) (s : Fin 4096) (hr : t.val / 32 * 1024 + x.val = r.val) (hs : t.val / 8 % 4 * 1024 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S2048x4096 .bf16 :=
  truncf .bf16 (transpose S2048x4096 [1,0] (Host.dotGeneral Cert.SsmGateDwRefIdeal.dot_S8192x4096_S8192x2048_S4096x2048_0_0_1_1_n_n none (G m c) (A m c) : FVec Ideal Cert.SsmGateDwRefIdeal.S4096x2048 .f32) Cert.SsmGateDwRefIdeal.Gen.facts.transposes_S4096x2048_S2048x4096_1_0) bitsLt_bf16_f32

/-- The reference's product, element by element. -/
theorem ref_at (x : Fin 2048) (y : Fin 4096) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S2048x4096 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 64 := lt_of_lt_of_eq t.isLt N_0
  have hx : (y 0).val < 1024 := (y 0).isLt
  have hy : (y 1).val < 1024 := (y 1).isLt
  refine (congrArg _ (eq_ix2 y)).trans ((acc_at m c t ((flush0_2 t).mp hf) (y 0) (y 1) ⟨t.val / 32 * 1024 + (y 0).val, by omega⟩ ⟨t.val / 8 % 4 * 1024 + (y 1).val, by omega⟩ rfl rfl).trans (ref_at m c _ _).symm) |>.trans (at2 (ref m c) _ ?_ ?_).symm
  · show win0_2.index t (0 : Fin 2) * 1024 + 1 * (y 0).val = t.val / 32 * 1024 + (y 0).val; omega
  · show win0_2.index t (1 : Fin 2) * 1024 + 1 * (y 1).val = t.val / 8 % 4 * 1024 + (y 1).val; omega

end Cert.SsmGateDwIdeal.Prod

namespace Cert.SsmGateDw.Prod

theorem facts : Cert.SsmGateDw.Facts where
  toFacts₀ := { Cert.SsmGateDwIdeal.Gen.facts₀ with }

/-- The kernel's body is the idealized kernel's. -/
theorem body_eq : @Cert.SsmGateDw.defs₀ Bits _ facts = Cert.SsmGateDwIdeal.defs₀ := by
  refine congrArg Defs.onTc (funext fun l => funext fun x => ?_)
  match l, x with
  | 0, (t, s) => rfl

/-- The kernel runs and keeps its arguments. -/
theorem frame_p : Cert.quiescent_SsmGateDw (hSsmGateDw := facts) := fun m ρ _ => by
  unfold Cert.SsmGateDw.defs
  rw [body_eq]
  exact Cert.SsmGateDwIdeal.Gen.frame (F := Bits) m ρ

/-- The idealized kernel runs and keeps its arguments. -/
theorem frame_pi : Cert.quiescent_SsmGateDwIdeal (hSsmGateDwIdeal := Cert.SsmGateDwIdeal.Gen.facts) := fun m ρ _ => Cert.SsmGateDwIdeal.Gen.frame m ρ

/-- The reference runs and keeps its arguments. -/
theorem frame_ri : Cert.quiescent_SsmGateDwRefIdeal (hSsmGateDwRefIdeal := Cert.SsmGateDwRefIdeal.Gen.facts) := fun m ρ _ =>
  (θ_run Cert.SsmGateDwRefIdeal.defs _ _).mono (fun r h => ⟨fun c => (h c).2, sem_eq_zero_of_no_sems (by decide) r.2⟩)
    (Cert.SsmGateDwRefIdeal.Value.run (F := Ideal) m ρ)

/-- The kernel's result is the reference's. -/
theorem algebraic : Cert.algebraic_SsmGateDwIdeal_SsmGateDwRefIdeal (hSsmGateDwIdeal := Cert.SsmGateDwIdeal.Gen.facts) (hSsmGateDwRefIdeal := Cert.SsmGateDwRefIdeal.Gen.facts) := by
  intro m ρ m' ρ' _ hagree
  refine ⟨_, Cert.SsmGateDwIdeal.Value.run_blocks (F := Ideal) m ρ, (θ_run Cert.SsmGateDwRefIdeal.defs _ _).mono (fun _ h c => ⟨(h c).1.trans ?_, (h c).2⟩)
    (Cert.SsmGateDwRefIdeal.Value.run (F := Ideal) m' ρ')⟩
  rw [(hagree c).1, (hagree c).2]
  exact (Cert.SsmGateDwIdeal.Prod.same m c).symm

end Cert.SsmGateDw.Prod

end
-- ==== Proof.SsmGateFwd.lean ====
module

public import proofs.«01_k».proof.Proof.Prod
public import proofs.«01_k».proof.Proof.Gen.SsmGateFwdIdeal.Value
public import proofs.«01_k».proof.Proof.Gen.SsmGateFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 2048 lanes by 4096: point `t` is token block `t / 4`, column block `t % 4`. -/

noncomputable section

open Idealize.ShloMosaic Idealize.ShloMosaic.TcCoe Idealize.SL.Sem Idealize.ShloMosaic.StableHlo

namespace Cert.SsmGateFwdIdeal.Prod

open Cert.SsmGateFwdIdeal Cert.SsmGateFwdIdeal.Gen Cert.Prod

variable (m : (ℓ : Loc nD τ sig) → Buf (Elt Ideal) ℓ) (c : Dev nD)

abbrev A : FVec Ideal S8192x2048 .f32 := m (c.tc.loc main_arg0)
abbrev W : FVec Ideal S2048x4096 .f32 := m (c.tc.loc main_arg1)

/-- The tokens as the call reads them: the argument, whose cast is exact. -/
theorem V_a : (V m c main_v0 : FVec Ideal S8192x2048 .bf16) = truncf .bf16 (A m c) bitsLt_bf16_f32 := by entry_read; rfl

/-- The weight as the call reads it. -/
theorem V_w : (V m c main_v1 : FVec Ideal S2048x4096 .bf16) = truncf .bf16 (W m c) bitsLt_bf16_f32 := by entry_read; rfl

/-- Where each window's block of a point begins, in blocks. -/
theorem idx_facts : ∀ t : Fin grid0.N, (win0_0.index t (0 : Fin 2) = t.val / 4 ∧ win0_0.index t (1 : Fin 2) = 0)
    ∧ (win0_1.index t (0 : Fin 2) = 0 ∧ win0_1.index t (1 : Fin 2) = t.val % 4)
    ∧ (win0_2.index t (0 : Fin 2) = t.val / 4 ∧ win0_2.index t (1 : Fin 2) = t.val % 4) := by
  decide +kernel

/-- A block of the tokens at the place of `r` and `k`. -/
theorem blk0 (t : Fin cfg0.N) (x : Fin 1024) (r : Fin 8192) (k : Fin 2048) (hr : t.val / 4 * 1024 + x.val = r.val) :
    (iblk m c 0 t : FVec Ideal S1024x2048 .bf16) (ix2 x k) = A m c (ix2 r k) := by
  obtain ⟨⟨e0, e1⟩, _⟩ := idx_facts t
  refine (View.read_apply ..).trans ((congrFun (V_a m c) _).trans (at2 (A m c) _ ?_ ?_))
  · show win0_0.index t (0 : Fin 2) * 1024 + 1 * x.val = r.val; omega
  · show win0_0.index t (1 : Fin 2) * 2048 + 1 * k.val = k.val; omega

/-- A block of the weight at the place of `k` and `r`. -/
theorem blk1 (t : Fin cfg0.N) (k : Fin 2048) (y : Fin 1024) (r : Fin 4096) (hr : t.val % 4 * 1024 + y.val = r.val) :
    (iblk m c 1 t : FVec Ideal S2048x1024 .bf16) (ix2 k y) = W m c (ix2 k r) := by
  obtain ⟨_, ⟨e0, e1⟩, _⟩ := idx_facts t
  refine (View.read_apply ..).trans ((congrFun (V_w m c) _).trans (at2 (W m c) _ ?_ ?_))
  · show win0_1.index t (0 : Fin 2) * 2048 + 1 * k.val = k.val; omega
  · show win0_1.index t (1 : Fin 2) * 1024 + 1 * y.val = r.val; omega

/-- What a point leaves in its block. -/
theorem pay_at (a : Vec Ideal S1024x2048 .bf16) (w : Vec Ideal S2048x1024 .bf16) (x : Fin 1024) (y : Fin 1024) :
    k0_pay1 a w (ix2 x y) = ∑ z, a (ix2 x z) * w (ix2 z y) := by
  pointwise [k0_pay1]

/-- The reference's product. -/
abbrev ref : FVec Ideal S8192x4096 .f32 := (Host.dotGeneral Cert.SsmGateFwdRefIdeal.dot_S8192x2048_S2048x4096_S8192x4096_1_0_0_1_n_n none (A m c) (W m c) : FVec Ideal S8192x4096 .f32)

/-- The reference's product, element by element. -/
theorem ref_at (A : FVec Ideal S8192x2048 .f32) (W : FVec Ideal S2048x4096 .f32) (x : Fin 8192) (y : Fin 4096) :
    Host.dotGeneral Cert.SsmGateFwdRefIdeal.dot_S8192x2048_S2048x4096_S8192x4096_1_0_0_1_n_n none A W (ix2 x y) = ∑ z, A (ix2 x z) * W (ix2 z y) := by
  pointwise

/-- The call leaves the reference's product. -/
theorem same : ((dats m 0 c).arrAt 2 cfg0.N : FVec Ideal S8192x4096 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 32 := lt_of_lt_of_eq t.isLt N_0
  have hx : (y 0).val < 1024 := (y 0).isLt
  have hy : (y 1).val < 1024 := (y 1).isLt
  refine (congrArg _ (eq_ix2 y)).trans ((pay_at _ _ (y 0) (y 1)).trans (Eq.trans ?_ (ref_at (A m c) (W m c) ⟨t.val / 4 * 1024 + (y 0).val, by omega⟩ ⟨t.val % 4 * 1024 + (y 1).val, by omega⟩).symm) |>.trans (at2 (ref m c) _ ?_ ?_).symm)
  · exact Finset.sum_congr rfl fun z _ => congrArg₂ (· * ·) (blk0 m c t _ _ z rfl) (blk1 m c t z _ _ rfl)
  · show win0_2.index t (0 : Fin 2) * 1024 + 1 * (y 0).val = t.val / 4 * 1024 + (y 0).val; omega
  · show win0_2.index t (1 : Fin 2) * 1024 + 1 * (y 1).val = t.val % 4 * 1024 + (y 1).val; omega

end Cert.SsmGateFwdIdeal.Prod

namespace Cert.SsmGateFwd.Prod

theorem facts : Cert.SsmGateFwd.Facts where
  toFacts₀ := { Cert.SsmGateFwdIdeal.Gen.facts₀ with }

/-- The kernel's body is the idealized kernel's. -/
theorem body_eq : @Cert.SsmGateFwd.defs₀ Bits _ facts = Cert.SsmGateFwdIdeal.defs₀ := by
  refine congrArg Defs.onTc (funext fun l => funext fun x => ?_)
  match l, x with
  | 0, (t, s) => rfl

/-- The kernel runs and keeps its arguments. -/
theorem frame_p : Cert.quiescent_SsmGateFwd (hSsmGateFwd := facts) := fun m ρ _ => by
  unfold Cert.SsmGateFwd.defs
  rw [body_eq]
  exact Cert.SsmGateFwdIdeal.Gen.frame (F := Bits) m ρ

/-- The idealized kernel runs and keeps its arguments. -/
theorem frame_pi : Cert.quiescent_SsmGateFwdIdeal (hSsmGateFwdIdeal := Cert.SsmGateFwdIdeal.Gen.facts) := fun m ρ _ => Cert.SsmGateFwdIdeal.Gen.frame m ρ

/-- The reference runs and keeps its arguments. -/
theorem frame_ri : Cert.quiescent_SsmGateFwdRefIdeal (hSsmGateFwdRefIdeal := Cert.SsmGateFwdRefIdeal.Gen.facts) := fun m ρ _ =>
  (θ_run Cert.SsmGateFwdRefIdeal.defs _ _).mono (fun r h => ⟨fun c => (h c).2, sem_eq_zero_of_no_sems (by decide) r.2⟩)
    (Cert.SsmGateFwdRefIdeal.Value.run (F := Ideal) m ρ)

/-- The kernel's result is the reference's. -/
theorem algebraic : Cert.algebraic_SsmGateFwdIdeal_SsmGateFwdRefIdeal (hSsmGateFwdIdeal := Cert.SsmGateFwdIdeal.Gen.facts) (hSsmGateFwdRefIdeal := Cert.SsmGateFwdRefIdeal.Gen.facts) := by
  intro m ρ m' ρ' _ hagree
  refine ⟨_, Cert.SsmGateFwdIdeal.Value.run_blocks (F := Ideal) m ρ, (θ_run Cert.SsmGateFwdRefIdeal.defs _ _).mono (fun _ h c => ⟨(h c).1.trans ?_, (h c).2⟩)
    (Cert.SsmGateFwdRefIdeal.Value.run (F := Ideal) m' ρ')⟩
  rw [(hagree c).1, (hagree c).2]
  exact (Cert.SsmGateFwdIdeal.Prod.same m c).symm

end Cert.SsmGateFwd.Prod

end
-- ==== Proof.SsmOutDa.lean ====
module

public import proofs.«01_k».proof.Proof.Prod
public import proofs.«01_k».proof.Proof.Gen.SsmOutDaIdeal.Value
public import proofs.«01_k».proof.Proof.Gen.SsmOutDaRefIdeal.Run
public import proofs.«01_k».proof.Defs
public import Idealize.ShloMosaic.Lib.Quiescent
public import Idealize.ShloMosaic.Adequacy
public import Idealize.ShloMosaic.Init

@[expose] public section

set_option maxRecDepth 65536

/-! The gradient of a product's operand, 4096 lanes by 2048: point `t` is row block `t / 4`, column block `t % 4`. -/

noncomputable section

open Idealize.ShloMosaic Idealize.ShloMosaic.TcCoe Idealize.SL.Sem Idealize.ShloMosaic.StableHlo

namespace Cert.SsmOutDaIdeal.Prod

open Cert.SsmOutDaIdeal Cert.SsmOutDaIdeal.Gen Cert.Prod

variable (m : (ℓ : Loc nD τ sig) → Buf (Elt Ideal) ℓ) (c : Dev nD)

abbrev W : FVec Ideal S4096x2048 .f32 := m (c.tc.loc main_arg0)
abbrev G : FVec Ideal S8192x2048 .f32 := m (c.tc.loc main_arg1)

/-- The cotangent as the call reads them: the argument, whose cast is exact. -/
theorem V_g : (V m c main_v0 : FVec Ideal S8192x2048 .bf16) = truncf .bf16 (G m c) bitsLt_bf16_f32 := by entry_read; rfl

/-- The weight as the call reads it. -/
theorem V_w : (V m c main_v1 : FVec Ideal S4096x2048 .bf16) = truncf .bf16 (W m c) bitsLt_bf16_f32 := by entry_read; rfl

/-- Where each window's block of a point begins, in blocks. -/
theorem idx_facts : ∀ t : Fin grid0.N, (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = t.val % 4) := by
  decide +kernel

/-- A block of the cotangent at the place of `r` and `k`. -/
theorem blk0 (t : Fin cfg0.N) (x : Fin 1024) (r : Fin 8192) (k : Fin 2048) (hr : t.val / 4 * 1024 + x.val = r.val) :
    (iblk m c 0 t : FVec Ideal S1024x2048 .bf16) (ix2 x k) = G m c (ix2 r k) := by
  obtain ⟨⟨e0, e1⟩, _⟩ := idx_facts t
  refine (View.read_apply ..).trans ((congrFun (V_g m c) _).trans (at2 (G m c) _ ?_ ?_))
  · show win0_0.index t (0 : Fin 2) * 1024 + 1 * x.val = r.val; omega
  · show win0_0.index t (1 : Fin 2) * 2048 + 1 * k.val = k.val; omega

/-- A block of the weight at the place of `r` and `k`. -/
theorem blk1 (t : Fin cfg0.N) (y : Fin 1024) (r : Fin 4096) (k : Fin 2048) (hr : t.val % 4 * 1024 + y.val = r.val) :
    (iblk m c 1 t : FVec Ideal S1024x2048 .bf16) (ix2 y k) = W m c (ix2 r k) := by
  obtain ⟨_, ⟨e0, e1⟩, _⟩ := idx_facts t
  refine (View.read_apply ..).trans ((congrFun (V_w m c) _).trans (at2 (W m c) _ ?_ ?_))
  · show win0_1.index t (0 : Fin 2) * 1024 + 1 * y.val = r.val; omega
  · show win0_1.index t (1 : Fin 2) * 2048 + 1 * k.val = k.val; omega

/-- What a point leaves in its block. -/
theorem pay_at (g : Vec Ideal S1024x2048 .bf16) (w : Vec Ideal S1024x2048 .bf16) (x : Fin 1024) (y : Fin 1024) :
    k0_pay1 g w (ix2 x y) = ∑ z, g (ix2 x z) * w (ix2 y z) := by
  pointwise [k0_pay1]

/-- The reference's product. -/
abbrev ref : FVec Ideal S8192x4096 .f32 := (Host.dotGeneral Cert.SsmOutDaRefIdeal.dot_S8192x2048_S4096x2048_S8192x4096_1_1_0_0_n_n none (G m c) (W m c) : FVec Ideal S8192x4096 .f32)

/-- The reference's product, element by element. -/
theorem ref_at (G : FVec Ideal S8192x2048 .f32) (W : FVec Ideal S4096x2048 .f32) (x : Fin 8192) (y : Fin 4096) :
    Host.dotGeneral Cert.SsmOutDaRefIdeal.dot_S8192x2048_S4096x2048_S8192x4096_1_1_0_0_n_n none G W (ix2 x y) = ∑ z, G (ix2 x z) * W (ix2 y z) := by
  pointwise

/-- The call leaves the reference's product. -/
theorem same : ((dats m 0 c).arrAt 2 cfg0.N : FVec Ideal S8192x4096 .f32) = ref m c := by
  refine (dats m 0 c).arrAt_eq_of_covers 2 (ref m c) (by decide +kernel) fun t hf y => ?_
  blk_simp
  rw [after0_2]
  frame_out
  obtain ⟨_, _, e0, e1⟩ := idx_facts t
  have ht : t.val < 32 := lt_of_lt_of_eq t.isLt N_0
  have hx : (y 0).val < 1024 := (y 0).isLt
  have hy : (y 1).val < 1024 := (y 1).isLt
  refine (congrArg _ (eq_ix2 y)).trans ((pay_at _ _ (y 0) (y 1)).trans (Eq.trans ?_ (ref_at (G m c) (W m c) ⟨t.val / 4 * 1024 + (y 0).val, by omega⟩ ⟨t.val % 4 * 1024 + (y 1).val, by omega⟩).symm) |>.trans (at2 (ref m c) _ ?_ ?_).symm)
  · exact Finset.sum_congr rfl fun z _ => congrArg₂ (· * ·) (blk0 m c t _ _ z rfl) (blk1 m c t _ _ z rfl)
  · show win0_2.index t (0 : Fin 2) * 1024 + 1 * (y 0).val = t.val / 4 * 1024 + (y 0).val; omega
  · show win0_2.index t (1 : Fin 2) * 1024 + 1 * (y 1).val = t.val % 4 * 1024 + (y 1).val; omega

end Cert.SsmOutDaIdeal.Prod

namespace Cert.SsmOutDa.Prod

theorem facts : Cert.SsmOutDa.Facts where
  toFacts₀ := { Cert.SsmOutDaIdeal.Gen.facts₀ with }

/-- The kernel's body is the idealized kernel's. -/
theorem body_eq : @Cert.SsmOutDa.defs₀ Bits _ facts = Cert.SsmOutDaIdeal.defs₀ := by
  refine congrArg Defs.onTc (funext fun l => funext fun x => ?_)
  match l, x with
  | 0, (t, s) => rfl

/-- The kernel runs and keeps its arguments. -/
theorem frame_p : Cert.quiescent_SsmOutDa (hSsmOutDa := facts) := fun m ρ _ => by
  unfold Cert.SsmOutDa.defs
  rw [body_eq]
  exact Cert.SsmOutDaIdeal.Gen.frame (F := Bits) m ρ

/-- The idealized kernel runs and keeps its arguments. -/
theorem frame_pi : Cert.quiescent_SsmOutDaIdeal (hSsmOutDaIdeal := Cert.SsmOutDaIdeal.Gen.facts) := fun m ρ _ => Cert.SsmOutDaIdeal.Gen.frame m ρ

/-- The reference runs and keeps its arguments. -/
theorem frame_ri : Cert.quiescent_SsmOutDaRefIdeal (hSsmOutDaRefIdeal := Cert.SsmOutDaRefIdeal.Gen.facts) := fun m ρ _ =>
  (θ_run Cert.SsmOutDaRefIdeal.defs _ _).mono (fun r h => ⟨fun c => (h c).2, sem_eq_zero_of_no_sems (by decide) r.2⟩)
    (Cert.SsmOutDaRefIdeal.Value.run (F := Ideal) m ρ)

/-- The kernel's result is the reference's. -/
theorem algebraic : Cert.algebraic_SsmOutDaIdeal_SsmOutDaRefIdeal (hSsmOutDaIdeal := Cert.SsmOutDaIdeal.Gen.facts) (hSsmOutDaRefIdeal := Cert.SsmOutDaRefIdeal.Gen.facts) := by
  intro m ρ m' ρ' _ hagree
  refine ⟨_, Cert.SsmOutDaIdeal.Value.run_blocks (F := Ideal) m ρ, (θ_run Cert.SsmOutDaRefIdeal.defs _ _).mono (fun _ h c => ⟨(h c).1.trans ?_, (h c).2⟩)
    (Cert.SsmOutDaRefIdeal.Value.run (F := Ideal) m' ρ')⟩
  rw [(hagree c).1, (hagree c).2]
  exact (Cert.SsmOutDaIdeal.Prod.same m c).symm

end Cert.SsmOutDa.Prod

end
-- ==== Proof.SsmOutDw.lean ====
module

public import proofs.«01_k».proof.Proof.Prod
public import proofs.«01_k».proof.Proof.Gen.SsmOutDwIdeal.Value
public import proofs.«01_k».proof.Proof.Gen.SsmOutDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 4096 lanes by 2048: point `t` is row block `t / 16`, column block `t / 8 % 2`, token block `t % 8`. -/

noncomputable section

open Idealize.ShloMosaic Idealize.ShloMosaic.TcCoe Idealize.SL.Sem Idealize.ShloMosaic.StableHlo

namespace Cert.SsmOutDwIdeal.Prod

open Cert.SsmOutDwIdeal Cert.SsmOutDwIdeal.Gen Cert.Prod

section Cases

variable {F : FTy → Type} [FloatOps F] (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec F S1024x1024 .bf16) (x1 : Vec F S1024x1024 .bf16) (s : Vec F S1024x1024 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x4096 .f32 := m (c.tc.loc main_arg0)
abbrev G : FVec Ideal S8192x2048 .f32 := m (c.tc.loc main_arg1)

/-- The operand as the call reads it: the argument, whose cast is exact. -/
theorem V_a : (V m c main_v0 : FVec Ideal S8192x4096 .bf16) = truncf .bf16 (A m c) bitsLt_bf16_f32 := by entry_read; rfl

/-- The cotangent as the call reads it. -/
theorem V_g : (V m c main_v1 : FVec Ideal S8192x2048 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 16)
    ∧ (win0_1.index t (0 : Fin 2) = t.val % 8 ∧ win0_1.index t (1 : Fin 2) = t.val / 8 % 2)
    ∧ (win0_2.index t (0 : Fin 2) = t.val / 16 ∧ win0_2.index t (1 : Fin 2) = t.val / 8 % 2) := by
  decide +kernel

/-- A block of the operand at the place of `k` and `r`. -/
theorem blk0 (t : Fin cfg0.N) (z : Fin 1024) (x : Fin 1024) (k : Fin 8192) (r : Fin 4096) (hk : t.val % 8 * 1024 + z.val = k.val) (hr : t.val / 16 * 1024 + x.val = r.val) :
    (iblk m c 0 t : FVec Ideal S1024x1024 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1024 + 1 * x.val = r.val; omega

/-- A block of the cotangent at the place of `k` and `r`. -/
theorem blk1 (t : Fin cfg0.N) (z : Fin 1024) (y : Fin 1024) (k : Fin 8192) (r : Fin 2048) (hk : t.val % 8 * 1024 + z.val = k.val) (hr : t.val / 8 % 2 * 1024 + y.val = r.val) :
    (iblk m c 1 t : FVec Ideal S1024x1024 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1024 + 1 * y.val = r.val; omega

/-- What a point adds to the accumulator. -/
theorem pay_at (acc : Vec Ideal S1024x1024 .f32) (a : Vec Ideal S1024x1024 .bf16) (g : Vec Ideal S1024x1024 .bf16) (x : Fin 1024) (y : Fin 1024) :
    k0_pay2 acc a g (ix2 x y) = acc (ix2 x y) + ∑ z, a (ix2 z x) * g (ix2 z y) := by
  pointwise [k0_pay2]

theorem zero_at (x : Fin 1024) (y : Fin 1024) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bG (n : ℕ) (h : n < cfg0.N) : FVec Ideal S1024x1024 .bf16 := iblk m c 1 ⟨n, h⟩

/-- What a first point leaves in the accumulator, whatever it held. -/
theorem at_first (n : ℕ) (h : n < cfg0.N) (acc : Vec Ideal S1024x1024 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1024x1024 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1024) (y : Fin 1024) (r : Fin 4096) (s : Fin 2048) (hr : t.val / 16 * 1024 + x.val = r.val) (hs : t.val / 8 % 2 * 1024 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S4096x2048 .bf16 :=
  truncf .bf16 (transpose S4096x2048 [1,0] (Host.dotGeneral Cert.SsmOutDwRefIdeal.dot_S8192x2048_S8192x4096_S2048x4096_0_0_1_1_n_n none (G m c) (A m c) : FVec Ideal Cert.SsmOutDwRefIdeal.S2048x4096 .f32) Cert.SsmOutDwRefIdeal.Gen.facts.transposes_S2048x4096_S4096x2048_1_0) bitsLt_bf16_f32

/-- The reference's product, element by element. -/
theorem ref_at (x : Fin 4096) (y : Fin 2048) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S4096x2048 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 64 := lt_of_lt_of_eq t.isLt N_0
  have hx : (y 0).val < 1024 := (y 0).isLt
  have hy : (y 1).val < 1024 := (y 1).isLt
  refine (congrArg _ (eq_ix2 y)).trans ((acc_at m c t ((flush0_2 t).mp hf) (y 0) (y 1) ⟨t.val / 16 * 1024 + (y 0).val, by omega⟩ ⟨t.val / 8 % 2 * 1024 + (y 1).val, by omega⟩ rfl rfl).trans (ref_at m c _ _).symm) |>.trans (at2 (ref m c) _ ?_ ?_).symm
  · show win0_2.index t (0 : Fin 2) * 1024 + 1 * (y 0).val = t.val / 16 * 1024 + (y 0).val; omega
  · show win0_2.index t (1 : Fin 2) * 1024 + 1 * (y 1).val = t.val / 8 % 2 * 1024 + (y 1).val; omega

end Cert.SsmOutDwIdeal.Prod

namespace Cert.SsmOutDw.Prod

theorem facts : Cert.SsmOutDw.Facts where
  toFacts₀ := { Cert.SsmOutDwIdeal.Gen.facts₀ with }

/-- The kernel's body is the idealized kernel's. -/
theorem body_eq : @Cert.SsmOutDw.defs₀ Bits _ facts = Cert.SsmOutDwIdeal.defs₀ := by
  refine congrArg Defs.onTc (funext fun l => funext fun x => ?_)
  match l, x with
  | 0, (t, s) => rfl

/-- The kernel runs and keeps its arguments. -/
theorem frame_p : Cert.quiescent_SsmOutDw (hSsmOutDw := facts) := fun m ρ _ => by
  unfold Cert.SsmOutDw.defs
  rw [body_eq]
  exact Cert.SsmOutDwIdeal.Gen.frame (F := Bits) m ρ

/-- The idealized kernel runs and keeps its arguments. -/
theorem frame_pi : Cert.quiescent_SsmOutDwIdeal (hSsmOutDwIdeal := Cert.SsmOutDwIdeal.Gen.facts) := fun m ρ _ => Cert.SsmOutDwIdeal.Gen.frame m ρ

/-- The reference runs and keeps its arguments. -/
theorem frame_ri : Cert.quiescent_SsmOutDwRefIdeal (hSsmOutDwRefIdeal := Cert.SsmOutDwRefIdeal.Gen.facts) := fun m ρ _ =>
  (θ_run Cert.SsmOutDwRefIdeal.defs _ _).mono (fun r h => ⟨fun c => (h c).2, sem_eq_zero_of_no_sems (by decide) r.2⟩)
    (Cert.SsmOutDwRefIdeal.Value.run (F := Ideal) m ρ)

/-- The kernel's result is the reference's. -/
theorem algebraic : Cert.algebraic_SsmOutDwIdeal_SsmOutDwRefIdeal (hSsmOutDwIdeal := Cert.SsmOutDwIdeal.Gen.facts) (hSsmOutDwRefIdeal := Cert.SsmOutDwRefIdeal.Gen.facts) := by
  intro m ρ m' ρ' _ hagree
  refine ⟨_, Cert.SsmOutDwIdeal.Value.run_blocks (F := Ideal) m ρ, (θ_run Cert.SsmOutDwRefIdeal.defs _ _).mono (fun _ h c => ⟨(h c).1.trans ?_, (h c).2⟩)
    (Cert.SsmOutDwRefIdeal.Value.run (F := Ideal) m' ρ')⟩
  rw [(hagree c).1, (hagree c).2]
  exact (Cert.SsmOutDwIdeal.Prod.same m c).symm

end Cert.SsmOutDw.Prod

end
-- ==== Proof.SsmOutFwd.lean ====
module

public import proofs.«01_k».proof.Proof.Prod
public import proofs.«01_k».proof.Proof.Gen.SsmOutFwdIdeal.Value
public import proofs.«01_k».proof.Proof.Gen.SsmOutFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 4096 lanes by 2048: point `t` is row block `t / 8`, column block `t / 4 % 2`, lane block `t % 4`. -/

noncomputable section

open Idealize.ShloMosaic Idealize.ShloMosaic.TcCoe Idealize.SL.Sem Idealize.ShloMosaic.StableHlo

namespace Cert.SsmOutFwdIdeal.Prod

open Cert.SsmOutFwdIdeal Cert.SsmOutFwdIdeal.Gen Cert.Prod

variable (m : (ℓ : Loc nD τ sig) → Buf (Elt Ideal) ℓ) (c : Dev nD)

abbrev A : FVec Ideal S8192x4096 .f32 := m (c.tc.loc main_arg0)
abbrev W : FVec Ideal S4096x2048 .f32 := m (c.tc.loc main_arg1)

/-- The operand as the call reads it: the argument, whose cast is exact. -/
theorem V_a : (V m c main_v0 : FVec Ideal S8192x4096 .bf16) = truncf .bf16 (A m c) bitsLt_bf16_f32 := by entry_read; rfl

/-- The weight as the call reads it. -/
theorem V_w : (V m c main_v1 : FVec Ideal S4096x2048 .bf16) = truncf .bf16 (W m c) bitsLt_bf16_f32 := by entry_read; rfl

/-- Where each window's block of a point begins, in blocks. -/
theorem idx_facts : ∀ t : Fin grid0.N, (win0_0.index t (0 : Fin 2) = t.val / 8 ∧ win0_0.index t (1 : Fin 2) = t.val % 4)
    ∧ (win0_1.index t (0 : Fin 2) = t.val % 4 ∧ win0_1.index t (1 : Fin 2) = t.val / 4 % 2) := by
  decide +kernel

/-- A block of the operand at the place of `r` and `k`. -/
theorem blk0 (t : Fin cfg0.N) (x : Fin 1024) (z : Fin 1024) (r : Fin 8192) (k : Fin 4096) (hr : t.val / 8 * 1024 + x.val = r.val) (hk : t.val % 4 * 1024 + z.val = k.val) :
    (iblk m c 0 t : FVec Ideal S1024x1024 .bf16) (ix2 x z) = A m c (ix2 r k) := by
  obtain ⟨⟨e0, e1⟩, _⟩ := idx_facts t
  refine (View.read_apply ..).trans ((congrFun (V_a m c) _).trans (at2 (A m c) _ ?_ ?_))
  · show win0_0.index t (0 : Fin 2) * 1024 + 1 * x.val = r.val; omega
  · show win0_0.index t (1 : Fin 2) * 1024 + 1 * z.val = k.val; omega

/-- A block of the weight at the place of `k` and `r`. -/
theorem blk1 (t : Fin cfg0.N) (z : Fin 1024) (y : Fin 1024) (k : Fin 4096) (r : Fin 2048) (hk : t.val % 4 * 1024 + z.val = k.val) (hr : t.val / 4 % 2 * 1024 + y.val = r.val) :
    (iblk m c 1 t : FVec Ideal S1024x1024 .bf16) (ix2 z y) = W m c (ix2 k r) := by
  obtain ⟨_, e0, e1⟩ := idx_facts t
  refine (View.read_apply ..).trans ((congrFun (V_w m c) _).trans (at2 (W m c) _ ?_ ?_))
  · show win0_1.index t (0 : Fin 2) * 1024 + 1 * z.val = k.val; omega
  · show win0_1.index t (1 : Fin 2) * 1024 + 1 * y.val = r.val; omega

/-- What a point adds to its block. -/
theorem pay_at (acc : Vec Ideal S1024x1024 .f32) (a : Vec Ideal S1024x1024 .bf16) (w : Vec Ideal S1024x1024 .bf16) (x y : Fin 1024) :
    k0_pay2 acc a w (ix2 x y) = acc (ix2 x y) + ∑ z, a (ix2 x z) * w (ix2 z y) := by
  pointwise [k0_pay2]

theorem zero_at (x y : Fin 1024) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bW (n : ℕ) (h : n < cfg0.N) : FVec Ideal S1024x1024 .bf16 := iblk m c 1 ⟨n, h⟩

/-- The array after the run, element by element: the whole product. -/
theorem G2_at (x : Fin 8192) (y : Fin 2048) : Value.G2 m c (ix2 x y) = ∑ z, A m c (ix2 x z) * W m c (ix2 z y) := by
  have e : 4 * Value.run2Of (ix2 x y) = 8 * (x.val / 1024) + 4 * (y.val / 1024) := by
    show 4 * (2 * (x.val / 1024 - 0) + 1 * (y.val / 1024 - 0)) = _; omega
  have hN : 4 * Value.run2Of (ix2 x y) + 3 < cfg0.N := Nat.lt_of_lt_of_eq (by omega) N_0.symm
  have key : Pipeline.accAt (Value.reset2 m c) (Value.step2 m c) (4 * Value.run2Of (ix2 x y)) 3 hN (ix2 ⟨x.val % 1024, by omega⟩ ⟨y.val % 1024, by omega⟩)
      = ∑ z, A m c (ix2 x z) * W m c (ix2 z y) :=
    fold_product (fun n h z => bA m c n h (ix2 ⟨x.val % 1024, by omega⟩ z)) (fun n h z => bW m c n h (ix2 z ⟨y.val % 1024, by omega⟩)) _ _
      (fun z => A m c (ix2 x z)) (fun z => W m c (ix2 z y)) rfl hN
      (fun h => (pay_at _ _ _ _ _).trans (congrArg (· + _) (zero_at _ _))) (fun n h acc _ _ => pay_at acc _ _ _ _)
      (fun q h z => blk0 m c _ _ _ _ _ (by dsimp only; omega) (by dsimp only; omega)) (fun q h z => blk1 m c _ _ _ _ _ (by dsimp only; omega) (by dsimp only; omega))
  exact (dif_pos hN).trans ((congrArg _ (eq_ix2 _)).trans key)

/-- The reference's product, element by element. -/
theorem ref_at (A : FVec Ideal S8192x4096 .f32) (W : FVec Ideal S4096x2048 .f32) (x : Fin 8192) (y : Fin 2048) :
    Host.dotGeneral Cert.SsmOutFwdRefIdeal.dot_S8192x4096_S4096x2048_S8192x2048_1_0_0_1_n_n none A W (ix2 x y) = ∑ z, A (ix2 x z) * W (ix2 z y) := by
  pointwise

/-- The call leaves the reference's product. -/
theorem same : (Value.G2 m c : FVec Ideal S8192x2048 .f32) = Host.dotGeneral Cert.SsmOutFwdRefIdeal.dot_S8192x4096_S4096x2048_S8192x2048_1_0_0_1_n_n none (A m c) (W m c) :=
  ext2 fun x y => (G2_at m c x y).trans (ref_at _ _ x y).symm

end Cert.SsmOutFwdIdeal.Prod

namespace Cert.SsmOutFwd.Prod

theorem facts : Cert.SsmOutFwd.Facts where
  toFacts₀ := { Cert.SsmOutFwdIdeal.Gen.facts₀ with }

/-- The kernel's body is the idealized kernel's. -/
theorem body_eq : @Cert.SsmOutFwd.defs₀ Bits _ facts = Cert.SsmOutFwdIdeal.defs₀ := by
  refine congrArg Defs.onTc (funext fun l => funext fun x => ?_)
  match l, x with
  | 0, (t, s) => rfl

/-- The kernel runs and keeps its arguments. -/
theorem frame_p : Cert.quiescent_SsmOutFwd (hSsmOutFwd := facts) := fun m ρ _ => by
  unfold Cert.SsmOutFwd.defs
  rw [body_eq]
  exact Cert.SsmOutFwdIdeal.Gen.frame (F := Bits) m ρ

/-- The idealized kernel runs and keeps its arguments. -/
theorem frame_pi : Cert.quiescent_SsmOutFwdIdeal (hSsmOutFwdIdeal := Cert.SsmOutFwdIdeal.Gen.facts) := fun m ρ _ => Cert.SsmOutFwdIdeal.Gen.frame m ρ

/-- The reference runs and keeps its arguments. -/
theorem frame_ri : Cert.quiescent_SsmOutFwdRefIdeal (hSsmOutFwdRefIdeal := Cert.SsmOutFwdRefIdeal.Gen.facts) := fun m ρ _ =>
  (θ_run Cert.SsmOutFwdRefIdeal.defs _ _).mono (fun r h => ⟨fun c => (h c).2, sem_eq_zero_of_no_sems (by decide) r.2⟩)
    (Cert.SsmOutFwdRefIdeal.Value.run (F := Ideal) m ρ)

/-- The kernel's result is the reference's. -/
theorem algebraic : Cert.algebraic_SsmOutFwdIdeal_SsmOutFwdRefIdeal (hSsmOutFwdIdeal := Cert.SsmOutFwdIdeal.Gen.facts) (hSsmOutFwdRefIdeal := Cert.SsmOutFwdRefIdeal.Gen.facts) := by
  intro m ρ m' ρ' _ hagree
  refine ⟨_, Cert.SsmOutFwdIdeal.Value.run (F := Ideal) m ρ, (θ_run Cert.SsmOutFwdRefIdeal.defs _ _).mono (fun _ h c => ⟨(h c).1.trans ?_, (h c).2⟩)
    (Cert.SsmOutFwdRefIdeal.Value.run (F := Ideal) m' ρ')⟩
  rw [(hagree c).1, (hagree c).2]
  exact (Cert.SsmOutFwdIdeal.Prod.same m c).symm

end Cert.SsmOutFwd.Prod

end
-- ==== Proof.LatentUpDa.lean ====
module

public import proofs.«01_k».proof.Proof.Prod
public import proofs.«01_k».proof.Proof.Gen.LatentUpDaIdeal.Value
public import proofs.«01_k».proof.Proof.Gen.LatentUpDaRefIdeal.Run
public import proofs.«01_k».proof.Defs
public import Idealize.ShloMosaic.Lib.Quiescent
public import Idealize.ShloMosaic.Adequacy
public import Idealize.ShloMosaic.Init

@[expose] public section

set_option maxRecDepth 65536

/-! The gradient of the latent operand: point `t` is token block `t`, and reads the whole weight. -/

noncomputable section

open Idealize.ShloMosaic Idealize.ShloMosaic.TcCoe Idealize.SL.Sem Idealize.ShloMosaic.StableHlo

namespace Cert.LatentUpDaIdeal.Prod

open Cert.LatentUpDaIdeal Cert.LatentUpDaIdeal.Gen Cert.Prod

variable (m : (ℓ : Loc nD τ sig) → Buf (Elt Ideal) ℓ) (c : Dev nD)

abbrev W : FVec Ideal S512x2048 .f32 := m (c.tc.loc main_arg0)
abbrev G : FVec Ideal S8192x2048 .f32 := m (c.tc.loc main_arg1)

theorem V_g : (V m c main_v0 : FVec Ideal S8192x2048 .bf16) = truncf .bf16 (G m c) bitsLt_bf16_f32 := by entry_read; rfl
theorem V_w : (V m c main_v1 : FVec Ideal S512x2048 .bf16) = truncf .bf16 (W m c) bitsLt_bf16_f32 := by entry_read; rfl

/-- Where each window's block of a point begins, in blocks. -/
theorem idx_facts : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) := by
  decide +kernel

/-- The reference's product. -/
abbrev ref : FVec Ideal S8192x512 .f32 := (Host.dotGeneral Cert.LatentUpDaRefIdeal.dot_S8192x2048_S512x2048_S8192x512_1_1_0_0_n_n none (G m c) (W m c) : FVec Ideal S8192x512 .f32)

/-- The call leaves the reference's product. -/
theorem same : ((dats m 0 c).arrAt 2 cfg0.N : FVec Ideal S8192x512 .f32) = ref m c := by
  refine (dats m 0 c).arrAt_eq_of_covers 2 (ref m c) (by decide +kernel) fun t hf y => ?_
  blk_simp
  rw [after0_2]
  frame_out
  obtain ⟨⟨a0, a1⟩, ⟨b0, b1⟩, e0, e1⟩ := idx_facts t
  have ht : t.val < 8 := lt_of_lt_of_eq t.isLt N_0
  have hx : (y 0).val < 1024 := (y 0).isLt
  have hy : (y 1).val < 512 := (y 1).isLt
  refine step (a := fun x z => (iblk m c 0 t : FVec Ideal S1024x2048 .bf16) (ix2 x z)) (b := fun y z => (iblk m c 1 t : FVec Ideal S512x2048 .bf16) (ix2 y z))
    (A := fun r z => G m c (ix2 r z)) (B := fun r z => W m c (ix2 r z)) (fun x y => by pointwise [k0_pay1]) (fun x y => by pointwise) y _
    ⟨t.val * 1024 + (y 0).val, by omega⟩ ⟨(y 1).val, hy⟩ ?_ ?_
    (fun z => (View.read_apply ..).trans ((congrFun (V_g m c) _).trans (at2 (G m c) _ ?_ ?_)))
    (fun z => (View.read_apply ..).trans ((congrFun (V_w m c) _).trans (at2 (W m c) _ ?_ ?_)))
  · show win0_2.index t (0 : Fin 2) * 1024 + 1 * (y 0).val = t.val * 1024 + (y 0).val; omega
  · show win0_2.index t (1 : Fin 2) * 512 + 1 * (y 1).val = (y 1).val; omega
  · show win0_0.index t (0 : Fin 2) * 1024 + 1 * (y 0).val = t.val * 1024 + (y 0).val; omega
  · show win0_0.index t (1 : Fin 2) * 2048 + 1 * z.val = z.val; omega
  · show win0_1.index t (0 : Fin 2) * 512 + 1 * (y 1).val = (y 1).val; omega
  · show win0_1.index t (1 : Fin 2) * 2048 + 1 * z.val = z.val; omega

end Cert.LatentUpDaIdeal.Prod

namespace Cert.LatentUpDa.Prod

theorem facts : Cert.LatentUpDa.Facts where
  toFacts₀ := { Cert.LatentUpDaIdeal.Gen.facts₀ with }

/-- The kernel's body is the idealized kernel's. -/
theorem body_eq : @Cert.LatentUpDa.defs₀ Bits _ facts = Cert.LatentUpDaIdeal.defs₀ := by
  refine congrArg Defs.onTc (funext fun l => funext fun x => ?_)
  match l, x with
  | 0, (t, s) => rfl

/-- The kernel runs and keeps its arguments. -/
theorem frame_p : Cert.quiescent_LatentUpDa (hLatentUpDa := facts) := fun m ρ _ => by
  unfold Cert.LatentUpDa.defs
  rw [body_eq]
  exact Cert.LatentUpDaIdeal.Gen.frame (F := Bits) m ρ

/-- The idealized kernel runs and keeps its arguments. -/
theorem frame_pi : Cert.quiescent_LatentUpDaIdeal (hLatentUpDaIdeal := Cert.LatentUpDaIdeal.Gen.facts) := fun m ρ _ => Cert.LatentUpDaIdeal.Gen.frame m ρ

/-- The reference runs and keeps its arguments. -/
theorem frame_ri : Cert.quiescent_LatentUpDaRefIdeal (hLatentUpDaRefIdeal := Cert.LatentUpDaRefIdeal.Gen.facts) := fun m ρ _ =>
  (θ_run Cert.LatentUpDaRefIdeal.defs _ _).mono (fun r h => ⟨fun c => (h c).2, sem_eq_zero_of_no_sems (by decide) r.2⟩)
    (Cert.LatentUpDaRefIdeal.Value.run (F := Ideal) m ρ)

/-- The kernel's result is the reference's. -/
theorem algebraic : Cert.algebraic_LatentUpDaIdeal_LatentUpDaRefIdeal (hLatentUpDaIdeal := Cert.LatentUpDaIdeal.Gen.facts) (hLatentUpDaRefIdeal := Cert.LatentUpDaRefIdeal.Gen.facts) := by
  intro m ρ m' ρ' _ hagree
  refine ⟨_, Cert.LatentUpDaIdeal.Value.run_blocks (F := Ideal) m ρ, (θ_run Cert.LatentUpDaRefIdeal.defs _ _).mono (fun _ h c => ⟨(h c).1.trans ?_, (h c).2⟩)
    (Cert.LatentUpDaRefIdeal.Value.run (F := Ideal) m' ρ')⟩
  rw [(hagree c).1, (hagree c).2]
  exact (Cert.LatentUpDaIdeal.Prod.same m c).symm

end Cert.LatentUpDa.Prod

end
-- ==== Proof.LatentUpDw.lean ====
module

public import proofs.«01_k».proof.Proof.Prod
public import proofs.«01_k».proof.Proof.Gen.LatentUpDwIdeal.Value
public import proofs.«01_k».proof.Proof.Gen.LatentUpDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 512 lanes by 2048: point `t` is column block `t / 8`, token block `t % 8`. -/

noncomputable section

open Idealize.ShloMosaic Idealize.ShloMosaic.TcCoe Idealize.SL.Sem Idealize.ShloMosaic.StableHlo

namespace Cert.LatentUpDwIdeal.Prod

open Cert.LatentUpDwIdeal Cert.LatentUpDwIdeal.Gen Cert.Prod

section Cases

variable {F : FTy → Type} [FloatOps F] (c : Dev nD) (i : grid0.Coords) (arg3 : Memref sig .tc .vmem S1024x512 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec F S1024x512 .bf16) (x1 : Vec F S1024x1024 .bf16) (s : Vec F S512x1024 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x512 .f32 := m (c.tc.loc main_arg0)
abbrev G : FVec Ideal S8192x2048 .f32 := m (c.tc.loc main_arg1)

/-- The operand as the call reads it: the argument, whose cast is exact. -/
theorem V_a : (V m c main_v0 : FVec Ideal S8192x512 .bf16) = truncf .bf16 (A m c) bitsLt_bf16_f32 := by entry_read; rfl

/-- The cotangent as the call reads it. -/
theorem V_g : (V m c main_v1 : FVec Ideal S8192x2048 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = 0)
    ∧ (win0_1.index t (0 : Fin 2) = t.val % 8 ∧ win0_1.index t (1 : Fin 2) = t.val / 8)
    ∧ (win0_2.index t (0 : Fin 2) = 0 ∧ win0_2.index t (1 : Fin 2) = t.val / 8) := by
  decide +kernel

/-- A block of the operand at the place of `k` and `r`. -/
theorem blk0 (t : Fin cfg0.N) (z : Fin 1024) (x : Fin 512) (k : Fin 8192) (r : Fin 512) (hk : t.val % 8 * 1024 + z.val = k.val) (hr : x.val = r.val) :
    (iblk m c 0 t : FVec Ideal S1024x512 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 512 + 1 * x.val = r.val; omega

/-- A block of the cotangent at the place of `k` and `r`. -/
theorem blk1 (t : Fin cfg0.N) (z : Fin 1024) (y : Fin 1024) (k : Fin 8192) (r : Fin 2048) (hk : t.val % 8 * 1024 + z.val = k.val) (hr : t.val / 8 * 1024 + y.val = r.val) :
    (iblk m c 1 t : FVec Ideal S1024x1024 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 1024 + 1 * y.val = r.val; omega

/-- What a point adds to the accumulator. -/
theorem pay_at (acc : Vec Ideal S512x1024 .f32) (a : Vec Ideal S1024x512 .bf16) (g : Vec Ideal S1024x1024 .bf16) (x : Fin 512) (y : Fin 1024) :
    k0_pay2 acc a g (ix2 x y) = acc (ix2 x y) + ∑ z, a (ix2 z x) * g (ix2 z y) := by
  pointwise [k0_pay2]

theorem zero_at (x : Fin 512) (y : Fin 1024) : k0_pay1 (F := Ideal) (ix2 x y) = 0 := by pointwise [k0_pay1]

/-- The blocks point `n` reads. -/
abbrev bA (n : ℕ) (h : n < cfg0.N) : FVec Ideal S1024x512 .bf16 := iblk m c 0 ⟨n, h⟩
abbrev bG (n : ℕ) (h : n < cfg0.N) : FVec Ideal S1024x1024 .bf16 := iblk m c 1 ⟨n, h⟩

/-- What a first point leaves in the accumulator, whatever it held. -/
theorem at_first (n : ℕ) (h : n < cfg0.N) (acc : Vec Ideal S512x1024 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S512x1024 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 512) (y : Fin 1024) (r : Fin 512) (s : Fin 2048) (hr : x.val = r.val) (hs : t.val / 8 * 1024 + y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) hr) (fun q h z => blk1 m c _ _ _ _ _ (by dsimp only; omega) (by dsimp only; omega)))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S512x2048 .bf16 :=
  truncf .bf16 (transpose S512x2048 [1,0] (Host.dotGeneral Cert.LatentUpDwRefIdeal.dot_S8192x2048_S8192x512_S2048x512_0_0_1_1_n_n none (G m c) (A m c) : FVec Ideal Cert.LatentUpDwRefIdeal.S2048x512 .f32) Cert.LatentUpDwRefIdeal.Gen.facts.transposes_S2048x512_S512x2048_1_0) bitsLt_bf16_f32

/-- The reference's product, element by element. -/
theorem ref_at (x : Fin 512) (y : Fin 2048) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S512x2048 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 16 := lt_of_lt_of_eq t.isLt N_0
  have hx : (y 0).val < 512 := (y 0).isLt
  have hy : (y 1).val < 1024 := (y 1).isLt
  refine (congrArg _ (eq_ix2 y)).trans ((acc_at m c t ((flush0_2 t).mp hf) (y 0) (y 1) ⟨(y 0).val, hx⟩ ⟨t.val / 8 * 1024 + (y 1).val, by omega⟩ rfl rfl).trans (ref_at m c _ _).symm) |>.trans (at2 (ref m c) _ ?_ ?_).symm
  · show win0_2.index t (0 : Fin 2) * 512 + 1 * (y 0).val = (y 0).val; omega
  · show win0_2.index t (1 : Fin 2) * 1024 + 1 * (y 1).val = t.val / 8 * 1024 + (y 1).val; omega

end Cert.LatentUpDwIdeal.Prod

namespace Cert.LatentUpDw.Prod

theorem facts : Cert.LatentUpDw.Facts where
  toFacts₀ := { Cert.LatentUpDwIdeal.Gen.facts₀ with }

/-- The kernel's body is the idealized kernel's. -/
theorem body_eq : @Cert.LatentUpDw.defs₀ Bits _ facts = Cert.LatentUpDwIdeal.defs₀ := by
  refine congrArg Defs.onTc (funext fun l => funext fun x => ?_)
  match l, x with
  | 0, (t, s) => rfl

/-- The kernel runs and keeps its arguments. -/
theorem frame_p : Cert.quiescent_LatentUpDw (hLatentUpDw := facts) := fun m ρ _ => by
  unfold Cert.LatentUpDw.defs
  rw [body_eq]
  exact Cert.LatentUpDwIdeal.Gen.frame (F := Bits) m ρ

/-- The idealized kernel runs and keeps its arguments. -/
theorem frame_pi : Cert.quiescent_LatentUpDwIdeal (hLatentUpDwIdeal := Cert.LatentUpDwIdeal.Gen.facts) := fun m ρ _ => Cert.LatentUpDwIdeal.Gen.frame m ρ

/-- The reference runs and keeps its arguments. -/
theorem frame_ri : Cert.quiescent_LatentUpDwRefIdeal (hLatentUpDwRefIdeal := Cert.LatentUpDwRefIdeal.Gen.facts) := fun m ρ _ =>
  (θ_run Cert.LatentUpDwRefIdeal.defs _ _).mono (fun r h => ⟨fun c => (h c).2, sem_eq_zero_of_no_sems (by decide) r.2⟩)
    (Cert.LatentUpDwRefIdeal.Value.run (F := Ideal) m ρ)

/-- The kernel's result is the reference's. -/
theorem algebraic : Cert.algebraic_LatentUpDwIdeal_LatentUpDwRefIdeal (hLatentUpDwIdeal := Cert.LatentUpDwIdeal.Gen.facts) (hLatentUpDwRefIdeal := Cert.LatentUpDwRefIdeal.Gen.facts) := by
  intro m ρ m' ρ' _ hagree
  refine ⟨_, Cert.LatentUpDwIdeal.Value.run_blocks (F := Ideal) m ρ, (θ_run Cert.LatentUpDwRefIdeal.defs _ _).mono (fun _ h c => ⟨(h c).1.trans ?_, (h c).2⟩)
    (Cert.LatentUpDwRefIdeal.Value.run (F := Ideal) m' ρ')⟩
  rw [(hagree c).1, (hagree c).2]
  exact (Cert.LatentUpDwIdeal.Prod.same m c).symm

end Cert.LatentUpDw.Prod

end
-- ==== Proof.LatentUpFwd.lean ====
module

public import proofs.«01_k».proof.Proof.Prod
public import proofs.«01_k».proof.Proof.Gen.LatentUpFwdIdeal.Value
public import proofs.«01_k».proof.Proof.Gen.LatentUpFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 512 lanes by 2048: point `t` is token block `t / 2`, column block `t % 2`. -/

noncomputable section

open Idealize.ShloMosaic Idealize.ShloMosaic.TcCoe Idealize.SL.Sem Idealize.ShloMosaic.StableHlo

namespace Cert.LatentUpFwdIdeal.Prod

open Cert.LatentUpFwdIdeal Cert.LatentUpFwdIdeal.Gen Cert.Prod

variable (m : (ℓ : Loc nD τ sig) → Buf (Elt Ideal) ℓ) (c : Dev nD)

abbrev A : FVec Ideal S8192x512 .f32 := m (c.tc.loc main_arg0)
abbrev W : FVec Ideal S512x2048 .f32 := m (c.tc.loc main_arg1)

theorem V_a : (V m c main_v0 : FVec Ideal S8192x512 .bf16) = truncf .bf16 (A m c) bitsLt_bf16_f32 := by entry_read; rfl
theorem V_w : (V m c main_v1 : FVec Ideal S512x2048 .bf16) = truncf .bf16 (W m c) bitsLt_bf16_f32 := by entry_read; rfl

/-- Where each window's block of a point begins, in blocks. -/
theorem idx_facts : ∀ t : Fin grid0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) := by
  decide +kernel

/-- The reference's product. -/
abbrev ref : FVec Ideal S8192x2048 .f32 := (Host.dotGeneral Cert.LatentUpFwdRefIdeal.dot_S8192x512_S512x2048_S8192x2048_1_0_0_1_n_n none (A m c) (W m c) : FVec Ideal S8192x2048 .f32)

/-- The call leaves the reference's product. -/
theorem same : ((dats m 0 c).arrAt 2 cfg0.N : FVec Ideal S8192x2048 .f32) = ref m c := by
  refine (dats m 0 c).arrAt_eq_of_covers 2 (ref m c) (by decide +kernel) fun t hf y => ?_
  blk_simp
  rw [after0_2]
  frame_out
  obtain ⟨⟨a0, a1⟩, ⟨b0, b1⟩, e0, e1⟩ := idx_facts t
  have ht : t.val < 16 := lt_of_lt_of_eq t.isLt N_0
  have hx : (y 0).val < 1024 := (y 0).isLt
  have hy : (y 1).val < 1024 := (y 1).isLt
  refine step (a := fun x z => (iblk m c 0 t : FVec Ideal S1024x512 .bf16) (ix2 x z)) (b := fun y z => (iblk m c 1 t : FVec Ideal S512x1024 .bf16) (ix2 z y))
    (A := fun r z => A m c (ix2 r z)) (B := fun r z => W m c (ix2 z r)) (fun x y => by pointwise [k0_pay1]) (fun x y => by pointwise) y _
    ⟨t.val / 2 * 1024 + (y 0).val, by omega⟩ ⟨t.val % 2 * 1024 + (y 1).val, by omega⟩ ?_ ?_
    (fun z => (View.read_apply ..).trans ((congrFun (V_a m c) _).trans (at2 (A m c) _ ?_ ?_)))
    (fun z => (View.read_apply ..).trans ((congrFun (V_w m c) _).trans (at2 (W m c) _ ?_ ?_)))
  · show win0_2.index t (0 : Fin 2) * 1024 + 1 * (y 0).val = t.val / 2 * 1024 + (y 0).val; omega
  · show win0_2.index t (1 : Fin 2) * 1024 + 1 * (y 1).val = t.val % 2 * 1024 + (y 1).val; omega
  · show win0_0.index t (0 : Fin 2) * 1024 + 1 * (y 0).val = t.val / 2 * 1024 + (y 0).val; omega
  · show win0_0.index t (1 : Fin 2) * 512 + 1 * z.val = z.val; omega
  · show win0_1.index t (0 : Fin 2) * 512 + 1 * z.val = z.val; omega
  · show win0_1.index t (1 : Fin 2) * 1024 + 1 * (y 1).val = t.val % 2 * 1024 + (y 1).val; omega

end Cert.LatentUpFwdIdeal.Prod

namespace Cert.LatentUpFwd.Prod

theorem facts : Cert.LatentUpFwd.Facts where
  toFacts₀ := { Cert.LatentUpFwdIdeal.Gen.facts₀ with }

/-- The kernel's body is the idealized kernel's. -/
theorem body_eq : @Cert.LatentUpFwd.defs₀ Bits _ facts = Cert.LatentUpFwdIdeal.defs₀ := by
  refine congrArg Defs.onTc (funext fun l => funext fun x => ?_)
  match l, x with
  | 0, (t, s) => rfl

/-- The kernel runs and keeps its arguments. -/
theorem frame_p : Cert.quiescent_LatentUpFwd (hLatentUpFwd := facts) := fun m ρ _ => by
  unfold Cert.LatentUpFwd.defs
  rw [body_eq]
  exact Cert.LatentUpFwdIdeal.Gen.frame (F := Bits) m ρ

/-- The idealized kernel runs and keeps its arguments. -/
theorem frame_pi : Cert.quiescent_LatentUpFwdIdeal (hLatentUpFwdIdeal := Cert.LatentUpFwdIdeal.Gen.facts) := fun m ρ _ => Cert.LatentUpFwdIdeal.Gen.frame m ρ

/-- The reference runs and keeps its arguments. -/
theorem frame_ri : Cert.quiescent_LatentUpFwdRefIdeal (hLatentUpFwdRefIdeal := Cert.LatentUpFwdRefIdeal.Gen.facts) := fun m ρ _ =>
  (θ_run Cert.LatentUpFwdRefIdeal.defs _ _).mono (fun r h => ⟨fun c => (h c).2, sem_eq_zero_of_no_sems (by decide) r.2⟩)
    (Cert.LatentUpFwdRefIdeal.Value.run (F := Ideal) m ρ)

/-- The kernel's result is the reference's. -/
theorem algebraic : Cert.algebraic_LatentUpFwdIdeal_LatentUpFwdRefIdeal (hLatentUpFwdIdeal := Cert.LatentUpFwdIdeal.Gen.facts) (hLatentUpFwdRefIdeal := Cert.LatentUpFwdRefIdeal.Gen.facts) := by
  intro m ρ m' ρ' _ hagree
  refine ⟨_, Cert.LatentUpFwdIdeal.Value.run_blocks (F := Ideal) m ρ, (θ_run Cert.LatentUpFwdRefIdeal.defs _ _).mono (fun _ h c => ⟨(h c).1.trans ?_, (h c).2⟩)
    (Cert.LatentUpFwdRefIdeal.Value.run (F := Ideal) m' ρ')⟩
  rw [(hagree c).1, (hagree c).2]
  exact (Cert.LatentUpFwdIdeal.Prod.same m c).symm

end Cert.LatentUpFwd.Prod

end
-- ==== Proof.LatentDownDa.lean ====
module

public import proofs.«01_k».proof.Proof.Prod
public import proofs.«01_k».proof.Proof.Gen.LatentDownDaIdeal.Value
public import proofs.«01_k».proof.Proof.Gen.LatentDownDaRefIdeal.Run
public import proofs.«01_k».proof.Defs
public import Idealize.ShloMosaic.Lib.Quiescent
public import Idealize.ShloMosaic.Adequacy
public import Idealize.ShloMosaic.Init

@[expose] public section

set_option maxRecDepth 65536

/-! The gradient of the operand from a latent cotangent: point `t` is token block `t / 2`, lane block `t % 2`. -/

noncomputable section

open Idealize.ShloMosaic Idealize.ShloMosaic.TcCoe Idealize.SL.Sem Idealize.ShloMosaic.StableHlo

namespace Cert.LatentDownDaIdeal.Prod

open Cert.LatentDownDaIdeal Cert.LatentDownDaIdeal.Gen Cert.Prod

variable (m : (ℓ : Loc nD τ sig) → Buf (Elt Ideal) ℓ) (c : Dev nD)

abbrev W : FVec Ideal S2048x512 .f32 := m (c.tc.loc main_arg0)
abbrev G : FVec Ideal S8192x512 .f32 := m (c.tc.loc main_arg1)

theorem V_g : (V m c main_v0 : FVec Ideal S8192x512 .bf16) = truncf .bf16 (G m c) bitsLt_bf16_f32 := by entry_read; rfl
theorem V_w : (V m c main_v1 : FVec Ideal S2048x512 .bf16) = truncf .bf16 (W m c) bitsLt_bf16_f32 := by entry_read; rfl

/-- Where each window's block of a point begins, in blocks. -/
theorem idx_facts : ∀ t : Fin grid0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) := by
  decide +kernel

/-- The reference's product. -/
abbrev ref : FVec Ideal S8192x2048 .f32 := (Host.dotGeneral Cert.LatentDownDaRefIdeal.dot_S8192x512_S2048x512_S8192x2048_1_1_0_0_n_n none (G m c) (W m c) : FVec Ideal S8192x2048 .f32)

/-- The call leaves the reference's product. -/
theorem same : ((dats m 0 c).arrAt 2 cfg0.N : FVec Ideal S8192x2048 .f32) = ref m c := by
  refine (dats m 0 c).arrAt_eq_of_covers 2 (ref m c) (by decide +kernel) fun t hf y => ?_
  blk_simp
  rw [after0_2]
  frame_out
  obtain ⟨⟨a0, a1⟩, ⟨b0, b1⟩, e0, e1⟩ := idx_facts t
  have ht : t.val < 16 := lt_of_lt_of_eq t.isLt N_0
  have hx : (y 0).val < 1024 := (y 0).isLt
  have hy : (y 1).val < 1024 := (y 1).isLt
  refine step (a := fun x z => (iblk m c 0 t : FVec Ideal S1024x512 .bf16) (ix2 x z)) (b := fun y z => (iblk m c 1 t : FVec Ideal S1024x512 .bf16) (ix2 y z))
    (A := fun r z => G m c (ix2 r z)) (B := fun r z => W m c (ix2 r z)) (fun x y => by pointwise [k0_pay1]) (fun x y => by pointwise) y _
    ⟨t.val / 2 * 1024 + (y 0).val, by omega⟩ ⟨t.val % 2 * 1024 + (y 1).val, by omega⟩ ?_ ?_
    (fun z => (View.read_apply ..).trans ((congrFun (V_g m c) _).trans (at2 (G m c) _ ?_ ?_)))
    (fun z => (View.read_apply ..).trans ((congrFun (V_w m c) _).trans (at2 (W m c) _ ?_ ?_)))
  · show win0_2.index t (0 : Fin 2) * 1024 + 1 * (y 0).val = t.val / 2 * 1024 + (y 0).val; omega
  · show win0_2.index t (1 : Fin 2) * 1024 + 1 * (y 1).val = t.val % 2 * 1024 + (y 1).val; omega
  · show win0_0.index t (0 : Fin 2) * 1024 + 1 * (y 0).val = t.val / 2 * 1024 + (y 0).val; omega
  · show win0_0.index t (1 : Fin 2) * 512 + 1 * z.val = z.val; omega
  · show win0_1.index t (0 : Fin 2) * 1024 + 1 * (y 1).val = t.val % 2 * 1024 + (y 1).val; omega
  · show win0_1.index t (1 : Fin 2) * 512 + 1 * z.val = z.val; omega

end Cert.LatentDownDaIdeal.Prod

namespace Cert.LatentDownDa.Prod

theorem facts : Cert.LatentDownDa.Facts where
  toFacts₀ := { Cert.LatentDownDaIdeal.Gen.facts₀ with }

/-- The kernel's body is the idealized kernel's. -/
theorem body_eq : @Cert.LatentDownDa.defs₀ Bits _ facts = Cert.LatentDownDaIdeal.defs₀ := by
  refine congrArg Defs.onTc (funext fun l => funext fun x => ?_)
  match l, x with
  | 0, (t, s) => rfl

/-- The kernel runs and keeps its arguments. -/
theorem frame_p : Cert.quiescent_LatentDownDa (hLatentDownDa := facts) := fun m ρ _ => by
  unfold Cert.LatentDownDa.defs
  rw [body_eq]
  exact Cert.LatentDownDaIdeal.Gen.frame (F := Bits) m ρ

/-- The idealized kernel runs and keeps its arguments. -/
theorem frame_pi : Cert.quiescent_LatentDownDaIdeal (hLatentDownDaIdeal := Cert.LatentDownDaIdeal.Gen.facts) := fun m ρ _ => Cert.LatentDownDaIdeal.Gen.frame m ρ

/-- The reference runs and keeps its arguments. -/
theorem frame_ri : Cert.quiescent_LatentDownDaRefIdeal (hLatentDownDaRefIdeal := Cert.LatentDownDaRefIdeal.Gen.facts) := fun m ρ _ =>
  (θ_run Cert.LatentDownDaRefIdeal.defs _ _).mono (fun r h => ⟨fun c => (h c).2, sem_eq_zero_of_no_sems (by decide) r.2⟩)
    (Cert.LatentDownDaRefIdeal.Value.run (F := Ideal) m ρ)

/-- The kernel's result is the reference's. -/
theorem algebraic : Cert.algebraic_LatentDownDaIdeal_LatentDownDaRefIdeal (hLatentDownDaIdeal := Cert.LatentDownDaIdeal.Gen.facts) (hLatentDownDaRefIdeal := Cert.LatentDownDaRefIdeal.Gen.facts) := by
  intro m ρ m' ρ' _ hagree
  refine ⟨_, Cert.LatentDownDaIdeal.Value.run_blocks (F := Ideal) m ρ, (θ_run Cert.LatentDownDaRefIdeal.defs _ _).mono (fun _ h c => ⟨(h c).1.trans ?_, (h c).2⟩)
    (Cert.LatentDownDaRefIdeal.Value.run (F := Ideal) m' ρ')⟩
  rw [(hagree c).1, (hagree c).2]
  exact (Cert.LatentDownDaIdeal.Prod.same m c).symm

end Cert.LatentDownDa.Prod

end
-- ==== Proof.LatentDownDw.lean ====
module

public import proofs.«01_k».proof.Proof.Prod
public import proofs.«01_k».proof.Proof.Gen.LatentDownDwIdeal.Value
public import proofs.«01_k».proof.Proof.Gen.LatentDownDwRefIdeal.Run
public import proofs.«01_k».proof.Defs
public import Idealize.ShloMosaic.Lib.Quiescent
public import Idealize.ShloMosaic.Adequacy
public import Idealize.ShloMosaic.Init

@[expose] public section

set_option maxRecDepth 65536

/-! The gradient of a weight of 2048 lanes by 512: point `t` is row block `t / 8`, token block `t % 8`. -/

noncomputable section

open Idealize.ShloMosaic Idealize.ShloMosaic.TcCoe Idealize.SL.Sem Idealize.ShloMosaic.StableHlo

namespace Cert.LatentDownDwIdeal.Prod

open Cert.LatentDownDwIdeal Cert.LatentDownDwIdeal.Gen Cert.Prod

section Cases

variable {F : FTy → Type} [FloatOps F] (c : Dev nD) (i : grid0.Coords) (arg3 : Memref sig .tc .vmem S1024x1024 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S1024x512 .f32) (harg6 : arg6.IsWhole)
  (x0 : Vec F S1024x1024 .bf16) (x1 : Vec F S1024x512 .bf16) (s : Vec F S1024x512 .f32)

/-- A first point leaves its product in the accumulator. -/
theorem acc_A (hc0 : cond0_0 i) (hc1 : ¬cond0_1 i) : sout0_A_0 c i arg3 harg3 arg4 harg4 arg5 harg5 arg6 harg6 hc0 hc1 x0 x1 = k0_pay2 k0_pay1 x0 x1 := by frame_out

/-- A later point adds its product. -/
theorem acc_B (hc0 : ¬cond0_0 i) (hc1 : ¬cond0_1 i) : sout0_B_0 c i arg3 harg3 arg4 harg4 arg5 harg5 arg6 harg6 hc0 hc1 x0 x1 s = k0_pay2 s x0 x1 := by frame_out

/-- So does the last. -/
theorem acc_C (hc0 : ¬cond0_0 i) (hc1 : cond0_1 i) : sout0_C_0 c i arg3 harg3 arg4 harg4 arg5 harg5 arg6 harg6 hc0 hc1 x0 x1 s = k0_pay2 s x0 x1 := by frame_out

/-- The last also writes the accumulator out. -/
theorem out_C (hc0 : ¬cond0_0 i) (hc1 : cond0_1 i) : out0_C_2 c i arg3 harg3 arg4 harg4 arg5 harg5 arg6 harg6 hc0 hc1 x0 x1 s = k0_pay3 (k0_pay2 s x0 x1) := by frame_out

end Cases

variable (m : (ℓ : Loc nD τ sig) → Buf (Elt Ideal) ℓ) (c : Dev nD)

abbrev A : FVec Ideal S8192x2048 .f32 := m (c.tc.loc main_arg0)
abbrev G : FVec Ideal S8192x512 .f32 := m (c.tc.loc main_arg1)

/-- The operand as the call reads it: the argument, whose cast is exact. -/
theorem V_a : (V m c main_v0 : FVec Ideal S8192x2048 .bf16) = truncf .bf16 (A m c) bitsLt_bf16_f32 := by entry_read; rfl

/-- The cotangent as the call reads it. -/
theorem V_g : (V m c main_v1 : FVec Ideal S8192x512 .bf16) = truncf .bf16 (G m c) bitsLt_bf16_f32 := by entry_read; rfl

/-- Where each window's block of a point begins, in blocks. -/
theorem idx_facts : ∀ t : Fin grid0.N, (win0_0.index t (0 : Fin 2) = t.val % 8 ∧ win0_0.index t (1 : Fin 2) = t.val / 8)
    ∧ (win0_1.index t (0 : Fin 2) = t.val % 8 ∧ win0_1.index t (1 : Fin 2) = 0)
    ∧ (win0_2.index t (0 : Fin 2) = t.val / 8 ∧ win0_2.index t (1 : Fin 2) = 0) := by
  decide +kernel

/-- A block of the operand at the place of `k` and `r`. -/
theorem blk0 (t : Fin cfg0.N) (z : Fin 1024) (x : Fin 1024) (k : Fin 8192) (r : Fin 2048) (hk : t.val % 8 * 1024 + z.val = k.val) (hr : t.val / 8 * 1024 + x.val = r.val) :
    (iblk m c 0 t : FVec Ideal S1024x1024 .bf16) (ix2 z x) = A m c (ix2 k r) := by
  obtain ⟨⟨e0, e1⟩, _⟩ := idx_facts t
  refine (View.read_apply ..).trans ((congrFun (V_a m c) _).trans (at2 (A m c) _ ?_ ?_))
  · show win0_0.index t (0 : Fin 2) * 1024 + 1 * z.val = k.val; omega
  · show win0_0.index t (1 : Fin 2) * 1024 + 1 * x.val = r.val; omega

/-- A block of the cotangent at the place of `k` and `r`. -/
theorem blk1 (t : Fin cfg0.N) (z : Fin 1024) (y : Fin 512) (k : Fin 8192) (r : Fin 512) (hk : t.val % 8 * 1024 + z.val = k.val) (hr : y.val = r.val) :
    (iblk m c 1 t : FVec Ideal S1024x512 .bf16) (ix2 z y) = G m c (ix2 k r) := by
  obtain ⟨_, ⟨e0, e1⟩, _⟩ := idx_facts t
  refine (View.read_apply ..).trans ((congrFun (V_g m c) _).trans (at2 (G m c) _ ?_ ?_))
  · show win0_1.index t (0 : Fin 2) * 1024 + 1 * z.val = k.val; omega
  · show win0_1.index t (1 : Fin 2) * 512 + 1 * y.val = r.val; omega

/-- What a point adds to the accumulator. -/
theorem pay_at (acc : Vec Ideal S1024x512 .f32) (a : Vec Ideal S1024x1024 .bf16) (g : Vec Ideal S1024x512 .bf16) (x : Fin 1024) (y : Fin 512) :
    k0_pay2 acc a g (ix2 x y) = acc (ix2 x y) + ∑ z, a (ix2 z x) * g (ix2 z y) := by
  pointwise [k0_pay2]

theorem zero_at (x : Fin 1024) (y : Fin 512) : k0_pay1 (F := Ideal) (ix2 x y) = 0 := by pointwise [k0_pay1]

/-- The blocks point `n` reads. -/
abbrev bA (n : ℕ) (h : n < cfg0.N) : FVec Ideal S1024x1024 .bf16 := iblk m c 0 ⟨n, h⟩
abbrev bG (n : ℕ) (h : n < cfg0.N) : FVec Ideal S1024x512 .bf16 := iblk m c 1 ⟨n, h⟩

/-- What a first point leaves in the accumulator, whatever it held. -/
theorem at_first (n : ℕ) (h : n < cfg0.N) (acc : Vec Ideal S1024x512 .f32) (hn : n % 8 = 0) : Value.scAt0_0 m c n h acc = k0_pay2 (F := Ideal) (k0_pay1 (F := Ideal)) (bA m c n h) (bG m c n h) := by
  unfold Value.scAt0_0
  rw [dif_pos hn, dif_neg (by omega)]
  exact acc_A ..

/-- What a later point leaves. -/
theorem at_later (n : ℕ) (h : n < cfg0.N) (acc : Vec Ideal S1024x512 .f32) (hn : n % 8 ≠ 0) : Value.scAt0_0 m c n h acc = k0_pay2 (F := Ideal) acc (bA m c n h) (bG m c n h) := by
  unfold Value.scAt0_0
  rw [dif_neg hn]
  split
  · exact acc_C ..
  · exact acc_B ..

/-- The accumulator after a last point: the whole product at its block's places. -/
theorem acc_at (t : Fin cfg0.N) (ht : t.val % 8 = 7) (x : Fin 1024) (y : Fin 512) (r : Fin 2048) (s : Fin 512) (hr : t.val / 8 * 1024 + x.val = r.val) (hs : y.val = s.val) :
    (outsAt0 m c t.val t.isLt).2 (ix2 x y) = ∑ z, A m c (ix2 z r) * G m c (ix2 z s) :=
  (congrFun (Value.soutsAt0_0_eq m c t) _).trans
    (fold_product (fun n h z => bA m c n h (ix2 z x)) (fun n h z => bG m c n h (ix2 z y)) _ _ (fun z => A m c (ix2 z r)) (fun z => G m c (ix2 z s)) (by omega) _
      (fun h => (congrFun (at_first m c _ h _ (by omega)) _).trans ((pay_at _ _ _ _ _).trans (congrArg (· + _) (zero_at _ _))))
      (fun n h acc _ _ => (congrFun (at_later m c n h acc (by omega)) _).trans (pay_at acc _ _ _ _))
      (fun q h z => blk0 m c _ _ _ _ _ (by dsimp only; omega) (by dsimp only; omega)) (fun q h z => blk1 m c _ _ _ _ _ (by dsimp only; omega) hs))

/-- The last point writes the accumulator out. -/
theorem out_eq (t : Fin cfg0.N) (ht : t.val % 8 = 7) : (outsAt0 m c t.val t.isLt).1 = k0_pay3 (F := Ideal) (outsAt0 m c t.val t.isLt).2 := by
  rw [outsAt0_C m c t (by omega) ht]
  dsimp only
  rw [out_C, acc_C]

/-- The reference's product. -/
abbrev ref : FVec Ideal S2048x512 .bf16 :=
  truncf .bf16 (transpose S2048x512 [1,0] (Host.dotGeneral Cert.LatentDownDwRefIdeal.dot_S8192x512_S8192x2048_S512x2048_0_0_1_1_n_n none (G m c) (A m c) : FVec Ideal Cert.LatentDownDwRefIdeal.S512x2048 .f32) Cert.LatentDownDwRefIdeal.Gen.facts.transposes_S512x2048_S2048x512_1_0) bitsLt_bf16_f32

/-- The reference's product, element by element. -/
theorem ref_at (x : Fin 2048) (y : Fin 512) : ref m c (ix2 x y) = ∑ z, A m c (ix2 z x) * G m c (ix2 z y) := by
  have h : ref m c (ix2 x y) = ∑ z, G m c (ix2 z y) * A m c (ix2 z x) := by pointwise
  exact h.trans (Finset.sum_congr rfl fun z _ => mul_comm _ _)

/-- The call leaves the reference's product. -/
theorem same : ((dats m 0 c).arrAt 2 cfg0.N : FVec Ideal S2048x512 .bf16) = ref m c := by
  refine (dats m 0 c).arrAt_eq_of_covers 2 (ref m c) (by decide +kernel) fun t hf y => ?_
  blk_simp
  rw [after0_2, out_eq m c t ((flush0_2 t).mp hf)]
  obtain ⟨_, _, e0, e1⟩ := idx_facts t
  have ht : t.val < 16 := lt_of_lt_of_eq t.isLt N_0
  have hx : (y 0).val < 1024 := (y 0).isLt
  have hy : (y 1).val < 512 := (y 1).isLt
  refine (congrArg _ (eq_ix2 y)).trans ((acc_at m c t ((flush0_2 t).mp hf) (y 0) (y 1) ⟨t.val / 8 * 1024 + (y 0).val, by omega⟩ ⟨(y 1).val, hy⟩ rfl rfl).trans (ref_at m c _ _).symm) |>.trans (at2 (ref m c) _ ?_ ?_).symm
  · show win0_2.index t (0 : Fin 2) * 1024 + 1 * (y 0).val = t.val / 8 * 1024 + (y 0).val; omega
  · show win0_2.index t (1 : Fin 2) * 512 + 1 * (y 1).val = (y 1).val; omega

end Cert.LatentDownDwIdeal.Prod

namespace Cert.LatentDownDw.Prod

theorem facts : Cert.LatentDownDw.Facts where
  toFacts₀ := { Cert.LatentDownDwIdeal.Gen.facts₀ with }

/-- The kernel's body is the idealized kernel's. -/
theorem body_eq : @Cert.LatentDownDw.defs₀ Bits _ facts = Cert.LatentDownDwIdeal.defs₀ := by
  refine congrArg Defs.onTc (funext fun l => funext fun x => ?_)
  match l, x with
  | 0, (t, s) => rfl

/-- The kernel runs and keeps its arguments. -/
theorem frame_p : Cert.quiescent_LatentDownDw (hLatentDownDw := facts) := fun m ρ _ => by
  unfold Cert.LatentDownDw.defs
  rw [body_eq]
  exact Cert.LatentDownDwIdeal.Gen.frame (F := Bits) m ρ

/-- The idealized kernel runs and keeps its arguments. -/
theorem frame_pi : Cert.quiescent_LatentDownDwIdeal (hLatentDownDwIdeal := Cert.LatentDownDwIdeal.Gen.facts) := fun m ρ _ => Cert.LatentDownDwIdeal.Gen.frame m ρ

/-- The reference runs and keeps its arguments. -/
theorem frame_ri : Cert.quiescent_LatentDownDwRefIdeal (hLatentDownDwRefIdeal := Cert.LatentDownDwRefIdeal.Gen.facts) := fun m ρ _ =>
  (θ_run Cert.LatentDownDwRefIdeal.defs _ _).mono (fun r h => ⟨fun c => (h c).2, sem_eq_zero_of_no_sems (by decide) r.2⟩)
    (Cert.LatentDownDwRefIdeal.Value.run (F := Ideal) m ρ)

/-- The kernel's result is the reference's. -/
theorem algebraic : Cert.algebraic_LatentDownDwIdeal_LatentDownDwRefIdeal (hLatentDownDwIdeal := Cert.LatentDownDwIdeal.Gen.facts) (hLatentDownDwRefIdeal := Cert.LatentDownDwRefIdeal.Gen.facts) := by
  intro m ρ m' ρ' _ hagree
  refine ⟨_, Cert.LatentDownDwIdeal.Value.run_blocks (F := Ideal) m ρ, (θ_run Cert.LatentDownDwRefIdeal.defs _ _).mono (fun _ h c => ⟨(h c).1.trans ?_, (h c).2⟩)
    (Cert.LatentDownDwRefIdeal.Value.run (F := Ideal) m' ρ')⟩
  rw [(hagree c).1, (hagree c).2]
  exact (Cert.LatentDownDwIdeal.Prod.same m c).symm

end Cert.LatentDownDw.Prod

end
-- ==== Proof.LatentDownFwd.lean ====
module

public import proofs.«01_k».proof.Proof.Prod
public import proofs.«01_k».proof.Proof.Gen.LatentDownFwdIdeal.Value
public import proofs.«01_k».proof.Proof.Gen.LatentDownFwdRefIdeal.Run
public import proofs.«01_k».proof.Defs
public import Idealize.ShloMosaic.Lib.Quiescent
public import Idealize.ShloMosaic.Adequacy
public import Idealize.ShloMosaic.Init

@[expose] public section

set_option maxRecDepth 65536

/-! A product of tokens by a weight of 2048 lanes by 512: point `t` is token block `t`, and reads the whole weight. -/

noncomputable section

open Idealize.ShloMosaic Idealize.ShloMosaic.TcCoe Idealize.SL.Sem Idealize.ShloMosaic.StableHlo

namespace Cert.LatentDownFwdIdeal.Prod

open Cert.LatentDownFwdIdeal Cert.LatentDownFwdIdeal.Gen Cert.Prod

variable (m : (ℓ : Loc nD τ sig) → Buf (Elt Ideal) ℓ) (c : Dev nD)

abbrev A : FVec Ideal S8192x2048 .f32 := m (c.tc.loc main_arg0)
abbrev W : FVec Ideal S2048x512 .f32 := m (c.tc.loc main_arg1)

theorem V_a : (V m c main_v0 : FVec Ideal S8192x2048 .bf16) = truncf .bf16 (A m c) bitsLt_bf16_f32 := by entry_read; rfl
theorem V_w : (V m c main_v1 : FVec Ideal S2048x512 .bf16) = truncf .bf16 (W m c) bitsLt_bf16_f32 := by entry_read; rfl

/-- Where each window's block of a point begins, in blocks. -/
theorem idx_facts : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) := by
  decide +kernel

/-- The reference's product. -/
abbrev ref : FVec Ideal S8192x512 .f32 := (Host.dotGeneral Cert.LatentDownFwdRefIdeal.dot_S8192x2048_S2048x512_S8192x512_1_0_0_1_n_n none (A m c) (W m c) : FVec Ideal S8192x512 .f32)

/-- The call leaves the reference's product. -/
theorem same : ((dats m 0 c).arrAt 2 cfg0.N : FVec Ideal S8192x512 .f32) = ref m c := by
  refine (dats m 0 c).arrAt_eq_of_covers 2 (ref m c) (by decide +kernel) fun t hf y => ?_
  blk_simp
  rw [after0_2]
  frame_out
  obtain ⟨⟨a0, a1⟩, ⟨b0, b1⟩, e0, e1⟩ := idx_facts t
  have ht : t.val < 8 := lt_of_lt_of_eq t.isLt N_0
  have hx : (y 0).val < 1024 := (y 0).isLt
  have hy : (y 1).val < 512 := (y 1).isLt
  refine step (a := fun x z => (iblk m c 0 t : FVec Ideal S1024x2048 .bf16) (ix2 x z)) (b := fun y z => (iblk m c 1 t : FVec Ideal S2048x512 .bf16) (ix2 z y))
    (A := fun r z => A m c (ix2 r z)) (B := fun r z => W m c (ix2 z r)) (fun x y => by pointwise [k0_pay1]) (fun x y => by pointwise) y _
    ⟨t.val * 1024 + (y 0).val, by omega⟩ ⟨(y 1).val, hy⟩ ?_ ?_
    (fun z => (View.read_apply ..).trans ((congrFun (V_a m c) _).trans (at2 (A m c) _ ?_ ?_)))
    (fun z => (View.read_apply ..).trans ((congrFun (V_w m c) _).trans (at2 (W m c) _ ?_ ?_)))
  · show win0_2.index t (0 : Fin 2) * 1024 + 1 * (y 0).val = t.val * 1024 + (y 0).val; omega
  · show win0_2.index t (1 : Fin 2) * 512 + 1 * (y 1).val = (y 1).val; omega
  · show win0_0.index t (0 : Fin 2) * 1024 + 1 * (y 0).val = t.val * 1024 + (y 0).val; omega
  · show win0_0.index t (1 : Fin 2) * 2048 + 1 * z.val = z.val; omega
  · show win0_1.index t (0 : Fin 2) * 2048 + 1 * z.val = z.val; omega
  · show win0_1.index t (1 : Fin 2) * 512 + 1 * (y 1).val = (y 1).val; omega

end Cert.LatentDownFwdIdeal.Prod

namespace Cert.LatentDownFwd.Prod

theorem facts : Cert.LatentDownFwd.Facts where
  toFacts₀ := { Cert.LatentDownFwdIdeal.Gen.facts₀ with }

/-- The kernel's body is the idealized kernel's. -/
theorem body_eq : @Cert.LatentDownFwd.defs₀ Bits _ facts = Cert.LatentDownFwdIdeal.defs₀ := by
  refine congrArg Defs.onTc (funext fun l => funext fun x => ?_)
  match l, x with
  | 0, (t, s) => rfl

/-- The kernel runs and keeps its arguments. -/
theorem frame_p : Cert.quiescent_LatentDownFwd (hLatentDownFwd := facts) := fun m ρ _ => by
  unfold Cert.LatentDownFwd.defs
  rw [body_eq]
  exact Cert.LatentDownFwdIdeal.Gen.frame (F := Bits) m ρ

/-- The idealized kernel runs and keeps its arguments. -/
theorem frame_pi : Cert.quiescent_LatentDownFwdIdeal (hLatentDownFwdIdeal := Cert.LatentDownFwdIdeal.Gen.facts) := fun m ρ _ => Cert.LatentDownFwdIdeal.Gen.frame m ρ

/-- The reference runs and keeps its arguments. -/
theorem frame_ri : Cert.quiescent_LatentDownFwdRefIdeal (hLatentDownFwdRefIdeal := Cert.LatentDownFwdRefIdeal.Gen.facts) := fun m ρ _ =>
  (θ_run Cert.LatentDownFwdRefIdeal.defs _ _).mono (fun r h => ⟨fun c => (h c).2, sem_eq_zero_of_no_sems (by decide) r.2⟩)
    (Cert.LatentDownFwdRefIdeal.Value.run (F := Ideal) m ρ)

/-- The kernel's result is the reference's. -/
theorem algebraic : Cert.algebraic_LatentDownFwdIdeal_LatentDownFwdRefIdeal (hLatentDownFwdIdeal := Cert.LatentDownFwdIdeal.Gen.facts) (hLatentDownFwdRefIdeal := Cert.LatentDownFwdRefIdeal.Gen.facts) := by
  intro m ρ m' ρ' _ hagree
  refine ⟨_, Cert.LatentDownFwdIdeal.Value.run_blocks (F := Ideal) m ρ, (θ_run Cert.LatentDownFwdRefIdeal.defs _ _).mono (fun _ h c => ⟨(h c).1.trans ?_, (h c).2⟩)
    (Cert.LatentDownFwdRefIdeal.Value.run (F := Ideal) m' ρ')⟩
  rw [(hagree c).1, (hagree c).2]
  exact (Cert.LatentDownFwdIdeal.Prod.same m c).symm

end Cert.LatentDownFwd.Prod

end
-- ==== Proof.Rows.lean ====
module

public import proofs.«01_k».proof.Proof.Prod

@[expose] public section

/-! What the norms share: the formulas of a row's gradients, and that a weight's gradient, added up block of rows by block of rows, is the sum
over all rows. -/

noncomputable section

open Idealize.ShloMosaic

namespace Cert.Rows

open Cert.Prod

/-- The logistic function. -/
def sigma (x : EReal) : EReal := Ideal.div 1 (1 + Ideal.exp (-x))

/-- The gradient of `x * sigma x` at `g`, times `a`. -/
def gradGate (a g : EReal) : EReal := a * sigma g + g * a * (sigma g * (1 - sigma g))

variable (N : BitVec 32) {n : ℕ} (w x dy : Fin n → EReal)

/-- A row's mean square, with the small constant added; `N` is the row's length as an f32 constant. -/
def meanSq : EReal := Ideal.div (∑ j, x j * x j) (Ideal.ofBits .f32 N) + Ideal.ofBits .f32 0x358637BD#32

/-- What comes back to each lane through the mean square, before its factor `x`: from the row's weight, values and cotangents. -/
def pull : EReal :=
  ∑ _i : Fin 1, Ideal.div ((∑ j, x j * (dy j * w j)) * (Ideal.ofBits .f32 0xBF000000#32 * Ideal.div (Ideal.rsqrt (meanSq N x)) (meanSq N x)))
    (Ideal.ofBits .f32 N)

/-- The gradient of a normalized row at a lane with weight `wk`, value `xk` and cotangent `dk`. -/
def gradX (wk xk dk : EReal) : EReal := dk * wk * Ideal.rsqrt (meanSq N x) + xk * pull N w x dy + pull N w x dy * xk

/-- What a row adds to the weight's gradient at a lane. -/
def gradW (xk dk : EReal) : EReal := xk * Ideal.rsqrt (meanSq N x) * dk

/-- A sum begun at point `b` with the first `w` rows, to which each point up to `b + e` adds its own `w` rows, ends at the sum over all rows. -/
theorem fold_rows {P b e w K : ℕ} (o : (n : ℕ) → n < P → EReal) (T : Fin K → EReal) (hK : K = (e + 1) * w) (hb : b + e < P)
    (hr : ∀ h : b < P, o b h = ∑ z : Fin w, T ⟨0 * w + z.val, lane_lt hK ⟨0, Nat.succ_pos e⟩ z⟩)
    (hs : ∀ j (hj : j + 1 < e + 1) (h : b + j + 1 < P), o (b + j + 1) h
      = o (b + j) (Nat.lt_of_succ_lt h) + ∑ z : Fin w, T ⟨(j + 1) * w + z.val, lane_lt hK ⟨j + 1, hj⟩ z⟩) :
    o (b + e) hb = ∑ r, T r := by
  have fold : ∀ (j : ℕ) (hj : j ≤ e) (h : b + j < P), o (b + j) h
      = ∑ q ∈ Finset.range (j + 1), if hq : q < e + 1 then ∑ z : Fin w, T ⟨q * w + z.val, lane_lt hK ⟨q, hq⟩ z⟩ else 0 := by
    intro j
    induction j with
    | zero => intro _ h; rw [Finset.sum_range_one, dif_pos (Nat.succ_pos e)]; exact hr h
    | succ j ih =>
      intro hj h
      rw [Finset.sum_range_succ _ (j + 1), dif_pos (show j + 1 < e + 1 by omega), ← ih (by omega) (by omega)]
      exact hs j (by omega) h
  rw [fold e le_rfl hb, ← Fin.sum_univ_eq_sum_range (fun q => if hq : q < e + 1 then ∑ z : Fin w, T ⟨q * w + z.val, lane_lt hK ⟨q, hq⟩ z⟩ else 0),
    ← Fin.sum_mul_add_fin (e + 1) w T hK]
  exact Finset.sum_congr rfl fun q _ => dif_pos q.isLt

end Cert.Rows

end
-- ==== Proof.Norm.lean ====
module

public import proofs.«01_k».proof.Proof.Gen.NormIdeal.Value
public import proofs.«01_k».proof.Proof.Gen.NormRefIdeal.Run
public import proofs.«01_k».proof.Defs
public import proofs.«01_k».proof.Proof.Rows
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The gradient of the RMS norm over rows of 2048 lanes. Each point takes 128 rows: a row's gradient needs that row alone, and the weight's
gradient is added up over the 64 points in one output that all of them revisit. -/

noncomputable section

open Idealize.ShloMosaic Idealize.ShloMosaic.TcCoe Idealize.SL.Sem Idealize.ShloMosaic.StableHlo

namespace Cert.NormIdeal.Rows

open Cert.NormIdeal Cert.NormIdeal.Gen Cert.Prod Cert.Rows

/-- The row's length, 2048. -/
abbrev len : BitVec 32 := 0x45000000#32

/-- What a point leaves for its rows. -/
theorem payX (w : Vec Ideal S1x2048 .f32) (x dy : Vec Ideal S128x2048 .f32) (p : Fin 128) (k : Fin 2048) :
    k0_pay5 w x dy (ix2 p k) = gradX len (fun j => w (ix2 0 j)) (fun j => x (ix2 p j)) (fun j => dy (ix2 p j)) (w (ix2 0 k)) (x (ix2 p k)) (dy (ix2 p k)) := by
  pointwise [k0_pay5, k0_pay3, k0_pay2]
  rfl

/-- What a point's rows add to the weight's gradient. -/
theorem payW (x dy : Vec Ideal S128x2048 .f32) (k : Fin 2048) :
    k0_pay4 x dy (ix2 0 k) = ∑ p, gradW len (fun j => x (ix2 p j)) (x (ix2 p k)) (dy (ix2 p k)) := by
  pointwise [k0_pay4, k0_pay3, k0_pay2]
  rfl

theorem payAdd (x dy : Vec Ideal S128x2048 .f32) (acc : Vec Ideal S1x2048 .f32) (k : Fin 2048) :
    k0_pay1 (k0_pay4 x dy) acc (ix2 0 k) = acc (ix2 0 k) + ∑ p, gradW len (fun j => x (ix2 p j)) (x (ix2 p k)) (dy (ix2 p k)) := by
  refine Eq.trans ?_ (congrArg (acc (ix2 0 k) + ·) (payW x dy k))
  pointwise [k0_pay1]

variable (m : (ℓ : Loc nD τ sig) → Buf (Elt Ideal) ℓ) (c : Dev nD)

abbrev W : FVec Ideal S2048 .f32 := m (c.tc.loc main_arg0)
abbrev X : FVec Ideal S8192x2048 .f32 := m (c.tc.loc main_arg1)
abbrev Dy : FVec Ideal S8192x2048 .f32 := m (c.tc.loc main_arg2)

/-- The weight, the rows and their cotangents, lane by lane. -/
abbrev w : Fin 2048 → EReal := fun j => W m c (ix1 j)
abbrev x (r : Fin 8192) : Fin 2048 → EReal := fun j => X m c (ix2 r j)
abbrev dy (r : Fin 8192) : Fin 2048 → EReal := fun j => Dy m c (ix2 r j)

/-- The weight as the call reads it. -/
theorem V_w : (V m c main_v0 : FVec Ideal S1x2048 .f32) = broadcastInDim S1x2048 ![1] bcast_S2048_S1x2048_1 (W m c) := by
  entry_read
  rfl

theorem idx_facts : ∀ t : Fin grid0.N, (win0_0.index t (0 : Fin 2) = 0 ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0) := by
  decide +kernel

variable (t : Fin cfg0.N)

/-- The weight's block is the whole weight. -/
theorem blk0 (j : Fin 2048) : (iblk m c 0 t : FVec Ideal S1x2048 .f32) (ix2 0 j) = w m c j := by
  obtain ⟨⟨e0, e1⟩, _⟩ := idx_facts t
  refine (View.read_apply ..).trans ((congrFun (V_w m c) _).trans ((at2 _ _ (r := 0) (c := j) ?_ ?_).trans ?_))
  · show win0_0.index t (0 : Fin 2) * 1 + 1 * 0 = 0; omega
  · show win0_0.index t (1 : Fin 2) * 2048 + 1 * j.val = j.val; omega
  · pointwise

/-- A block's row of the argument. -/
theorem blk1 (p : Fin 128) (j : Fin 2048) (r : Fin 8192) (h : t.val * 128 + p.val = r.val) :
    (iblk m c 1 t : FVec Ideal S128x2048 .f32) (ix2 p j) = x m c r j := by
  obtain ⟨_, ⟨e0, e1⟩, _⟩ := idx_facts t
  refine (View.read_apply ..).trans ((congrFun (V_main_arg1 m c) _).trans (at2 (X m c) _ ?_ ?_))
  · show win0_1.index t (0 : Fin 2) * 128 + 1 * p.val = r.val; omega
  · show win0_1.index t (1 : Fin 2) * 2048 + 1 * j.val = j.val; omega

/-- A block's row of the cotangent. -/
theorem blk2 (p : Fin 128) (j : Fin 2048) (r : Fin 8192) (h : t.val * 128 + p.val = r.val) :
    (iblk m c 2 t : FVec Ideal S128x2048 .f32) (ix2 p j) = dy m c r j := by
  obtain ⟨_, _, ⟨e0, e1⟩, _⟩ := idx_facts t
  refine (View.read_apply ..).trans ((congrFun (V_main_arg2 m c) _).trans (at2 (Dy m c) _ ?_ ?_))
  · show win0_2.index t (0 : Fin 2) * 128 + 1 * p.val = r.val; omega
  · show win0_2.index t (1 : Fin 2) * 2048 + 1 * j.val = j.val; omega

/-- What the output of the rows' gradients holds after a point, whichever case the point is. -/
theorem outX : (outsAt0 m c t.val t.isLt).2 = k0_pay5 (F := Ideal) (iblk m c 0 t) (iblk m c 1 t) (iblk m c 2 t) := by
  by_cases h : 1 ≤ t.val
  · rw [outsAt0_B m c t (by have : t.val < 64 := lt_of_lt_of_eq t.isLt N_0; omega) h]
    dsimp only
    frame_out
  · rw [outsAt0_A m c t (by omega) h]
    dsimp only
    frame_out

/-- The rows' gradients after the run. -/
theorem sameX : (dats m 0 c).arrAt 4 cfg0.N = fun i : S8192x2048.Idx => gradX len (w m c) (x m c (i 0)) (dy m c (i 0)) (w m c (i 1)) (x m c (i 0) (i 1)) (dy m c (i 0) (i 1)) := by
  refine (dats m 0 c).arrAt_eq_of_covers 4 _ (by decide +kernel) fun t hf y => ?_
  blk_simp
  rw [after0_4, outX]
  obtain ⟨_, _, _, _, e0, e1⟩ := idx_facts t
  obtain ⟨p, k, rfl⟩ : ∃ (p : Fin 128) (k : Fin 2048), y = ix2 p k := ⟨_, _, eq_ix2 y⟩
  have hr : t.val * 128 + p.val = (((cfg0.win 4).blk t).view.emb (ix2 p k) 0).val := by
    show _ = win0_4.index t (0 : Fin 2) * 128 + 1 * p.val; omega
  have hk : ((cfg0.win 4).blk t).view.emb (ix2 p k) 1 = k := Fin.ext (by show win0_4.index t (1 : Fin 2) * 2048 + 1 * k.val = k.val; omega)
  refine (payX _ _ _ p k).trans ?_
  rw [hk]
  simp only [blk0 m c t, blk1 m c t p _ _ hr, blk2 m c t p _ _ hr]

/-- What a point's rows add to the weight's gradient, from the arguments. -/
theorem rowsW (k : Fin 2048) (j : ℕ) (hj : j = t.val) (hK : ∀ p : Fin 128, j * 128 + p.val < 8192) :
    (∑ p, gradW len (fun l => (iblk m c 1 t : FVec Ideal S128x2048 .f32) (ix2 p l)) ((iblk m c 1 t : FVec Ideal S128x2048 .f32) (ix2 p k)) ((iblk m c 2 t : FVec Ideal S128x2048 .f32) (ix2 p k)))
      = ∑ p : Fin 128, gradW len (x m c ⟨j * 128 + p.val, hK p⟩) (x m c ⟨j * 128 + p.val, hK p⟩ k) (dy m c ⟨j * 128 + p.val, hK p⟩ k) := by
  subst hj
  exact Finset.sum_congr rfl fun p _ => by simp only [blk1 m c t p _ ⟨t.val * 128 + p.val, hK p⟩ rfl, blk2 m c t p _ ⟨t.val * 128 + p.val, hK p⟩ rfl]

/-- The weight's gradient in its output after the last point. -/
theorem accW (k : Fin 2048) (h : 0 + 63 < cfg0.N) : (outsAt0 m c (0 + 63) h).1 (ix2 0 k) = ∑ r, gradW len (x m c r) (x m c r k) (dy m c r k) := by
  refine fold_rows (fun n h => (outsAt0 m c n h).1 (ix2 0 k)) (fun r => gradW len (x m c r) (x m c r k) (dy m c r k)) (w := 128) rfl h (fun h => ?_) fun j hj h => ?_
  · have e := outsAt0_A m c ⟨0, h⟩ (by dsimp only) (by dsimp only; omega)
    dsimp only at e ⊢
    rw [e]
    dsimp only
    frame_out
    exact (payW _ _ k).trans (rowsW m c ⟨0, h⟩ k 0 rfl _)
  · have e := outsAt0_B m c ⟨0 + j + 1, h⟩ (by dsimp only; omega) (by dsimp only; omega)
    dsimp only at e ⊢
    rw [e]
    dsimp only
    frame_out
    exact (payAdd _ _ _ k).trans (congrArg (_ + ·) (rowsW m c ⟨0 + j + 1, h⟩ k (j + 1) (by dsimp only; omega) _))

/-- The weight's gradient after the run. -/
theorem sameW : (dats m 0 c).arrAt 3 cfg0.N = fun i : S1x2048.Idx => ∑ r, gradW len (x m c r) (x m c r (i 1)) (dy m c r (i 1)) := by
  refine (dats m 0 c).arrAt_eq_of_covers 3 _ (by decide +kernel) fun t hf y => ?_
  blk_simp
  rw [after0_3]
  obtain ⟨_, _, _, ⟨e0, e1⟩, _⟩ := idx_facts t
  obtain ⟨p, k, rfl⟩ : ∃ (p : Fin 1) (k : Fin 2048), y = ix2 p k := ⟨_, _, eq_ix2 y⟩
  obtain rfl : p = 0 := Subsingleton.elim _ _
  have hk : ((cfg0.win 3).blk t).view.emb (ix2 0 k) 1 = k := Fin.ext (by show win0_3.index t (1 : Fin 2) * 2048 + 1 * k.val = k.val; omega)
  rw [hk]
  have ht := (flush0_3 t).mp hf
  obtain ⟨n, hn⟩ := t
  have : n < 64 := lt_of_lt_of_eq hn N_0
  obtain rfl : n = 0 + 63 := by dsimp only at ht; omega
  exact accW m c k hn

end Cert.NormIdeal.Rows

namespace Cert.Norm.Rows

open Cert.NormIdeal.Rows

/-- The facts of the kernel as it runs. -/
theorem facts : Cert.Norm.Facts where
  toFacts₀ := { Cert.NormIdeal.Gen.facts₀ with }

/-- No constant of this kernel is named: its body is the ideal program's. -/
theorem body_eq : @Cert.Norm.defs₀ Bits _ facts = Cert.NormIdeal.defs₀ := by
  refine congrArg Defs.onTc (funext fun l => funext fun x => ?_)
  match l, x with
  | 0, (t, s) => rfl

theorem frame_p : Cert.quiescent_Norm (hNorm := facts) := fun m ρ _ => by
  unfold Cert.Norm.defs
  rw [body_eq]
  exact Cert.NormIdeal.Gen.frame (F := Bits) m ρ

theorem frame_pi : Cert.quiescent_NormIdeal (hNormIdeal := Cert.NormIdeal.Gen.facts) := fun m ρ _ => Cert.NormIdeal.Gen.frame m ρ

theorem frame_ri : Cert.quiescent_NormRefIdeal (hNormRefIdeal := Cert.NormRefIdeal.Gen.facts) := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem algebraic : Cert.algebraic_NormIdeal_NormRefIdeal (hNormIdeal := Cert.NormIdeal.Gen.facts) (hNormRefIdeal := Cert.NormRefIdeal.Gen.facts) := by
  intro m ρ m' ρ' _ hagree
  refine ⟨_, _, Cert.NormIdeal.Value.run_blocks (F := Ideal) m ρ, (θ_run Cert.NormRefIdeal.defs _ _).mono
    (fun _ h c => ?_) (Cert.NormRefIdeal.Value.run (F := Ideal) m' ρ')⟩
  obtain ⟨h0, h1, h2⟩ := hagree c
  obtain ⟨r0, r1, kept⟩ := h c
  refine ⟨r0.trans ?_, r1.trans ?_, kept⟩
  · clear r0 r1 kept
    rw [h1, h2]
    refine Eq.trans ?_ (sameW m c).symm
    refine Cert.Prod.ext2 fun p k => ?_
    pointwise
    exact Fin.sum_univ_one _
  · clear r0 r1 kept
    rw [h0, h1, h2]
    refine Eq.trans ?_ (sameX m c).symm
    refine Cert.Prod.ext2 fun p k => ?_
    pointwise
    rfl

end Cert.Norm.Rows

end
-- ==== Proof.HgrnOut.lean ====
module

public import proofs.«01_k».proof.Proof.Gen.HgrnOutIdeal.Value
public import proofs.«01_k».proof.Proof.Gen.HgrnOutRefIdeal.Run
public import proofs.«01_k».proof.Defs
public import proofs.«01_k».proof.Proof.Rows
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The gradient of HGRN2's output: each of the 16 heads' 128 lanes are normalized, weighted and multiplied by `g * sigma g` of a gate. Point `t` is
head `t / 4` and block `t % 4` of 2048 rows; the weight's gradient is added up over a head's four points. -/

noncomputable section

open Idealize.ShloMosaic Idealize.ShloMosaic.TcCoe Idealize.SL.Sem Idealize.ShloMosaic.StableHlo

namespace Cert.HgrnOutIdeal.Rows

open Cert.HgrnOutIdeal Cert.HgrnOutIdeal.Gen Cert.Prod Cert.Rows

/-- The row's length, 128. -/
abbrev len : BitVec 32 := 0x43000000#32

/-- The cotangent that reaches the normalized row. -/
abbrev back {a b : ℕ} (g dy : (⟨2, ![a, b]⟩ : Shape).Idx → EReal) (r : Fin a) (k : Fin b) : EReal := dy (ix2 r k) * (g (ix2 r k) * sigma (g (ix2 r k)))

/-- What a point leaves for the normalized argument. -/
theorem payX (w : Vec Ideal S1x128 .f32) (x g dy : Vec Ideal S2048x128 .f32) (p : Fin 2048) (k : Fin 128) :
    k0_pay1 x (k0_pay12 w x g dy) (k0_pay13 w x g dy) (Scalar.ofBits .f32 len) (ix2 p k)
      = gradX len (fun j => w (ix2 0 j)) (fun j => x (ix2 p j)) (fun j => back g dy p j) (w (ix2 0 k)) (x (ix2 p k)) (back g dy p k) := by
  pointwise [k0_pay1, k0_pay12, k0_pay13, k0_pay11, k0_pay8, k0_pay7, k0_pay5, k0_pay4, k0_pay3]
  rfl

/-- What a point leaves for the gate. -/
theorem payG (w : Vec Ideal S1x128 .f32) (x g dy : Vec Ideal S2048x128 .f32) (p : Fin 2048) (k : Fin 128) :
    k0_pay9 w x g dy (ix2 p k) = gradGate (gradW len (fun j => x (ix2 p j)) (x (ix2 p k)) (w (ix2 0 k)) * dy (ix2 p k)) (g (ix2 p k)) := by
  pointwise [k0_pay9, k0_pay7, k0_pay6, k0_pay5, k0_pay4, k0_pay3]
  rfl

/-- What a point's rows add to the weight's gradient. -/
theorem payW (x g dy : Vec Ideal S2048x128 .f32) (k : Fin 128) :
    k0_pay10 x g dy (ix2 0 k) = ∑ p, gradW len (fun j => x (ix2 p j)) (x (ix2 p k)) (back g dy p k) := by
  pointwise [k0_pay10, k0_pay8, k0_pay7, k0_pay6, k0_pay5, k0_pay4]
  rfl

theorem payAdd (x g dy : Vec Ideal S2048x128 .f32) (acc : Vec Ideal S1x128 .f32) (k : Fin 128) :
    k0_pay2 (k0_pay10 x g dy) acc (ix2 0 k) = acc (ix2 0 k) + ∑ p, gradW len (fun j => x (ix2 p j)) (x (ix2 p k)) (back g dy p k) := by
  refine Eq.trans ?_ (congrArg (acc (ix2 0 k) + ·) (payW x g dy k))
  pointwise [k0_pay2]

variable (m : (ℓ : Loc nD τ sig) → Buf (Elt Ideal) ℓ) (c : Dev nD)

abbrev W : FVec Ideal S2048 .f32 := m (c.tc.loc main_arg0)
abbrev X : FVec Ideal S8192x2048 .f32 := m (c.tc.loc main_arg1)
abbrev G : FVec Ideal S8192x2048 .f32 := m (c.tc.loc main_arg2)
abbrev Dy : FVec Ideal S8192x2048 .f32 := m (c.tc.loc main_arg3)

/-- Lane `j` of head `h`. -/
abbrev lane (h : Fin 16) (j : Fin 128) : Fin 2048 := ⟨h.val * 128 + j.val, by omega⟩

/-- The head of a lane. -/
abbrev head (k : Fin 2048) : Fin 16 := ⟨k.val / 128, by omega⟩

/-- The weight as the call reads it. -/
theorem V_w : (V m c main_v0 : FVec Ideal S1x2048 .f32) = broadcastInDim S1x2048 ![1] bcast_S2048_S1x2048_1 (W m c) := by
  entry_read
  rfl

theorem idx_facts : ∀ t : Fin grid0.N, (win0_0.index t (0 : Fin 2) = 0 ∧ win0_0.index t (1 : Fin 2) = t.val / 4)
    ∧ (win0_1.index t (0 : Fin 2) = t.val % 4 ∧ win0_1.index t (1 : Fin 2) = t.val / 4) ∧ (win0_4.index t (0 : Fin 2) = 0 ∧ win0_4.index t (1 : Fin 2) = t.val / 4) := by
  decide +kernel

variable (t : Fin cfg0.N)

/-- The weight's block. -/
theorem blk0 (j : Fin 128) (k : Fin 2048) (hk : t.val / 4 * 128 + j.val = k.val) : (iblk m c 0 t : FVec Ideal S1x128 .f32) (ix2 0 j) = W m c (ix1 k) := by
  obtain ⟨⟨e0, e1⟩, _⟩ := idx_facts t
  refine (View.read_apply ..).trans ((congrFun (V_w m c) _).trans ((at2 _ _ (r := 0) (c := k) ?_ ?_).trans ?_))
  · show win0_0.index t (0 : Fin 2) * 1 + 1 * 0 = 0; omega
  · show win0_0.index t (1 : Fin 2) * 128 + 1 * j.val = k.val; omega
  · pointwise

section

variable (p : Fin 2048) (j : Fin 128) (r : Fin 8192) (k : Fin 2048) (hr : t.val % 4 * 2048 + p.val = r.val) (hk : t.val / 4 * 128 + j.val = k.val)

include hr hk

/-- The place of a block's element in the arrays. All the windows but the weight's and its gradient's move together. -/
theorem place : ((cfg0.win 1).blk t).view.emb (ix2 p j) = ix2 r k := by
  obtain ⟨_, ⟨e0, e1⟩, _⟩ := idx_facts t
  refine (eq_ix2 _).trans (congrArg₂ ix2 (Fin.ext ?_) (Fin.ext ?_))
  · show win0_1.index t (0 : Fin 2) * 2048 + 1 * p.val = r.val; omega
  · show win0_1.index t (1 : Fin 2) * 128 + 1 * j.val = k.val; omega

theorem blk1 : (iblk m c 1 t : FVec Ideal S2048x128 .f32) (ix2 p j) = X m c (ix2 r k) :=
  (View.read_apply ..).trans ((congrFun (V_main_arg1 m c) _).trans (congrArg (X m c) (place t p j r k hr hk)))
theorem blk2 : (iblk m c 2 t : FVec Ideal S2048x128 .f32) (ix2 p j) = G m c (ix2 r k) :=
  (View.read_apply ..).trans ((congrFun (V_main_arg2 m c) _).trans (congrArg (G m c) (place t p j r k hr hk)))
theorem blk3 : (iblk m c 3 t : FVec Ideal S2048x128 .f32) (ix2 p j) = Dy m c (ix2 r k) :=
  (View.read_apply ..).trans ((congrFun (V_main_arg3 m c) _).trans (congrArg (Dy m c) (place t p j r k hr hk)))

end

/-- The gradient of the normalized argument, of the gate, and a row's part of the weight's gradient, at a place of the arrays. -/
def resX (r : Fin 8192) (k : Fin 2048) : EReal :=
  gradX len (fun j => W m c (ix1 (lane (head k) j))) (fun j => X m c (ix2 r (lane (head k) j))) (fun j => back (G m c) (Dy m c) r (lane (head k) j))
    (W m c (ix1 k)) (X m c (ix2 r k)) (back (G m c) (Dy m c) r k)
def resG (r : Fin 8192) (k : Fin 2048) : EReal :=
  gradGate (gradW len (fun j => X m c (ix2 r (lane (head k) j))) (X m c (ix2 r k)) (W m c (ix1 k)) * Dy m c (ix2 r k)) (G m c (ix2 r k))
def rowW (r : Fin 8192) (k : Fin 2048) : EReal :=
  gradW len (fun j => X m c (ix2 r (lane (head k) j))) (X m c (ix2 r k)) (back (G m c) (Dy m c) r k)

section

variable (p : Fin 2048) (j : Fin 128) (r : Fin 8192) (k : Fin 2048) (hr : t.val % 4 * 2048 + p.val = r.val) (hk : t.val / 4 * 128 + j.val = k.val)

include hr hk

theorem atX : k0_pay1 (F := Ideal) (iblk m c 1 t) (k0_pay12 (iblk m c 0 t) (iblk m c 1 t) (iblk m c 2 t) (iblk m c 3 t))
    (k0_pay13 (iblk m c 0 t) (iblk m c 1 t) (iblk m c 2 t) (iblk m c 3 t)) (Scalar.ofBits .f32 len) (ix2 p j) = resX m c r k := by
  have hl : ∀ l : Fin 128, t.val / 4 * 128 + l.val = (lane (head k) l).val := fun l => by dsimp only; omega
  refine (payX _ _ _ _ p j).trans ?_
  simp only [resX, back, blk0 m c t j k hk, blk1 m c t p j r k hr hk, blk2 m c t p j r k hr hk, blk3 m c t p j r k hr hk,
    fun l => blk0 m c t l _ (hl l), fun l => blk1 m c t p l r _ hr (hl l), fun l => blk2 m c t p l r _ hr (hl l), fun l => blk3 m c t p l r _ hr (hl l)]

theorem atG : k0_pay9 (F := Ideal) (iblk m c 0 t) (iblk m c 1 t) (iblk m c 2 t) (iblk m c 3 t) (ix2 p j) = resG m c r k := by
  have hl : ∀ l : Fin 128, t.val / 4 * 128 + l.val = (lane (head k) l).val := fun l => by dsimp only; omega
  refine (payG _ _ _ _ p j).trans ?_
  simp only [resG, blk0 m c t j k hk, blk1 m c t p j r k hr hk, blk2 m c t p j r k hr hk, blk3 m c t p j r k hr hk, fun l => blk1 m c t p l r _ hr (hl l)]

theorem atW : gradW len (fun l => (iblk m c 1 t : FVec Ideal S2048x128 .f32) (ix2 p l)) ((iblk m c 1 t : FVec Ideal S2048x128 .f32) (ix2 p j))
    (back (iblk m c 2 t : FVec Ideal S2048x128 .f32) (iblk m c 3 t : FVec Ideal S2048x128 .f32) p j) = rowW m c r k := by
  have hl : ∀ l : Fin 128, t.val / 4 * 128 + l.val = (lane (head k) l).val := fun l => by dsimp only; omega
  simp only [rowW, back, blk1 m c t p j r k hr hk, blk2 m c t p j r k hr hk, blk3 m c t p j r k hr hk, fun l => blk1 m c t p l r _ hr (hl l)]

end

/-- What the outputs of the rows' gradients hold after a point, whichever case the point is. -/
theorem outXG : (outsAt0 m c t.val t.isLt).2 = (k0_pay1 (F := Ideal) (iblk m c 1 t) (k0_pay12 (iblk m c 0 t) (iblk m c 1 t) (iblk m c 2 t) (iblk m c 3 t))
      (k0_pay13 (iblk m c 0 t) (iblk m c 1 t) (iblk m c 2 t) (iblk m c 3 t)) (Scalar.ofBits .f32 len),
    k0_pay9 (F := Ideal) (iblk m c 0 t) (iblk m c 1 t) (iblk m c 2 t) (iblk m c 3 t)) := by
  by_cases h : 1 ≤ t.val % 4
  · rw [outsAt0_B m c t (by omega) h]
    refine Prod.ext ?_ ?_ <;> dsimp only <;> frame_out
  · rw [outsAt0_A m c t (by omega) h]
    refine Prod.ext ?_ ?_ <;> dsimp only <;> frame_out

theorem sameX : (dats m 0 c).arrAt 5 cfg0.N = fun i : S8192x2048.Idx => resX m c (i 0) (i 1) := by
  refine (dats m 0 c).arrAt_eq_of_covers 5 _ (by decide +kernel) fun t hf y => ?_
  blk_simp
  rw [after0_5, outXG]
  obtain ⟨p, j, rfl⟩ : ∃ (p : Fin 2048) (j : Fin 128), y = ix2 p j := ⟨_, _, eq_ix2 y⟩
  have : t.val < 64 := lt_of_lt_of_eq t.isLt N_0
  have e := place t p j ⟨t.val % 4 * 2048 + p.val, by omega⟩ ⟨t.val / 4 * 128 + j.val, by omega⟩ rfl rfl
  exact (atX m c t p j _ _ rfl rfl).trans (congrArg (fun i : S8192x2048.Idx => resX m c (i 0) (i 1)) e).symm

theorem sameG : (dats m 0 c).arrAt 6 cfg0.N = fun i : S8192x2048.Idx => resG m c (i 0) (i 1) := by
  refine (dats m 0 c).arrAt_eq_of_covers 6 _ (by decide +kernel) fun t hf y => ?_
  blk_simp
  rw [after0_6, outXG]
  obtain ⟨p, j, rfl⟩ : ∃ (p : Fin 2048) (j : Fin 128), y = ix2 p j := ⟨_, _, eq_ix2 y⟩
  have : t.val < 64 := lt_of_lt_of_eq t.isLt N_0
  have e := place t p j ⟨t.val % 4 * 2048 + p.val, by omega⟩ ⟨t.val / 4 * 128 + j.val, by omega⟩ rfl rfl
  exact (atG m c t p j _ _ rfl rfl).trans (congrArg (fun i : S8192x2048.Idx => resG m c (i 0) (i 1)) e).symm

/-- The weight's gradient in its output after a head's last point. -/
theorem accW (h : Fin 16) (j : Fin 128) (k : Fin 2048) (hk : h.val * 128 + j.val = k.val) (hn : 4 * h.val + 3 < cfg0.N) :
    (outsAt0 m c (4 * h.val + 3) hn).1 (ix2 0 j) = ∑ r, rowW m c r k := by
  refine fold_rows (fun n h => (outsAt0 m c n h).1 (ix2 0 j)) (fun r => rowW m c r k) (w := 2048) rfl hn (fun h0 => ?_) fun i hi hn' => ?_
  · have e := outsAt0_A m c ⟨4 * h.val, h0⟩ (by dsimp only; omega) (by dsimp only; omega)
    dsimp only at e ⊢
    rw [e]
    dsimp only
    frame_out
    exact (payW _ _ _ j).trans (Finset.sum_congr rfl fun p _ => atW m c _ p j _ k (by dsimp only; omega) (by dsimp only; omega))
  · have e := outsAt0_B m c ⟨4 * h.val + i + 1, hn'⟩ (by dsimp only; omega) (by dsimp only; omega)
    dsimp only at e ⊢
    rw [e]
    dsimp only
    frame_out
    exact (payAdd _ _ _ _ j).trans (congrArg (_ + ·) (Finset.sum_congr rfl fun p _ => atW m c _ p j _ k (by dsimp only; omega) (by dsimp only; omega)))

theorem sameW : (dats m 0 c).arrAt 4 cfg0.N = fun i : S1x2048.Idx => ∑ r, rowW m c r (i 1) := by
  refine (dats m 0 c).arrAt_eq_of_covers 4 _ (by decide +kernel) fun t hf y => ?_
  blk_simp
  rw [after0_4]
  obtain ⟨_, _, e0, e1⟩ := idx_facts t
  obtain ⟨p, j, rfl⟩ : ∃ (p : Fin 1) (j : Fin 128), y = ix2 p j := ⟨_, _, eq_ix2 y⟩
  obtain rfl : p = 0 := Subsingleton.elim _ _
  have hk : t.val / 4 * 128 + j.val = (((cfg0.win 4).blk t).view.emb (ix2 0 j) 1).val := by
    show _ = win0_4.index t (1 : Fin 2) * 128 + 1 * j.val; omega
  have ht := (flush0_4 t).mp hf
  have : t.val < 64 := lt_of_lt_of_eq t.isLt N_0
  obtain ⟨n, hn⟩ := t
  obtain ⟨h, rfl⟩ : ∃ h : Fin 16, n = 4 * h.val + 3 := ⟨⟨n / 4, by dsimp only at this; omega⟩, by dsimp only at ht ⊢; omega⟩
  exact accW m c h j _ ((by omega : h.val * 128 + j.val = (4 * h.val + 3) / 4 * 128 + j.val).trans hk) hn

end Cert.HgrnOutIdeal.Rows

namespace Cert.HgrnOut.Rows

open Cert.HgrnOutIdeal.Rows

/-- The facts of the kernel as it runs. -/
theorem facts : Cert.HgrnOut.Facts where
  toFacts₀ := { Cert.HgrnOutIdeal.Gen.facts₀ with }

/-- No constant of this kernel is named: its body is the ideal program's. -/
theorem body_eq : @Cert.HgrnOut.defs₀ Bits _ facts = Cert.HgrnOutIdeal.defs₀ := by
  refine congrArg Defs.onTc (funext fun l => funext fun x => ?_)
  match l, x with
  | 0, (t, s) => rfl

theorem frame_p : Cert.quiescent_HgrnOut (hHgrnOut := facts) := fun m ρ _ => by
  unfold Cert.HgrnOut.defs
  rw [body_eq]
  exact Cert.HgrnOutIdeal.Gen.frame (F := Bits) m ρ

theorem frame_pi : Cert.quiescent_HgrnOutIdeal (hHgrnOutIdeal := Cert.HgrnOutIdeal.Gen.facts) := fun m ρ _ => Cert.HgrnOutIdeal.Gen.frame m ρ

theorem frame_ri : Cert.quiescent_HgrnOutRefIdeal (hHgrnOutRefIdeal := Cert.HgrnOutRefIdeal.Gen.facts) := fun m ρ _ =>
  (θ_run Cert.HgrnOutRefIdeal.defs _ _).mono (fun r h => ⟨fun c => (h c).2.2.2, sem_eq_zero_of_no_sems (by decide) r.2⟩)
    (Cert.HgrnOutRefIdeal.Value.run (F := Ideal) m ρ)

theorem algebraic : Cert.algebraic_HgrnOutIdeal_HgrnOutRefIdeal (hHgrnOutIdeal := Cert.HgrnOutIdeal.Gen.facts) (hHgrnOutRefIdeal := Cert.HgrnOutRefIdeal.Gen.facts) := by
  intro m ρ m' ρ' _ hagree
  refine ⟨_, _, _, Cert.HgrnOutIdeal.Value.run_blocks (F := Ideal) m ρ, (θ_run Cert.HgrnOutRefIdeal.defs _ _).mono
    (fun _ h c => ?_) (Cert.HgrnOutRefIdeal.Value.run (F := Ideal) m' ρ')⟩
  obtain ⟨h0, h1, h2, h3⟩ := hagree c
  obtain ⟨r0, r1, r2, kept⟩ := h c
  refine ⟨r0.trans ?_, r1.trans ?_, r2.trans ?_, kept⟩
  · clear r0 r1 r2 kept
    rw [h1, h2, h3]
    refine Eq.trans ?_ (sameW m c).symm
    refine Cert.Prod.ext2 fun p k => ?_
    pointwise
    exact Fin.sum_univ_one _
  · clear r0 r1 r2 kept
    unfold Cert.HgrnOutRefIdeal.Value.res_main_v44
    rw [h0, h1, h2, h3]
    refine Eq.trans ?_ (sameX m c).symm
    refine Cert.Prod.ext2 fun p k => ?_
    pointwise
    rfl
  · clear r0 r1 r2 kept
    rw [h0, h1, h2, h3]
    refine Eq.trans ?_ (sameG m c).symm
    refine Cert.Prod.ext2 fun p k => ?_
    pointwise
    rfl

end Cert.HgrnOut.Rows

end
-- ==== Proof.SsmNorm.lean ====
module

public import proofs.«01_k».proof.Proof.Gen.SsmNormIdeal.Value
public import proofs.«01_k».proof.Proof.Gen.SsmNormRefIdeal.Run
public import proofs.«01_k».proof.Defs
public import proofs.«01_k».proof.Proof.Rows
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The gradient of Mamba-2's gated norm: the argument is multiplied by `g * sigma g` of a gate, and each of 8 groups of 512 lanes is normalized and
weighted. Point `t` is group `t / 16` and block `t % 16` of 512 rows; the weight's gradient is added up over a group's sixteen points. -/

noncomputable section

open Idealize.ShloMosaic Idealize.ShloMosaic.TcCoe Idealize.SL.Sem Idealize.ShloMosaic.StableHlo

namespace Cert.SsmNormIdeal.Rows

open Cert.SsmNormIdeal Cert.SsmNormIdeal.Gen Cert.Prod Cert.Rows

/-- The row's length, 512. -/
abbrev len : BitVec 32 := 0x44000000#32

/-- The gated argument, which is normalized. -/
abbrev gated {a b : ℕ} (x g : (⟨2, ![a, b]⟩ : Shape).Idx → EReal) (r : Fin a) (k : Fin b) : EReal := x (ix2 r k) * (g (ix2 r k) * sigma (g (ix2 r k)))

/-- What a point leaves for the argument and for the gate, from its blocks. -/
abbrev leftX {F : FTy → Type} [FloatOps F] (w : Vec F S1x512 .f32) (x g dy : Vec F S512x512 .f32) : FVec F S512x512 .f32 :=
  k0_pay2 (k0_pay7 g) (k0_pay8 x g) (k0_pay13 w x g dy) (k0_pay14 w x g dy) (k0_pay15 w x g dy)
abbrev leftG {F : FTy → Type} [FloatOps F] (w : Vec F S1x512 .f32) (x g dy : Vec F S512x512 .f32) : FVec F S512x512 .f32 :=
  k0_pay3 x g (k0_pay5 g) (k0_pay6 g) (k0_pay8 x g) (k0_pay13 w x g dy) (k0_pay14 w x g dy) (k0_pay15 w x g dy)

/-- What a point leaves for the argument. -/
theorem payX (w : Vec Ideal S1x512 .f32) (x g dy : Vec Ideal S512x512 .f32) (p : Fin 512) (k : Fin 512) :
    leftX w x g dy (ix2 p k) = gradX len (fun j => w (ix2 0 j)) (fun j => gated x g p j) (fun j => dy (ix2 p j)) (w (ix2 0 k)) (gated x g p k) (dy (ix2 p k))
      * (g (ix2 p k) * sigma (g (ix2 p k))) := by
  pointwise [leftX, k0_pay2, k0_pay1, k0_pay15, k0_pay14, k0_pay13, k0_pay12, k0_pay10, k0_pay9, k0_pay8, k0_pay7, k0_pay5]
  rfl

/-- What a point leaves for the gate. -/
theorem payG (w : Vec Ideal S1x512 .f32) (x g dy : Vec Ideal S512x512 .f32) (p : Fin 512) (k : Fin 512) :
    leftG w x g dy (ix2 p k) = gradGate (x (ix2 p k)
      * gradX len (fun j => w (ix2 0 j)) (fun j => gated x g p j) (fun j => dy (ix2 p j)) (w (ix2 0 k)) (gated x g p k) (dy (ix2 p k))) (g (ix2 p k)) := by
  pointwise [leftG, k0_pay3, k0_pay1, k0_pay15, k0_pay14, k0_pay13, k0_pay12, k0_pay10, k0_pay9, k0_pay8, k0_pay7, k0_pay6, k0_pay5]
  rfl

/-- What a point's rows add to the weight's gradient. -/
theorem payW (x g dy : Vec Ideal S512x512 .f32) (k : Fin 512) :
    k0_pay11 x g dy (ix2 0 k) = ∑ p, gradW len (fun j => gated x g p j) (gated x g p k) (dy (ix2 p k)) := by
  pointwise [k0_pay11, k0_pay10, k0_pay9, k0_pay8, k0_pay7, k0_pay5]
  rfl

theorem payAdd (x g dy : Vec Ideal S512x512 .f32) (acc : Vec Ideal S1x512 .f32) (k : Fin 512) :
    k0_pay4 (k0_pay11 x g dy) acc (ix2 0 k) = acc (ix2 0 k) + ∑ p, gradW len (fun j => gated x g p j) (gated x g p k) (dy (ix2 p k)) := by
  refine Eq.trans ?_ (congrArg (acc (ix2 0 k) + ·) (payW x g dy k))
  pointwise [k0_pay4]

variable (m : (ℓ : Loc nD τ sig) → Buf (Elt Ideal) ℓ) (c : Dev nD)

abbrev W : FVec Ideal S4096 .f32 := m (c.tc.loc main_arg0)
abbrev X : FVec Ideal S8192x4096 .f32 := m (c.tc.loc main_arg1)
abbrev G : FVec Ideal S8192x4096 .f32 := m (c.tc.loc main_arg2)
abbrev Dy : FVec Ideal S8192x4096 .f32 := m (c.tc.loc main_arg3)

/-- Lane `j` of group `h`. -/
abbrev lane (h : Fin 8) (j : Fin 512) : Fin 4096 := ⟨h.val * 512 + j.val, by omega⟩

/-- The group of a lane. -/
abbrev group (k : Fin 4096) : Fin 8 := ⟨k.val / 512, by omega⟩

/-- The weight as the call reads it. -/
theorem V_w : (V m c main_v0 : FVec Ideal S1x4096 .f32) = broadcastInDim S1x4096 ![1] bcast_S4096_S1x4096_1 (W m c) := by
  entry_read
  rfl

theorem idx_facts : ∀ t : Fin grid0.N, (win0_0.index t (0 : Fin 2) = 0 ∧ win0_0.index t (1 : Fin 2) = t.val / 16)
    ∧ (win0_1.index t (0 : Fin 2) = t.val % 16 ∧ win0_1.index t (1 : Fin 2) = t.val / 16) ∧ (win0_4.index t (0 : Fin 2) = 0 ∧ win0_4.index t (1 : Fin 2) = t.val / 16) := by
  decide +kernel

variable (t : Fin cfg0.N)

/-- The weight's block. -/
theorem blk0 (j : Fin 512) (k : Fin 4096) (hk : t.val / 16 * 512 + j.val = k.val) : (iblk m c 0 t : FVec Ideal S1x512 .f32) (ix2 0 j) = W m c (ix1 k) := by
  obtain ⟨⟨e0, e1⟩, _⟩ := idx_facts t
  refine (View.read_apply ..).trans ((congrFun (V_w m c) _).trans ((at2 _ _ (r := 0) (c := k) ?_ ?_).trans ?_))
  · show win0_0.index t (0 : Fin 2) * 1 + 1 * 0 = 0; omega
  · show win0_0.index t (1 : Fin 2) * 512 + 1 * j.val = k.val; omega
  · pointwise

section

variable (p : Fin 512) (j : Fin 512) (r : Fin 8192) (k : Fin 4096) (hr : t.val % 16 * 512 + p.val = r.val) (hk : t.val / 16 * 512 + j.val = k.val)

include hr hk

/-- The place of a block's element in the arrays. All the windows but the weight's and its gradient's move together. -/
theorem place : ((cfg0.win 1).blk t).view.emb (ix2 p j) = ix2 r k := by
  obtain ⟨_, ⟨e0, e1⟩, _⟩ := idx_facts t
  refine (eq_ix2 _).trans (congrArg₂ ix2 (Fin.ext ?_) (Fin.ext ?_))
  · show win0_1.index t (0 : Fin 2) * 512 + 1 * p.val = r.val; omega
  · show win0_1.index t (1 : Fin 2) * 512 + 1 * j.val = k.val; omega

theorem blk1 : (iblk m c 1 t : FVec Ideal S512x512 .f32) (ix2 p j) = X m c (ix2 r k) :=
  (View.read_apply ..).trans ((congrFun (V_main_arg1 m c) _).trans (congrArg (X m c) (place t p j r k hr hk)))
theorem blk2 : (iblk m c 2 t : FVec Ideal S512x512 .f32) (ix2 p j) = G m c (ix2 r k) :=
  (View.read_apply ..).trans ((congrFun (V_main_arg2 m c) _).trans (congrArg (G m c) (place t p j r k hr hk)))
theorem blk3 : (iblk m c 3 t : FVec Ideal S512x512 .f32) (ix2 p j) = Dy m c (ix2 r k) :=
  (View.read_apply ..).trans ((congrFun (V_main_arg3 m c) _).trans (congrArg (Dy m c) (place t p j r k hr hk)))

end

/-- The gradient of the argument, of the gate, and a row's part of the weight's gradient, at a place of the arrays. -/
def resX (r : Fin 8192) (k : Fin 4096) : EReal :=
  gradX len (fun j => W m c (ix1 (lane (group k) j))) (fun j => gated (X m c) (G m c) r (lane (group k) j)) (fun j => Dy m c (ix2 r (lane (group k) j)))
    (W m c (ix1 k)) (gated (X m c) (G m c) r k) (Dy m c (ix2 r k)) * (G m c (ix2 r k) * sigma (G m c (ix2 r k)))
def resG (r : Fin 8192) (k : Fin 4096) : EReal :=
  gradGate (X m c (ix2 r k) * gradX len (fun j => W m c (ix1 (lane (group k) j))) (fun j => gated (X m c) (G m c) r (lane (group k) j))
    (fun j => Dy m c (ix2 r (lane (group k) j))) (W m c (ix1 k)) (gated (X m c) (G m c) r k) (Dy m c (ix2 r k))) (G m c (ix2 r k))
def rowW (r : Fin 8192) (k : Fin 4096) : EReal :=
  gradW len (fun j => gated (X m c) (G m c) r (lane (group k) j)) (gated (X m c) (G m c) r k) (Dy m c (ix2 r k))

section

variable (p : Fin 512) (j : Fin 512) (r : Fin 8192) (k : Fin 4096) (hr : t.val % 16 * 512 + p.val = r.val) (hk : t.val / 16 * 512 + j.val = k.val)

include hr hk

theorem atX : leftX (F := Ideal) (iblk m c 0 t) (iblk m c 1 t) (iblk m c 2 t) (iblk m c 3 t) (ix2 p j) = resX m c r k := by
  have hl : ∀ l : Fin 512, t.val / 16 * 512 + l.val = (lane (group k) l).val := fun l => by dsimp only; omega
  refine (payX _ _ _ _ p j).trans ?_
  simp only [resX, gated, blk0 m c t j k hk, blk1 m c t p j r k hr hk, blk2 m c t p j r k hr hk, blk3 m c t p j r k hr hk,
    fun l => blk0 m c t l _ (hl l), fun l => blk1 m c t p l r _ hr (hl l), fun l => blk2 m c t p l r _ hr (hl l), fun l => blk3 m c t p l r _ hr (hl l)]

theorem atG : leftG (F := Ideal) (iblk m c 0 t) (iblk m c 1 t) (iblk m c 2 t) (iblk m c 3 t) (ix2 p j) = resG m c r k := by
  have hl : ∀ l : Fin 512, t.val / 16 * 512 + l.val = (lane (group k) l).val := fun l => by dsimp only; omega
  refine (payG _ _ _ _ p j).trans ?_
  simp only [resG, gated, blk0 m c t j k hk, blk1 m c t p j r k hr hk, blk2 m c t p j r k hr hk, blk3 m c t p j r k hr hk,
    fun l => blk0 m c t l _ (hl l), fun l => blk1 m c t p l r _ hr (hl l), fun l => blk2 m c t p l r _ hr (hl l), fun l => blk3 m c t p l r _ hr (hl l)]

theorem atW : gradW len (fun l => gated (iblk m c 1 t : FVec Ideal S512x512 .f32) (iblk m c 2 t : FVec Ideal S512x512 .f32) p l)
    (gated (iblk m c 1 t : FVec Ideal S512x512 .f32) (iblk m c 2 t : FVec Ideal S512x512 .f32) p j) ((iblk m c 3 t : FVec Ideal S512x512 .f32) (ix2 p j)) = rowW m c r k := by
  have hl : ∀ l : Fin 512, t.val / 16 * 512 + l.val = (lane (group k) l).val := fun l => by dsimp only; omega
  simp only [rowW, gated, blk1 m c t p j r k hr hk, blk2 m c t p j r k hr hk, blk3 m c t p j r k hr hk, fun l => blk1 m c t p l r _ hr (hl l),
    fun l => blk2 m c t p l r _ hr (hl l)]

end

/-- What the outputs of the rows' gradients hold after a point, whichever case the point is. -/
theorem outXG : (outsAt0 m c t.val t.isLt).2 = (leftX (F := Ideal) (iblk m c 0 t) (iblk m c 1 t) (iblk m c 2 t) (iblk m c 3 t),
    leftG (F := Ideal) (iblk m c 0 t) (iblk m c 1 t) (iblk m c 2 t) (iblk m c 3 t)) := by
  by_cases h : 1 ≤ t.val % 16
  · rw [outsAt0_B m c t (by omega) h]
    refine Prod.ext ?_ ?_ <;> dsimp only <;> frame_out
  · rw [outsAt0_A m c t (by omega) h]
    refine Prod.ext ?_ ?_ <;> dsimp only <;> frame_out

theorem sameX : (dats m 0 c).arrAt 5 cfg0.N = fun i : S8192x4096.Idx => resX m c (i 0) (i 1) := by
  refine (dats m 0 c).arrAt_eq_of_covers 5 _ (by decide +kernel) fun t hf y => ?_
  blk_simp
  rw [after0_5, outXG]
  obtain ⟨p, j, rfl⟩ : ∃ (p : Fin 512) (j : Fin 512), y = ix2 p j := ⟨_, _, eq_ix2 y⟩
  have : t.val < 128 := lt_of_lt_of_eq t.isLt N_0
  have e := place t p j ⟨t.val % 16 * 512 + p.val, by omega⟩ ⟨t.val / 16 * 512 + j.val, by omega⟩ rfl rfl
  exact (atX m c t p j _ _ rfl rfl).trans (congrArg (fun i : S8192x4096.Idx => resX m c (i 0) (i 1)) e).symm

theorem sameG : (dats m 0 c).arrAt 6 cfg0.N = fun i : S8192x4096.Idx => resG m c (i 0) (i 1) := by
  refine (dats m 0 c).arrAt_eq_of_covers 6 _ (by decide +kernel) fun t hf y => ?_
  blk_simp
  rw [after0_6, outXG]
  obtain ⟨p, j, rfl⟩ : ∃ (p : Fin 512) (j : Fin 512), y = ix2 p j := ⟨_, _, eq_ix2 y⟩
  have : t.val < 128 := lt_of_lt_of_eq t.isLt N_0
  have e := place t p j ⟨t.val % 16 * 512 + p.val, by omega⟩ ⟨t.val / 16 * 512 + j.val, by omega⟩ rfl rfl
  exact (atG m c t p j _ _ rfl rfl).trans (congrArg (fun i : S8192x4096.Idx => resG m c (i 0) (i 1)) e).symm

/-- The weight's gradient in its output after a group's last point. -/
theorem accW (h : Fin 8) (j : Fin 512) (k : Fin 4096) (hk : h.val * 512 + j.val = k.val) (hn : 16 * h.val + 15 < cfg0.N) :
    (outsAt0 m c (16 * h.val + 15) hn).1 (ix2 0 j) = ∑ r, rowW m c r k := by
  refine fold_rows (fun n h => (outsAt0 m c n h).1 (ix2 0 j)) (fun r => rowW m c r k) (w := 512) rfl hn (fun h0 => ?_) fun i hi hn' => ?_
  · have e := outsAt0_A m c ⟨16 * h.val, h0⟩ (by dsimp only; omega) (by dsimp only; omega)
    dsimp only at e ⊢
    rw [e]
    dsimp only
    frame_out
    exact (payW _ _ _ j).trans (Finset.sum_congr rfl fun p _ => atW m c _ p j _ k (by dsimp only; omega) (by dsimp only; omega))
  · have e := outsAt0_B m c ⟨16 * h.val + i + 1, hn'⟩ (by dsimp only; omega) (by dsimp only; omega)
    dsimp only at e ⊢
    rw [e]
    dsimp only
    frame_out
    exact (payAdd _ _ _ _ j).trans (congrArg (_ + ·) (Finset.sum_congr rfl fun p _ => atW m c _ p j _ k (by dsimp only; omega) (by dsimp only; omega)))

theorem sameW : (dats m 0 c).arrAt 4 cfg0.N = fun i : S1x4096.Idx => ∑ r, rowW m c r (i 1) := by
  refine (dats m 0 c).arrAt_eq_of_covers 4 _ (by decide +kernel) fun t hf y => ?_
  blk_simp
  rw [after0_4]
  obtain ⟨_, _, e0, e1⟩ := idx_facts t
  obtain ⟨p, j, rfl⟩ : ∃ (p : Fin 1) (j : Fin 512), y = ix2 p j := ⟨_, _, eq_ix2 y⟩
  obtain rfl : p = 0 := Subsingleton.elim _ _
  have hk : t.val / 16 * 512 + j.val = (((cfg0.win 4).blk t).view.emb (ix2 0 j) 1).val := by
    show _ = win0_4.index t (1 : Fin 2) * 512 + 1 * j.val; omega
  have ht := (flush0_4 t).mp hf
  have : t.val < 128 := lt_of_lt_of_eq t.isLt N_0
  obtain ⟨n, hn⟩ := t
  obtain ⟨h, rfl⟩ : ∃ h : Fin 8, n = 16 * h.val + 15 := ⟨⟨n / 16, by dsimp only at this; omega⟩, by dsimp only at ht ⊢; omega⟩
  exact accW m c h j _ ((by omega : h.val * 512 + j.val = (16 * h.val + 15) / 16 * 512 + j.val).trans hk) hn

end Cert.SsmNormIdeal.Rows

namespace Cert.SsmNorm.Rows

open Cert.SsmNormIdeal.Rows

/-- The facts of the kernel as it runs. -/
theorem facts : Cert.SsmNorm.Facts where
  toFacts₀ := { Cert.SsmNormIdeal.Gen.facts₀ with }

/-- No constant of this kernel is named: its body is the ideal program's. -/
theorem body_eq : @Cert.SsmNorm.defs₀ Bits _ facts = Cert.SsmNormIdeal.defs₀ := by
  refine congrArg Defs.onTc (funext fun l => funext fun x => ?_)
  match l, x with
  | 0, (t, s) => rfl

theorem frame_p : Cert.quiescent_SsmNorm (hSsmNorm := facts) := fun m ρ _ => by
  unfold Cert.SsmNorm.defs
  rw [body_eq]
  exact Cert.SsmNormIdeal.Gen.frame (F := Bits) m ρ

theorem frame_pi : Cert.quiescent_SsmNormIdeal (hSsmNormIdeal := Cert.SsmNormIdeal.Gen.facts) := fun m ρ _ => Cert.SsmNormIdeal.Gen.frame m ρ

theorem frame_ri : Cert.quiescent_SsmNormRefIdeal (hSsmNormRefIdeal := Cert.SsmNormRefIdeal.Gen.facts) := fun m ρ _ =>
  (θ_run Cert.SsmNormRefIdeal.defs _ _).mono (fun r h => ⟨fun c => (h c).2.2.2, sem_eq_zero_of_no_sems (by decide) r.2⟩)
    (Cert.SsmNormRefIdeal.Value.run (F := Ideal) m ρ)

set_option maxHeartbeats 1600000 in
theorem algebraic : Cert.algebraic_SsmNormIdeal_SsmNormRefIdeal (hSsmNormIdeal := Cert.SsmNormIdeal.Gen.facts) (hSsmNormRefIdeal := Cert.SsmNormRefIdeal.Gen.facts) := by
  intro m ρ m' ρ' _ hagree
  refine ⟨_, _, _, Cert.SsmNormIdeal.Value.run_blocks (F := Ideal) m ρ, (θ_run Cert.SsmNormRefIdeal.defs _ _).mono
    (fun _ h c => ?_) (Cert.SsmNormRefIdeal.Value.run (F := Ideal) m' ρ')⟩
  obtain ⟨h0, h1, h2, h3⟩ := hagree c
  obtain ⟨r0, r1, r2, kept⟩ := h c
  refine ⟨r0.trans ?_, r1.trans ?_, r2.trans ?_, kept⟩
  · clear r0 r1 r2 kept
    rw [h1, h2, h3]
    refine Eq.trans ?_ (sameW m c).symm
    refine Cert.Prod.ext2 fun p k => ?_
    pointwise
    exact Fin.sum_univ_one _
  · clear r0 r1 r2 kept
    unfold Cert.SsmNormRefIdeal.Value.res_main_v43
    rw [h0, h1, h2, h3]
    refine Eq.trans ?_ (sameX m c).symm
    refine Cert.Prod.ext2 fun p k => ?_
    pointwise
    rfl
  · clear r0 r1 r2 kept
    unfold Cert.SsmNormRefIdeal.Value.res_main_v44
    rw [h0, h1, h2, h3]
    refine Eq.trans ?_ (sameG m c).symm
    refine Cert.Prod.ext2 fun p k => ?_
    pointwise
    rfl

end Cert.SsmNorm.Rows

end
-- ==== Proof.Swiglu.lean ====
module

public import proofs.«01_k».proof.Proof.Gen.SwigluIdeal.Value
public import proofs.«01_k».proof.Proof.Gen.SwigluRefIdeal.Run
public import proofs.«01_k».proof.Defs
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The gradient of the gated product: each result is one formula of the arguments at an index, on both sides. -/

noncomputable section

open Idealize.ShloMosaic Idealize.ShloMosaic.TcCoe Idealize.SL.Sem Idealize.ShloMosaic.StableHlo

namespace Cert.Swiglu.Rows

/-- The facts of the kernel as it runs. -/
theorem facts : Cert.Swiglu.Facts where
  toFacts₀ := { Cert.SwigluIdeal.Gen.facts₀ with }

/-- No constant of this kernel is named: its body is the ideal program's. -/
theorem body_eq : @Cert.Swiglu.defs₀ Bits _ facts = Cert.SwigluIdeal.defs₀ := by
  refine congrArg Defs.onTc (funext fun l => funext fun x => ?_)
  match l, x with
  | 0, (t, s) => rfl

theorem frame_p : Cert.quiescent_Swiglu (hSwiglu := facts) := fun m ρ _ => by
  unfold Cert.Swiglu.defs
  rw [body_eq]
  exact Cert.SwigluIdeal.Gen.frame (F := Bits) m ρ

theorem frame_pi : Cert.quiescent_SwigluIdeal (hSwigluIdeal := Cert.SwigluIdeal.Gen.facts) := fun m ρ _ => Cert.SwigluIdeal.Gen.frame m ρ

theorem frame_ri : Cert.quiescent_SwigluRefIdeal (hSwigluRefIdeal := Cert.SwigluRefIdeal.Gen.facts) := fun m ρ _ =>
  (θ_run Cert.SwigluRefIdeal.defs _ _).mono (fun r h => ⟨fun c => (h c).2.2, sem_eq_zero_of_no_sems (by decide) r.2⟩)
    (Cert.SwigluRefIdeal.Value.run (F := Ideal) m ρ)

theorem algebraic : Cert.algebraic_SwigluIdeal_SwigluRefIdeal (hSwigluIdeal := Cert.SwigluIdeal.Gen.facts) (hSwigluRefIdeal := Cert.SwigluRefIdeal.Gen.facts) := by
  intro m ρ m' ρ' _ hagree
  refine ⟨_, _, Cert.SwigluIdeal.Value.run (F := Ideal) m ρ, (θ_run Cert.SwigluRefIdeal.defs _ _).mono
    (fun _ h c => ⟨(h c).1.trans ?_, (h c).2.1.trans ?_, (h c).2.2⟩) (Cert.SwigluRefIdeal.Value.run (F := Ideal) m' ρ')⟩
  · rw [(hagree c).1, (hagree c).2.1, (hagree c).2.2]
    funext i
    pointwise
    rfl
  · rw [(hagree c).1, (hagree c).2.2]
    funext i
    pointwise
    rfl

end Cert.Swiglu.Rows
-- ==== Proof.Silu.lean ====
module

public import proofs.«01_k».proof.Proof.Gen.SiluIdeal.Value
public import proofs.«01_k».proof.Proof.Gen.SiluRefIdeal.Run
public import proofs.«01_k».proof.Defs
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The gradient of the convolution's activation: the result is one formula of the arguments at an index, on both sides. -/

noncomputable section

open Idealize.ShloMosaic Idealize.ShloMosaic.TcCoe Idealize.SL.Sem Idealize.ShloMosaic.StableHlo

namespace Cert.Silu.Rows

/-- The facts of the kernel as it runs. -/
theorem facts : Cert.Silu.Facts where
  toFacts₀ := { Cert.SiluIdeal.Gen.facts₀ with }

/-- No constant of this kernel is named: its body is the ideal program's. -/
theorem body_eq : @Cert.Silu.defs₀ Bits _ facts = Cert.SiluIdeal.defs₀ := by
  refine congrArg Defs.onTc (funext fun l => funext fun x => ?_)
  match l, x with
  | 0, (t, s) => rfl

theorem frame_p : Cert.quiescent_Silu (hSilu := facts) := fun m ρ _ => by
  unfold Cert.Silu.defs
  rw [body_eq]
  exact Cert.SiluIdeal.Gen.frame (F := Bits) m ρ

theorem frame_pi : Cert.quiescent_SiluIdeal (hSiluIdeal := Cert.SiluIdeal.Gen.facts) := fun m ρ _ => Cert.SiluIdeal.Gen.frame m ρ

theorem frame_ri : Cert.quiescent_SiluRefIdeal (hSiluRefIdeal := Cert.SiluRefIdeal.Gen.facts) := fun m ρ _ =>
  (θ_run Cert.SiluRefIdeal.defs _ _).mono (fun r h => ⟨fun c => (h c).2, sem_eq_zero_of_no_sems (by decide) r.2⟩)
    (Cert.SiluRefIdeal.Value.run (F := Ideal) m ρ)

theorem algebraic : Cert.algebraic_SiluIdeal_SiluRefIdeal (hSiluIdeal := Cert.SiluIdeal.Gen.facts) (hSiluRefIdeal := Cert.SiluRefIdeal.Gen.facts) := by
  intro m ρ m' ρ' _ hagree
  refine ⟨_, Cert.SiluIdeal.Value.run (F := Ideal) m ρ, (θ_run Cert.SiluRefIdeal.defs _ _).mono
    (fun _ h c => ⟨(h c).1.trans ?_, (h c).2⟩) (Cert.SiluRefIdeal.Value.run (F := Ideal) m' ρ')⟩
  rw [(hagree c).1, (hagree c).2]
  funext i
  pointwise
  rfl

end Cert.Silu.Rows
-- ==== Proof.Merge.lean ====
module

public import proofs.«01_k».proof.Proof.Gen.MergeIdeal.Value
public import proofs.«01_k».proof.Proof.Gen.MergeRefIdeal.Run
public import proofs.«01_k».proof.Defs
public import proofs.«01_k».proof.Proof.Prod
public import Idealize.ShloMosaic.Lib.IdealHost
public import Idealize.ShloMosaic.Lib.Quiescent
public import Idealize.ShloMosaic.Adequacy
public import Idealize.ShloMosaic.Init

@[expose] public section

set_option maxRecDepth 65536

/-! The gradient of the gated sum of three branches: six results, for the branches and for their gates, each one formula of a branch, its
gate and the cotangent. All windows move together, so that a block of a result is the formula of the arguments' blocks at one place. -/

noncomputable section

open Idealize.ShloMosaic Idealize.ShloMosaic.TcCoe Idealize.SL.Sem Idealize.ShloMosaic.StableHlo

namespace Cert.MergeIdeal.Rows

open Cert.MergeIdeal Cert.MergeIdeal.Gen

/-- The gradient of a branch, from its gate and the cotangent. -/
abbrev gradY {s : Shape} (g dy : FVec Ideal s .f32) : FVec Ideal s .f32 := mulf (logistic g) dy

/-- The gradient of a gate, from its branch, the gate and the cotangent. -/
abbrev gradG {s : Shape} (y g dy : FVec Ideal s .f32) : FVec Ideal s .f32 :=
  mulf (mulf dy y) (mulf (logistic g) (subf (broadcast s (Scalar.ofBits .f32 0x3F800000#32)) (logistic g)))

/-- What a point leaves for a branch is the formula of its blocks. -/
theorem payY (g dy : Vec Ideal S512x512 .f32) : k0_pay10 (F := Ideal) g dy = gradY g dy :=
  congrArg (gradY (s := S512x512) g) (shapeCast_self (α := Ideal .f32) dy shapeCasts_S512x512_S512x512)

/-- What a point leaves for a gate is the formula of its blocks. -/
theorem payG (y g dy : Vec Ideal S512x512 .f32) : k0_pay11 (F := Ideal) y g dy = gradG y g dy :=
  congrArg (gradG (s := S512x512) y g) (shapeCast_self (α := Ideal .f32) dy shapeCasts_S512x512_S512x512)

variable (m : (ℓ : Loc nD τ sig) → Buf (Elt Ideal) ℓ) (c : Dev nD)

abbrev Y0 : FVec Ideal S8192x2048 .f32 := m (c.tc.loc main_arg0)
abbrev Y1 : FVec Ideal S8192x2048 .f32 := m (c.tc.loc main_arg1)
abbrev Y2 : FVec Ideal S8192x2048 .f32 := m (c.tc.loc main_arg2)
abbrev G0 : FVec Ideal S8192x2048 .f32 := m (c.tc.loc main_arg3)
abbrev G1 : FVec Ideal S8192x2048 .f32 := m (c.tc.loc main_arg4)
abbrev G2 : FVec Ideal S8192x2048 .f32 := m (c.tc.loc main_arg5)
abbrev Dy : FVec Ideal S8192x2048 .f32 := m (c.tc.loc main_arg6)

/-- The place in the arrays of a block's element at a point. -/
abbrev place (t : Fin cfg0.N) (y : S512x512.Idx) : S8192x2048.Idx := ((cfg0.win 7).blk t).view.emb y

variable (t : Fin cfg0.N) (y : S512x512.Idx)

theorem blk0 : (iblk m c 0 t : FVec Ideal S512x512 .f32) y = Y0 m c (place t y) :=
  (View.read_apply ..).trans (congrFun (V_main_arg0 m c) _)
theorem blk1 : (iblk m c 1 t : FVec Ideal S512x512 .f32) y = Y1 m c (place t y) :=
  (View.read_apply ..).trans (congrFun (V_main_arg1 m c) _)
theorem blk2 : (iblk m c 2 t : FVec Ideal S512x512 .f32) y = Y2 m c (place t y) :=
  (View.read_apply ..).trans (congrFun (V_main_arg2 m c) _)
theorem blk3 : (iblk m c 3 t : FVec Ideal S512x512 .f32) y = G0 m c (place t y) :=
  (View.read_apply ..).trans (congrFun (V_main_arg3 m c) _)
theorem blk4 : (iblk m c 4 t : FVec Ideal S512x512 .f32) y = G1 m c (place t y) :=
  (View.read_apply ..).trans (congrFun (V_main_arg4 m c) _)
theorem blk5 : (iblk m c 5 t : FVec Ideal S512x512 .f32) y = G2 m c (place t y) :=
  (View.read_apply ..).trans (congrFun (V_main_arg5 m c) _)
theorem blk6 : (iblk m c 6 t : FVec Ideal S512x512 .f32) y = Dy m c (place t y) :=
  (View.read_apply ..).trans (congrFun (V_main_arg6 m c) _)

theorem same7 : ((dats m 0 c).arrAt 7 cfg0.N : FVec Ideal S8192x2048 .f32) = gradY (G0 m c) (Dy m c) := by
  refine (dats m 0 c).arrAt_eq_of_covers 7 (gradY (G0 m c) (Dy m c)) (by decide +kernel) fun t hf y => ?_
  blk_simp
  rw [after0_7]
  frame_out
  exact (congrFun (payY _ _) y).trans (congrArg₂ (fun g d => FloatOps.mulf (FloatOps.logistic g) d) (blk3 m c t y) (blk6 m c t y))

theorem same8 : ((dats m 0 c).arrAt 8 cfg0.N : FVec Ideal S8192x2048 .f32) = gradY (G1 m c) (Dy m c) := by
  refine (dats m 0 c).arrAt_eq_of_covers 8 (gradY (G1 m c) (Dy m c)) (by decide +kernel) fun t hf y => ?_
  blk_simp
  rw [after0_8]
  frame_out
  exact (congrFun (payY _ _) y).trans (congrArg₂ (fun g d => FloatOps.mulf (FloatOps.logistic g) d) (blk4 m c t y) (blk6 m c t y))

theorem same9 : ((dats m 0 c).arrAt 9 cfg0.N : FVec Ideal S8192x2048 .f32) = gradY (G2 m c) (Dy m c) := by
  refine (dats m 0 c).arrAt_eq_of_covers 9 (gradY (G2 m c) (Dy m c)) (by decide +kernel) fun t hf y => ?_
  blk_simp
  rw [after0_9]
  frame_out
  exact (congrFun (payY _ _) y).trans (congrArg₂ (fun g d => FloatOps.mulf (FloatOps.logistic g) d) (blk5 m c t y) (blk6 m c t y))

/-- The formula for a gate, at blocks and at arrays whose values agree at one place each. -/
theorem gateAt {s s' : Shape} {y g d : FVec Ideal s .f32} {y' g' d' : FVec Ideal s' .f32} (i : s.Idx) (j : s'.Idx)
    (hy : y i = y' j) (hg : g i = g' j) (hd : d i = d' j) : gradG y g d i = gradG y' g' d' j := by
  pointwise
  rw [hy, hg, hd]

theorem same10 : ((dats m 0 c).arrAt 10 cfg0.N : FVec Ideal S8192x2048 .f32) = gradG (Y0 m c) (G0 m c) (Dy m c) := by
  refine (dats m 0 c).arrAt_eq_of_covers 10 (gradG (Y0 m c) (G0 m c) (Dy m c)) (by decide +kernel) fun t hf y => ?_
  blk_simp
  rw [after0_10]
  frame_out
  exact (congrFun (payG _ _ _) y).trans (gateAt _ _ (blk0 m c t y) (blk3 m c t y) (blk6 m c t y))

theorem same11 : ((dats m 0 c).arrAt 11 cfg0.N : FVec Ideal S8192x2048 .f32) = gradG (Y1 m c) (G1 m c) (Dy m c) := by
  refine (dats m 0 c).arrAt_eq_of_covers 11 (gradG (Y1 m c) (G1 m c) (Dy m c)) (by decide +kernel) fun t hf y => ?_
  blk_simp
  rw [after0_11]
  frame_out
  exact (congrFun (payG _ _ _) y).trans (gateAt _ _ (blk1 m c t y) (blk4 m c t y) (blk6 m c t y))

theorem same12 : ((dats m 0 c).arrAt 12 cfg0.N : FVec Ideal S8192x2048 .f32) = gradG (Y2 m c) (G2 m c) (Dy m c) := by
  refine (dats m 0 c).arrAt_eq_of_covers 12 (gradG (Y2 m c) (G2 m c) (Dy m c)) (by decide +kernel) fun t hf y => ?_
  blk_simp
  rw [after0_12]
  frame_out
  exact (congrFun (payG _ _ _) y).trans (gateAt _ _ (blk2 m c t y) (blk5 m c t y) (blk6 m c t y))

end Cert.MergeIdeal.Rows

namespace Cert.Merge.Rows

open Cert.MergeIdeal.Rows

/-- The facts of the kernel as it runs. -/
theorem facts : Cert.Merge.Facts where
  toFacts₀ := { Cert.MergeIdeal.Gen.facts₀ with }

/-- No constant of this kernel is named: its body is the ideal program's. -/
theorem body_eq : @Cert.Merge.defs₀ Bits _ facts = Cert.MergeIdeal.defs₀ := by
  refine congrArg Defs.onTc (funext fun l => funext fun x => ?_)
  match l, x with
  | 0, (t, s) => rfl

theorem frame_p : Cert.quiescent_Merge (hMerge := facts) := fun m ρ _ => by
  unfold Cert.Merge.defs
  rw [body_eq]
  exact Cert.MergeIdeal.Gen.frame (F := Bits) m ρ

theorem frame_pi : Cert.quiescent_MergeIdeal (hMergeIdeal := Cert.MergeIdeal.Gen.facts) := fun m ρ _ => Cert.MergeIdeal.Gen.frame m ρ

theorem frame_ri : Cert.quiescent_MergeRefIdeal (hMergeRefIdeal := Cert.MergeRefIdeal.Gen.facts) := fun m ρ _ =>
  (θ_run Cert.MergeRefIdeal.defs _ _).mono (fun r h => ⟨fun c => (h c).2.2.2.2.2.2, sem_eq_zero_of_no_sems (by decide) r.2⟩)
    (Cert.MergeRefIdeal.Value.run (F := Ideal) m ρ)

section Reference

open Cert.MergeRefIdeal Cert.MergeRefIdeal.Gen

/-- The logistic function as the reference writes it. -/
abbrev sigma (g : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf g)))

/-- The reference's gradient of a branch. -/
theorem refY (g dy : FVec Ideal S8192x2048 .f32) : mulf (sigma g) (shapeCast S8192x2048 dy shapeCasts_S8192x2048_S8192x2048) = gradY g dy := by
  rw [shapeCast_self]
  funext i
  pointwise
  rfl

/-- The reference's gradient of a gate. -/
theorem refG (y g dy : FVec Ideal S8192x2048 .f32) : mulf (mulf (shapeCast S8192x2048 dy shapeCasts_S8192x2048_S8192x2048) y)
    (mulf (sigma g) (subf (broadcastInDim S8192x2048 ![] bcast_S_S8192x2048 (constant S_ .f32 0x3F800000#32)) (sigma g))) = gradG y g dy := by
  rw [shapeCast_self]
  funext i
  pointwise
  rfl

end Reference

theorem algebraic : Cert.algebraic_MergeIdeal_MergeRefIdeal (hMergeIdeal := Cert.MergeIdeal.Gen.facts) (hMergeRefIdeal := Cert.MergeRefIdeal.Gen.facts) := by
  intro m ρ m' ρ' _ hagree
  refine ⟨_, _, _, _, _, _, Cert.MergeIdeal.Value.run_blocks (F := Ideal) m ρ, (θ_run Cert.MergeRefIdeal.defs _ _).mono
    (fun _ h c => ?_) (Cert.MergeRefIdeal.Value.run (F := Ideal) m' ρ')⟩
  obtain ⟨h0, h1, h2, h3, h4, h5, h6⟩ := hagree c
  obtain ⟨r0, r1, r2, r3, r4, r5, kept⟩ := h c
  exact ⟨r0.trans ((refY _ _).trans ((congrArg₂ gradY h3 h6).trans (same7 m c).symm)),
    r1.trans ((refY _ _).trans ((congrArg₂ gradY h4 h6).trans (same8 m c).symm)),
    r2.trans ((refY _ _).trans ((congrArg₂ gradY h5 h6).trans (same9 m c).symm)),
    r3.trans ((refG _ _ _).trans ((congr (congrArg₂ gradG h0 h3) h6).trans (same10 m c).symm)),
    r4.trans ((refG _ _ _).trans ((congr (congrArg₂ gradG h1 h4) h6).trans (same11 m c).symm)),
    r5.trans ((refG _ _ _).trans ((congr (congrArg₂ gradG h2 h5) h6).trans (same12 m c).symm)), kept⟩

end Cert.Merge.Rows
-- ==== Proof.NormFwd.lean ====
module

public import proofs.«01_k».proof.Proof.Gen.NormFwdIdeal.Value
public import proofs.«01_k».proof.Proof.Gen.NormFwdRefIdeal.Run
public import proofs.«01_k».proof.Defs
public import proofs.«01_k».proof.Proof.Rows
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The RMS norm over rows of 2048 lanes. Each point takes 128 rows, and a row's result needs that row alone. -/

noncomputable section

open Idealize.ShloMosaic Idealize.ShloMosaic.TcCoe Idealize.SL.Sem Idealize.ShloMosaic.StableHlo

namespace Cert.NormFwdIdeal.Rows

open Cert.NormFwdIdeal Cert.NormFwdIdeal.Gen Cert.Prod Cert.Rows

/-- The row's length, 2048. -/
abbrev len : BitVec 32 := 0x45000000#32

/-- What a point leaves for its rows. -/
theorem pay_at (w : Vec Ideal S1x2048 .f32) (x : Vec Ideal S128x2048 .f32) (p : Fin 128) (k : Fin 2048) :
    k0_pay1 w x (ix2 p k) = gradW len (fun j => x (ix2 p j)) (x (ix2 p k)) (w (ix2 0 k)) := by
  pointwise [k0_pay1]
  rfl

variable (m : (ℓ : Loc nD τ sig) → Buf (Elt Ideal) ℓ) (c : Dev nD)

abbrev W : FVec Ideal S2048 .f32 := m (c.tc.loc main_arg0)
abbrev X : FVec Ideal S8192x2048 .f32 := m (c.tc.loc main_arg1)

/-- The weight as the call reads it. -/
theorem V_w : (V m c main_v0 : FVec Ideal S1x2048 .f32) = broadcastInDim S1x2048 ![1] bcast_S2048_S1x2048_1 (W m c) := by
  entry_read
  rfl

theorem idx_facts : ∀ t : Fin grid0.N, (win0_0.index t (0 : Fin 2) = 0 ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0) := by
  decide +kernel

variable (t : Fin cfg0.N)

/-- The weight's block is the whole weight. -/
theorem blk0 (j : Fin 2048) : (iblk m c 0 t : FVec Ideal S1x2048 .f32) (ix2 0 j) = W m c (ix1 j) := by
  obtain ⟨⟨e0, e1⟩, _⟩ := idx_facts t
  refine (View.read_apply ..).trans ((congrFun (V_w m c) _).trans ((at2 _ _ (r := 0) (c := j) ?_ ?_).trans ?_))
  · show win0_0.index t (0 : Fin 2) * 1 + 1 * 0 = 0; omega
  · show win0_0.index t (1 : Fin 2) * 2048 + 1 * j.val = j.val; omega
  · pointwise

/-- A block's row of the argument. -/
theorem blk1 (p : Fin 128) (j : Fin 2048) (r : Fin 8192) (h : t.val * 128 + p.val = r.val) :
    (iblk m c 1 t : FVec Ideal S128x2048 .f32) (ix2 p j) = X m c (ix2 r j) := by
  obtain ⟨_, ⟨e0, e1⟩, _⟩ := idx_facts t
  refine (View.read_apply ..).trans ((congrFun (V_main_arg1 m c) _).trans (at2 (X m c) _ ?_ ?_))
  · show win0_1.index t (0 : Fin 2) * 128 + 1 * p.val = r.val; omega
  · show win0_1.index t (1 : Fin 2) * 2048 + 1 * j.val = j.val; omega

/-- The normalized rows after the run. -/
theorem same : (dats m 0 c).arrAt 2 cfg0.N = fun i : S8192x2048.Idx => gradW len (fun j => X m c (ix2 (i 0) j)) (X m c (ix2 (i 0) (i 1))) (W m c (ix1 (i 1))) := by
  refine (dats m 0 c).arrAt_eq_of_covers 2 _ (by decide +kernel) fun t hf y => ?_
  blk_simp
  rw [after0_2]
  frame_out
  obtain ⟨_, _, e0, e1⟩ := idx_facts t
  obtain ⟨p, k, rfl⟩ : ∃ (p : Fin 128) (k : Fin 2048), y = ix2 p k := ⟨_, _, eq_ix2 y⟩
  have hr : t.val * 128 + p.val = (((cfg0.win 2).blk t).view.emb (ix2 p k) 0).val := by
    show _ = win0_2.index t (0 : Fin 2) * 128 + 1 * p.val; omega
  have hk : ((cfg0.win 2).blk t).view.emb (ix2 p k) 1 = k := Fin.ext (by show win0_2.index t (1 : Fin 2) * 2048 + 1 * k.val = k.val; omega)
  refine (pay_at _ _ p k).trans ?_
  rw [hk]
  simp only [blk0 m c t, blk1 m c t p _ _ hr]

end Cert.NormFwdIdeal.Rows

namespace Cert.NormFwd.Rows

open Cert.NormFwdIdeal.Rows

/-- The facts of the kernel as it runs. -/
theorem facts : Cert.NormFwd.Facts where
  toFacts₀ := { Cert.NormFwdIdeal.Gen.facts₀ with }

/-- No constant of this kernel is named: its body is the ideal program's. -/
theorem body_eq : @Cert.NormFwd.defs₀ Bits _ facts = Cert.NormFwdIdeal.defs₀ := by
  refine congrArg Defs.onTc (funext fun l => funext fun x => ?_)
  match l, x with
  | 0, (t, s) => rfl

theorem frame_p : Cert.quiescent_NormFwd (hNormFwd := facts) := fun m ρ _ => by
  unfold Cert.NormFwd.defs
  rw [body_eq]
  exact Cert.NormFwdIdeal.Gen.frame (F := Bits) m ρ

theorem frame_pi : Cert.quiescent_NormFwdIdeal (hNormFwdIdeal := Cert.NormFwdIdeal.Gen.facts) := fun m ρ _ => Cert.NormFwdIdeal.Gen.frame m ρ

theorem frame_ri : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem algebraic : Cert.algebraic_NormFwdIdeal_NormFwdRefIdeal (hNormFwdIdeal := Cert.NormFwdIdeal.Gen.facts) (hNormFwdRefIdeal := Cert.NormFwdRefIdeal.Gen.facts) := by
  intro m ρ m' ρ' _ hagree
  refine ⟨_, Cert.NormFwdIdeal.Value.run_blocks (F := Ideal) m ρ, (θ_run Cert.NormFwdRefIdeal.defs _ _).mono
    (fun _ h c => ⟨(h c).1.trans ?_, (h c).2⟩) (Cert.NormFwdRefIdeal.Value.run (F := Ideal) m' ρ')⟩
  obtain ⟨h0, h1⟩ := hagree c
  rw [h0, h1]
  refine Eq.trans ?_ (same m c).symm
  refine Cert.Prod.ext2 fun p k => ?_
  pointwise
  rfl

end Cert.NormFwd.Rows

end
-- ==== Proof.HgrnOutFwd.lean ====
module

public import proofs.«01_k».proof.Proof.Gen.HgrnOutFwdIdeal.Value
public import proofs.«01_k».proof.Proof.Gen.HgrnOutFwdRefIdeal.Run
public import proofs.«01_k».proof.Defs
public import proofs.«01_k».proof.Proof.Rows
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! HGRN2's output norm with its gate. Each point takes one head's 128 lanes of 2048 rows. -/

noncomputable section

open Idealize.ShloMosaic Idealize.ShloMosaic.TcCoe Idealize.SL.Sem Idealize.ShloMosaic.StableHlo

namespace Cert.HgrnOutFwdIdeal.Rows

open Cert.HgrnOutFwdIdeal Cert.HgrnOutFwdIdeal.Gen Cert.Prod Cert.Rows

/-- The row's length, 128. -/
abbrev len : BitVec 32 := 0x43000000#32

/-- What a point leaves for its rows. -/
theorem pay_at (w : Vec Ideal S1x128 .f32) (x g : Vec Ideal S2048x128 .f32) (p : Fin 2048) (k : Fin 128) :
    k0_pay1 w x g (ix2 p k) = gradW len (fun j => x (ix2 p j)) (x (ix2 p k)) (w (ix2 0 k)) * (g (ix2 p k) * sigma (g (ix2 p k))) := by
  pointwise [k0_pay1]
  rfl

variable (m : (ℓ : Loc nD τ sig) → Buf (Elt Ideal) ℓ) (c : Dev nD)

abbrev W : FVec Ideal S2048 .f32 := m (c.tc.loc main_arg0)
abbrev X : FVec Ideal S8192x2048 .f32 := m (c.tc.loc main_arg1)
abbrev G : FVec Ideal S8192x2048 .f32 := m (c.tc.loc main_arg2)

/-- Lane `j` of head `h`. -/
abbrev lane (h : Fin 16) (j : Fin 128) : Fin 2048 := ⟨h.val * 128 + j.val, by omega⟩

/-- The head of a lane. -/
abbrev head (k : Fin 2048) : Fin 16 := ⟨k.val / 128, by omega⟩

/-- The weight as the call reads it. -/
theorem V_w : (V m c main_v0 : FVec Ideal S1x2048 .f32) = broadcastInDim S1x2048 ![1] bcast_S2048_S1x2048_1 (W m c) := by
  entry_read
  rfl

theorem idx_facts : ∀ t : Fin grid0.N, (win0_0.index t (0 : Fin 2) = 0 ∧ win0_0.index t (1 : Fin 2) = t.val / 4)
    ∧ (win0_1.index t (0 : Fin 2) = t.val % 4 ∧ win0_1.index t (1 : Fin 2) = t.val / 4) := by
  decide +kernel

variable (t : Fin cfg0.N)

/-- The weight's block. -/
theorem blk0 (j : Fin 128) (k : Fin 2048) (hk : t.val / 4 * 128 + j.val = k.val) : (iblk m c 0 t : FVec Ideal S1x128 .f32) (ix2 0 j) = W m c (ix1 k) := by
  obtain ⟨⟨e0, e1⟩, _⟩ := idx_facts t
  refine (View.read_apply ..).trans ((congrFun (V_w m c) _).trans ((at2 _ _ (r := 0) (c := k) ?_ ?_).trans ?_))
  · show win0_0.index t (0 : Fin 2) * 1 + 1 * 0 = 0; omega
  · show win0_0.index t (1 : Fin 2) * 128 + 1 * j.val = k.val; omega
  · pointwise

section

variable (p : Fin 2048) (j : Fin 128) (r : Fin 8192) (k : Fin 2048) (hr : t.val % 4 * 2048 + p.val = r.val) (hk : t.val / 4 * 128 + j.val = k.val)

include hr hk

/-- The place of a block's element in the arrays. All the windows but the weight's move together. -/
theorem place : ((cfg0.win 1).blk t).view.emb (ix2 p j) = ix2 r k := by
  obtain ⟨_, e0, e1⟩ := idx_facts t
  refine (eq_ix2 _).trans (congrArg₂ ix2 (Fin.ext ?_) (Fin.ext ?_))
  · show win0_1.index t (0 : Fin 2) * 2048 + 1 * p.val = r.val; omega
  · show win0_1.index t (1 : Fin 2) * 128 + 1 * j.val = k.val; omega

theorem blk1 : (iblk m c 1 t : FVec Ideal S2048x128 .f32) (ix2 p j) = X m c (ix2 r k) :=
  (View.read_apply ..).trans ((congrFun (V_main_arg1 m c) _).trans (congrArg (X m c) (place t p j r k hr hk)))
theorem blk2 : (iblk m c 2 t : FVec Ideal S2048x128 .f32) (ix2 p j) = G m c (ix2 r k) :=
  (View.read_apply ..).trans ((congrFun (V_main_arg2 m c) _).trans (congrArg (G m c) (place t p j r k hr hk)))

end

/-- The result at a place of the arrays. -/
def res (r : Fin 8192) (k : Fin 2048) : EReal :=
  gradW len (fun j => X m c (ix2 r (lane (head k) j))) (X m c (ix2 r k)) (W m c (ix1 k)) * (G m c (ix2 r k) * sigma (G m c (ix2 r k)))

/-- What a point leaves at a place of the arrays. -/
theorem at_place (p : Fin 2048) (j : Fin 128) (r : Fin 8192) (k : Fin 2048) (hr : t.val % 4 * 2048 + p.val = r.val) (hk : t.val / 4 * 128 + j.val = k.val) :
    k0_pay1 (F := Ideal) (iblk m c 0 t) (iblk m c 1 t) (iblk m c 2 t) (ix2 p j) = res m c r k := by
  have hl : ∀ l : Fin 128, t.val / 4 * 128 + l.val = (lane (head k) l).val := fun l => by dsimp only; omega
  refine (pay_at _ _ _ p j).trans ?_
  simp only [res, blk0 m c t j k hk, blk1 m c t p j r k hr hk, blk2 m c t p j r k hr hk,
    fun l => blk1 m c t p l r _ hr (hl l), fun l => blk2 m c t p l r _ hr (hl l)]

/-- The result after the run. -/
theorem same : (dats m 0 c).arrAt 3 cfg0.N = fun i : S8192x2048.Idx => res m c (i 0) (i 1) := by
  refine (dats m 0 c).arrAt_eq_of_covers 3 _ (by decide +kernel) fun t hf y => ?_
  blk_simp
  rw [after0_3]
  frame_out
  obtain ⟨_, e0, e1⟩ := idx_facts t
  obtain ⟨p, j, rfl⟩ : ∃ (p : Fin 2048) (j : Fin 128), y = ix2 p j := ⟨_, _, eq_ix2 y⟩
  refine at_place m c t p j _ _ ?_ ?_
  · show _ = win0_1.index t (0 : Fin 2) * 2048 + 1 * p.val; omega
  · show _ = win0_1.index t (1 : Fin 2) * 128 + 1 * j.val; omega

end Cert.HgrnOutFwdIdeal.Rows

namespace Cert.HgrnOutFwd.Rows

open Cert.HgrnOutFwdIdeal.Rows

/-- The facts of the kernel as it runs. -/
theorem facts : Cert.HgrnOutFwd.Facts where
  toFacts₀ := { Cert.HgrnOutFwdIdeal.Gen.facts₀ with }

/-- No constant of this kernel is named: its body is the ideal program's. -/
theorem body_eq : @Cert.HgrnOutFwd.defs₀ Bits _ facts = Cert.HgrnOutFwdIdeal.defs₀ := by
  refine congrArg Defs.onTc (funext fun l => funext fun x => ?_)
  match l, x with
  | 0, (t, s) => rfl

theorem frame_p : Cert.quiescent_HgrnOutFwd (hHgrnOutFwd := facts) := fun m ρ _ => by
  unfold Cert.HgrnOutFwd.defs
  rw [body_eq]
  exact Cert.HgrnOutFwdIdeal.Gen.frame (F := Bits) m ρ

theorem frame_pi : Cert.quiescent_HgrnOutFwdIdeal (hHgrnOutFwdIdeal := Cert.HgrnOutFwdIdeal.Gen.facts) := fun m ρ _ => Cert.HgrnOutFwdIdeal.Gen.frame m ρ

theorem frame_ri : Cert.quiescent_HgrnOutFwdRefIdeal (hHgrnOutFwdRefIdeal := Cert.HgrnOutFwdRefIdeal.Gen.facts) := fun m ρ _ =>
  (θ_run Cert.HgrnOutFwdRefIdeal.defs _ _).mono (fun r h => ⟨fun c => (h c).2, sem_eq_zero_of_no_sems (by decide) r.2⟩)
    (Cert.HgrnOutFwdRefIdeal.Value.run (F := Ideal) m ρ)

theorem algebraic : Cert.algebraic_HgrnOutFwdIdeal_HgrnOutFwdRefIdeal (hHgrnOutFwdIdeal := Cert.HgrnOutFwdIdeal.Gen.facts) (hHgrnOutFwdRefIdeal := Cert.HgrnOutFwdRefIdeal.Gen.facts) := by
  intro m ρ m' ρ' _ hagree
  refine ⟨_, Cert.HgrnOutFwdIdeal.Value.run_blocks (F := Ideal) m ρ, (θ_run Cert.HgrnOutFwdRefIdeal.defs _ _).mono
    (fun _ h c => ⟨(h c).1.trans ?_, (h c).2⟩) (Cert.HgrnOutFwdRefIdeal.Value.run (F := Ideal) m' ρ')⟩
  obtain ⟨h0, h1, h2⟩ := hagree c
  rw [h0, h1, h2]
  refine Eq.trans ?_ (same m c).symm
  refine Cert.Prod.ext2 fun p k => ?_
  pointwise
  rfl

end Cert.HgrnOutFwd.Rows

end
-- ==== Proof.SsmNormFwd.lean ====
module

public import proofs.«01_k».proof.Proof.Gen.SsmNormFwdIdeal.Value
public import proofs.«01_k».proof.Proof.Gen.SsmNormFwdRefIdeal.Run
public import proofs.«01_k».proof.Defs
public import proofs.«01_k».proof.Proof.Rows
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The Mamba-2 output's gated norm. Each point takes one group's 512 lanes of 512 rows. -/

noncomputable section

open Idealize.ShloMosaic Idealize.ShloMosaic.TcCoe Idealize.SL.Sem Idealize.ShloMosaic.StableHlo

namespace Cert.SsmNormFwdIdeal.Rows

open Cert.SsmNormFwdIdeal Cert.SsmNormFwdIdeal.Gen Cert.Prod Cert.Rows

/-- The row's length, 512. -/
abbrev len : BitVec 32 := 0x44000000#32

/-- The gated argument, which is normalized. -/
abbrev gated {a b : ℕ} (x g : (⟨2, ![a, b]⟩ : Shape).Idx → EReal) (r : Fin a) (k : Fin b) : EReal := x (ix2 r k) * (g (ix2 r k) * sigma (g (ix2 r k)))

/-- What a point leaves for its rows. -/
theorem pay_at (w : Vec Ideal S1x512 .f32) (x g : Vec Ideal S512x512 .f32) (p : Fin 512) (k : Fin 512) :
    k0_pay1 w x g (ix2 p k) = gradW len (fun j => gated x g p j) (gated x g p k) (w (ix2 0 k)) := by
  pointwise [k0_pay1]
  rfl

variable (m : (ℓ : Loc nD τ sig) → Buf (Elt Ideal) ℓ) (c : Dev nD)

abbrev W : FVec Ideal S4096 .f32 := m (c.tc.loc main_arg0)
abbrev X : FVec Ideal S8192x4096 .f32 := m (c.tc.loc main_arg1)
abbrev G : FVec Ideal S8192x4096 .f32 := m (c.tc.loc main_arg2)

/-- Lane `j` of group `h`. -/
abbrev lane (h : Fin 8) (j : Fin 512) : Fin 4096 := ⟨h.val * 512 + j.val, by omega⟩

/-- The group of a lane. -/
abbrev group (k : Fin 4096) : Fin 8 := ⟨k.val / 512, by omega⟩

/-- The weight as the call reads it. -/
theorem V_w : (V m c main_v0 : FVec Ideal S1x4096 .f32) = broadcastInDim S1x4096 ![1] bcast_S4096_S1x4096_1 (W m c) := by
  entry_read
  rfl

theorem idx_facts : ∀ t : Fin grid0.N, (win0_0.index t (0 : Fin 2) = 0 ∧ win0_0.index t (1 : Fin 2) = t.val / 16)
    ∧ (win0_1.index t (0 : Fin 2) = t.val % 16 ∧ win0_1.index t (1 : Fin 2) = t.val / 16) := by
  decide +kernel

variable (t : Fin cfg0.N)

/-- The weight's block. -/
theorem blk0 (j : Fin 512) (k : Fin 4096) (hk : t.val / 16 * 512 + j.val = k.val) : (iblk m c 0 t : FVec Ideal S1x512 .f32) (ix2 0 j) = W m c (ix1 k) := by
  obtain ⟨⟨e0, e1⟩, _⟩ := idx_facts t
  refine (View.read_apply ..).trans ((congrFun (V_w m c) _).trans ((at2 _ _ (r := 0) (c := k) ?_ ?_).trans ?_))
  · show win0_0.index t (0 : Fin 2) * 1 + 1 * 0 = 0; omega
  · show win0_0.index t (1 : Fin 2) * 512 + 1 * j.val = k.val; omega
  · pointwise

section

variable (p : Fin 512) (j : Fin 512) (r : Fin 8192) (k : Fin 4096) (hr : t.val % 16 * 512 + p.val = r.val) (hk : t.val / 16 * 512 + j.val = k.val)

include hr hk

/-- The place of a block's element in the arrays. All the windows but the weight's move together. -/
theorem place : ((cfg0.win 1).blk t).view.emb (ix2 p j) = ix2 r k := by
  obtain ⟨_, e0, e1⟩ := idx_facts t
  refine (eq_ix2 _).trans (congrArg₂ ix2 (Fin.ext ?_) (Fin.ext ?_))
  · show win0_1.index t (0 : Fin 2) * 512 + 1 * p.val = r.val; omega
  · show win0_1.index t (1 : Fin 2) * 512 + 1 * j.val = k.val; omega

theorem blk1 : (iblk m c 1 t : FVec Ideal S512x512 .f32) (ix2 p j) = X m c (ix2 r k) :=
  (View.read_apply ..).trans ((congrFun (V_main_arg1 m c) _).trans (congrArg (X m c) (place t p j r k hr hk)))
theorem blk2 : (iblk m c 2 t : FVec Ideal S512x512 .f32) (ix2 p j) = G m c (ix2 r k) :=
  (View.read_apply ..).trans ((congrFun (V_main_arg2 m c) _).trans (congrArg (G m c) (place t p j r k hr hk)))

end

/-- The result at a place of the arrays. -/
def res (r : Fin 8192) (k : Fin 4096) : EReal :=
  gradW len (fun j => gated (X m c) (G m c) r (lane (group k) j)) (gated (X m c) (G m c) r k) (W m c (ix1 k))

/-- What a point leaves at a place of the arrays. -/
theorem at_place (p : Fin 512) (j : Fin 512) (r : Fin 8192) (k : Fin 4096) (hr : t.val % 16 * 512 + p.val = r.val) (hk : t.val / 16 * 512 + j.val = k.val) :
    k0_pay1 (F := Ideal) (iblk m c 0 t) (iblk m c 1 t) (iblk m c 2 t) (ix2 p j) = res m c r k := by
  have hl : ∀ l : Fin 512, t.val / 16 * 512 + l.val = (lane (group k) l).val := fun l => by dsimp only; omega
  refine (pay_at _ _ _ p j).trans ?_
  simp only [res, gated, blk0 m c t j k hk, blk1 m c t p j r k hr hk, blk2 m c t p j r k hr hk,
    fun l => blk1 m c t p l r _ hr (hl l), fun l => blk2 m c t p l r _ hr (hl l)]

/-- The result after the run. -/
theorem same : (dats m 0 c).arrAt 3 cfg0.N = fun i : S8192x4096.Idx => res m c (i 0) (i 1) := by
  refine (dats m 0 c).arrAt_eq_of_covers 3 _ (by decide +kernel) fun t hf y => ?_
  blk_simp
  rw [after0_3]
  frame_out
  obtain ⟨_, e0, e1⟩ := idx_facts t
  obtain ⟨p, j, rfl⟩ : ∃ (p : Fin 512) (j : Fin 512), y = ix2 p j := ⟨_, _, eq_ix2 y⟩
  refine at_place m c t p j _ _ ?_ ?_
  · show _ = win0_1.index t (0 : Fin 2) * 512 + 1 * p.val; omega
  · show _ = win0_1.index t (1 : Fin 2) * 512 + 1 * j.val; omega

end Cert.SsmNormFwdIdeal.Rows

namespace Cert.SsmNormFwd.Rows

open Cert.SsmNormFwdIdeal.Rows

/-- The facts of the kernel as it runs. -/
theorem facts : Cert.SsmNormFwd.Facts where
  toFacts₀ := { Cert.SsmNormFwdIdeal.Gen.facts₀ with }

/-- No constant of this kernel is named: its body is the ideal program's. -/
theorem body_eq : @Cert.SsmNormFwd.defs₀ Bits _ facts = Cert.SsmNormFwdIdeal.defs₀ := by
  refine congrArg Defs.onTc (funext fun l => funext fun x => ?_)
  match l, x with
  | 0, (t, s) => rfl

theorem frame_p : Cert.quiescent_SsmNormFwd (hSsmNormFwd := facts) := fun m ρ _ => by
  unfold Cert.SsmNormFwd.defs
  rw [body_eq]
  exact Cert.SsmNormFwdIdeal.Gen.frame (F := Bits) m ρ

theorem frame_pi : Cert.quiescent_SsmNormFwdIdeal (hSsmNormFwdIdeal := Cert.SsmNormFwdIdeal.Gen.facts) := fun m ρ _ => Cert.SsmNormFwdIdeal.Gen.frame m ρ

theorem frame_ri : Cert.quiescent_SsmNormFwdRefIdeal (hSsmNormFwdRefIdeal := Cert.SsmNormFwdRefIdeal.Gen.facts) := fun m ρ _ =>
  (θ_run Cert.SsmNormFwdRefIdeal.defs _ _).mono (fun r h => ⟨fun c => (h c).2, sem_eq_zero_of_no_sems (by decide) r.2⟩)
    (Cert.SsmNormFwdRefIdeal.Value.run (F := Ideal) m ρ)

theorem algebraic : Cert.algebraic_SsmNormFwdIdeal_SsmNormFwdRefIdeal (hSsmNormFwdIdeal := Cert.SsmNormFwdIdeal.Gen.facts) (hSsmNormFwdRefIdeal := Cert.SsmNormFwdRefIdeal.Gen.facts) := by
  intro m ρ m' ρ' _ hagree
  refine ⟨_, Cert.SsmNormFwdIdeal.Value.run_blocks (F := Ideal) m ρ, (θ_run Cert.SsmNormFwdRefIdeal.defs _ _).mono
    (fun _ h c => ⟨(h c).1.trans ?_, (h c).2⟩) (Cert.SsmNormFwdRefIdeal.Value.run (F := Ideal) m' ρ')⟩
  obtain ⟨h0, h1, h2⟩ := hagree c
  rw [h0, h1, h2]
  refine Eq.trans ?_ (same m c).symm
  refine Cert.Prod.ext2 fun p k => ?_
  pointwise
  rfl

end Cert.SsmNormFwd.Rows

end
-- ==== Proof.SwigluFwd.lean ====
module

public import proofs.«01_k».proof.Proof.Gen.SwigluFwdIdeal.Value
public import proofs.«01_k».proof.Proof.Gen.SwigluFwdRefIdeal.Run
public import proofs.«01_k».proof.Defs
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The SwiGLU gate: the result is one formula of the arguments at an index, on both sides. -/

noncomputable section

open Idealize.ShloMosaic Idealize.ShloMosaic.TcCoe Idealize.SL.Sem Idealize.ShloMosaic.StableHlo

namespace Cert.SwigluFwd.Rows

/-- The facts of the kernel as it runs. -/
theorem facts : Cert.SwigluFwd.Facts where
  toFacts₀ := { Cert.SwigluFwdIdeal.Gen.facts₀ with }

/-- No constant of this kernel is named: its body is the ideal program's. -/
theorem body_eq : @Cert.SwigluFwd.defs₀ Bits _ facts = Cert.SwigluFwdIdeal.defs₀ := by
  refine congrArg Defs.onTc (funext fun l => funext fun x => ?_)
  match l, x with
  | 0, (t, s) => rfl

theorem frame_p : Cert.quiescent_SwigluFwd (hSwigluFwd := facts) := fun m ρ _ => by
  unfold Cert.SwigluFwd.defs
  rw [body_eq]
  exact Cert.SwigluFwdIdeal.Gen.frame (F := Bits) m ρ

theorem frame_pi : Cert.quiescent_SwigluFwdIdeal (hSwigluFwdIdeal := Cert.SwigluFwdIdeal.Gen.facts) := fun m ρ _ => Cert.SwigluFwdIdeal.Gen.frame m ρ

theorem frame_ri : Cert.quiescent_SwigluFwdRefIdeal (hSwigluFwdRefIdeal := Cert.SwigluFwdRefIdeal.Gen.facts) := fun m ρ _ =>
  (θ_run Cert.SwigluFwdRefIdeal.defs _ _).mono (fun r h => ⟨fun c => (h c).2, sem_eq_zero_of_no_sems (by decide) r.2⟩)
    (Cert.SwigluFwdRefIdeal.Value.run (F := Ideal) m ρ)

theorem algebraic : Cert.algebraic_SwigluFwdIdeal_SwigluFwdRefIdeal (hSwigluFwdIdeal := Cert.SwigluFwdIdeal.Gen.facts) (hSwigluFwdRefIdeal := Cert.SwigluFwdRefIdeal.Gen.facts) := by
  intro m ρ m' ρ' _ hagree
  refine ⟨_, Cert.SwigluFwdIdeal.Value.run (F := Ideal) m ρ, (θ_run Cert.SwigluFwdRefIdeal.defs _ _).mono
    (fun _ h c => ⟨(h c).1.trans ?_, (h c).2⟩) (Cert.SwigluFwdRefIdeal.Value.run (F := Ideal) m' ρ')⟩
  obtain ⟨h0, h1⟩ := hagree c
  rw [h0, h1]
  funext i
  pointwise
  rfl

end Cert.SwigluFwd.Rows
-- ==== Proof.SiluFwd.lean ====
module

public import proofs.«01_k».proof.Proof.Gen.SiluFwdIdeal.Value
public import proofs.«01_k».proof.Proof.Gen.SiluFwdRefIdeal.Run
public import proofs.«01_k».proof.Defs
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The convolution's activation: the result is one formula of the argument at an index, on both sides. -/

noncomputable section

open Idealize.ShloMosaic Idealize.ShloMosaic.TcCoe Idealize.SL.Sem Idealize.ShloMosaic.StableHlo

namespace Cert.SiluFwd.Rows

/-- The facts of the kernel as it runs. -/
theorem facts : Cert.SiluFwd.Facts where
  toFacts₀ := { Cert.SiluFwdIdeal.Gen.facts₀ with }

/-- No constant of this kernel is named: its body is the ideal program's. -/
theorem body_eq : @Cert.SiluFwd.defs₀ Bits _ facts = Cert.SiluFwdIdeal.defs₀ := by
  refine congrArg Defs.onTc (funext fun l => funext fun x => ?_)
  match l, x with
  | 0, (t, s) => rfl

theorem frame_p : Cert.quiescent_SiluFwd (hSiluFwd := facts) := fun m ρ _ => by
  unfold Cert.SiluFwd.defs
  rw [body_eq]
  exact Cert.SiluFwdIdeal.Gen.frame (F := Bits) m ρ

theorem frame_pi : Cert.quiescent_SiluFwdIdeal (hSiluFwdIdeal := Cert.SiluFwdIdeal.Gen.facts) := fun m ρ _ => Cert.SiluFwdIdeal.Gen.frame m ρ

theorem frame_ri : Cert.quiescent_SiluFwdRefIdeal (hSiluFwdRefIdeal := Cert.SiluFwdRefIdeal.Gen.facts) := fun m ρ _ =>
  (θ_run Cert.SiluFwdRefIdeal.defs _ _).mono (fun r h => ⟨fun c => (h c).2, sem_eq_zero_of_no_sems (by decide) r.2⟩)
    (Cert.SiluFwdRefIdeal.Value.run (F := Ideal) m ρ)

theorem algebraic : Cert.algebraic_SiluFwdIdeal_SiluFwdRefIdeal (hSiluFwdIdeal := Cert.SiluFwdIdeal.Gen.facts) (hSiluFwdRefIdeal := Cert.SiluFwdRefIdeal.Gen.facts) := by
  intro m ρ m' ρ' _ hagree
  refine ⟨_, Cert.SiluFwdIdeal.Value.run (F := Ideal) m ρ, (θ_run Cert.SiluFwdRefIdeal.defs _ _).mono
    (fun _ h c => ⟨(h c).1.trans ?_, (h c).2⟩) (Cert.SiluFwdRefIdeal.Value.run (F := Ideal) m' ρ')⟩
  rw [show _ = _ from hagree c]
  funext i
  pointwise
  rfl

end Cert.SiluFwd.Rows
-- ==== Proof.MergeFwd.lean ====
module

public import proofs.«01_k».proof.Proof.Gen.MergeFwdIdeal.Value
public import proofs.«01_k».proof.Proof.Gen.MergeFwdRefIdeal.Run
public import proofs.«01_k».proof.Defs
public import Idealize.ShloMosaic.Lib.Pointwise
public import Idealize.ShloMosaic.Lib.IdealHost
public import Idealize.ShloMosaic.Lib.Quiescent
public import Idealize.ShloMosaic.Adequacy
public import Idealize.ShloMosaic.Init

@[expose] public section

set_option maxRecDepth 65536

/-! The gated sum of the three branches: the result is one formula of the arguments at an index, on both sides. -/

noncomputable section

open Idealize.ShloMosaic Idealize.ShloMosaic.TcCoe Idealize.SL.Sem Idealize.ShloMosaic.StableHlo

namespace Cert.MergeFwd.Rows

/-- The facts of the kernel as it runs. -/
theorem facts : Cert.MergeFwd.Facts where
  toFacts₀ := { Cert.MergeFwdIdeal.Gen.facts₀ with }

/-- No constant of this kernel is named: its body is the ideal program's. -/
theorem body_eq : @Cert.MergeFwd.defs₀ Bits _ facts = Cert.MergeFwdIdeal.defs₀ := by
  refine congrArg Defs.onTc (funext fun l => funext fun x => ?_)
  match l, x with
  | 0, (t, s) => rfl

theorem frame_p : Cert.quiescent_MergeFwd (hMergeFwd := facts) := fun m ρ _ => by
  unfold Cert.MergeFwd.defs
  rw [body_eq]
  exact Cert.MergeFwdIdeal.Gen.frame (F := Bits) m ρ

theorem frame_pi : Cert.quiescent_MergeFwdIdeal (hMergeFwdIdeal := Cert.MergeFwdIdeal.Gen.facts) := fun m ρ _ => Cert.MergeFwdIdeal.Gen.frame m ρ

theorem frame_ri : Cert.quiescent_MergeFwdRefIdeal (hMergeFwdRefIdeal := Cert.MergeFwdRefIdeal.Gen.facts) := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

theorem algebraic : Cert.algebraic_MergeFwdIdeal_MergeFwdRefIdeal (hMergeFwdIdeal := Cert.MergeFwdIdeal.Gen.facts) (hMergeFwdRefIdeal := Cert.MergeFwdRefIdeal.Gen.facts) := by
  intro m ρ m' ρ' _ hagree
  refine ⟨_, Cert.MergeFwdIdeal.Value.run (F := Ideal) m ρ, (θ_run Cert.MergeFwdRefIdeal.defs _ _).mono
    (fun _ h c => ⟨(h c).1.trans ?_, (h c).2⟩) (Cert.MergeFwdRefIdeal.Value.run (F := Ideal) m' ρ')⟩
  obtain ⟨h0, h1, h2, h3, h4, h5⟩ := hagree c
  rw [h0, h1, h2, h3, h4, h5]
  funext i
  pointwise
  rfl

end Cert.MergeFwd.Rows
-- ==== Proof.Stages.lean ====
module

public import proofs.«01_k».proof.Proof.Gen.ReferenceIdeal.Run
public import Idealize.ShloMosaic.Lib.Pointwise

@[expose] public section

set_option maxRecDepth 65536

noncomputable section

open Idealize.ShloMosaic Idealize.ShloMosaic.TcCoe Idealize.SL.Sem

namespace Cert.ReferenceIdeal.Att

open Cert.ReferenceIdeal Cert.ReferenceIdeal.Gen

variable (a0 a2 a4 : FVec Ideal S8192x16x128 .f32) (a1 : FVec Ideal S8192x16x64 .f32) (a3 : FVec Ideal S8192x64 .f32) (a5 : FVec Ideal S8192x2048 .f32)

/-- The number of each token's chunk of 64. -/
def chunkNo : IVec S8192 32 :=
  select (andi (cmpi .ne (signi (iotaInDim S8192 32 0)) (broadcastInDim S8192 ![] bcast_S_S8192 (signi (id (constantI S_ 32 64#32)))))
    (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

/-- Which keys a query sees. -/
def seen : IVec S16x8192x8192 1 :=
  broadcastInDim S16x8192x8192 ![1, 2] bcast_S8192x8192_S16x8192x8192_1_2 (cmpi .sle
    (broadcastInDim S8192x8192 ![0, 1] bcast_S1x8192_S8192x8192_0_1 (broadcastInDim S1x8192 ![1] bcast_S8192_S1x8192_1 chunkNo))
    (broadcastInDim S8192x8192 ![0, 1] bcast_S8192x1_S8192x8192_0_1 (broadcastInDim S8192x1 ![0] bcast_S8192_S8192x1_0 chunkNo)))

/-- The masked scores. -/
def score : FVec Ideal S16x8192x8192 .f32 :=
  select seen (mulf (addf (Host.dotGeneral dot_S8192x16x128_S8192x16x128_S16x8192x8192_2_2_0_0_1_1 none a0 a2)
      (Host.dotGeneral dot_S8192x16x64_S8192x16x64_S16x8192x8192_2_2_0_0_1_1 none a1 (broadcastInDim S8192x16x64 ![0, 1, 2] bcast_S8192x1x64_S8192x16x64_0_1_2 (broadcastInDim S8192x1x64 ![0, 2] bcast_S8192x64_S8192x1x64_0_2 a3))))
      (broadcastInDim S16x8192x8192 ![] bcast_S_S16x8192x8192 (constant S_ .f32 0x3D93CD3A#32)))
    (broadcastInDim S16x8192x8192 ![] bcast_S_S16x8192x8192 (id (constant S_ .f32 0xFF800000#32)))

/-- Each row's largest score. -/
def rowMax (s : FVec Ideal S16x8192x8192 .f32) : FVec Ideal S16x8192 .f32 :=
  maximumf (broadcastInDim S16x8192 ![] bcast_S_S16x8192 (constant S_ .f32 0xFF800000#32))
    (Host.reduce FloatOps.maximumf s (constant S_ .f32 0xFF800000#32) reducesTo_S16x8192x8192_S16x8192_d2 h_S_)

/-- The exponentials of the scores less their row's largest. -/
def expo (s : FVec Ideal S16x8192x8192 .f32) (x : FVec Ideal S16x8192 .f32) : FVec Ideal S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 x)))

/-- Each row's sum of exponentials. -/
def rowSum (e : FVec Ideal S16x8192x8192 .f32) : FVec Ideal S16x8192x1 .f32 :=
  broadcastInDim S16x8192x1 ![0, 1] bcast_S16x8192_S16x8192x1_0_1 (Host.reduceAdd e (constant S_ .f32 0x00000000#32) reducesTo_S16x8192x8192_S16x8192_d2 h_S_)

/-- The probabilities. -/
def prob (e : FVec Ideal S16x8192x8192 .f32) (l : FVec Ideal S16x8192x1 .f32) : FVec Ideal S16x8192x8192 .f32 :=
  Host.divf e (broadcastInDim S16x8192x8192 ![0, 1, 2] bcast_S16x8192x1_S16x8192x8192_0_1_2 l)

/-- The output's cotangent by head. -/
def cot : FVec Ideal S16x128x8192 .f32 :=
  transpose S16x128x8192 [1, 2, 0] (shapeCast S8192x16x128 a5 shapeCasts_S8192x2048_S8192x16x128) transposes_S8192x16x128_S16x128x8192_1_2_0

/-- The probabilities' cotangent. -/
def dprob : FVec Ideal S16x8192x8192 .f32 :=
  Host.dotGeneral dot_S16x128x8192_S8192x16x128_S16x8192x8192_1_2_2_0_0_1 none (cot a5) a4

/-- The row term of the softmax's gradient. -/
def rowTerm (d e : FVec Ideal S16x8192x8192 .f32) (l : FVec Ideal S16x8192x1 .f32) : FVec Ideal S16x8192 .f32 :=
  Host.reduceAdd (Host.negf (shapeCast S16x8192x1 (Host.reduceAdd (mulf (mulf d (broadcastInDim S16x8192x8192 ![0, 1, 2] bcast_S16x8192x1_S16x8192x8192_0_1_2
    (Host.divf (broadcastInDim S16x8192x1 ![] bcast_S_S16x8192x1 (constant S_ .f32 0x3F800000#32)) (mulf l l)))) e) (constant S_ .f32 0x00000000#32) reducesTo_S16x8192x8192_S16x8192_d2 h_S_) shapeCasts_S16x8192_S16x8192x1))
    (constant S_ .f32 0x00000000#32) reducesTo_S16x8192x1_S16x8192_d2 h_S_

/-- The scores' cotangent. -/
def dscore (d e : FVec Ideal S16x8192x8192 .f32) (l : FVec Ideal S16x8192x1 .f32) : FVec Ideal S16x8192x8192 .f32 :=
  mulf (select seen (mulf (addf (Host.divf d (broadcastInDim S16x8192x8192 ![0, 1, 2] bcast_S16x8192x1_S16x8192x8192_0_1_2 l))
      (broadcastInDim S16x8192x8192 ![0, 1] bcast_S16x8192_S16x8192x8192_0_1 (rowTerm d e l))) e)
    (broadcastInDim S16x8192x8192 ![] bcast_S_S16x8192x8192 (constant S_ .f32 0x00000000#32)))
    (broadcastInDim S16x8192x8192 ![] bcast_S_S16x8192x8192 (constant S_ .f32 0x3D93CD3A#32))

/-- The keys' gradient, in the kernel's lanes. -/
def keyGrad (s : FVec Ideal S16x8192x8192 .f32) : FVec Ideal S8192x4096 .bf16 :=
  truncf .bf16 (shapeCast S8192x4096 (pad S8192x16x256 ![0, 0, 0] ![0, 0, 64] ![0, 0, 0] (Value.fn_main_v70
    (transpose S8192x16x128 [1, 0, 2] (Host.dotGeneral dot_S16x8192x8192_S8192x16x128_S16x8192x128_1_0_2_2_0_1 none s a0) transposes_S16x8192x128_S8192x16x128_1_0_2)
    (transpose S8192x16x64 [1, 0, 2] (Host.dotGeneral dot_S16x8192x8192_S8192x16x64_S16x8192x64_1_0_2_2_0_1 none s a1) transposes_S16x8192x64_S8192x16x64_1_0_2))
    (sitofp .f32 (constantI S_ 32 0#32)) pads_S8192x16x192_S8192x16x256_000_000_0640 h_S_) shapeCasts_S8192x16x256_S8192x4096) bitsLt_bf16_f32

/-- The values' gradient. -/
def valGrad (p : FVec Ideal S16x8192x8192 .f32) : FVec Ideal S8192x2048 .bf16 :=
  truncf .bf16 (shapeCast S8192x2048 (transpose S8192x16x128 [2, 0, 1] (Host.dotGeneral dot_S16x128x8192_S16x8192x8192_S16x128x8192_2_1_1_2_0_0 none (cot a5) p) transposes_S16x128x8192_S8192x16x128_2_0_1) shapeCasts_S8192x16x128_S8192x2048) bitsLt_bf16_f32

end Cert.ReferenceIdeal.Att

end
-- ==== Proof.HostK.lean ====
module

public import proofs.«01_k».proof.Proof.Stages
public import proofs.«01_k».proof.Proof.Gen.KernelIdeal.Frame.Runs
public import Idealize.ShloMosaic.Lib.Claim
public import Idealize.ShloMosaic.Lib.Pipeline.Frame

@[expose] public section

set_option maxRecDepth 65536

/-! The arrays the kernel's call reads, as the host lines before the call leave them. -/

noncomputable section

open Idealize.ShloMosaic Idealize.ShloMosaic.TcCoe Idealize.SL.Sem Idealize.ShloMosaic.StableHlo

namespace Cert.KernelIdeal.Att

open Cert.KernelIdeal Cert.KernelIdeal.Gen Cert.ReferenceIdeal.Att

variable (a0 a2 a4 : FVec Ideal S8192x16x128 .f32) (a1 : FVec Ideal S8192x16x64 .f32) (a3 : FVec Ideal S8192x64 .f32) (a5 : FVec Ideal S8192x2048 .f32)

/-- Each row's largest score, as the saved statistics use it. -/
def top (s : FVec Ideal S16x8192x8192 .f32) : FVec Ideal S16x8192 .f32 :=
  Host.reduce FloatOps.maximumf s (constant S_ .f32 0xFF800000#32) reducesTo_S16x8192x8192_S16x8192_d2 h_S_

/-- The saved logarithm of each row's sum of exponentials. -/
def lse (s : FVec Ideal S16x8192x8192 .f32) : FVec Ideal S16x8192x1 .f32 :=
  addf (broadcastInDim S16x8192x1 ![0, 1] bcast_S16x8192_S16x8192x1_0_1 (top s)) (Host.log (rowSum (expo s (top s))))

/-- The forward's output. -/
def outp (p : FVec Ideal S16x8192x8192 .f32) : FVec Ideal S8192x16x128 .f32 :=
  transpose S8192x16x128 [2, 0, 1] (Host.dotGeneral dot_S8192x16x128_S16x8192x8192_S16x128x8192_0_2_2_1_1_0 none a4 p) transposes_S16x128x8192_S8192x16x128_2_0_1

/-- Each row's sum of the output times its cotangent. -/
def delta (o : FVec Ideal S8192x16x128 .f32) : FVec Ideal S16x8192x1 .f32 :=
  broadcastInDim S16x8192x1 ![0, 1] bcast_S16x8192_S16x8192x1_0_1 (transpose S16x8192 [1, 0] (Host.reduceAdd (shapeCast S8192x16x128 (mulf a5 (shapeCast S8192x2048 o shapeCasts_S8192x16x128_S8192x2048)) shapeCasts_S8192x2048_S8192x16x128) (constant S_ .f32 0x00000000#32) reducesTo_S8192x16x128_S8192x16_d2 h_S_) transposes_S8192x16_S16x8192_1_0)

/-- The packed queries: the plain lanes, the rotary lanes, zero lanes. -/
def packQ : FVec Ideal S8192x4096 .bf16 :=
  truncf .bf16 (shapeCast S8192x4096 (concatenate S8192x16x256 2 [⟨S8192x16x128, a0⟩, ⟨S8192x16x128, pad S8192x16x128 ![0, 0, 0] ![0, 0, 64] ![0, 0, 0] a1 (sitofp .f32 (constantI S_ 32 0#32)) pads_S8192x16x64_S8192x16x128_000_000_0640 h_S_⟩] concatenates_S8192x16x128_S8192x16x128_S8192x16x256_d2) shapeCasts_S8192x16x256_S8192x4096) bitsLt_bf16_f32

/-- The packed keys: the plain lanes, the rotary lanes shared by the heads, zero lanes. -/
def packK : FVec Ideal S8192x4096 .bf16 :=
  truncf .bf16 (shapeCast S8192x4096 (concatenate S8192x16x256 2 [⟨S8192x16x128, a2⟩, ⟨S8192x16x128, broadcastInDim S8192x16x128 ![0, 1, 2] bcast_S8192x1x128_S8192x16x128_0_1_2 (broadcastInDim S8192x1x128 ![0, 2] bcast_S8192x128_S8192x1x128_0_2 (pad S8192x128 ![0, 0] ![0, 64] ![0, 0] a3 (sitofp .f32 (constantI S_ 32 0#32)) pads_S8192x64_S8192x128_000_0640 h_S_))⟩] concatenates_S8192x16x128_S8192x16x128_S8192x16x256_d2) shapeCasts_S8192x16x256_S8192x4096) bitsLt_bf16_f32

/-- The packed values. -/
def packV : FVec Ideal S8192x2048 .bf16 :=
  truncf .bf16 (shapeCast S8192x2048 a4 shapeCasts_S8192x16x128_S8192x2048) bitsLt_bf16_f32

section Entry

variable (m : (ℓ : Loc nD τ sig) → Buf (Elt Ideal) ℓ) (c : Dev nD)

abbrev A0 : FVec Ideal S8192x16x128 .f32 := m (c.tc.loc main_arg0)
abbrev A1 : FVec Ideal S8192x16x64 .f32 := m (c.tc.loc main_arg1)
abbrev A2 : FVec Ideal S8192x16x128 .f32 := m (c.tc.loc main_arg2)
abbrev A3 : FVec Ideal S8192x64 .f32 := m (c.tc.loc main_arg3)
abbrev A4 : FVec Ideal S8192x16x128 .f32 := m (c.tc.loc main_arg4)
abbrev A5 : FVec Ideal S8192x2048 .f32 := m (c.tc.loc main_arg5)
/-- The masked scores of the arguments. -/
abbrev sM : FVec Ideal S16x8192x8192 .f32 := score (A0 m c) (A2 m c) (A1 m c) (A3 m c)
/-- The exponentials of the arguments' scores. -/
abbrev eM : FVec Ideal S16x8192x8192 .f32 := expo (sM m c) (rowMax (sM m c))

theorem V_v : (V m c main_v67 : FVec Ideal S8192x2048 .bf16) = packV (A4 m c) := by
  entry_read; rfl

theorem V_q : (V m c main_v63 : FVec Ideal S8192x4096 .bf16) = packQ (A0 m c) (A1 m c) := by
  entry_read; rfl

theorem V_k : (V m c main_v65 : FVec Ideal S8192x4096 .bf16) = packK (A2 m c) (A3 m c) := by
  entry_read; rfl

/-- The masked scores as the first lines of the host leave them. -/
theorem V_v14 : (V m c main_v14 : FVec Ideal S16x8192x8192 .f32) = sM m c := by
  entry_read; rfl

/-- The masked scores of the forward's own lines. -/
theorem V_v36 : (V m c main_v36 : FVec Ideal S16x8192x8192 .f32) = sM m c := by
  entry_read; rfl

/-- The lines up to the saved scores. -/
abbrev pre : List (HloOp τ sig (Elt Ideal)) := List.flatten [hostOps0, hostOps0_1, hostOps0_2, hostOps0_3]
/-- The lines from the saved logarithm to the forward's scores. -/
abbrev mid : List (HloOp τ sig (Elt Ideal)) := List.flatten [hostOps0_5, hostOps0_6, hostOps0_7]
/-- The lines after the row term. -/
abbrev post : List (HloOp τ sig (Elt Ideal)) := List.flatten [hostOps0_9, hostOps0_10, hostOps0_11, hostOps0_12]

/-- The lines of the host, in five parts. -/
theorem V_split : after (List.flatten [hostOps0, hostOps0_1, hostOps0_2, hostOps0_3, hostOps0_4, hostOps0_5, hostOps0_6, hostOps0_7, hostOps0_8, hostOps0_9, hostOps0_10, hostOps0_11, hostOps0_12]) (fun b => m (c, b))
    = after post (after hostOps0_8 (after mid (after hostOps0_4 (after pre (fun b => m (c, b)))))) := by
  rw [← after_append, ← after_append, ← after_append, ← after_append]
  simp only [pre, mid, post, List.flatten_cons, List.flatten_nil, List.append_assoc, List.nil_append, List.append_nil]

theorem V_read (b : Ref sig .tc) : V m c b = after post (after hostOps0_8 (after mid (after hostOps0_4 (after pre (fun b => m (c, b)))))) b :=
  congrFun (V_split m c) _

section Parts

variable (σ : Valuation τ sig (Elt Ideal))

theorem g4_v23 : (after hostOps0_4 σ main_v23 : FVec Ideal S16x8192x1 .f32) = lse (σ main_v14) := by
  entry_read
  unfold lse rowSum expo top
  rfl
theorem mid_v23 : after mid σ main_v23 = σ main_v23 := by rfl
theorem g8_v23 : after hostOps0_8 σ main_v23 = σ main_v23 := by rfl
theorem post_v23 : after post σ main_v23 = σ main_v23 := by rfl
theorem post_v55 : after post σ main_v55 = σ main_v55 := by rfl
theorem post_v36 : after post σ main_v36 = σ main_v36 := by rfl
theorem post_v14 : after post σ main_v14 = σ main_v14 := by rfl
theorem g8_v36 : after hostOps0_8 σ main_v36 = σ main_v36 := by rfl
theorem g8_v14 : after hostOps0_8 σ main_v14 = σ main_v14 := by rfl
theorem mid_v14 : after mid σ main_v14 = σ main_v14 := by rfl
theorem g4_v14 : after hostOps0_4 σ main_v14 = σ main_v14 := by rfl
theorem post_arg4 : after post σ main_arg4 = σ main_arg4 := by rfl
theorem post_arg5 : after post σ main_arg5 = σ main_arg5 := by rfl
theorem g8_arg4 : after hostOps0_8 σ main_arg4 = σ main_arg4 := by rfl
theorem g8_arg5 : after hostOps0_8 σ main_arg5 = σ main_arg5 := by rfl
theorem g8_v55 : (after hostOps0_8 σ main_v55 : FVec Ideal S16x8192x1 .f32) = delta (σ main_arg5) (outp (σ main_arg4) (prob (expo (σ main_v36) (rowMax (σ main_v36))) (rowSum (expo (σ main_v36) (rowMax (σ main_v36)))))) := by
  entry_read
  unfold delta outp prob rowSum expo rowMax
  rfl

end Parts

theorem V_lse : (V m c main_v23 : FVec Ideal S16x8192x1 .f32) = lse (sM m c) := by
  rw [← V_v14 m c, V_read, V_read, post_v23, g8_v23, mid_v23, g4_v23, post_v14, g8_v14, mid_v14, g4_v14]

theorem V_delta : (V m c main_v55 : FVec Ideal S16x8192x1 .f32) = delta (A5 m c) (outp (A4 m c) (prob (eM m c) (rowSum (eM m c)))) := by
  have h4 : A4 m c = after hostOps0_8 (after mid (after hostOps0_4 (after pre (fun b => m (c, b))))) main_arg4 :=
    (V_main_arg4 m c).symm.trans (by rw [V_read, post_arg4])
  have h5 : A5 m c = after hostOps0_8 (after mid (after hostOps0_4 (after pre (fun b => m (c, b))))) main_arg5 :=
    (V_main_arg5 m c).symm.trans (by rw [V_read, post_arg5])
  unfold eM
  rw [← V_v36 m c, h4, h5, V_read, V_read, post_v55, g8_v55, post_v36, g8_v36, g8_arg4, g8_arg5]

end Entry

end Cert.KernelIdeal.Att

end
-- ==== Proof.Spec.lean ====
module

public import Mathlib.Analysis.SpecialFunctions.Log.Basic
public import Mathlib.Data.EReal.Operations
public import Mathlib.Algebra.BigOperators.Fin
public import Mathlib.Algebra.BigOperators.Field
public import Mathlib.Tactic.FieldSimp

@[expose] public section

/-! The gradient of chunk-causal attention over real numbers: the scores, the softmax, and what its gradient leaves for the
keys and the values. -/

noncomputable section

namespace AttSpec

/-- The real arrays of one device: queries, keys and values by row and head, the rotary parts, and the output's cotangent. -/
structure In where
  qn : Fin 8192 → Fin 16 → Fin 128 → ℝ
  qp : Fin 8192 → Fin 16 → Fin 64 → ℝ
  kn : Fin 8192 → Fin 16 → Fin 128 → ℝ
  kr : Fin 8192 → Fin 64 → ℝ
  vv : Fin 8192 → Fin 16 → Fin 128 → ℝ
  g : Fin 8192 → Fin 2048 → ℝ

/-- The scale of the scores: the single-precision number nearest to the inverse root of 192. -/
def scale : ℝ := 9686330 / 134217728

/-- A query sees the keys of its own chunk of 64 rows and of the earlier ones. -/
abbrev ok (r c : Fin 8192) : Prop := c.val / 64 ≤ r.val / 64

/-- The sum of finitely many reals, read among the extended reals. -/
theorem coe_sum {ι : Type*} (s : Finset ι) (f : ι → ℝ) : ((∑ x ∈ s, f x : ℝ) : EReal) = ∑ x ∈ s, (f x : EReal) :=
  map_sum (⟨⟨fun x : ℝ => (x : EReal), rfl⟩, EReal.coe_add⟩ : ℝ →+ EReal) f s

/-- A sum over 256 lanes, in three groups. -/
theorem sum256 (f : Fin 256 → ℝ) : ∑ l, f l = ∑ x : Fin 128, f ⟨x.val, by omega⟩ + ∑ x : Fin 64, f ⟨128 + x.val, by omega⟩
    + ∑ x : Fin 64, f ⟨192 + x.val, by omega⟩ := by
  have h1 : ∑ l, f l = ∑ l : Fin (128 + 64 + 64), f ⟨l.val, l.isLt⟩ := rfl
  rw [h1, Fin.sum_univ_add, Fin.sum_univ_add]
  rfl

namespace In

variable (D : In)

/-- The queries in 256 lanes: plain, rotary, zero. -/
def Q (r : Fin 8192) (h : Fin 16) (l : Fin 256) : ℝ :=
  if hl : l.val < 128 then D.qn r h ⟨l.val, hl⟩ else if hp : l.val - 128 < 64 then D.qp r h ⟨l.val - 128, hp⟩ else 0

/-- The keys in 256 lanes: plain, rotary, zero. -/
def K (c : Fin 8192) (h : Fin 16) (l : Fin 256) : ℝ :=
  if hl : l.val < 128 then D.kn c h ⟨l.val, hl⟩ else if hp : l.val - 128 < 64 then D.kr c ⟨l.val - 128, hp⟩ else 0

/-- The cotangent of a head's output. -/
def G (r : Fin 8192) (h : Fin 16) (x : Fin 128) : ℝ := D.g r ⟨h.val * 128 + x.val, by omega⟩

/-- The scaled scores. -/
def S (h : Fin 16) (r c : Fin 8192) : ℝ := (∑ x, D.qn r h x * D.kn c h x + ∑ x, D.qp r h x * D.kr c x) * scale

theorem S_packed (h : Fin 16) (r c : Fin 8192) : (∑ l, D.Q r h l * D.K c h l) * scale = D.S h r c := by
  rw [sum256, S]
  congr 1
  have e1 : ∀ x : Fin 128, D.Q r h ⟨x.val, by omega⟩ * D.K c h ⟨x.val, by omega⟩ = D.qn r h x * D.kn c h x := fun x => by
    have := x.isLt
    simp [Q, K, this]
  have e2 : ∀ x : Fin 64, D.Q r h ⟨128 + x.val, by omega⟩ * D.K c h ⟨128 + x.val, by omega⟩ = D.qp r h x * D.kr c x := fun x => by
    have := x.isLt
    simp [Q, K]
  have e3 : ∀ x : Fin 64, D.Q r h ⟨192 + x.val, by omega⟩ * D.K c h ⟨192 + x.val, by omega⟩ = 0 := fun x => by
    have h1 : ¬(192 + x.val < 128) := by omega
    have h2 : ¬(192 + x.val - 128 < 64) := by omega
    simp only [Q, K, h1, h2, dif_neg, not_false_eq_true, mul_zero]
  simp only [e1, e2, e3, Finset.sum_const_zero, add_zero]

/-- The masked scores. -/
def sc (h : Fin 16) (r c : Fin 8192) : EReal := if ok r c then (D.S h r c : EReal) else ⊥

/-- A row's largest score. -/
def M (h : Fin 16) (r : Fin 8192) : ℝ := (Finset.univ.fold max (⊥ : EReal) (D.sc h r)).toReal

theorem fold_sc (h : Fin 16) (r : Fin 8192) : Finset.univ.fold max (⊥ : EReal) (D.sc h r) = (D.M h r : EReal) := by
  refine (EReal.coe_toReal ?_ ?_).symm
  · refine ne_of_lt ((Finset.fold_max_lt _).2 ⟨bot_lt_top, fun c _ => ?_⟩)
    unfold sc
    split
    · exact EReal.coe_lt_top _
    · exact bot_lt_top
  · refine ne_of_gt ((Finset.lt_fold_max _).2 (Or.inr ⟨r, Finset.mem_univ _, ?_⟩))
    rw [sc, if_pos (le_refl _)]
    exact EReal.bot_lt_coe _

/-- The exponentials. -/
def E (h : Fin 16) (r c : Fin 8192) : ℝ := if ok r c then Real.exp (D.S h r c - D.M h r) else 0

/-- A row's sum of exponentials. -/
def L (h : Fin 16) (r : Fin 8192) : ℝ := ∑ c, D.E h r c

theorem L_pos (h : Fin 16) (r : Fin 8192) : 0 < D.L h r := by
  refine Finset.sum_pos' (fun c _ => ?_) ⟨r, Finset.mem_univ _, ?_⟩
  · unfold E
    split
    · exact (Real.exp_pos _).le
    · exact le_refl _
  · rw [E, if_pos (le_refl _)]
    exact Real.exp_pos _

/-- The saved logarithm of a row's sum. -/
def lse (h : Fin 16) (r : Fin 8192) : ℝ := D.M h r + Real.log (D.L h r)

/-- The probabilities. -/
def P (h : Fin 16) (r c : Fin 8192) : ℝ := D.E h r c / D.L h r

theorem exp_lse (h : Fin 16) (r c : Fin 8192) (hc : ok r c) : Real.exp (D.S h r c - D.lse h r) = D.P h r c := by
  rw [lse, sub_add_eq_sub_sub, Real.exp_sub, Real.exp_log (D.L_pos h r), P, E, if_pos hc]

theorem P_zero (h : Fin 16) (r c : Fin 8192) (hc : ¬ok r c) : D.P h r c = 0 := by
  rw [P, E, if_neg hc, zero_div]

/-- The probabilities' cotangent. -/
def dp (h : Fin 16) (r c : Fin 8192) : ℝ := ∑ x, D.G r h x * D.vv c h x

/-- The output. -/
def O (h : Fin 16) (r : Fin 8192) (x : Fin 128) : ℝ := ∑ c, D.vv c h x * D.P h r c

/-- The row term: the output against its cotangent. -/
def del (h : Fin 16) (r : Fin 8192) : ℝ := ∑ x, D.G r h x * D.O h r x

theorem del_eq (h : Fin 16) (r : Fin 8192) : D.del h r = ∑ c, D.P h r c * D.dp h r c := by
  simp only [del, O, dp, Finset.mul_sum]
  rw [Finset.sum_comm]
  exact Finset.sum_congr rfl fun c _ => Finset.sum_congr rfl fun x _ => by ring

/-- The scores' cotangent. -/
def ds (h : Fin 16) (r c : Fin 8192) : ℝ := D.P h r c * (D.dp h r c - D.del h r) * scale

theorem ds_zero (h : Fin 16) (r c : Fin 8192) (hc : ¬ok r c) : D.ds h r c = 0 := by
  rw [ds, D.P_zero h r c hc, zero_mul, zero_mul]

/-- The scores' cotangent as the derivative of the quotient writes it. -/
theorem ds_quot (h : Fin 16) (r c : Fin 8192) :
    (D.dp h r c * (1 / D.L h r) + -∑ k, D.dp h r k * (1 * (1 / (D.L h r * D.L h r))) * D.E h r k) * D.E h r c * scale = D.ds h r c := by
  have hL : D.L h r ≠ 0 := (D.L_pos h r).ne'
  have e : ∑ k, D.dp h r k * (1 * (1 / (D.L h r * D.L h r))) * D.E h r k = D.del h r / D.L h r := by
    rw [del_eq, Finset.sum_div]
    exact Finset.sum_congr rfl fun k _ => by rw [P]; field_simp
  rw [e, ds, P]
  field_simp
  ring

/-- The keys' gradient, by lane. -/
def dk (h : Fin 16) (c : Fin 8192) (l : Fin 256) : ℝ := ∑ r, D.ds h r c * D.Q r h l

/-- The values' gradient. -/
def dv (h : Fin 16) (c : Fin 8192) (x : Fin 128) : ℝ := ∑ r, D.P h r c * D.G r h x

end In

/-- The sum of the first `n` of 8192 terms. -/
def part (T : Fin 8192 → ℝ) (n : ℕ) : ℝ := ∑ k ∈ Finset.range n, if h : k < 8192 then T ⟨k, h⟩ else 0

theorem part_zero (T : Fin 8192 → ℝ) (n : ℕ) (h : ∀ r : Fin 8192, r.val < n → T r = 0) : part T n = 0 :=
  Finset.sum_eq_zero fun k hk => by
    split
    · exact h _ (Finset.mem_range.1 hk)
    · rfl

theorem part_all (T : Fin 8192 → ℝ) : part T 8192 = ∑ r, T r := by
  rw [part, Finset.sum_range]
  exact Finset.sum_congr rfl fun x _ => by rw [dif_pos x.isLt]

theorem part_step (T : Fin 8192 → ℝ) (n : ℕ) (h : n + 512 ≤ 8192) :
    part T (n + 512) = part T n + ∑ x : Fin 512, T ⟨n + x.val, by omega⟩ := by
  have e : ∑ x ∈ Finset.range 512, (if h : n + x < 8192 then T ⟨n + x, h⟩ else 0) = ∑ x : Fin 512, T ⟨n + x.val, by omega⟩ := by
    rw [Finset.sum_range]
    exact Finset.sum_congr rfl fun x _ => by rw [dif_pos (by omega)]
  rw [part, Finset.sum_range_add, part, e]

end AttSpec

end
-- ==== Proof.Words.lean ====
module

public import Idealize.ShloMosaic.Lib.Pointwise

@[expose] public section

/-! The chunk of a row, in the words the host and the kernel compute it with. -/

open Idealize.ShloMosaic

namespace AttWords

/-- The host's floor division of a row by 64. -/
def hostChunk (n : BitVec 32) : BitVec 32 :=
  Scalar.select (IntOp.andi (IntOp.cmpi .ne (if n = 0 then 0 else if n.msb then -1 else 1) 1#32) (IntOp.cmpi .ne (IntOp.remsi ArithUnit.host n 64#32) 0#32)) (IntOp.subi (IntOp.divsi ArithUnit.host n 64#32) 1#32) (IntOp.divsi ArithUnit.host n 64#32)

/-- On the rows it is the quotient. -/
theorem hostChunk_eq : ∀ n : Fin 8192, hostChunk (BitVec.ofNat 32 n.val) = BitVec.ofNat 32 (n.val / 64) := by
  decide +kernel

/-- The kernel's floor division of a row by 64. -/
def vecChunk (x : BitVec 32) : BitVec 32 :=
  Scalar.select (IntOp.andi (IntOp.cmpi .ne (IntOp.subi (BitVec.setWidth 32 (IntOp.cmpi .sgt x 0#32)) (BitVec.setWidth 32 (IntOp.cmpi .slt x 0#32))) (Scalar.subi (Scalar.extui (Scalar.cmpi .sgt 64#32 0#32)) (Scalar.extui (Scalar.cmpi .slt 64#32 0#32)))) (IntOp.cmpi .ne (IntOp.remsi ArithUnit.vector x 64#32) 0#32)) (IntOp.subi (IntOp.divsi ArithUnit.vector x 64#32) 1#32) (IntOp.divsi ArithUnit.vector x 64#32)

/-- On the rows it is the quotient. -/
theorem vecChunk_eq : ∀ n : Fin 8192, vecChunk (BitVec.ofNat 32 n.val) = BitVec.ofNat 32 (n.val / 64) := by
  decide +kernel

/-- The order of two chunks, as words. -/
theorem sle_eq : ∀ a b : Fin 128, IntOp.cmpi .sle (BitVec.ofNat 32 a.val) (BitVec.ofNat 32 b.val) = if a.val ≤ b.val then 1#1 else 0#1 := by
  decide +kernel

/-- The chunks of two rows compared, in the kernel's words. -/
theorem vec_ok (r c : Fin 8192) : IntOp.cmpi .sle (vecChunk (BitVec.ofNat 32 c.val)) (vecChunk (BitVec.ofNat 32 r.val)) = if c.val / 64 ≤ r.val / 64 then 1#1 else 0#1 := by
  rw [vecChunk_eq, vecChunk_eq]
  exact sle_eq ⟨c.val / 64, by omega⟩ ⟨r.val / 64, by omega⟩

/-- The word of a row: a block's first row and the row within the block. -/
theorem word_at (b s n : ℕ) : IntOp.addi (Scalar.muli (BitVec.ofNat 32 b) (BitVec.ofNat 32 s)) (BitVec.ofNat 32 n) = BitVec.ofNat 32 (b * s + n) := by
  show BitVec.ofNat 32 b * BitVec.ofNat 32 s + BitVec.ofNat 32 n = _
  rw [BitVec.ofNat_add, BitVec.ofNat_mul]

/-- A choice by a decided word. -/
theorem select_ite {α : Type} (p : Prop) [Decidable p] (a b : α) : Scalar.select (if p then 1#1 else 0#1) a b = if p then a else b := by
  by_cases h : p <;> simp [h, Scalar.select]

end AttWords
-- ==== Proof.ReadR.lean ====
module

public import proofs.«01_k».proof.Proof.Stages
public import proofs.«01_k».proof.Proof.Spec
public import proofs.«01_k».proof.Proof.Words
public import Idealize.ShloMosaic.Lib.Pointwise

@[expose] public section

set_option maxRecDepth 65536

/-! The reference's stages at real arguments: each is the real array of the same name. -/

noncomputable section

open Idealize.ShloMosaic Idealize.ShloMosaic.TcCoe Idealize.SL.Sem AttSpec AttWords

namespace Cert.ReferenceIdeal.Att

open Cert.ReferenceIdeal Cert.ReferenceIdeal.Gen

/-- The six arguments hold the real arrays. -/
structure Agree (D : In) (a0 a2 a4 : FVec Ideal S8192x16x128 .f32) (a1 : FVec Ideal S8192x16x64 .f32) (a3 : FVec Ideal S8192x64 .f32) (a5 : FVec Ideal S8192x2048 .f32) : Prop where
  qn : ∀ r h x, a0 (ix3 r h x) = (D.qn r h x : EReal)
  qp : ∀ r h x, a1 (ix3 r h x) = (D.qp r h x : EReal)
  kn : ∀ r h x, a2 (ix3 r h x) = (D.kn r h x : EReal)
  kr : ∀ r x, a3 (ix2 r x) = (D.kr r x : EReal)
  vv : ∀ r h x, a4 (ix3 r h x) = (D.vv r h x : EReal)
  g : ∀ r x, a5 (ix2 r x) = (D.g r x : EReal)

theorem ofBits_scale : Ideal.ofBits .f32 1033096506#32 = (scale : EReal) := by
  rw [scale]
  simp [Ideal.ofBits, Ideal.ieee, -EReal.coe_mul]; norm_num

theorem ofBits_bot : Ideal.ofBits .f32 4286578688#32 = (⊥ : EReal) := by
  simp [Ideal.ofBits, Ideal.ieee, -EReal.coe_mul]

theorem word_zero : (FloatOps.sitofp .f32 0#32 : Ideal .f32) = ((0 : ℝ) : EReal) := by
  show (((0#32 : BitVec 32).toInt : ℝ) : EReal) = _
  simp

section
variable (a0 a2 a4 : FVec Ideal S8192x16x128 .f32) (a1 : FVec Ideal S8192x16x64 .f32) (a3 : FVec Ideal S8192x64 .f32) (a5 : FVec Ideal S8192x2048 .f32)
  (s d e p : FVec Ideal S16x8192x8192 .f32) (x : FVec Ideal S16x8192 .f32) (l : FVec Ideal S16x8192x1 .f32)
  (h : Fin 16) (r k : Fin 8192)

theorem chunkNo_at (n : Fin 8192) : chunkNo (ix1 n) = BitVec.ofNat 32 (n.val / 64) := by
  pointwise [chunkNo]
  exact hostChunk_eq n

theorem seen_at : seen (ix3 h r k) = if ok r k then 1#1 else 0#1 := by
  have e : seen (ix3 h r k) = IntOp.cmpi .sle (chunkNo (ix1 k)) (chunkNo (ix1 r)) := by pointwise [seen]
  rw [e, chunkNo_at, chunkNo_at]
  exact sle_eq ⟨k.val / 64, by omega⟩ ⟨r.val / 64, by omega⟩

theorem score_at : score a0 a2 a1 a3 (ix3 h r k) = Scalar.select (seen (ix3 h r k))
    ((∑ x, a0 (ix3 r h x) * a2 (ix3 k h x) + ∑ x, a1 (ix3 r h x) * a3 (ix2 k x)) * Ideal.ofBits .f32 1033096506#32)
    (Ideal.ofBits .f32 4286578688#32) := by
  pointwise [score]
  rfl

theorem reduce_at : Host.reduce FloatOps.maximumf s (constant S_ .f32 0xFF800000#32) reducesTo_S16x8192x8192_S16x8192_d2 h_S_ (ix2 h r)
    = Finset.univ.fold max (Ideal.ofBits .f32 4286578688#32) fun k : Fin 8192 => s (ix3 h r k) := by
  pointwise

theorem max_at (y : FVec Ideal S16x8192 .f32) : maximumf (broadcastInDim S16x8192 ![] bcast_S_S16x8192 (constant S_ .f32 0xFF800000#32)) y (ix2 h r)
    = max (Ideal.ofBits .f32 4286578688#32) (y (ix2 h r)) := by
  pointwise

theorem rowMax_at : rowMax s (ix2 h r) = max (Ideal.ofBits .f32 4286578688#32) (Finset.univ.fold max (Ideal.ofBits .f32 4286578688#32) fun k : Fin 8192 => s (ix3 h r k)) := by
  rw [← reduce_at]
  exact max_at h r _

theorem expo_at : expo s x (ix3 h r k) = Ideal.exp (s (ix3 h r k) - x (ix2 h r)) := by
  pointwise [expo]

theorem rowSum_at : rowSum e (ix3 h r 0) = ∑ x, e (ix3 h r x) := by
  pointwise [rowSum]

theorem prob_at : prob e l (ix3 h r k) = Ideal.div (e (ix3 h r k)) (l (ix3 h r 0)) := by
  pointwise [prob]

theorem dprob_at : dprob a4 a5 (ix3 h r k) = ∑ x : Fin 128, a5 (ix2 r ⟨h.val * 128 + x.val, by omega⟩) * a4 (ix3 k h x) := by
  pointwise [dprob, cot]

theorem rowTerm_at : rowTerm d e l (ix2 h r) = ∑ _x : Fin 1, -∑ k, d (ix3 h r k) * Ideal.div 1 (l (ix3 h r 0) * l (ix3 h r 0)) * e (ix3 h r k) := by
  pointwise [rowTerm]

theorem dscore_at : dscore d e l (ix3 h r k) = Scalar.select (seen (ix3 h r k))
    ((Ideal.div (d (ix3 h r k)) (l (ix3 h r 0)) + rowTerm d e l (ix2 h r)) * e (ix3 h r k)) 0 * Ideal.ofBits .f32 1033096506#32 := by
  pointwise [dscore]

theorem valGrad_at (k : Fin 8192) (l : Fin 2048) : valGrad a5 p (ix2 k l) = ∑ x, a5 (ix2 x l) * p (ix3 ⟨l.val / 128, by omega⟩ x k) := by
  pointwise [valGrad, cot]
end

section Real

variable {a0 a2 a4 : FVec Ideal S8192x16x128 .f32} {a1 : FVec Ideal S8192x16x64 .f32} {a3 : FVec Ideal S8192x64 .f32} {a5 : FVec Ideal S8192x2048 .f32}
  {D : In} (A : Agree D a0 a2 a4 a1 a3 a5) (h : Fin 16) (r k : Fin 8192)

include A

theorem score_real : score a0 a2 a1 a3 (ix3 h r k) = D.sc h r k := by
  rw [score_at, seen_at, select_ite, In.sc]
  split
  · simp only [A.qn, A.kn, A.qp, A.kr, ofBits_scale, ← EReal.coe_mul, ← coe_sum, ← EReal.coe_add, In.S]
  · exact ofBits_bot

theorem fold_real : (Finset.univ.fold max (Ideal.ofBits .f32 4286578688#32) fun k : Fin 8192 => score a0 a2 a1 a3 (ix3 h r k)) = (D.M h r : EReal) := by
  rw [← In.fold_sc, ofBits_bot]
  congr 1
  exact funext fun k => score_real A h r k

theorem rowMax_real : rowMax (score a0 a2 a1 a3) (ix2 h r) = (D.M h r : EReal) := by
  rw [rowMax_at, fold_real A, ofBits_bot]
  exact max_eq_right bot_le

theorem expo_real (x : FVec Ideal S16x8192 .f32) (hx : ∀ h r, x (ix2 h r) = (D.M h r : EReal)) :
    expo (score a0 a2 a1 a3) x (ix3 h r k) = (D.E h r k : EReal) := by
  rw [expo_at, score_real A, hx, In.sc, In.E]
  split
  · rw [← EReal.coe_sub, Ideal.exp_coe]
  · rw [EReal.bot_sub, Ideal.exp_bot]; rfl

omit A in
theorem rowSum_real {e : FVec Ideal S16x8192x8192 .f32} (he : ∀ h r k, e (ix3 h r k) = (D.E h r k : EReal)) : rowSum e (ix3 h r 0) = (D.L h r : EReal) := by
  rw [rowSum_at]
  simp only [he, ← coe_sum, In.L]

omit A in
theorem prob_real {e : FVec Ideal S16x8192x8192 .f32} (he : ∀ h r k, e (ix3 h r k) = (D.E h r k : EReal)) : prob e (rowSum e) (ix3 h r k) = (D.P h r k : EReal) := by
  rw [prob_at, rowSum_real h r he, he, Ideal.div_coe (D.L_pos h r).ne', ← EReal.coe_mul, In.P, mul_one_div]

theorem dprob_real : dprob a4 a5 (ix3 h r k) = (D.dp h r k : EReal) := by
  rw [dprob_at]
  simp only [A.g, A.vv, ← EReal.coe_mul, ← coe_sum, In.dp, In.G]

theorem dscore_real {e : FVec Ideal S16x8192x8192 .f32} (he : ∀ h r k, e (ix3 h r k) = (D.E h r k : EReal)) :
    dscore (dprob a4 a5) e (rowSum e) (ix3 h r k) = (D.ds h r k : EReal) := by
  have hL : D.L h r ≠ 0 := (D.L_pos h r).ne'
  have hR : rowTerm (dprob a4 a5) e (rowSum e) (ix2 h r) = ((-∑ k, D.dp h r k * (1 * (1 / (D.L h r * D.L h r))) * D.E h r k : ℝ) : EReal) := by
    rw [rowTerm_at]
    simp only [Finset.univ_unique, Finset.sum_singleton, rowSum_real h r he, dprob_real A, he, ← EReal.coe_mul, ← EReal.coe_one,
      Ideal.div_coe (mul_ne_zero hL hL), ← coe_sum, ← EReal.coe_neg]
  rw [dscore_at, seen_at, select_ite, hR, rowSum_real h r he, dprob_real A, he, ofBits_scale, Ideal.div_coe hL]
  split
  · rw [← EReal.coe_mul, ← EReal.coe_add, ← EReal.coe_mul, ← EReal.coe_mul, In.ds_quot]
  · rename_i hn
    rw [D.ds_zero h r k hn, zero_mul]; rfl

theorem keyGrad_real {s : FVec Ideal S16x8192x8192 .f32} (hs : ∀ h r k, s (ix3 h r k) = (D.ds h r k : EReal)) (l : Fin 4096) :
    keyGrad a0 a1 s (ix2 k l) = (D.dk ⟨l.val / 256, by omega⟩ k ⟨l.val % 256, by omega⟩ : EReal) := by
  pointwise [keyGrad, Value.fn_main_v70]
  split
  · rename_i h1
    split
    · rename_i h2
      simp only [hs, A.qn, ← EReal.coe_mul, ← coe_sum, In.dk, In.Q, h2, dif_pos]
    · rename_i h2
      have h3 : l.val % 256 - 128 < 64 := by omega
      simp only [hs, A.qp, ← EReal.coe_mul, ← coe_sum, In.dk, In.Q, h2, h3, dif_pos, dif_neg, not_false_eq_true]
  · rename_i h1
    have h2 : ¬(l.val % 256 < 128) := by omega
    have h3 : ¬(l.val % 256 - 128 < 64) := by omega
    rw [word_zero]
    simp only [In.dk, In.Q, h2, h3, dif_neg, not_false_eq_true, mul_zero, Finset.sum_const_zero]

theorem valGrad_real {p : FVec Ideal S16x8192x8192 .f32} (hp : ∀ h r k, p (ix3 h r k) = (D.P h r k : EReal)) (l : Fin 2048) :
    valGrad a5 p (ix2 k l) = (D.dv ⟨l.val / 128, by omega⟩ k ⟨l.val % 128, by omega⟩ : EReal) := by
  rw [valGrad_at]
  simp only [A.g, hp, ← EReal.coe_mul, ← coe_sum, In.dv, In.G]
  congr 1
  refine Finset.sum_congr rfl fun x _ => ?_
  rw [mul_comm]
  congr 2
  exact Fin.ext (by show l.val = l.val / 128 * 128 + l.val % 128; omega)

end Real

end Cert.ReferenceIdeal.Att

end
-- ==== Proof.Cases.lean ====
module

public import proofs.«01_k».proof.Proof.Gen.KernelIdeal.Frame
public import Idealize.ShloMosaic.Lib.Pipeline.Value

@[expose] public section

set_option maxRecDepth 16384

/-! What one grid point of the kernel leaves in its two accumulators and, at the last point of a block of keys, in its two
outputs: each case of the body's branches, as the body's own vector expressions of the blocks it loads. -/

noncomputable section

open Idealize.ShloMosaic Idealize.ShloMosaic.TcCoe Idealize.SL.Sem

namespace Cert.KernelIdeal.Att

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The probabilities of a block on the diagonal, where the mask is applied. -/
def probM (i : grid0.Coords) (q : Vec F S512x256 .bf16) (k : Vec F S1024x256 .bf16) (l : Vec F S1x512x1 .f32) : FVec F S512x1024 .f32 :=
  k0_pay13 (k0_pay8 q k) (k0_pay9 (BitVec.ofNat 32 (i 2).val)) (k0_pay10 (BitVec.ofNat 32 (i 1).val)) 64#32
    (k0_pay11 (BitVec.ofNat 32 (i 1).val)) (k0_pay12 (BitVec.ofNat 32 (i 1).val)) l

/-- The key accumulator after a block on the diagonal. -/
def keyM (i : grid0.Coords) (q : Vec F S512x256 .bf16) (k : Vec F S1024x256 .bf16) (v : Vec F S1024x128 .bf16) (l d : Vec F S1x512x1 .f32)
    (g : Vec F S512x128 .f32) (a : Vec F S1024x256 .f32) : Vec F S1024x256 .f32 :=
  k0_pay1 (probM i q k l) (k0_pay16 g v) d a q

/-- The value accumulator after a block on the diagonal. -/
def valM (i : grid0.Coords) (q : Vec F S512x256 .bf16) (k : Vec F S1024x256 .bf16) (l : Vec F S1x512x1 .f32)
    (g : Vec F S512x128 .f32) (a : Vec F S1024x128 .f32) : Vec F S1024x128 .f32 :=
  k0_pay15 (k0_pay8 q k) (k0_pay9 (BitVec.ofNat 32 (i 2).val)) (k0_pay10 (BitVec.ofNat 32 (i 1).val)) 64#32
    (k0_pay11 (BitVec.ofNat 32 (i 1).val)) (k0_pay12 (BitVec.ofNat 32 (i 1).val)) l g a

/-- The key accumulator after a block below the diagonal. -/
def keyU (q : Vec F S512x256 .bf16) (k : Vec F S1024x256 .bf16) (v : Vec F S1024x128 .bf16) (l d : Vec F S1x512x1 .f32)
    (g : Vec F S512x128 .f32) (a : Vec F S1024x256 .f32) : Vec F S1024x256 .f32 :=
  k0_pay19 a (k0_pay7 q k l g v d) q

variable (c : Dev nD) (i : grid0.Coords)
  (arg3 : Memref sig .tc .vmem S512x256 .bf16) (harg3 : arg3.IsWhole)
  (arg4 : Memref sig .tc .vmem S1024x256 .bf16) (harg4 : arg4.IsWhole)
  (arg5 : Memref sig .tc .vmem S1024x128 .bf16) (harg5 : arg5.IsWhole)
  (arg6 : Memref sig .tc .vmem S1x512x1 .f32) (harg6 : arg6.IsWhole)
  (arg7 : Memref sig .tc .vmem S1x512x1 .f32) (harg7 : arg7.IsWhole)
  (arg8 : Memref sig .tc .vmem S512x128 .f32) (harg8 : arg8.IsWhole)
  (arg9 : Memref sig .tc .vmem S1024x256 .bf16) (harg9 : arg9.IsWhole)
  (arg10 : Memref sig .tc .vmem S1024x128 .bf16) (harg10 : arg10.IsWhole)
  (arg11 : Memref sig .tc .vmem S1024x256 .f32) (harg11 : arg11.IsWhole)
  (arg12 : Memref sig .tc .vmem S1024x128 .f32) (harg12 : arg12.IsWhole)
  (x0 : Vec F S512x256 .bf16) (x1 : Vec F S1024x256 .bf16) (x2 : Vec F S1024x128 .bf16) (x3 x4 : Vec F S1x512x1 .f32) (x5 : Vec F S512x128 .f32)
  (s0 : Vec F S1024x256 .f32) (s1 : Vec F S1024x128 .f32)

/-- A first point of a block of keys that is also on the diagonal: the key accumulator. -/
theorem sout0_A_0_eq (hc0 : cond0_0 i) (hc1 : ¬cond0_1 i) (hc2 : cond0_2 i) (hc3 : ¬cond0_3 i) :
    sout0_A_0 c i arg3 harg3 arg4 harg4 arg5 harg5 arg6 harg6 arg7 harg7 arg8 harg8 arg9 harg9 arg10 harg10 arg11 harg11 arg12 harg12 hc0 hc1 hc2 hc3 x0 x1 x2 x3 x4 x5 = keyM i x0 x1 x2 x3 x4 x5 k0_pay17 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_cons_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A first point of a block of keys that is also on the diagonal: the value accumulator. -/
theorem sout0_A_1_eq (hc0 : cond0_0 i) (hc1 : ¬cond0_1 i) (hc2 : cond0_2 i) (hc3 : ¬cond0_3 i) :
    sout0_A_1 c i arg3 harg3 arg4 harg4 arg5 harg5 arg6 harg6 arg7 harg7 arg8 harg8 arg9 harg9 arg10 harg10 arg11 harg11 arg12 harg12 hc0 hc1 hc2 hc3 x0 x1 x2 x3 x4 x5 = valM i x0 x1 x3 x5 k0_pay18 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_cons_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A point on the diagonal: the key accumulator. -/
theorem sout0_B_0_eq (hc0 : ¬cond0_0 i) (hc1 : ¬cond0_1 i) (hc2 : cond0_2 i) (hc3 : ¬cond0_3 i) :
    sout0_B_0 c i arg3 harg3 arg4 harg4 arg5 harg5 arg6 harg6 arg7 harg7 arg8 harg8 arg9 harg9 arg10 harg10 arg11 harg11 arg12 harg12 hc0 hc1 hc2 hc3 x0 x1 x2 x3 x4 x5 s0 s1 = keyM i x0 x1 x2 x3 x4 x5 s0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_B
  dsimp only
  sl_unfold_words
  rw [View.canon_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A point on the diagonal: the value accumulator. -/
theorem sout0_B_1_eq (hc0 : ¬cond0_0 i) (hc1 : ¬cond0_1 i) (hc2 : cond0_2 i) (hc3 : ¬cond0_3 i) :
    sout0_B_1 c i arg3 harg3 arg4 harg4 arg5 harg5 arg6 harg6 arg7 harg7 arg8 harg8 arg9 harg9 arg10 harg10 arg11 harg11 arg12 harg12 hc0 hc1 hc2 hc3 x0 x1 x2 x3 x4 x5 s0 s1 = valM i x0 x1 x3 x5 s1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_B
  dsimp only
  sl_unfold_words
  rw [View.canon_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A point below the diagonal: the key accumulator. -/
theorem sout0_C_0_eq (hc0 : ¬cond0_0 i) (hc1 : cond0_1 i) (hc2 : ¬cond0_2 i) (hc3 : ¬cond0_3 i) :
    sout0_C_0 c i arg3 harg3 arg4 harg4 arg5 harg5 arg6 harg6 arg7 harg7 arg8 harg8 arg9 harg9 arg10 harg10 arg11 harg11 arg12 harg12 hc0 hc1 hc2 hc3 x0 x1 x2 x3 x4 x5 s0 s1 = keyU x0 x1 x2 x3 x4 x5 s0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_C
  dsimp only
  sl_unfold_words
  rw [View.canon_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A point below the diagonal: the value accumulator. -/
theorem sout0_C_1_eq (hc0 : ¬cond0_0 i) (hc1 : cond0_1 i) (hc2 : ¬cond0_2 i) (hc3 : ¬cond0_3 i) :
    sout0_C_1 c i arg3 harg3 arg4 harg4 arg5 harg5 arg6 harg6 arg7 harg7 arg8 harg8 arg9 harg9 arg10 harg10 arg11 harg11 arg12 harg12 hc0 hc1 hc2 hc3 x0 x1 x2 x3 x4 x5 s0 s1 = k0_pay6 x0 x1 x3 x5 s1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_C
  dsimp only
  sl_unfold_words
  rw [View.canon_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, below the diagonal: the key accumulator. -/
theorem sout0_D_0_eq (hc0 : ¬cond0_0 i) (hc1 : cond0_1 i) (hc2 : ¬cond0_2 i) (hc3 : cond0_3 i) :
    sout0_D_0 c i arg3 harg3 arg4 harg4 arg5 harg5 arg6 harg6 arg7 harg7 arg8 harg8 arg9 harg9 arg10 harg10 arg11 harg11 arg12 harg12 hc0 hc1 hc2 hc3 x0 x1 x2 x3 x4 x5 s0 s1 = keyU x0 x1 x2 x3 x4 x5 s0 := by
  unfold sout0_D_0
  rw [View.read_writes_eq_canon _ _ _ (scover0_D_0 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_D
  dsimp only
  sl_unfold_words
  rw [View.canon_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, below the diagonal: the value accumulator. -/
theorem sout0_D_1_eq (hc0 : ¬cond0_0 i) (hc1 : cond0_1 i) (hc2 : ¬cond0_2 i) (hc3 : cond0_3 i) :
    sout0_D_1 c i arg3 harg3 arg4 harg4 arg5 harg5 arg6 harg6 arg7 harg7 arg8 harg8 arg9 harg9 arg10 harg10 arg11 harg11 arg12 harg12 hc0 hc1 hc2 hc3 x0 x1 x2 x3 x4 x5 s0 s1 = k0_pay6 x0 x1 x3 x5 s1 := by
  unfold sout0_D_1
  rw [View.read_writes_eq_canon _ _ _ (scover0_D_1 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_D
  dsimp only
  sl_unfold_words
  rw [View.canon_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, below the diagonal: the output of the keys. -/
theorem out0_D_6_eq (hc0 : ¬cond0_0 i) (hc1 : cond0_1 i) (hc2 : ¬cond0_2 i) (hc3 : cond0_3 i) :
    out0_D_6 c i arg3 harg3 arg4 harg4 arg5 harg5 arg6 harg6 arg7 harg7 arg8 harg8 arg9 harg9 arg10 harg10 arg11 harg11 arg12 harg12 hc0 hc1 hc2 hc3 x0 x1 x2 x3 x4 x5 s0 s1 = k0_pay2 (keyU x0 x1 x2 x3 x4 x5 s0) := by
  unfold out0_D_6
  rw [View.read_writes_eq_canon _ _ _ (cover0_D_6 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_D
  dsimp only
  sl_unfold_words
  rw [View.canon_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, below the diagonal: the output of the values. -/
theorem out0_D_7_eq (hc0 : ¬cond0_0 i) (hc1 : cond0_1 i) (hc2 : ¬cond0_2 i) (hc3 : cond0_3 i) :
    out0_D_7 c i arg3 harg3 arg4 harg4 arg5 harg5 arg6 harg6 arg7 harg7 arg8 harg8 arg9 harg9 arg10 harg10 arg11 harg11 arg12 harg12 hc0 hc1 hc2 hc3 x0 x1 x2 x3 x4 x5 s0 s1 = k0_pay3 (k0_pay6 x0 x1 x3 x5 s1) := by
  unfold out0_D_7
  rw [View.read_writes_eq_canon _ _ _ (cover0_D_7 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_D
  dsimp only
  sl_unfold_words
  rw [View.canon_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A first point of a block of keys, above the diagonal: the key accumulator. -/
theorem sout0_E_0_eq (hc0 : cond0_0 i) (hc1 : ¬cond0_1 i) (hc2 : ¬cond0_2 i) (hc3 : ¬cond0_3 i) :
    sout0_E_0 c i arg3 harg3 arg4 harg4 arg5 harg5 arg6 harg6 arg7 harg7 arg8 harg8 arg9 harg9 arg10 harg10 arg11 harg11 arg12 harg12 hc0 hc1 hc2 hc3 x0 x1 x2 x3 x4 x5 = k0_pay17 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_E
  dsimp only
  sl_unfold_words
  rw [View.canon_unit_zero (S := S1024x256) hz2]

/-- A first point of a block of keys, above the diagonal: the value accumulator. -/
theorem sout0_E_1_eq (hc0 : cond0_0 i) (hc1 : ¬cond0_1 i) (hc2 : ¬cond0_2 i) (hc3 : ¬cond0_3 i) :
    sout0_E_1 c i arg3 harg3 arg4 harg4 arg5 harg5 arg6 harg6 arg7 harg7 arg8 harg8 arg9 harg9 arg10 harg10 arg11 harg11 arg12 harg12 hc0 hc1 hc2 hc3 x0 x1 x2 x3 x4 x5 = k0_pay18 := by
  unfold sout0_E_1
  rw [View.read_writes_eq_canon _ _ _ (scover0_E_1 c i arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_E
  dsimp only
  sl_unfold_words
  rw [View.canon_unit_zero (S := S1024x128) hz2]

/-- A point above the diagonal: the key accumulator. -/
theorem sout0_F_0_eq (hc0 : ¬cond0_0 i) (hc1 : ¬cond0_1 i) (hc2 : ¬cond0_2 i) (hc3 : ¬cond0_3 i) :
    sout0_F_0 c i arg3 harg3 arg4 harg4 arg5 harg5 arg6 harg6 arg7 harg7 arg8 harg8 arg9 harg9 arg10 harg10 arg11 harg11 arg12 harg12 hc0 hc1 hc2 hc3 x0 x1 x2 x3 x4 x5 s0 s1 = s0 := by
  rfl

/-- A point above the diagonal: the value accumulator. -/
theorem sout0_F_1_eq (hc0 : ¬cond0_0 i) (hc1 : ¬cond0_1 i) (hc2 : ¬cond0_2 i) (hc3 : ¬cond0_3 i) :
    sout0_F_1 c i arg3 harg3 arg4 harg4 arg5 harg5 arg6 harg6 arg7 harg7 arg8 harg8 arg9 harg9 arg10 harg10 arg11 harg11 arg12 harg12 hc0 hc1 hc2 hc3 x0 x1 x2 x3 x4 x5 s0 s1 = s1 := by
  rfl

/-- A last point, on the diagonal: the key accumulator. -/
theorem sout0_G_0_eq (hc0 : ¬cond0_0 i) (hc1 : ¬cond0_1 i) (hc2 : cond0_2 i) (hc3 : cond0_3 i) :
    sout0_G_0 c i arg3 harg3 arg4 harg4 arg5 harg5 arg6 harg6 arg7 harg7 arg8 harg8 arg9 harg9 arg10 harg10 arg11 harg11 arg12 harg12 hc0 hc1 hc2 hc3 x0 x1 x2 x3 x4 x5 s0 s1 = keyM i x0 x1 x2 x3 x4 x5 s0 := by
  unfold sout0_G_0
  rw [View.read_writes_eq_canon _ _ _ (scover0_G_0 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_G
  dsimp only
  sl_unfold_words
  rw [View.canon_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, on the diagonal: the value accumulator. -/
theorem sout0_G_1_eq (hc0 : ¬cond0_0 i) (hc1 : ¬cond0_1 i) (hc2 : cond0_2 i) (hc3 : cond0_3 i) :
    sout0_G_1 c i arg3 harg3 arg4 harg4 arg5 harg5 arg6 harg6 arg7 harg7 arg8 harg8 arg9 harg9 arg10 harg10 arg11 harg11 arg12 harg12 hc0 hc1 hc2 hc3 x0 x1 x2 x3 x4 x5 s0 s1 = valM i x0 x1 x3 x5 s1 := by
  unfold sout0_G_1
  rw [View.read_writes_eq_canon _ _ _ (scover0_G_1 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_G
  dsimp only
  sl_unfold_words
  rw [View.canon_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, on the diagonal: the output of the keys. -/
theorem out0_G_6_eq (hc0 : ¬cond0_0 i) (hc1 : ¬cond0_1 i) (hc2 : cond0_2 i) (hc3 : cond0_3 i) :
    out0_G_6 c i arg3 harg3 arg4 harg4 arg5 harg5 arg6 harg6 arg7 harg7 arg8 harg8 arg9 harg9 arg10 harg10 arg11 harg11 arg12 harg12 hc0 hc1 hc2 hc3 x0 x1 x2 x3 x4 x5 s0 s1 = k0_pay2 (keyM i x0 x1 x2 x3 x4 x5 s0) := by
  unfold out0_G_6
  rw [View.read_writes_eq_canon _ _ _ (cover0_G_6 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_G
  dsimp only
  sl_unfold_words
  rw [View.canon_unit_zero (S := S1024x256) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

/-- A last point, on the diagonal: the output of the values. -/
theorem out0_G_7_eq (hc0 : ¬cond0_0 i) (hc1 : ¬cond0_1 i) (hc2 : cond0_2 i) (hc3 : cond0_3 i) :
    out0_G_7 c i arg3 harg3 arg4 harg4 arg5 harg5 arg6 harg6 arg7 harg7 arg8 harg8 arg9 harg9 arg10 harg10 arg11 harg11 arg12 harg12 hc0 hc1 hc2 hc3 x0 x1 x2 x3 x4 x5 s0 s1 = k0_pay3 (valM i x0 x1 x3 x5 s1) := by
  unfold out0_G_7
  rw [View.read_writes_eq_canon _ _ _ (cover0_G_7 c i arg3 harg3 arg4 harg4 arg5 harg5 arg6 harg6 arg7 harg7 arg8 harg8 arg9 harg9 arg10 harg10 arg11 harg11 arg12 harg12 hc0 hc1 hc2 hc3 x0 x1 x2 x3 x4 x5 s0 s1)]
  unfold kernelRun0_G
  dsimp only
  sl_unfold_words
  rw [View.canon_unit_zero (S := S1024x128) hz2]
  simp only [View.readAt_eq_ld, harg3.read_unread, harg4.read_unread, harg5.read_unread, harg6.read_unread, harg7.read_unread, harg8.read_unread, harg9.read_unread, harg10.read_unread, harg11.read_unread, harg12.read_unread,
    View.ld_unit_zero (S := S512x256) hz2, View.ld_unit_zero (S := S1024x256) hz2, View.ld_unit_zero (S := S1024x128) hz2,
    View.ld_unit_zero (S := S512x128) hz2, View.ld_unit_zero (S := S1x512x1) hz3,
    View.readCov_unit_zero (S := S1024x256) _ hz2, View.readCov_unit_zero (S := S1024x128) _ hz2]
  rfl

end Cert.KernelIdeal.Att

end
-- ==== Proof.ReadK.lean ====
module

public import proofs.«01_k».proof.Proof.HostK
public import proofs.«01_k».proof.Proof.ReadR
public import proofs.«01_k».proof.Proof.Cases
public import Idealize.ShloMosaic.Lib.Pointwise

@[expose] public section

set_option maxRecDepth 65536

/-! The kernel's arrays and one grid point's arithmetic at real arguments. -/

noncomputable section

open Idealize.ShloMosaic Idealize.ShloMosaic.TcCoe Idealize.SL.Sem AttSpec AttWords

namespace Cert.KernelIdeal.Att

open Cert.KernelIdeal Cert.KernelIdeal.Gen Cert.ReferenceIdeal.Att

section Host

variable {a0 a2 a4 : FVec Ideal S8192x16x128 .f32} {a1 : FVec Ideal S8192x16x64 .f32} {a3 : FVec Ideal S8192x64 .f32} {a5 : FVec Ideal S8192x2048 .f32}
  {D : In} (A : Agree D a0 a2 a4 a1 a3 a5) (h : Fin 16) (r k : Fin 8192)

theorem sum_at (x : FVec Ideal S16x8192 .f32) (l : FVec Ideal S16x8192x1 .f32) :
    addf (broadcastInDim S16x8192x1 ![0, 1] bcast_S16x8192_S16x8192x1_0_1 x) (Host.log l) (ix3 h r 0) = x (ix2 h r) + Ideal.log (l (ix3 h r 0)) := by
  pointwise

theorem delta_at (o : FVec Ideal S8192x16x128 .f32) : delta a5 o (ix3 h r 0) = ∑ x : Fin 128, a5 (ix2 r ⟨h.val * 128 + x.val, by omega⟩) * o (ix3 r h x) := by
  pointwise [delta]

theorem outp_at (p : FVec Ideal S16x8192x8192 .f32) (x : Fin 128) : outp a4 p (ix3 r h x) = ∑ k, a4 (ix3 k h x) * p (ix3 h r k) := by
  pointwise [outp]

theorem packV_at (l : Fin 2048) : packV a4 (ix2 r l) = a4 (ix3 r ⟨l.val / 128, by omega⟩ ⟨l.val % 128, by omega⟩) := by
  pointwise [packV]

include A

theorem top_real : top (score a0 a2 a1 a3) (ix2 h r) = (D.M h r : EReal) :=
  (reduce_at _ h r).trans (fold_real A h r)

theorem lse_real : lse (score a0 a2 a1 a3) (ix3 h r 0) = (D.lse h r : EReal) := by
  have e := sum_at h r (top (score a0 a2 a1 a3)) (rowSum (expo (score a0 a2 a1 a3) (top (score a0 a2 a1 a3))))
  rw [top_real A, rowSum_real h r (fun h r k => expo_real A h r k _ (fun h r => top_real A h r)), Ideal.log_coe,
    if_neg (not_le.2 (D.L_pos h r)), ← EReal.coe_add] at e
  exact e

theorem delta_real {p : FVec Ideal S16x8192x8192 .f32} (hp : ∀ h r k, p (ix3 h r k) = (D.P h r k : EReal)) :
    delta a5 (outp a4 p) (ix3 h r 0) = (D.del h r : EReal) := by
  rw [delta_at]
  simp only [outp_at, hp, A.g, A.vv, ← EReal.coe_mul, ← coe_sum, In.del, In.G, In.O]

theorem packQ_real (l : Fin 4096) : packQ a0 a1 (ix2 r l) = (D.Q r ⟨l.val / 256, by omega⟩ ⟨l.val % 256, by omega⟩ : EReal) := by
  pointwise [packQ]
  split
  · rename_i h1
    simp only [A.qn, In.Q, h1, dif_pos]
  · rename_i h1
    split
    · rename_i h2
      simp only [A.qp, In.Q, h1, h2.2, dif_pos, dif_neg, not_false_eq_true]
    · rename_i h2
      have h3 : ¬(l.val % 256 - 128 < 64) := fun q => h2 ⟨by omega, q⟩
      simp only [word_zero, In.Q, h1, h3, dif_neg, not_false_eq_true]

theorem packK_real (l : Fin 4096) : packK a2 a3 (ix2 r l) = (D.K r ⟨l.val / 256, by omega⟩ ⟨l.val % 256, by omega⟩ : EReal) := by
  pointwise [packK]
  split
  · rename_i h1
    simp only [A.kn, In.K, h1, dif_pos]
  · rename_i h1
    split
    · rename_i h2
      simp only [A.kr, In.K, h1, h2, dif_pos, dif_neg, not_false_eq_true]
    · rename_i h2
      simp only [word_zero, In.K, h1, h2, dif_neg, not_false_eq_true]

theorem packV_real (l : Fin 2048) : packV a4 (ix2 r l) = (D.vv r ⟨l.val / 128, by omega⟩ ⟨l.val % 128, by omega⟩ : EReal) := by
  rw [packV_at, A.vv]

end Host

section Step

/-- The mask's name stands for minus infinity. -/
theorem mask_bot : (Named.named κ "mask" 4048155338#32 : Ideal .f32) = (⊥ : EReal) := by
  rfl

variable (i : grid0.Coords) (q : Vec Ideal S512x256 .bf16) (k : Vec Ideal S1024x256 .bf16) (v : Vec Ideal S1024x128 .bf16)
  (l d : Vec Ideal S1x512x1 .f32) (g : Vec Ideal S512x128 .f32) (a : Vec Ideal S1024x256 .f32) (b : Vec Ideal S1024x128 .f32)

theorem probU_at (r : Fin 512) (c : Fin 1024) : k0_pay4 q k l (ix2 r c) = Ideal.exp ((∑ x, q (ix2 r x) * k (ix2 c x)) * Ideal.ofBits .f32 1033096506#32 - l (ix3 0 r 0)) := by
  pointwise [k0_pay4]

theorem probM_at (r : Fin 512) (c : Fin 1024) : probM i q k l (ix2 r c) = Ideal.exp (Scalar.select
    (IntOp.cmpi .sle (vecChunk (IntOp.addi (Scalar.muli (BitVec.ofNat 32 (i 1).val) 1024#32) (BitVec.ofNat 32 c.val)))
      (vecChunk (IntOp.addi (Scalar.muli (BitVec.ofNat 32 (i 2).val) 512#32) (BitVec.ofNat 32 r.val))))
    ((∑ x, q (ix2 r x) * k (ix2 c x)) * Ideal.ofBits .f32 1033096506#32) (Named.named κ "mask" 4048155338#32 : Ideal .f32) - l (ix3 0 r 0)) := by
  pointwise [probM, k0_pay13, k0_pay8, k0_pay9, k0_pay10, k0_pay11, k0_pay12]
  rfl

theorem valM_at (r : Fin 1024) (c : Fin 128) : valM i q k l g b (ix2 r c) = b (ix2 r c) + ∑ x, probM i q k l (ix2 x r) * g (ix2 x c) := by
  pointwise [valM, k0_pay15, k0_pay14]
  rfl

theorem keyM_at (r : Fin 1024) (c : Fin 256) : keyM i q k v l d g a (ix2 r c) = a (ix2 r c) +
    ∑ x, probM i q k l (ix2 x r) * (∑ y, g (ix2 x y) * v (ix2 r y) - d (ix3 0 x 0)) * Ideal.ofBits .f32 1033096506#32 * q (ix2 x c) := by
  pointwise [keyM, k0_pay1, k0_pay16, k0_pay14]

theorem valU_at (r : Fin 1024) (c : Fin 128) : k0_pay6 q k l g b (ix2 r c) = b (ix2 r c) + ∑ x, k0_pay4 q k l (ix2 x r) * g (ix2 x c) := by
  pointwise [k0_pay6, k0_pay5]

theorem keyU_at (r : Fin 1024) (c : Fin 256) : keyU q k v l d g a (ix2 r c) = a (ix2 r c) +
    ∑ x, k0_pay4 q k l (ix2 x r) * (∑ y, g (ix2 x y) * v (ix2 r y) - d (ix3 0 x 0)) * Ideal.ofBits .f32 1033096506#32 * q (ix2 x c) := by
  pointwise [keyU, k0_pay19, k0_pay7, k0_pay5]

theorem zeroK_at (r : Fin 1024) (c : Fin 256) : (k0_pay17 (F := Ideal)) (ix2 r c) = ((0 : ℝ) : EReal) := by
  pointwise [k0_pay17]
  rfl

theorem zeroV_at (r : Fin 1024) (c : Fin 128) : (k0_pay18 (F := Ideal)) (ix2 r c) = ((0 : ℝ) : EReal) := by
  pointwise [k0_pay18]
  rfl

theorem outK_at (r : Fin 1024) (c : Fin 256) : k0_pay2 a (ix2 r c) = a (ix2 r c) := by
  pointwise [k0_pay2]

theorem outV_at (r : Fin 1024) (c : Fin 128) : k0_pay3 b (ix2 r c) = b (ix2 r c) := by
  pointwise [k0_pay3]

/-- The blocks of a point hold the real arrays' rows `512 n …`, keys `1024 j …`, of head `h`. -/
structure Blocks (D : In) (h : Fin 16) (j n : ℕ) (hj : j < 8) (hn : n < 16) : Prop where
  q : ∀ x y, q (ix2 x y) = (D.Q ⟨n * 512 + x.val, by omega⟩ h y : EReal)
  k : ∀ x y, k (ix2 x y) = (D.K ⟨j * 1024 + x.val, by omega⟩ h y : EReal)
  v : ∀ x y, v (ix2 x y) = (D.vv ⟨j * 1024 + x.val, by omega⟩ h y : EReal)
  l : ∀ x, l (ix3 0 x 0) = (D.lse h ⟨n * 512 + x.val, by omega⟩ : EReal)
  d : ∀ x, d (ix3 0 x 0) = (D.del h ⟨n * 512 + x.val, by omega⟩ : EReal)
  g : ∀ x y, g (ix2 x y) = (D.G ⟨n * 512 + x.val, by omega⟩ h y : EReal)

variable {q k v l d g} {D : In} {h : Fin 16} {j n : ℕ} {hj : j < 8} {hn : n < 16} (B : Blocks q k v l d g D h j n hj hn)

include B

theorem scoreB (r : Fin 512) (c : Fin 1024) : (∑ x, q (ix2 r x) * k (ix2 c x)) * Ideal.ofBits .f32 1033096506#32
    = (D.S h ⟨n * 512 + r.val, by omega⟩ ⟨j * 1024 + c.val, by omega⟩ : EReal) := by
  simp only [B.q, B.k, ofBits_scale, ← EReal.coe_mul, ← coe_sum, In.S_packed]

/-- Below the diagonal every key is seen, and the exponential is the probability. -/
theorem probU_real (hu : 2 * j + 2 ≤ n) (r : Fin 512) (c : Fin 1024) :
    k0_pay4 q k l (ix2 r c) = (D.P h ⟨n * 512 + r.val, by omega⟩ ⟨j * 1024 + c.val, by omega⟩ : EReal) := by
  rw [probU_at, scoreB B, B.l, ← EReal.coe_sub, Ideal.exp_coe, In.exp_lse]
  show (j * 1024 + c.val) / 64 ≤ (n * 512 + r.val) / 64
  omega

/-- On the diagonal the mask leaves the probability of the keys seen and zero elsewhere. -/
theorem probM_real (h1 : (i 1).val = j) (h2 : (i 2).val = n) (r : Fin 512) (c : Fin 1024) :
    probM i q k l (ix2 r c) = (D.P h ⟨n * 512 + r.val, by omega⟩ ⟨j * 1024 + c.val, by omega⟩ : EReal) := by
  rw [probM_at, h1, h2, word_at, word_at, vec_ok ⟨n * 512 + r.val, by omega⟩ ⟨j * 1024 + c.val, by omega⟩, select_ite, scoreB B, B.l, mask_bot]
  split
  · rename_i hok
    rw [← EReal.coe_sub, Ideal.exp_coe, In.exp_lse _ _ _ _ hok]
  · rename_i hok
    rw [EReal.bot_sub, Ideal.exp_bot, In.P_zero _ _ _ _ hok]; rfl

/-- What a block adds to the values' accumulator. -/
theorem val_real {p : Vec Ideal S512x1024 .f32} (hp : ∀ r c, p (ix2 r c) = (D.P h ⟨n * 512 + r.val, by omega⟩ ⟨j * 1024 + c.val, by omega⟩ : EReal))
    (z : ℝ) (r : Fin 1024) (c : Fin 128) : (z : EReal) + ∑ x, p (ix2 x r) * g (ix2 x c)
      = ((z + ∑ x : Fin 512, D.P h ⟨n * 512 + x.val, by omega⟩ ⟨j * 1024 + r.val, by omega⟩ * D.G ⟨n * 512 + x.val, by omega⟩ h c : ℝ) : EReal) := by
  simp only [hp, B.g, ← EReal.coe_mul, ← coe_sum, ← EReal.coe_add]

/-- What a block adds to the keys' accumulator. -/
theorem key_real {p : Vec Ideal S512x1024 .f32} (hp : ∀ r c, p (ix2 r c) = (D.P h ⟨n * 512 + r.val, by omega⟩ ⟨j * 1024 + c.val, by omega⟩ : EReal))
    (z : ℝ) (r : Fin 1024) (c : Fin 256) : (z : EReal) + ∑ x, p (ix2 x r) * (∑ y, g (ix2 x y) * v (ix2 r y) - d (ix3 0 x 0)) * Ideal.ofBits .f32 1033096506#32 * q (ix2 x c)
      = ((z + ∑ x : Fin 512, D.ds h ⟨n * 512 + x.val, by omega⟩ ⟨j * 1024 + r.val, by omega⟩ * D.Q ⟨n * 512 + x.val, by omega⟩ h c : ℝ) : EReal) := by
  simp only [hp, B.g, B.v, B.d, B.q, ofBits_scale, ← EReal.coe_mul, ← coe_sum, ← EReal.coe_sub, ← EReal.coe_add, In.ds, In.dp]

end Step

end Cert.KernelIdeal.Att

end
-- ==== Proof.Grid.lean ====
module

public import proofs.«01_k».proof.Proof.Gen.KernelIdeal.Points

@[expose] public section

set_option maxRecDepth 65536

/-! The blocks a grid point reads: point `t` is head `t / 128`, key block `t / 16 % 8`, row block `t % 16`. -/

noncomputable section

open Idealize.ShloMosaic Idealize.ShloMosaic.TcCoe Idealize.SL.Sem

namespace Cert.KernelIdeal.Att

open Cert.KernelIdeal Cert.KernelIdeal.Gen

/-- The grid's coordinates of a point. -/
theorem coord_facts : ∀ t : Fin grid0.N, (grid0.coords t 1).val = t.val / 16 % 8 ∧ (grid0.coords t 2).val = t.val % 16 := by
  decide +kernel

/-- Where each window's block of a point begins, in blocks. -/
theorem idx_facts : ∀ t : Fin grid0.N,
    (win0_0.index t (0 : Fin 2) = max (t.val % 16) (2 * (t.val / 16 % 8)) ∧ win0_0.index t (1 : Fin 2) = t.val / 128)
    ∧ (win0_1.index t (0 : Fin 2) = t.val / 16 % 8 ∧ win0_1.index t (1 : Fin 2) = t.val / 128)
    ∧ (win0_2.index t (0 : Fin 2) = t.val / 16 % 8 ∧ win0_2.index t (1 : Fin 2) = t.val / 128)
    ∧ (win0_3.index t (0 : Fin 3) = t.val / 128 ∧ win0_3.index t (1 : Fin 3) = max (t.val % 16) (2 * (t.val / 16 % 8)) ∧ win0_3.index t (2 : Fin 3) = 0)
    ∧ (win0_4.index t (0 : Fin 3) = t.val / 128 ∧ win0_4.index t (1 : Fin 3) = max (t.val % 16) (2 * (t.val / 16 % 8)) ∧ win0_4.index t (2 : Fin 3) = 0)
    ∧ (win0_5.index t (0 : Fin 2) = max (t.val % 16) (2 * (t.val / 16 % 8)) ∧ win0_5.index t (1 : Fin 2) = t.val / 128) := by
  decide +kernel

end Cert.KernelIdeal.Att

end
-- ==== Proof.Blocks.lean ====
module

public import proofs.«01_k».proof.Proof.ReadK
public import proofs.«01_k».proof.Proof.Grid

@[expose] public section

set_option maxRecDepth 65536

/-! The blocks a grid point reads: point `t` is head `t / 128`, key block `t / 16 % 8`, row block `t % 16`. -/

noncomputable section

open Idealize.ShloMosaic Idealize.ShloMosaic.TcCoe Idealize.SL.Sem AttSpec AttWords

namespace Cert.KernelIdeal.Att

open Cert.KernelIdeal Cert.KernelIdeal.Gen Cert.ReferenceIdeal.Att

variable (m : (ℓ : Loc nD τ sig) → Buf (Elt Ideal) ℓ) (c : Dev nD) (t : Fin cfg0.N)

theorem tlt : t.val < 2048 := Nat.lt_of_lt_of_eq t.isLt N_0

/-- A block of the queries, element by element. -/
theorem read0 (W : FVec Ideal S8192x4096 .bf16) (x : Fin 512) (y : Fin 256) (hu : 2 * (t.val / 16 % 8) ≤ t.val % 16) : ((((cfg0.win 0).blk t).view.read (Elt Ideal) W : Vec Ideal S512x256 .bf16) (ix2 x y)) = W (ix2 ⟨t.val % 16 * 512 + x.val, by omega⟩ ⟨t.val / 128 * 256 + y.val, by have := tlt t; omega⟩) := by
  have hb := tlt t
  obtain ⟨⟨e0, e1⟩, _⟩ := idx_facts t
  rw [View.read_apply]
  refine congrArg W (funext fun a => Fin.ext ?_)
  match a with
  | ⟨0, _⟩ => show win0_0.index t (0 : Fin 2) * 512 + 1 * x.val = t.val % 16 * 512 + x.val; rw [e0]; omega
  | ⟨1, _⟩ => show win0_0.index t (1 : Fin 2) * 256 + 1 * y.val = t.val / 128 * 256 + y.val; rw [e1]; omega

theorem blk0 (x : Fin 512) (y : Fin 256) (hu : 2 * (t.val / 16 % 8) ≤ t.val % 16) : (iblk m c 0 t : Vec Ideal S512x256 .bf16) (ix2 x y) = (V m c main_v63 : FVec Ideal S8192x4096 .bf16) (ix2 ⟨t.val % 16 * 512 + x.val, by omega⟩ ⟨t.val / 128 * 256 + y.val, by have := tlt t; omega⟩) :=
  read0 t (V m c main_v63) x y hu

/-- A block of the keys, element by element. -/
theorem read1 (W : FVec Ideal S8192x4096 .bf16) (x : Fin 1024) (y : Fin 256) : ((((cfg0.win 1).blk t).view.read (Elt Ideal) W : Vec Ideal S1024x256 .bf16) (ix2 x y)) = W (ix2 ⟨t.val / 16 % 8 * 1024 + x.val, by omega⟩ ⟨t.val / 128 * 256 + y.val, by have := tlt t; omega⟩) := by
  have hb := tlt t
  obtain ⟨_, ⟨e0, e1⟩, _⟩ := idx_facts t
  rw [View.read_apply]
  refine congrArg W (funext fun a => Fin.ext ?_)
  match a with
  | ⟨0, _⟩ => show win0_1.index t (0 : Fin 2) * 1024 + 1 * x.val = t.val / 16 % 8 * 1024 + x.val; rw [e0]; omega
  | ⟨1, _⟩ => show win0_1.index t (1 : Fin 2) * 256 + 1 * y.val = t.val / 128 * 256 + y.val; rw [e1]; omega

theorem blk1 (x : Fin 1024) (y : Fin 256) : (iblk m c 1 t : Vec Ideal S1024x256 .bf16) (ix2 x y) = (V m c main_v65 : FVec Ideal S8192x4096 .bf16) (ix2 ⟨t.val / 16 % 8 * 1024 + x.val, by omega⟩ ⟨t.val / 128 * 256 + y.val, by have := tlt t; omega⟩) :=
  read1 t (V m c main_v65) x y

/-- A block of the values, element by element. -/
theorem read2 (W : FVec Ideal S8192x2048 .bf16) (x : Fin 1024) (y : Fin 128) : ((((cfg0.win 2).blk t).view.read (Elt Ideal) W : Vec Ideal S1024x128 .bf16) (ix2 x y)) = W (ix2 ⟨t.val / 16 % 8 * 1024 + x.val, by omega⟩ ⟨t.val / 128 * 128 + y.val, by have := tlt t; omega⟩) := by
  have hb := tlt t
  obtain ⟨_, _, ⟨e0, e1⟩, _⟩ := idx_facts t
  rw [View.read_apply]
  refine congrArg W (funext fun a => Fin.ext ?_)
  match a with
  | ⟨0, _⟩ => show win0_2.index t (0 : Fin 2) * 1024 + 1 * x.val = t.val / 16 % 8 * 1024 + x.val; rw [e0]; omega
  | ⟨1, _⟩ => show win0_2.index t (1 : Fin 2) * 128 + 1 * y.val = t.val / 128 * 128 + y.val; rw [e1]; omega

theorem blk2 (x : Fin 1024) (y : Fin 128) : (iblk m c 2 t : Vec Ideal S1024x128 .bf16) (ix2 x y) = (V m c main_v67 : FVec Ideal S8192x2048 .bf16) (ix2 ⟨t.val / 16 % 8 * 1024 + x.val, by omega⟩ ⟨t.val / 128 * 128 + y.val, by have := tlt t; omega⟩) :=
  read2 t (V m c main_v67) x y

/-- A block of the logarithms, element by element. -/
theorem read3 (W : FVec Ideal S16x8192x1 .f32) (x : Fin 512) (hu : 2 * (t.val / 16 % 8) ≤ t.val % 16) : ((((cfg0.win 3).blk t).view.read (Elt Ideal) W : Vec Ideal S1x512x1 .f32) (ix3 0 x 0)) = W (ix3 ⟨t.val / 128, by have := tlt t; omega⟩ ⟨t.val % 16 * 512 + x.val, by omega⟩ 0) := by
  have hb := tlt t
  obtain ⟨_, _, _, ⟨e0, e1, e2⟩, _⟩ := idx_facts t
  rw [View.read_apply]
  refine congrArg W (funext fun a => Fin.ext ?_)
  match a with
  | ⟨0, _⟩ => show win0_3.index t (0 : Fin 3) * 1 + 1 * 0 = t.val / 128; rw [e0]; omega
  | ⟨1, _⟩ => show win0_3.index t (1 : Fin 3) * 512 + 1 * x.val = t.val % 16 * 512 + x.val; rw [e1]; omega
  | ⟨2, _⟩ => show win0_3.index t (2 : Fin 3) * 1 + 1 * 0 = 0; rw [e2]

theorem blk3 (x : Fin 512) (hu : 2 * (t.val / 16 % 8) ≤ t.val % 16) : (iblk m c 3 t : Vec Ideal S1x512x1 .f32) (ix3 0 x 0) = (V m c main_v23 : FVec Ideal S16x8192x1 .f32) (ix3 ⟨t.val / 128, by have := tlt t; omega⟩ ⟨t.val % 16 * 512 + x.val, by omega⟩ 0) :=
  read3 t (V m c main_v23) x hu

/-- A block of the row terms, element by element. -/
theorem read4 (W : FVec Ideal S16x8192x1 .f32) (x : Fin 512) (hu : 2 * (t.val / 16 % 8) ≤ t.val % 16) : ((((cfg0.win 4).blk t).view.read (Elt Ideal) W : Vec Ideal S1x512x1 .f32) (ix3 0 x 0)) = W (ix3 ⟨t.val / 128, by have := tlt t; omega⟩ ⟨t.val % 16 * 512 + x.val, by omega⟩ 0) := by
  have hb := tlt t
  obtain ⟨_, _, _, _, ⟨e0, e1, e2⟩, _⟩ := idx_facts t
  rw [View.read_apply]
  refine congrArg W (funext fun a => Fin.ext ?_)
  match a with
  | ⟨0, _⟩ => show win0_4.index t (0 : Fin 3) * 1 + 1 * 0 = t.val / 128; rw [e0]; omega
  | ⟨1, _⟩ => show win0_4.index t (1 : Fin 3) * 512 + 1 * x.val = t.val % 16 * 512 + x.val; rw [e1]; omega
  | ⟨2, _⟩ => show win0_4.index t (2 : Fin 3) * 1 + 1 * 0 = 0; rw [e2]

theorem blk4 (x : Fin 512) (hu : 2 * (t.val / 16 % 8) ≤ t.val % 16) : (iblk m c 4 t : Vec Ideal S1x512x1 .f32) (ix3 0 x 0) = (V m c main_v55 : FVec Ideal S16x8192x1 .f32) (ix3 ⟨t.val / 128, by have := tlt t; omega⟩ ⟨t.val % 16 * 512 + x.val, by omega⟩ 0) :=
  read4 t (V m c main_v55) x hu

/-- A block of the cotangents, element by element. -/
theorem read5 (W : FVec Ideal S8192x2048 .f32) (x : Fin 512) (y : Fin 128) (hu : 2 * (t.val / 16 % 8) ≤ t.val % 16) : ((((cfg0.win 5).blk t).view.read (Elt Ideal) W : Vec Ideal S512x128 .f32) (ix2 x y)) = W (ix2 ⟨t.val % 16 * 512 + x.val, by omega⟩ ⟨t.val / 128 * 128 + y.val, by have := tlt t; omega⟩) := by
  have hb := tlt t
  obtain ⟨_, _, _, _, _, ⟨e0, e1⟩⟩ := idx_facts t
  rw [View.read_apply]
  refine congrArg W (funext fun a => Fin.ext ?_)
  match a with
  | ⟨0, _⟩ => show win0_5.index t (0 : Fin 2) * 512 + 1 * x.val = t.val % 16 * 512 + x.val; rw [e0]; omega
  | ⟨1, _⟩ => show win0_5.index t (1 : Fin 2) * 128 + 1 * y.val = t.val / 128 * 128 + y.val; rw [e1]; omega

theorem blk5 (x : Fin 512) (y : Fin 128) (hu : 2 * (t.val / 16 % 8) ≤ t.val % 16) : (iblk m c 5 t : Vec Ideal S512x128 .f32) (ix2 x y) = (V m c main_arg5 : FVec Ideal S8192x2048 .f32) (ix2 ⟨t.val % 16 * 512 + x.val, by omega⟩ ⟨t.val / 128 * 128 + y.val, by have := tlt t; omega⟩) :=
  read5 t (V m c main_arg5) x y hu

/-- At a point on or below the diagonal the six blocks hold the real arrays. -/
theorem blocks {D : In} (A : Agree D (A0 m c) (A2 m c) (A4 m c) (A1 m c) (A3 m c) (A5 m c)) (hu : 2 * (t.val / 16 % 8) ≤ t.val % 16) :
    Blocks (iblk m c 0 t) (iblk m c 1 t) (iblk m c 2 t) (iblk m c 3 t) (iblk m c 4 t) (iblk m c 5 t) D
      ⟨t.val / 128, by have := tlt t; omega⟩ (t.val / 16 % 8) (t.val % 16) (by omega) (by omega) := by
  have hb := tlt t
  refine ⟨fun x y => ?_, fun x y => ?_, fun x y => ?_, fun x => ?_, fun x => ?_, fun x y => ?_⟩
  · rw [blk0 m c t x y hu, V_q, packQ_real A]
    congr 2 <;> apply Fin.ext <;> dsimp only <;> omega
  · rw [blk1 m c t x y, V_k, packK_real A]
    congr 2 <;> apply Fin.ext <;> dsimp only <;> omega
  · rw [blk2 m c t x y, V_v, packV_real A]
    congr 2 <;> apply Fin.ext <;> dsimp only <;> omega
  · rw [blk3 m c t x hu, V_lse, lse_real A]
  · rw [blk4 m c t x hu, V_delta]
    exact delta_real A _ _ (fun h r k => prob_real h r k (fun h r k => expo_real A h r k _ (fun h r => rowMax_real A h r)))
  · rw [blk5 m c t x y hu, V_main_arg5]
    exact A.g _ _

end Cert.KernelIdeal.Att

end
-- ==== Proof.Points.lean ====
module

public import proofs.«01_k».proof.Proof.Blocks

@[expose] public section

set_option maxRecDepth 65536

/-! The accumulators after each grid point: the sums over the rows met so far of a block of keys. -/

noncomputable section

open Idealize.ShloMosaic Idealize.ShloMosaic.TcCoe Idealize.SL.Sem AttSpec AttWords

namespace Cert.KernelIdeal.Att

open Cert.KernelIdeal Cert.KernelIdeal.Gen Cert.ReferenceIdeal.Att

section Points

variable (m : (ℓ : Loc nD τ sig) → Buf (Elt Ideal) ℓ) (c : Dev nD) (t : Fin cfg0.N)

/-- The key accumulator after a first point, on the diagonal. -/
theorem keyA (h0 : t.val % 16 = 0) (h1 : ¬2 * (t.val / 16 % 8) + 2 ≤ t.val % 16) (h2 : (t.val % 16 ≤ 2 * (t.val / 16 % 8) + 1 ∧ 2 * (t.val / 16 % 8) ≤ t.val % 16)) (h3 : ¬t.val % 16 = 15) :
    (outsAt0 m c t.val t.isLt).2.2.1 = keyM (grid0.coords t) (iblk m c 0 t) (iblk m c 1 t) (iblk m c 2 t) (iblk m c 3 t) (iblk m c 4 t) (iblk m c 5 t) (k0_pay17 (F := Ideal)) := by
  rw [outsAt0_A m c t h0 h1 h2 h3]
  dsimp only
  rw [sout0_A_0_eq]

/-- The value accumulator after a first point, on the diagonal. -/
theorem valA (h0 : t.val % 16 = 0) (h1 : ¬2 * (t.val / 16 % 8) + 2 ≤ t.val % 16) (h2 : (t.val % 16 ≤ 2 * (t.val / 16 % 8) + 1 ∧ 2 * (t.val / 16 % 8) ≤ t.val % 16)) (h3 : ¬t.val % 16 = 15) :
    (outsAt0 m c t.val t.isLt).2.2.2 = valM (grid0.coords t) (iblk m c 0 t) (iblk m c 1 t) (iblk m c 3 t) (iblk m c 5 t) (k0_pay18 (F := Ideal)) := by
  rw [outsAt0_A m c t h0 h1 h2 h3]
  dsimp only
  rw [sout0_A_1_eq]

/-- The key accumulator after a point on the diagonal. -/
theorem keyB (h0 : ¬t.val % 16 = 0) (h1 : ¬2 * (t.val / 16 % 8) + 2 ≤ t.val % 16) (h2 : (t.val % 16 ≤ 2 * (t.val / 16 % 8) + 1 ∧ 2 * (t.val / 16 % 8) ≤ t.val % 16)) (h3 : ¬t.val % 16 = 15) :
    (outsAt0 m c t.val t.isLt).2.2.1 = keyM (grid0.coords t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by
  rw [outsAt0_B m c t h0 h1 h2 h3]
  dsimp only
  rw [sout0_B_0_eq]

/-- The value accumulator after a point on the diagonal. -/
theorem valB (h0 : ¬t.val % 16 = 0) (h1 : ¬2 * (t.val / 16 % 8) + 2 ≤ t.val % 16) (h2 : (t.val % 16 ≤ 2 * (t.val / 16 % 8) + 1 ∧ 2 * (t.val / 16 % 8) ≤ t.val % 16)) (h3 : ¬t.val % 16 = 15) :
    (outsAt0 m c t.val t.isLt).2.2.2 = valM (grid0.coords t) (iblk m c 0 t) (iblk m c 1 t) (iblk m c 3 t) (iblk m c 5 t) (outsAt0 m c (t.val - 1) (Nat.lt_of_le_of_lt (Nat.sub_le _ _) t.isLt)).2.2.2 := by
  rw [outsAt0_B m c t h0 h1 h2 h3]
  dsimp only
  rw [sout0_B_1_eq]

/-- The key accumulator after a point below the diagonal. -/
theorem keyC (h0 : ¬t.val % 16 = 0) (h1 : 2 * (t.val / 16 % 8) + 2 ≤ t.val % 16) (h2 : ¬(t.val % 16 ≤ 2 * (t.val / 16 % 8) + 1 ∧ 2 * (t.val / 16 % 8) ≤ t.val % 16)) (h3 : ¬t.val % 16 = 15) :
    (outsAt0 m c t.val t.isLt).2.2.1 = keyU (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by
  rw [outsAt0_C m c t h0 h1 h2 h3]
  dsimp only
  rw [sout0_C_0_eq]

/-- The value accumulator after a point below the diagonal. -/
theorem valC (h0 : ¬t.val % 16 = 0) (h1 : 2 * (t.val / 16 % 8) + 2 ≤ t.val % 16) (h2 : ¬(t.val % 16 ≤ 2 * (t.val / 16 % 8) + 1 ∧ 2 * (t.val / 16 % 8) ≤ t.val % 16)) (h3 : ¬t.val % 16 = 15) :
    (outsAt0 m c t.val t.isLt).2.2.2 = k0_pay6 (iblk m c 0 t) (iblk m c 1 t) (iblk m c 3 t) (iblk m c 5 t) (outsAt0 m c (t.val - 1) (Nat.lt_of_le_of_lt (Nat.sub_le _ _) t.isLt)).2.2.2 := by
  rw [outsAt0_C m c t h0 h1 h2 h3]
  dsimp only
  rw [sout0_C_1_eq]

/-- The key accumulator after a last point, below the diagonal. -/
theorem keyD (h0 : ¬t.val % 16 = 0) (h1 : 2 * (t.val / 16 % 8) + 2 ≤ t.val % 16) (h2 : ¬(t.val % 16 ≤ 2 * (t.val / 16 % 8) + 1 ∧ 2 * (t.val / 16 % 8) ≤ t.val % 16)) (h3 : t.val % 16 = 15) :
    (outsAt0 m c t.val t.isLt).2.2.1 = keyU (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by
  rw [outsAt0_D m c t h0 h1 h2 h3]
  dsimp only
  rw [sout0_D_0_eq]

/-- The value accumulator after a last point, below the diagonal. -/
theorem valD (h0 : ¬t.val % 16 = 0) (h1 : 2 * (t.val / 16 % 8) + 2 ≤ t.val % 16) (h2 : ¬(t.val % 16 ≤ 2 * (t.val / 16 % 8) + 1 ∧ 2 * (t.val / 16 % 8) ≤ t.val % 16)) (h3 : t.val % 16 = 15) :
    (outsAt0 m c t.val t.isLt).2.2.2 = k0_pay6 (iblk m c 0 t) (iblk m c 1 t) (iblk m c 3 t) (iblk m c 5 t) (outsAt0 m c (t.val - 1) (Nat.lt_of_le_of_lt (Nat.sub_le _ _) t.isLt)).2.2.2 := by
  rw [outsAt0_D m c t h0 h1 h2 h3]
  dsimp only
  rw [sout0_D_1_eq]

/-- The keys' output after a last point, below the diagonal. -/
theorem outKeyD (h0 : ¬t.val % 16 = 0) (h1 : 2 * (t.val / 16 % 8) + 2 ≤ t.val % 16) (h2 : ¬(t.val % 16 ≤ 2 * (t.val / 16 % 8) + 1 ∧ 2 * (t.val / 16 % 8) ≤ t.val % 16)) (h3 : t.val % 16 = 15) :
    (outsAt0 m c t.val t.isLt).1 = k0_pay2 (outsAt0 m c t.val t.isLt).2.2.1 := by
  rw [keyD m c t h0 h1 h2 h3, outsAt0_D m c t h0 h1 h2 h3]
  dsimp only
  rw [out0_D_6_eq]

/-- The values' output after a last point, below the diagonal. -/
theorem outValD (h0 : ¬t.val % 16 = 0) (h1 : 2 * (t.val / 16 % 8) + 2 ≤ t.val % 16) (h2 : ¬(t.val % 16 ≤ 2 * (t.val / 16 % 8) + 1 ∧ 2 * (t.val / 16 % 8) ≤ t.val % 16)) (h3 : t.val % 16 = 15) :
    (outsAt0 m c t.val t.isLt).2.1 = k0_pay3 (outsAt0 m c t.val t.isLt).2.2.2 := by
  rw [valD m c t h0 h1 h2 h3, outsAt0_D m c t h0 h1 h2 h3]
  dsimp only
  rw [out0_D_7_eq]

/-- The key accumulator after a first point, above the diagonal. -/
theorem keyE (h0 : t.val % 16 = 0) (h1 : ¬2 * (t.val / 16 % 8) + 2 ≤ t.val % 16) (h2 : ¬(t.val % 16 ≤ 2 * (t.val / 16 % 8) + 1 ∧ 2 * (t.val / 16 % 8) ≤ t.val % 16)) (h3 : ¬t.val % 16 = 15) :
    (outsAt0 m c t.val t.isLt).2.2.1 = (k0_pay17 (F := Ideal)) := by
  rw [outsAt0_E m c t h0 h1 h2 h3]
  dsimp only
  rw [sout0_E_0_eq]

/-- The value accumulator after a first point, above the diagonal. -/
theorem valE (h0 : t.val % 16 = 0) (h1 : ¬2 * (t.val / 16 % 8) + 2 ≤ t.val % 16) (h2 : ¬(t.val % 16 ≤ 2 * (t.val / 16 % 8) + 1 ∧ 2 * (t.val / 16 % 8) ≤ t.val % 16)) (h3 : ¬t.val % 16 = 15) :
    (outsAt0 m c t.val t.isLt).2.2.2 = (k0_pay18 (F := Ideal)) := by
  rw [outsAt0_E m c t h0 h1 h2 h3]
  dsimp only
  rw [sout0_E_1_eq]

/-- The key accumulator after a later point above the diagonal. -/
theorem keyF (h0 : ¬t.val % 16 = 0) (h1 : ¬2 * (t.val / 16 % 8) + 2 ≤ t.val % 16) (h2 : ¬(t.val % 16 ≤ 2 * (t.val / 16 % 8) + 1 ∧ 2 * (t.val / 16 % 8) ≤ t.val % 16)) (h3 : ¬t.val % 16 = 15) :
    (outsAt0 m c t.val t.isLt).2.2.1 = (outsAt0 m c (t.val - 1) (Nat.lt_of_le_of_lt (Nat.sub_le _ _) t.isLt)).2.2.1 := by
  rw [outsAt0_F m c t h0 h1 h2 h3]
  dsimp only
  rw [sout0_F_0_eq]

/-- The value accumulator after a later point above the diagonal. -/
theorem valF (h0 : ¬t.val % 16 = 0) (h1 : ¬2 * (t.val / 16 % 8) + 2 ≤ t.val % 16) (h2 : ¬(t.val % 16 ≤ 2 * (t.val / 16 % 8) + 1 ∧ 2 * (t.val / 16 % 8) ≤ t.val % 16)) (h3 : ¬t.val % 16 = 15) :
    (outsAt0 m c t.val t.isLt).2.2.2 = (outsAt0 m c (t.val - 1) (Nat.lt_of_le_of_lt (Nat.sub_le _ _) t.isLt)).2.2.2 := by
  rw [outsAt0_F m c t h0 h1 h2 h3]
  dsimp only
  rw [sout0_F_1_eq]

/-- The key accumulator after a last point, on the diagonal. -/
theorem keyG (h0 : ¬t.val % 16 = 0) (h1 : ¬2 * (t.val / 16 % 8) + 2 ≤ t.val % 16) (h2 : (t.val % 16 ≤ 2 * (t.val / 16 % 8) + 1 ∧ 2 * (t.val / 16 % 8) ≤ t.val % 16)) (h3 : t.val % 16 = 15) :
    (outsAt0 m c t.val t.isLt).2.2.1 = keyM (grid0.coords t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by
  rw [outsAt0_G m c t h0 h1 h2 h3]
  dsimp only
  rw [sout0_G_0_eq]

/-- The value accumulator after a last point, on the diagonal. -/
theorem valG (h0 : ¬t.val % 16 = 0) (h1 : ¬2 * (t.val / 16 % 8) + 2 ≤ t.val % 16) (h2 : (t.val % 16 ≤ 2 * (t.val / 16 % 8) + 1 ∧ 2 * (t.val / 16 % 8) ≤ t.val % 16)) (h3 : t.val % 16 = 15) :
    (outsAt0 m c t.val t.isLt).2.2.2 = valM (grid0.coords t) (iblk m c 0 t) (iblk m c 1 t) (iblk m c 3 t) (iblk m c 5 t) (outsAt0 m c (t.val - 1) (Nat.lt_of_le_of_lt (Nat.sub_le _ _) t.isLt)).2.2.2 := by
  rw [outsAt0_G m c t h0 h1 h2 h3]
  dsimp only
  rw [sout0_G_1_eq]

/-- The keys' output after a last point, on the diagonal. -/
theorem outKeyG (h0 : ¬t.val % 16 = 0) (h1 : ¬2 * (t.val / 16 % 8) + 2 ≤ t.val % 16) (h2 : (t.val % 16 ≤ 2 * (t.val / 16 % 8) + 1 ∧ 2 * (t.val / 16 % 8) ≤ t.val % 16)) (h3 : t.val % 16 = 15) :
    (outsAt0 m c t.val t.isLt).1 = k0_pay2 (outsAt0 m c t.val t.isLt).2.2.1 := by
  rw [keyG m c t h0 h1 h2 h3, outsAt0_G m c t h0 h1 h2 h3]
  dsimp only
  rw [out0_G_6_eq]

/-- The values' output after a last point, on the diagonal. -/
theorem outValG (h0 : ¬t.val % 16 = 0) (h1 : ¬2 * (t.val / 16 % 8) + 2 ≤ t.val % 16) (h2 : (t.val % 16 ≤ 2 * (t.val / 16 % 8) + 1 ∧ 2 * (t.val / 16 % 8) ≤ t.val % 16)) (h3 : t.val % 16 = 15) :
    (outsAt0 m c t.val t.isLt).2.1 = k0_pay3 (outsAt0 m c t.val t.isLt).2.2.2 := by
  rw [valG m c t h0 h1 h2 h3, outsAt0_G m c t h0 h1 h2 h3]
  dsimp only
  rw [out0_G_7_eq]

end Points

end Cert.KernelIdeal.Att

end
-- ==== Proof.Fold.lean ====
module

public import proofs.«01_k».proof.Proof.Points

@[expose] public section

set_option maxRecDepth 65536

/-! The accumulators after each grid point hold the sums over the rows met so far; after the last row block, the gradients. -/

noncomputable section

open Idealize.ShloMosaic Idealize.ShloMosaic.TcCoe Idealize.SL.Sem AttSpec AttWords

namespace Cert.KernelIdeal.Att

open Cert.KernelIdeal Cert.KernelIdeal.Gen Cert.ReferenceIdeal.Att

/-- One row's part of a key's gradient. -/
abbrev keyTerm (D : In) (h : Fin 16) (c : Fin 8192) (l : Fin 256) (r : Fin 8192) : ℝ := D.ds h r c * D.Q r h l

/-- One row's part of a value's gradient. -/
abbrev valTerm (D : In) (h : Fin 16) (c : Fin 8192) (x : Fin 128) (r : Fin 8192) : ℝ := D.P h r c * D.G r h x

/-- The key accumulator holds the sums over the first `N` rows. -/
def KeyInv (s : Vec Ideal S1024x256 .f32) (D : In) (h : Fin 16) (j : ℕ) (hj : j < 8) (N : ℕ) : Prop :=
  ∀ x y, s (ix2 x y) = ((part (keyTerm D h ⟨j * 1024 + x.val, by omega⟩ y) N : ℝ) : EReal)

/-- The value accumulator holds the sums over the first `N` rows. -/
def ValInv (s : Vec Ideal S1024x128 .f32) (D : In) (h : Fin 16) (j : ℕ) (hj : j < 8) (N : ℕ) : Prop :=
  ∀ x y, s (ix2 x y) = ((part (valTerm D h ⟨j * 1024 + x.val, by omega⟩ y) N : ℝ) : EReal)

/-- The rows before a block of keys add nothing to its keys' gradients. -/
theorem key_skip (D : In) (h : Fin 16) (j : ℕ) (hj : j < 8) (N : ℕ) (hN : N ≤ j * 1024) (x : Fin 1024) (y : Fin 256) :
    part (keyTerm D h ⟨j * 1024 + x.val, by omega⟩ y) N = 0 :=
  part_zero _ _ fun r hr => by
    rw [keyTerm, D.ds_zero h r _ (show ¬((j * 1024 + x.val) / 64 ≤ r.val / 64) by omega), zero_mul]

/-- The rows before a block of keys add nothing to its values' gradients. -/
theorem val_skip (D : In) (h : Fin 16) (j : ℕ) (hj : j < 8) (N : ℕ) (hN : N ≤ j * 1024) (x : Fin 1024) (y : Fin 128) :
    part (valTerm D h ⟨j * 1024 + x.val, by omega⟩ y) N = 0 :=
  part_zero _ _ fun r hr => by
    rw [valTerm, D.P_zero h r _ (show ¬((j * 1024 + x.val) / 64 ≤ r.val / 64) by omega), zero_mul]

theorem keyInv_reset (D : In) (h : Fin 16) (j : ℕ) (hj : j < 8) (N : ℕ) (hN : N ≤ j * 1024) : KeyInv (k0_pay17 (F := Ideal)) D h j hj N := fun x y => by
  rw [zeroK_at, key_skip D h j hj N hN]

theorem valInv_reset (D : In) (h : Fin 16) (j : ℕ) (hj : j < 8) (N : ℕ) (hN : N ≤ j * 1024) : ValInv (k0_pay18 (F := Ideal)) D h j hj N := fun x y => by
  rw [zeroV_at, val_skip D h j hj N hN]

theorem keyInv_skip {s : Vec Ideal S1024x256 .f32} {D : In} {h : Fin 16} {j : ℕ} {hj : j < 8} {N : ℕ} (I : KeyInv s D h j hj N) (hN : N + 512 ≤ j * 1024) : KeyInv s D h j hj (N + 512) := fun x y => by
  rw [I x y, key_skip D h j hj N (by omega), key_skip D h j hj (N + 512) hN]

theorem valInv_skip {s : Vec Ideal S1024x128 .f32} {D : In} {h : Fin 16} {j : ℕ} {hj : j < 8} {N : ℕ} (I : ValInv s D h j hj N) (hN : N + 512 ≤ j * 1024) : ValInv s D h j hj (N + 512) := fun x y => by
  rw [I x y, val_skip D h j hj N (by omega), val_skip D h j hj (N + 512) hN]

section Step

variable {q : Vec Ideal S512x256 .bf16} {k : Vec Ideal S1024x256 .bf16} {v : Vec Ideal S1024x128 .bf16}
  {l d : Vec Ideal S1x512x1 .f32} {g : Vec Ideal S512x128 .f32} {a : Vec Ideal S1024x256 .f32} {b : Vec Ideal S1024x128 .f32}
  {D : In} {h : Fin 16} {j n : ℕ} {hj : j < 8} {hn : n < 16} (B : Blocks q k v l d g D h j n hj hn)

include B

theorem keyInv_M (i : grid0.Coords) (h1 : (i 1).val = j) (h2 : (i 2).val = n) (I : KeyInv a D h j hj (n * 512)) : KeyInv (keyM i q k v l d g a) D h j hj (n * 512 + 512) := fun x y => by
  rw [keyM_at, I x y, key_real B (probM_real i B h1 h2), part_step _ _ (by omega)]

theorem keyInv_U (hu : 2 * j + 2 ≤ n) (I : KeyInv a D h j hj (n * 512)) : KeyInv (keyU q k v l d g a) D h j hj (n * 512 + 512) := fun x y => by
  rw [keyU_at, I x y, key_real B (probU_real B hu), part_step _ _ (by omega)]

theorem valInv_M (i : grid0.Coords) (h1 : (i 1).val = j) (h2 : (i 2).val = n) (I : ValInv b D h j hj (n * 512)) : ValInv (valM i q k l g b) D h j hj (n * 512 + 512) := fun x y => by
  rw [valM_at, I x y, val_real B (probM_real i B h1 h2), part_step _ _ (by omega)]

theorem valInv_U (hu : 2 * j + 2 ≤ n) (I : ValInv b D h j hj (n * 512)) : ValInv (k0_pay6 q k l g b) D h j hj (n * 512 + 512) := fun x y => by
  rw [valU_at, I x y, val_real B (probU_real B hu), part_step _ _ (by omega)]

end Step

section Run

variable (m : (ℓ : Loc nD τ sig) → Buf (Elt Ideal) ℓ) (c : Dev nD)
  {D : In} (A : Agree D (A0 m c) (A2 m c) (A4 m c) (A1 m c) (A3 m c) (A5 m c))

include A

/-- The blocks of a point given by its coordinates. -/
theorem blocksAt (t : Fin cfg0.N) (h : Fin 16) (j n : ℕ) (hj : j < 8) (hn : n < 16) (ht : t.val = h.val * 128 + j * 16 + n) (hu : 2 * j ≤ n) :
    Blocks (iblk m c 0 t) (iblk m c 1 t) (iblk m c 2 t) (iblk m c 3 t) (iblk m c 4 t) (iblk m c 5 t) D h j n hj hn := by
  have hh : t.val / 128 < 16 := by have := tlt t; omega
  have e0 : h = ⟨t.val / 128, hh⟩ := Fin.ext (by dsimp only; omega)
  have e1 : j = t.val / 16 % 8 := by omega
  have e2 : n = t.val % 16 := by omega
  subst e0 e1 e2
  exact blocks m c t A (by omega)

/-- After each point of a block of keys the accumulators hold the sums over the rows met. -/
theorem acc (h : Fin 16) (j : ℕ) (hj : j < 8) : ∀ (n : ℕ) (hn : n < 16) (t : Fin cfg0.N), t.val = h.val * 128 + j * 16 + n →
    KeyInv (outsAt0 m c t.val t.isLt).2.2.1 D h j hj (n * 512 + 512) ∧ ValInv (outsAt0 m c t.val t.isLt).2.2.2 D h j hj (n * 512 + 512) := by
  intro n
  induction n with
  | zero =>
    intro hn t ht
    have c1 : (grid0.coords t 1).val = j := (coord_facts t).1.trans (by omega)
    have c2 : (grid0.coords t 2).val = 0 := (coord_facts t).2.trans (by omega)
    by_cases h0 : j = 0
    · have B := blocksAt m c A t h j 0 hj hn ht (by omega)
      rw [keyA m c t (by omega) (by omega) (by omega) (by omega), valA m c t (by omega) (by omega) (by omega) (by omega)]
      exact ⟨keyInv_M B _ c1 c2 (keyInv_reset D h j hj _ (by omega)), valInv_M B _ c1 c2 (valInv_reset D h j hj _ (by omega))⟩
    · rw [keyE m c t (by omega) (by omega) (by omega) (by omega), valE m c t (by omega) (by omega) (by omega) (by omega)]
      exact ⟨keyInv_reset D h j hj _ (by omega), valInv_reset D h j hj _ (by omega)⟩
  | succ n ih =>
    intro hn t ht
    have c1 : (grid0.coords t 1).val = j := (coord_facts t).1.trans (by omega)
    have c2 : (grid0.coords t 2).val = n + 1 := (coord_facts t).2.trans (by omega)
    obtain ⟨IK, IV⟩ := ih (by omega) ⟨t.val - 1, Nat.lt_of_le_of_lt (Nat.sub_le _ _) t.isLt⟩ (by dsimp only; omega)
    dsimp only at IK IV
    rw [show n * 512 + 512 = (n + 1) * 512 by omega] at IK IV
    by_cases hu : 2 * j + 2 ≤ n + 1
    · have B := blocksAt m c A t h j (n + 1) hj hn ht (by omega)
      by_cases h3 : n + 1 = 15
      · rw [keyD m c t (by omega) (by omega) (by omega) (by omega), valD m c t (by omega) (by omega) (by omega) (by omega)]
        exact ⟨keyInv_U B hu IK, valInv_U B hu IV⟩
      · rw [keyC m c t (by omega) (by omega) (by omega) (by omega), valC m c t (by omega) (by omega) (by omega) (by omega)]
        exact ⟨keyInv_U B hu IK, valInv_U B hu IV⟩
    · by_cases hd : 2 * j ≤ n + 1
      · have B := blocksAt m c A t h j (n + 1) hj hn ht (by omega)
        by_cases h3 : n + 1 = 15
        · rw [keyG m c t (by omega) (by omega) (by omega) (by omega), valG m c t (by omega) (by omega) (by omega) (by omega)]
          exact ⟨keyInv_M B _ c1 c2 IK, valInv_M B _ c1 c2 IV⟩
        · rw [keyB m c t (by omega) (by omega) (by omega) (by omega), valB m c t (by omega) (by omega) (by omega) (by omega)]
          exact ⟨keyInv_M B _ c1 c2 IK, valInv_M B _ c1 c2 IV⟩
      · rw [keyF m c t (by omega) (by omega) (by omega) (by omega), valF m c t (by omega) (by omega) (by omega) (by omega)]
        exact ⟨keyInv_skip IK (by omega), valInv_skip IV (by omega)⟩

/-- What the last point of a block of keys writes to the keys' output. -/
theorem outKey_real (h : Fin 16) (j : ℕ) (hj : j < 8) (t : Fin cfg0.N) (ht : t.val = h.val * 128 + j * 16 + 15) (x : Fin 1024) (y : Fin 256) :
    (outsAt0 m c t.val t.isLt).1 (ix2 x y) = (D.dk h ⟨j * 1024 + x.val, by omega⟩ y : EReal) := by
  have e : (outsAt0 m c t.val t.isLt).1 = k0_pay2 (outsAt0 m c t.val t.isLt).2.2.1 := by
    by_cases hu : 2 * j + 2 ≤ 15
    · exact outKeyD m c t (by omega) (by omega) (by omega) (by omega)
    · exact outKeyG m c t (by omega) (by omega) (by omega) (by omega)
  rw [e, outK_at, (acc m c A h j hj 15 (by omega) t ht).1 x y, part_all, In.dk]

/-- What the last point of a block of keys writes to the values' output. -/
theorem outVal_real (h : Fin 16) (j : ℕ) (hj : j < 8) (t : Fin cfg0.N) (ht : t.val = h.val * 128 + j * 16 + 15) (x : Fin 1024) (y : Fin 128) :
    (outsAt0 m c t.val t.isLt).2.1 (ix2 x y) = (D.dv h ⟨j * 1024 + x.val, by omega⟩ y : EReal) := by
  have e : (outsAt0 m c t.val t.isLt).2.1 = k0_pay3 (outsAt0 m c t.val t.isLt).2.2.2 := by
    by_cases hu : 2 * j + 2 ≤ 15
    · exact outValD m c t (by omega) (by omega) (by omega) (by omega)
    · exact outValG m c t (by omega) (by omega) (by omega) (by omega)
  rw [e, outV_at, (acc m c A h j hj 15 (by omega) t ht).2 x y, part_all, In.dv]

end Run

end Cert.KernelIdeal.Att

end
-- ==== Proof.Result.lean ====
module

public import proofs.«01_k».proof.Proof.Fold
public import proofs.«01_k».proof.Proof.Gen.KernelIdeal.Value
public import proofs.«01_k».proof.Defs

@[expose] public section

set_option maxRecDepth 65536

/-! Both programs' results at finite arguments: the same two real arrays. -/

noncomputable section

open Idealize.ShloMosaic Idealize.ShloMosaic.TcCoe Idealize.SL.Sem AttSpec

namespace Cert.ReferenceIdeal.Att

open Cert.ReferenceIdeal Cert.ReferenceIdeal.Gen

section
variable (m : (ℓ : Loc nD τ sig) → Buf (Elt Ideal) ℓ) (c : Dev nD)

/-- The reference's exponentials at the launched arguments. -/
def expM : FVec Ideal S16x8192x8192 .f32 :=
  expo (score (m ((c.tc : Thread nD τ).loc main_arg0)) (m ((c.tc : Thread nD τ).loc main_arg2)) (m ((c.tc : Thread nD τ).loc main_arg1)) (m ((c.tc : Thread nD τ).loc main_arg3)))
    (rowMax (score (m ((c.tc : Thread nD τ).loc main_arg0)) (m ((c.tc : Thread nD τ).loc main_arg2)) (m ((c.tc : Thread nD τ).loc main_arg1)) (m ((c.tc : Thread nD τ).loc main_arg3))))

set_option maxHeartbeats 4000000 in
/-- The reference's first result is the keys' gradient. -/
theorem res_key : Value.res_main_v73 (F := Ideal) m c = keyGrad (m ((c.tc : Thread nD τ).loc main_arg0)) (m ((c.tc : Thread nD τ).loc main_arg1))
    (dscore (dprob (m ((c.tc : Thread nD τ).loc main_arg4)) (m ((c.tc : Thread nD τ).loc main_arg5))) (expM m c) (rowSum (expM m c))) := by
  unfold Value.res_main_v73; rfl

set_option maxHeartbeats 4000000 in
/-- The reference's second result is the values' gradient. -/
theorem res_val : Value.res_main_v75 (F := Ideal) m c = valGrad (m ((c.tc : Thread nD τ).loc main_arg5)) (prob (expM m c) (rowSum (expM m c))) := by
  unfold Value.res_main_v75; rfl

variable {m c} {D : In}
  (A : Agree D (m ((c.tc : Thread nD τ).loc main_arg0)) (m ((c.tc : Thread nD τ).loc main_arg2)) (m ((c.tc : Thread nD τ).loc main_arg4))
    (m ((c.tc : Thread nD τ).loc main_arg1)) (m ((c.tc : Thread nD τ).loc main_arg3)) (m ((c.tc : Thread nD τ).loc main_arg5)))

include A

theorem expM_real (h : Fin 16) (r k : Fin 8192) : expM m c (ix3 h r k) = (D.E h r k : EReal) :=
  expo_real A h r k _ fun h r => rowMax_real A h r

/-- The reference's first result at finite arguments. -/
theorem res_key_real (k : Fin 8192) (l : Fin 4096) :
    keyGrad (m ((c.tc : Thread nD τ).loc main_arg0)) (m ((c.tc : Thread nD τ).loc main_arg1))
      (dscore (dprob (m ((c.tc : Thread nD τ).loc main_arg4)) (m ((c.tc : Thread nD τ).loc main_arg5))) (expM m c) (rowSum (expM m c))) (ix2 k l)
      = (D.dk ⟨l.val / 256, by omega⟩ k ⟨l.val % 256, by omega⟩ : EReal) :=
  keyGrad_real A k (fun h r k => dscore_real A h r k (expM_real A)) l

/-- The reference's second result at finite arguments. -/
theorem res_val_real (k : Fin 8192) (l : Fin 2048) :
    valGrad (m ((c.tc : Thread nD τ).loc main_arg5)) (prob (expM m c) (rowSum (expM m c))) (ix2 k l)
      = (D.dv ⟨l.val / 128, by omega⟩ k ⟨l.val % 128, by omega⟩ : EReal) :=
  valGrad_real A k (fun h r k => prob_real h r k (expM_real A)) l

end

end Cert.ReferenceIdeal.Att

namespace Cert.KernelIdeal.Att

open Cert.KernelIdeal Cert.KernelIdeal.Gen Cert.ReferenceIdeal.Att

section
variable (m : (ℓ : Loc nD τ sig) → Buf (Elt Ideal) ℓ) (c : Dev nD)

theorem fold_at (n n' : ℕ) (hn : n < cfg0.N) (h' : 0 + n' < cfg0.N) (e : n' = n) :
    Pipeline.accAt (fun n h => Value.stAt0 m c n h Value.junk0) (Value.stAt0 m c) 0 n' h' = outsAt0 m c n hn := by
  subst e
  exact (Value.outsAt0_sweep m c _ hn).symm

variable {m c} {D : In} (A : Agree D (A0 m c) (A2 m c) (A4 m c) (A1 m c) (A3 m c) (A5 m c))

include A

/-- The kernel's first result at finite arguments. -/
theorem G6_real (k : Fin 8192) (l : Fin 4096) : Value.G6 (F := Ideal) m c (ix2 k l) = (D.dk ⟨l.val / 256, by omega⟩ k ⟨l.val % 256, by omega⟩ : EReal) := by
  have hN : cfg0.N = 2048 := N_0
  have hp : Value.pt6Of (ix2 k l) = l.val / 256 * 128 + k.val / 1024 * 16 + 15 := by
    show 16 * (1 * (k.val / 1024 - 0) + 8 * (l.val / 256 - 0)) + 15 = _
    omega
  have hl : Value.loc6Of (ix2 k l) = ix2 ⟨k.val % 1024, by omega⟩ ⟨l.val % 256, by omega⟩ := by
    funext a; fin_cases a <;> rfl
  have hlt : l.val / 256 * 128 + k.val / 1024 * 16 + 15 < cfg0.N := by omega
  unfold Value.G6
  rw [dif_pos (by rw [hp]; exact hlt), hl, fold_at m c _ _ hlt _ hp]
  refine (outKey_real m c A ⟨l.val / 256, by omega⟩ (k.val / 1024) (by omega) ⟨_, hlt⟩ rfl _ _).trans ?_
  congr 2
  exact Fin.ext (by dsimp only; omega)

/-- The kernel's second result at finite arguments. -/
theorem G7_real (k : Fin 8192) (l : Fin 2048) : Value.G7 (F := Ideal) m c (ix2 k l) = (D.dv ⟨l.val / 128, by omega⟩ k ⟨l.val % 128, by omega⟩ : EReal) := by
  have hN : cfg0.N = 2048 := N_0
  have hp : Value.pt7Of (ix2 k l) = l.val / 128 * 128 + k.val / 1024 * 16 + 15 := by
    show 16 * (1 * (k.val / 1024 - 0) + 8 * (l.val / 128 - 0)) + 15 = _
    omega
  have hl : Value.loc7Of (ix2 k l) = ix2 ⟨k.val % 1024, by omega⟩ ⟨l.val % 128, by omega⟩ := by
    funext a; fin_cases a <;> rfl
  have hlt : l.val / 128 * 128 + k.val / 1024 * 16 + 15 < cfg0.N := by omega
  unfold Value.G7
  rw [dif_pos (by rw [hp]; exact hlt), hl, fold_at m c _ _ hlt _ hp]
  refine (outVal_real m c A ⟨l.val / 128, by omega⟩ (k.val / 1024) (by omega) ⟨_, hlt⟩ rfl _ _).trans ?_
  congr 2
  exact Fin.ext (by dsimp only; omega)

end

end Cert.KernelIdeal.Att

namespace Cert.Att

open Cert.KernelIdeal.Att Cert.ReferenceIdeal.Att

/-- Two arrays of one rank-two reading are one. -/
theorem ext2 {a b : ℕ} (f g : (⟨2, ![a, b]⟩ : Shape).Idx → EReal) (H : Fin a → Fin b → EReal) (hf : ∀ k l, f (ix2 k l) = H k l) (hg : ∀ k l, g (ix2 k l) = H k l) : f = g :=
  funext fun i => (congrArg f (eq_ix2 i)).trans ((hf (i 0) (i 1)).trans ((hg (i 0) (i 1)).symm.trans (congrArg g (eq_ix2 i)).symm))

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD) {D : In}
  (A : Agree D (A0 m c) (A2 m c) (A4 m c) (A1 m c) (A3 m c) (A5 m c))
  (A' : Agree D (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)))

include A A'

/-- The keys' gradients agree. -/
theorem same_key : Cert.ReferenceIdeal.Value.res_main_v73 (F := Ideal) m' c = Cert.KernelIdeal.Value.G6 (F := Ideal) m c :=
  (res_key m' c).trans (ext2 _ _ _ (res_key_real A') (G6_real A))

/-- The values' gradients agree. -/
theorem same_val : Cert.ReferenceIdeal.Value.res_main_v75 (F := Ideal) m' c = Cert.KernelIdeal.Value.G7 (F := Ideal) m c :=
  (res_val m' c).trans (ext2 _ _ _ (res_val_real A') (G7_real A))

end

end Cert.Att

namespace Cert.Pre_finite

open Cert.Pre_finite

theorem facts : Facts where
  bcast_S_S8192x16x128 := by decide
  bcast_S_S8192x16x64 := by decide
  bcast_S_S8192x64 := by decide
  bcast_S_S8192x2048 := by decide

theorem ofBits_top : Ideal.ofBits .f32 2139095040#32 = (⊤ : EReal) := by
  simp [Ideal.ofBits, Ideal.ieee, -EReal.coe_mul]

/-- An extended real whose absolute value lies below `⊤` is its real part. -/
theorem real_of (x : Ideal .f32) (h : FloatOps.cmpf .olt (FloatOps.hostAbsf x) (Ideal.ofBits .f32 2139095040#32 : Ideal .f32) = 1#1) : x = (EReal.toReal x : EReal) := by
  have h' : BitVec.ofBool (decide (max (x : EReal) (-(x : EReal)) < Ideal.ofBits .f32 2139095040#32)) = 1#1 := h
  rw [ofBits_top] at h'
  have h2 : max (x : EReal) (-(x : EReal)) < ⊤ := by
    by_contra hn
    rw [decide_eq_false hn] at h'
    exact absurd h' (by decide)
  have h3 := max_lt_iff.mp h2
  refine (EReal.coe_toReal h3.1.ne ?_).symm
  intro hb
  rw [hb, EReal.neg_bot] at h3
  exact absurd h3.2 (lt_irrefl _)

/-- Where the precondition holds the arguments hold the real arrays of their entries. -/
theorem agree [Facts] (a0 : FVec Ideal S8192x16x128 .f32) (a1 : FVec Ideal S8192x16x64 .f32) (a2 : FVec Ideal S8192x16x128 .f32) (a3 : FVec Ideal S8192x64 .f32)
    (a4 : FVec Ideal S8192x16x128 .f32) (a5 : FVec Ideal S8192x2048 .f32)
    (h : (fn (F := Ideal) a0 a1 a2 a3 a4 a5).1 = (fun _ => 1#1) ∧ (fn (F := Ideal) a0 a1 a2 a3 a4 a5).2.1 = (fun _ => 1#1)
      ∧ (fn (F := Ideal) a0 a1 a2 a3 a4 a5).2.2.1 = (fun _ => 1#1) ∧ (fn (F := Ideal) a0 a1 a2 a3 a4 a5).2.2.2.1 = (fun _ => 1#1)
      ∧ (fn (F := Ideal) a0 a1 a2 a3 a4 a5).2.2.2.2.1 = (fun _ => 1#1) ∧ (fn (F := Ideal) a0 a1 a2 a3 a4 a5).2.2.2.2.2 = (fun _ => 1#1)) :
    ∃ D, Cert.ReferenceIdeal.Att.Agree D a0 a2 a4 a1 a3 a5 :=
  ⟨{ qn := fun r h x => EReal.toReal (a0 (ix3 r h x)), qp := fun r h x => EReal.toReal (a1 (ix3 r h x)), kn := fun r h x => EReal.toReal (a2 (ix3 r h x)),
     kr := fun r x => EReal.toReal (a3 (ix2 r x)), vv := fun r h x => EReal.toReal (a4 (ix3 r h x)), g := fun r x => EReal.toReal (a5 (ix2 r x)) },
    { qn := fun r h' x => real_of _ (congrFun h.1 (ix3 r h' x))
      qp := fun r h' x => real_of _ (congrFun h.2.1 (ix3 r h' x))
      kn := fun r h' x => real_of _ (congrFun h.2.2.1 (ix3 r h' x))
      kr := fun r x => real_of _ (congrFun h.2.2.2.1 (ix2 r x))
      vv := fun r h' x => real_of _ (congrFun h.2.2.2.2.1 (ix3 r h' x))
      g := fun r x => real_of _ (congrFun h.2.2.2.2.2 (ix2 r x)) }⟩

end Cert.Pre_finite

end
-- ==== Proof.lean ====
/- The certificate's claims: the attention's frames, its named constant and the equality of its gradients at finite arguments; the dense
products' and the norms', gates' and activations' frames and equalities. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.FfnInDaIdeal.Value
public import proofs.«01_k».proof.Proof.Gen.FfnInDaRefIdeal.Run
public import proofs.«01_k».proof.Proof.Gen.FfnInDwIdeal.Value
public import proofs.«01_k».proof.Proof.Gen.FfnInDwRefIdeal.Run
public import proofs.«01_k».proof.Proof.Gen.FfnInFwdIdeal.Value
public import proofs.«01_k».proof.Proof.Gen.FfnInFwdRefIdeal.Run
public import proofs.«01_k».proof.Proof.Gen.FfnOutDaIdeal.Value
public import proofs.«01_k».proof.Proof.Gen.FfnOutDaRefIdeal.Run
public import proofs.«01_k».proof.Proof.Gen.FfnOutDwIdeal.Value
public import proofs.«01_k».proof.Proof.Gen.FfnOutDwRefIdeal.Run
public import proofs.«01_k».proof.Proof.Gen.FfnOutFwdIdeal.Value
public import proofs.«01_k».proof.Proof.Gen.FfnOutFwdRefIdeal.Run
public import proofs.«01_k».proof.Proof.Gen.SquareDaIdeal.Value
public import proofs.«01_k».proof.Proof.Gen.SquareDaRefIdeal.Run
public import proofs.«01_k».proof.Proof.Gen.SquareDwIdeal.Value
public import proofs.«01_k».proof.Proof.Gen.SquareDwRefIdeal.Run
public import proofs.«01_k».proof.Proof.Gen.SquareFwdIdeal.Value
public import proofs.«01_k».proof.Proof.Gen.SquareFwdRefIdeal.Run
public import proofs.«01_k».proof.Proof.Gen.SsmInDaIdeal.Value
public import proofs.«01_k».proof.Proof.Gen.SsmInDaRefIdeal.Run
public import proofs.«01_k».proof.Proof.Gen.SsmInDwIdeal.Value
public import proofs.«01_k».proof.Proof.Gen.SsmInDwRefIdeal.Run
public import proofs.«01_k».proof.Proof.Gen.SsmInFwdIdeal.Value
public import proofs.«01_k».proof.Proof.Gen.SsmInFwdRefIdeal.Run
public import proofs.«01_k».proof.Proof.Gen.SsmGateDaIdeal.Value
public import proofs.«01_k».proof.Proof.Gen.SsmGateDaRefIdeal.Run
public import proofs.«01_k».proof.Proof.Gen.SsmGateDwIdeal.Value
public import proofs.«01_k».proof.Proof.Gen.SsmGateDwRefIdeal.Run
public import proofs.«01_k».proof.Proof.Gen.SsmGateFwdIdeal.Value
public import proofs.«01_k».proof.Proof.Gen.SsmGateFwdRefIdeal.Run
public import proofs.«01_k».proof.Proof.Gen.SsmOutDaIdeal.Value
public import proofs.«01_k».proof.Proof.Gen.SsmOutDaRefIdeal.Run
public import proofs.«01_k».proof.Proof.Gen.SsmOutDwIdeal.Value
public import proofs.«01_k».proof.Proof.Gen.SsmOutDwRefIdeal.Run
public import proofs.«01_k».proof.Proof.Gen.SsmOutFwdIdeal.Value
public import proofs.«01_k».proof.Proof.Gen.SsmOutFwdRefIdeal.Run
public import proofs.«01_k».proof.Proof.Gen.LatentUpDaIdeal.Value
public import proofs.«01_k».proof.Proof.Gen.LatentUpDaRefIdeal.Run
public import proofs.«01_k».proof.Proof.Gen.LatentUpDwIdeal.Value
public import proofs.«01_k».proof.Proof.Gen.LatentUpDwRefIdeal.Run
public import proofs.«01_k».proof.Proof.Gen.LatentUpFwdIdeal.Value
public import proofs.«01_k».proof.Proof.Gen.LatentUpFwdRefIdeal.Run
public import proofs.«01_k».proof.Proof.Gen.LatentDownDaIdeal.Value
public import proofs.«01_k».proof.Proof.Gen.LatentDownDaRefIdeal.Run
public import proofs.«01_k».proof.Proof.Gen.LatentDownDwIdeal.Value
public import proofs.«01_k».proof.Proof.Gen.LatentDownDwRefIdeal.Run
public import proofs.«01_k».proof.Proof.Gen.LatentDownFwdIdeal.Value
public import proofs.«01_k».proof.Proof.Gen.LatentDownFwdRefIdeal.Run
public import proofs.«01_k».proof.Proof.Gen.NormIdeal.Value
public import proofs.«01_k».proof.Proof.Gen.NormRefIdeal.Run
public import proofs.«01_k».proof.Proof.Gen.HgrnOutIdeal.Value
public import proofs.«01_k».proof.Proof.Gen.HgrnOutRefIdeal.Run
public import proofs.«01_k».proof.Proof.Gen.SsmNormIdeal.Value
public import proofs.«01_k».proof.Proof.Gen.SsmNormRefIdeal.Run
public import proofs.«01_k».proof.Proof.Gen.SwigluIdeal.Value
public import proofs.«01_k».proof.Proof.Gen.SwigluRefIdeal.Run
public import proofs.«01_k».proof.Proof.Gen.SiluIdeal.Value
public import proofs.«01_k».proof.Proof.Gen.SiluRefIdeal.Run
public import proofs.«01_k».proof.Proof.Gen.MergeIdeal.Value
public import proofs.«01_k».proof.Proof.Gen.MergeRefIdeal.Run
public import proofs.«01_k».proof.Proof.Gen.NormFwdIdeal.Value
public import proofs.«01_k».proof.Proof.Gen.NormFwdRefIdeal.Run
public import proofs.«01_k».proof.Proof.Gen.HgrnOutFwdIdeal.Value
public import proofs.«01_k».proof.Proof.Gen.HgrnOutFwdRefIdeal.Run
public import proofs.«01_k».proof.Proof.Gen.SsmNormFwdIdeal.Value
public import proofs.«01_k».proof.Proof.Gen.SsmNormFwdRefIdeal.Run
public import proofs.«01_k».proof.Proof.Gen.SwigluFwdIdeal.Value
public import proofs.«01_k».proof.Proof.Gen.SwigluFwdRefIdeal.Run
public import proofs.«01_k».proof.Proof.Gen.SiluFwdIdeal.Value
public import proofs.«01_k».proof.Proof.Gen.SiluFwdRefIdeal.Run
public import proofs.«01_k».proof.Proof.Gen.MergeFwdIdeal.Value
public import proofs.«01_k».proof.Proof.Gen.MergeFwdRefIdeal.Run
public import proofs.«01_k».proof.Proof.FfnInDa
public import proofs.«01_k».proof.Proof.FfnInDw
public import proofs.«01_k».proof.Proof.FfnInFwd
public import proofs.«01_k».proof.Proof.FfnOutDa
public import proofs.«01_k».proof.Proof.FfnOutDw
public import proofs.«01_k».proof.Proof.FfnOutFwd
public import proofs.«01_k».proof.Proof.SquareDa
public import proofs.«01_k».proof.Proof.SquareDw
public import proofs.«01_k».proof.Proof.SquareFwd
public import proofs.«01_k».proof.Proof.SsmInDa
public import proofs.«01_k».proof.Proof.SsmInDw
public import proofs.«01_k».proof.Proof.SsmInFwd
public import proofs.«01_k».proof.Proof.SsmGateDa
public import proofs.«01_k».proof.Proof.SsmGateDw
public import proofs.«01_k».proof.Proof.SsmGateFwd
public import proofs.«01_k».proof.Proof.SsmOutDa
public import proofs.«01_k».proof.Proof.SsmOutDw
public import proofs.«01_k».proof.Proof.SsmOutFwd
public import proofs.«01_k».proof.Proof.LatentUpDa
public import proofs.«01_k».proof.Proof.LatentUpDw
public import proofs.«01_k».proof.Proof.LatentUpFwd
public import proofs.«01_k».proof.Proof.LatentDownDa
public import proofs.«01_k».proof.Proof.LatentDownDw
public import proofs.«01_k».proof.Proof.LatentDownFwd
public import proofs.«01_k».proof.Proof.Norm
public import proofs.«01_k».proof.Proof.HgrnOut
public import proofs.«01_k».proof.Proof.SsmNorm
public import proofs.«01_k».proof.Proof.Swiglu
public import proofs.«01_k».proof.Proof.Silu
public import proofs.«01_k».proof.Proof.Merge
public import proofs.«01_k».proof.Proof.NormFwd
public import proofs.«01_k».proof.Proof.HgrnOutFwd
public import proofs.«01_k».proof.Proof.SsmNormFwd
public import proofs.«01_k».proof.Proof.SwigluFwd
public import proofs.«01_k».proof.Proof.SiluFwd
public import proofs.«01_k».proof.Proof.MergeFwd
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs and keeps its arguments. -/
theorem frame_p : Cert.quiescent_Kernel (hKernel := Cert.Kernel.Gen.facts) := fun m ρ _ => Cert.Kernel.Gen.frame m ρ

/-- The idealized kernel runs and keeps its arguments. -/
theorem frame_pi : Cert.quiescent_KernelIdeal (hKernelIdeal := Cert.KernelIdeal.Gen.facts) := fun m ρ _ => Cert.KernelIdeal.Gen.frame m ρ

/-- The reference runs and keeps its arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The mask's constant is named and reads as negative infinity. -/
theorem preserves : Cert.preserves_Kernel_KernelIdeal :=
  IdealRules.named_const.statement Cert.KernelIdeal.κ "mask" .f32 0xF149F2CA#32 ⊥ rfl

/-- At finite arguments the kernel's two results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  haveI : Cert.Pre_finite.Facts := Cert.Pre_finite.facts
  intro m ρ m' ρ' hpre hagree
  refine ⟨_, _, Cert.KernelIdeal.Value.run (F := Ideal) m ρ, ?_⟩
  have key : ∀ c, Cert.ReferenceIdeal.Value.res_main_v73 (F := Ideal) m' c = Cert.KernelIdeal.Value.G6 (F := Ideal) m c
      ∧ Cert.ReferenceIdeal.Value.res_main_v75 (F := Ideal) m' c = Cert.KernelIdeal.Value.G7 (F := Ideal) m c := by
    intro c
    obtain ⟨D, A⟩ := Cert.Pre_finite.agree _ _ _ _ _ _ (hpre c)
    have A' := A
    obtain ⟨g0, g1, g2, g3, g4, g5⟩ := hagree c
    rw [← g0, ← g1, ← g2, ← g3, ← g4, ← g5] at A'
    exact ⟨Cert.Att.same_key m m' c A A', Cert.Att.same_val m m' c A A'⟩
  exact (θ_run Cert.ReferenceIdeal.defs _ _).mono (fun _ h c => ⟨(h c).1.trans (key c).1, (h c).2.1.trans (key c).2, (h c).2.2⟩)
    (Cert.ReferenceIdeal.Value.run (F := Ideal) m' ρ')

/-- Every claim: the attention's, for each product its two gradients and the product itself, and the gradients and values of the norms, gates
and activations. -/
theorem claim : Cert.Claim :=
  ⟨Cert.Kernel.Gen.facts, Cert.KernelIdeal.Gen.facts, Cert.ReferenceIdeal.Gen.facts,
    Cert.FfnInDa.Prod.facts, Cert.FfnInDaIdeal.Gen.facts, Cert.FfnInDaRefIdeal.Gen.facts,
    Cert.FfnInDw.Prod.facts, Cert.FfnInDwIdeal.Gen.facts, Cert.FfnInDwRefIdeal.Gen.facts,
    Cert.FfnInFwd.Prod.facts, Cert.FfnInFwdIdeal.Gen.facts, Cert.FfnInFwdRefIdeal.Gen.facts,
    Cert.FfnOutDa.Prod.facts, Cert.FfnOutDaIdeal.Gen.facts, Cert.FfnOutDaRefIdeal.Gen.facts,
    Cert.FfnOutDw.Prod.facts, Cert.FfnOutDwIdeal.Gen.facts, Cert.FfnOutDwRefIdeal.Gen.facts,
    Cert.FfnOutFwd.Prod.facts, Cert.FfnOutFwdIdeal.Gen.facts, Cert.FfnOutFwdRefIdeal.Gen.facts,
    Cert.SquareDa.Prod.facts, Cert.SquareDaIdeal.Gen.facts, Cert.SquareDaRefIdeal.Gen.facts,
    Cert.SquareDw.Prod.facts, Cert.SquareDwIdeal.Gen.facts, Cert.SquareDwRefIdeal.Gen.facts,
    Cert.SquareFwd.Prod.facts, Cert.SquareFwdIdeal.Gen.facts, Cert.SquareFwdRefIdeal.Gen.facts,
    Cert.SsmInDa.Prod.facts, Cert.SsmInDaIdeal.Gen.facts, Cert.SsmInDaRefIdeal.Gen.facts,
    Cert.SsmInDw.Prod.facts, Cert.SsmInDwIdeal.Gen.facts, Cert.SsmInDwRefIdeal.Gen.facts,
    Cert.SsmInFwd.Prod.facts, Cert.SsmInFwdIdeal.Gen.facts, Cert.SsmInFwdRefIdeal.Gen.facts,
    Cert.SsmGateDa.Prod.facts, Cert.SsmGateDaIdeal.Gen.facts, Cert.SsmGateDaRefIdeal.Gen.facts,
    Cert.SsmGateDw.Prod.facts, Cert.SsmGateDwIdeal.Gen.facts, Cert.SsmGateDwRefIdeal.Gen.facts,
    Cert.SsmGateFwd.Prod.facts, Cert.SsmGateFwdIdeal.Gen.facts, Cert.SsmGateFwdRefIdeal.Gen.facts,
    Cert.SsmOutDa.Prod.facts, Cert.SsmOutDaIdeal.Gen.facts, Cert.SsmOutDaRefIdeal.Gen.facts,
    Cert.SsmOutDw.Prod.facts, Cert.SsmOutDwIdeal.Gen.facts, Cert.SsmOutDwRefIdeal.Gen.facts,
    Cert.SsmOutFwd.Prod.facts, Cert.SsmOutFwdIdeal.Gen.facts, Cert.SsmOutFwdRefIdeal.Gen.facts,
    Cert.LatentUpDa.Prod.facts, Cert.LatentUpDaIdeal.Gen.facts, Cert.LatentUpDaRefIdeal.Gen.facts,
    Cert.LatentUpDw.Prod.facts, Cert.LatentUpDwIdeal.Gen.facts, Cert.LatentUpDwRefIdeal.Gen.facts,
    Cert.LatentUpFwd.Prod.facts, Cert.LatentUpFwdIdeal.Gen.facts, Cert.LatentUpFwdRefIdeal.Gen.facts,
    Cert.LatentDownDa.Prod.facts, Cert.LatentDownDaIdeal.Gen.facts, Cert.LatentDownDaRefIdeal.Gen.facts,
    Cert.LatentDownDw.Prod.facts, Cert.LatentDownDwIdeal.Gen.facts, Cert.LatentDownDwRefIdeal.Gen.facts,
    Cert.LatentDownFwd.Prod.facts, Cert.LatentDownFwdIdeal.Gen.facts, Cert.LatentDownFwdRefIdeal.Gen.facts,
    Cert.Norm.Rows.facts, Cert.NormIdeal.Gen.facts, Cert.NormRefIdeal.Gen.facts,
    Cert.HgrnOut.Rows.facts, Cert.HgrnOutIdeal.Gen.facts, Cert.HgrnOutRefIdeal.Gen.facts,
    Cert.SsmNorm.Rows.facts, Cert.SsmNormIdeal.Gen.facts, Cert.SsmNormRefIdeal.Gen.facts,
    Cert.Swiglu.Rows.facts, Cert.SwigluIdeal.Gen.facts, Cert.SwigluRefIdeal.Gen.facts,
    Cert.Silu.Rows.facts, Cert.SiluIdeal.Gen.facts, Cert.SiluRefIdeal.Gen.facts,
    Cert.Merge.Rows.facts, Cert.MergeIdeal.Gen.facts, Cert.MergeRefIdeal.Gen.facts,
    Cert.NormFwd.Rows.facts, Cert.NormFwdIdeal.Gen.facts, Cert.NormFwdRefIdeal.Gen.facts,
    Cert.HgrnOutFwd.Rows.facts, Cert.HgrnOutFwdIdeal.Gen.facts, Cert.HgrnOutFwdRefIdeal.Gen.facts,
    Cert.SsmNormFwd.Rows.facts, Cert.SsmNormFwdIdeal.Gen.facts, Cert.SsmNormFwdRefIdeal.Gen.facts,
    Cert.SwigluFwd.Rows.facts, Cert.SwigluFwdIdeal.Gen.facts, Cert.SwigluFwdRefIdeal.Gen.facts,
    Cert.SiluFwd.Rows.facts, Cert.SiluFwdIdeal.Gen.facts, Cert.SiluFwdRefIdeal.Gen.facts,
    Cert.MergeFwd.Rows.facts, Cert.MergeFwdIdeal.Gen.facts, Cert.MergeFwdRefIdeal.Gen.facts,
    Cert.Pre_finite.facts,
    frame_p, frame_pi, fun m ρ _ => frame_pi m ρ trivial, frame_ri, fun m ρ _ => frame_ri m ρ trivial,
    Cert.FfnInDa.Prod.frame_p, Cert.FfnInDa.Prod.frame_pi, Cert.FfnInDa.Prod.frame_ri,
    Cert.FfnInDw.Prod.frame_p, Cert.FfnInDw.Prod.frame_pi, Cert.FfnInDw.Prod.frame_ri,
    Cert.FfnInFwd.Prod.frame_p, Cert.FfnInFwd.Prod.frame_pi, Cert.FfnInFwd.Prod.frame_ri,
    Cert.FfnOutDa.Prod.frame_p, Cert.FfnOutDa.Prod.frame_pi, Cert.FfnOutDa.Prod.frame_ri,
    Cert.FfnOutDw.Prod.frame_p, Cert.FfnOutDw.Prod.frame_pi, Cert.FfnOutDw.Prod.frame_ri,
    Cert.FfnOutFwd.Prod.frame_p, Cert.FfnOutFwd.Prod.frame_pi, Cert.FfnOutFwd.Prod.frame_ri,
    Cert.SquareDa.Prod.frame_p, Cert.SquareDa.Prod.frame_pi, Cert.SquareDa.Prod.frame_ri,
    Cert.SquareDw.Prod.frame_p, Cert.SquareDw.Prod.frame_pi, Cert.SquareDw.Prod.frame_ri,
    Cert.SquareFwd.Prod.frame_p, Cert.SquareFwd.Prod.frame_pi, Cert.SquareFwd.Prod.frame_ri,
    Cert.SsmInDa.Prod.frame_p, Cert.SsmInDa.Prod.frame_pi, Cert.SsmInDa.Prod.frame_ri,
    Cert.SsmInDw.Prod.frame_p, Cert.SsmInDw.Prod.frame_pi, Cert.SsmInDw.Prod.frame_ri,
    Cert.SsmInFwd.Prod.frame_p, Cert.SsmInFwd.Prod.frame_pi, Cert.SsmInFwd.Prod.frame_ri,
    Cert.SsmGateDa.Prod.frame_p, Cert.SsmGateDa.Prod.frame_pi, Cert.SsmGateDa.Prod.frame_ri,
    Cert.SsmGateDw.Prod.frame_p, Cert.SsmGateDw.Prod.frame_pi, Cert.SsmGateDw.Prod.frame_ri,
    Cert.SsmGateFwd.Prod.frame_p, Cert.SsmGateFwd.Prod.frame_pi, Cert.SsmGateFwd.Prod.frame_ri,
    Cert.SsmOutDa.Prod.frame_p, Cert.SsmOutDa.Prod.frame_pi, Cert.SsmOutDa.Prod.frame_ri,
    Cert.SsmOutDw.Prod.frame_p, Cert.SsmOutDw.Prod.frame_pi, Cert.SsmOutDw.Prod.frame_ri,
    Cert.SsmOutFwd.Prod.frame_p, Cert.SsmOutFwd.Prod.frame_pi, Cert.SsmOutFwd.Prod.frame_ri,
    Cert.LatentUpDa.Prod.frame_p, Cert.LatentUpDa.Prod.frame_pi, Cert.LatentUpDa.Prod.frame_ri,
    Cert.LatentUpDw.Prod.frame_p, Cert.LatentUpDw.Prod.frame_pi, Cert.LatentUpDw.Prod.frame_ri,
    Cert.LatentUpFwd.Prod.frame_p, Cert.LatentUpFwd.Prod.frame_pi, Cert.LatentUpFwd.Prod.frame_ri,
    Cert.LatentDownDa.Prod.frame_p, Cert.LatentDownDa.Prod.frame_pi, Cert.LatentDownDa.Prod.frame_ri,
    Cert.LatentDownDw.Prod.frame_p, Cert.LatentDownDw.Prod.frame_pi, Cert.LatentDownDw.Prod.frame_ri,
    Cert.LatentDownFwd.Prod.frame_p, Cert.LatentDownFwd.Prod.frame_pi, Cert.LatentDownFwd.Prod.frame_ri,
    Cert.Norm.Rows.frame_p, Cert.Norm.Rows.frame_pi, Cert.Norm.Rows.frame_ri,
    Cert.HgrnOut.Rows.frame_p, Cert.HgrnOut.Rows.frame_pi, Cert.HgrnOut.Rows.frame_ri,
    Cert.SsmNorm.Rows.frame_p, Cert.SsmNorm.Rows.frame_pi, Cert.SsmNorm.Rows.frame_ri,
    Cert.Swiglu.Rows.frame_p, Cert.Swiglu.Rows.frame_pi, Cert.Swiglu.Rows.frame_ri,
    Cert.Silu.Rows.frame_p, Cert.Silu.Rows.frame_pi, Cert.Silu.Rows.frame_ri,
    Cert.Merge.Rows.frame_p, Cert.Merge.Rows.frame_pi, Cert.Merge.Rows.frame_ri,
    Cert.NormFwd.Rows.frame_p, Cert.NormFwd.Rows.frame_pi, Cert.NormFwd.Rows.frame_ri,
    Cert.HgrnOutFwd.Rows.frame_p, Cert.HgrnOutFwd.Rows.frame_pi, Cert.HgrnOutFwd.Rows.frame_ri,
    Cert.SsmNormFwd.Rows.frame_p, Cert.SsmNormFwd.Rows.frame_pi, Cert.SsmNormFwd.Rows.frame_ri,
    Cert.SwigluFwd.Rows.frame_p, Cert.SwigluFwd.Rows.frame_pi, Cert.SwigluFwd.Rows.frame_ri,
    Cert.SiluFwd.Rows.frame_p, Cert.SiluFwd.Rows.frame_pi, Cert.SiluFwd.Rows.frame_ri,
    Cert.MergeFwd.Rows.frame_p, Cert.MergeFwd.Rows.frame_pi, Cert.MergeFwd.Rows.frame_ri,
    preserves, algebraic,
    trivial, Cert.FfnInDa.Prod.algebraic,
    trivial, Cert.FfnInDw.Prod.algebraic,
    trivial, Cert.FfnInFwd.Prod.algebraic,
    trivial, Cert.FfnOutDa.Prod.algebraic,
    trivial, Cert.FfnOutDw.Prod.algebraic,
    trivial, Cert.FfnOutFwd.Prod.algebraic,
    trivial, Cert.SquareDa.Prod.algebraic,
    trivial, Cert.SquareDw.Prod.algebraic,
    trivial, Cert.SquareFwd.Prod.algebraic,
    trivial, Cert.SsmInDa.Prod.algebraic,
    trivial, Cert.SsmInDw.Prod.algebraic,
    trivial, Cert.SsmInFwd.Prod.algebraic,
    trivial, Cert.SsmGateDa.Prod.algebraic,
    trivial, Cert.SsmGateDw.Prod.algebraic,
    trivial, Cert.SsmGateFwd.Prod.algebraic,
    trivial, Cert.SsmOutDa.Prod.algebraic,
    trivial, Cert.SsmOutDw.Prod.algebraic,
    trivial, Cert.SsmOutFwd.Prod.algebraic,
    trivial, Cert.LatentUpDa.Prod.algebraic,
    trivial, Cert.LatentUpDw.Prod.algebraic,
    trivial, Cert.LatentUpFwd.Prod.algebraic,
    trivial, Cert.LatentDownDa.Prod.algebraic,
    trivial, Cert.LatentDownDw.Prod.algebraic,
    trivial, Cert.LatentDownFwd.Prod.algebraic,
    trivial, Cert.Norm.Rows.algebraic,
    trivial, Cert.HgrnOut.Rows.algebraic,
    trivial, Cert.SsmNorm.Rows.algebraic,
    trivial, Cert.Swiglu.Rows.algebraic,
    trivial, Cert.Silu.Rows.algebraic,
    trivial, Cert.Merge.Rows.algebraic,
    trivial, Cert.NormFwd.Rows.algebraic,
    trivial, Cert.HgrnOutFwd.Rows.algebraic,
    trivial, Cert.SsmNormFwd.Rows.algebraic,
    trivial, Cert.SwigluFwd.Rows.algebraic,
    trivial, Cert.SiluFwd.Rows.algebraic,
    trivial, Cert.MergeFwd.Rows.algebraic⟩

end Cert.Proof

end
